-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4))
      ∧ r.2.sem = fun _ => 0)

def preserves_Kernel_KernelIdeal : Prop :=
  IdealRules.sign_bit.Statement Cert.KernelIdeal.S8x1024 .f32

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2843) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Second_SecondIdeal : Prop :=
  True

def algebraic_SecondIdeal_SecondReferenceIdeal [hSecondIdeal : Cert.SecondIdeal.Facts] [hSecondReferenceIdeal : Cert.SecondReferenceIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)) →
    ∃ (v0 : (c : Dev Cert.SecondIdeal.nD) → Buf (Elt Ideal) ((c.tc : Thread Cert.SecondIdeal.nD Cert.SecondIdeal.τ).loc Cert.SecondIdeal.main_v3_0)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3_0) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v15) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v15) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondReferenceIdeal : Cert.SecondReferenceIdeal.Facts) (hLast : Cert.Last.Facts) (hLastIdeal : Cert.LastIdeal.Facts) (hLastReferenceIdeal : Cert.LastReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Second (hSecond := hSecond)
    ∧ quiescent_SecondIdeal (hSecondIdeal := hSecondIdeal)
    ∧ quiescent_SecondReferenceIdeal (hSecondReferenceIdeal := hSecondReferenceIdeal)
    ∧ quiescent_Last (hLast := hLast)
    ∧ quiescent_LastIdeal (hLastIdeal := hLastIdeal)
    ∧ quiescent_LastReferenceIdeal (hLastReferenceIdeal := hLastReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Second_SecondIdeal
    ∧ algebraic_SecondIdeal_SecondReferenceIdeal (hSecondIdeal := hSecondIdeal) (hSecondReferenceIdeal := hSecondReferenceIdeal)
    ∧ preserves_Last_LastIdeal
    ∧ algebraic_LastIdeal_LastReferenceIdeal (hLastIdeal := hLastIdeal) (hLastReferenceIdeal := hLastReferenceIdeal)
-- ==== Pre_finite.lean ====
abbrev S8x2048x3 : Shape := ⟨3, ![8, 2048, 3]⟩
abbrev S12x12 : Shape := ⟨2, ![12, 12]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S12x12 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  main_v3
-- ==== Kernel.lean ====
abbrev S8x2048x3 : Shape := ⟨3, ![8, 2048, 3]⟩
abbrev S12x12 : Shape := ⟨2, ![12, 12]⟩
abbrev S8x3x2048 : Shape := ⟨3, ![8, 3, 2048]⟩
abbrev S8x2x12x8x1024 : Shape := ⟨5, ![8, 2, 12, 8, 1024]⟩
abbrev S12x1024 : Shape := ⟨2, ![12, 1024]⟩
abbrev S1x1024x3 : Shape := ⟨3, ![1, 1024, 3]⟩
abbrev S1x3x2048 : Shape := ⟨3, ![1, 3, 2048]⟩
abbrev S1x1x12x8x1024 : Shape := ⟨5, ![1, 1, 12, 8, 1024]⟩
abbrev S1024x3 : Shape := ⟨2, ![1024, 3]⟩
abbrev S3x2048 : Shape := ⟨2, ![3, 2048]⟩
abbrev S1x2048 : Shape := ⟨2, ![1, 2048]⟩
abbrev S1024x1 : Shape := ⟨2, ![1024, 1]⟩
abbrev S1024 : Shape := ⟨1, ![1024]⟩
abbrev S1024x2048 : Shape := ⟨2, ![1024, 2048]⟩
abbrev S1x1024 : Shape := ⟨2, ![1, 1024]⟩
abbrev S8x1024 : Shape := ⟨2, ![8, 1024]⟩
abbrev S1x128 : Shape := ⟨2, ![1, 128]⟩
abbrev S8x128 : Shape := ⟨2, ![8, 128]⟩
abbrev S8x128x1 : Shape := ⟨3, ![8, 128, 1]⟩
abbrev S1x1 : Shape := ⟨2, ![1, 1]⟩
abbrev S1x1x1x8x1024 : Shape := ⟨5, ![1, 1, 1, 8, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x3, .f32⟩
  | .hbm, ⟨1, _⟩ => ⟨S12x12, .f32⟩
  | .hbm, ⟨2, _⟩ => ⟨S8x3x2048, .f32⟩
  | .hbm, ⟨3, _⟩ => ⟨S8x2x12x8x1024, .f32⟩
  | .hbm, ⟨4, _⟩ => ⟨S12x1024, .f32⟩
  | .hbm, ⟨5, _⟩ => ⟨S12x1024, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S12x12, .f32⟩
  | .local _ .vmem, ⟨5, _⟩ => ⟨S1x1x12x8x1024, .f32⟩
  | .local _ .vmem, ⟨6, _⟩ => ⟨S1x1x12x8x1024, .f32⟩
  | .local _ .vmem, ⟨7, _⟩ => ⟨S12x1024, .f32⟩
  | .local _ .vmem, ⟨8, _⟩ => ⟨S12x1024, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S12x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x12x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S12x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F]
-- ==== ReferenceIdeal.lean ====
abbrev S8x2048x3 : Shape := ⟨3, ![8, 2048, 3]⟩
abbrev S12x12 : Shape := ⟨2, ![12, 12]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x8 : Shape := ⟨3, ![8, 2048, 8]⟩
abbrev S8x2048x8x1 : Shape := ⟨4, ![8, 2048, 8, 1]⟩
abbrev S8x2048x8x3 : Shape := ⟨4, ![8, 2048, 8, 3]⟩
abbrev S8x2048x1x8x3 : Shape := ⟨5, ![8, 2048, 1, 8, 3]⟩
abbrev S8x2048x8x8x3 : Shape := ⟨5, ![8, 2048, 8, 8, 3]⟩
abbrev S8x2048x8x1x3 : Shape := ⟨5, ![8, 2048, 8, 1, 3]⟩
abbrev S131072x8x3 : Shape := ⟨3, ![131072, 8, 3]⟩
abbrev S131072x3x3 : Shape := ⟨3, ![131072, 3, 3]⟩
abbrev S3x3 : Shape := ⟨2, ![3, 3]⟩
abbrev S131072x1x1 : Shape := ⟨3, ![131072, 1, 1]⟩
abbrev S131072 : Shape := ⟨1, ![131072]⟩
abbrev S131072x1 : Shape := ⟨2, ![131072, 1]⟩
abbrev S131072x3 : Shape := ⟨2, ![131072, 3]⟩
abbrev S131072x1x3 : Shape := ⟨3, ![131072, 1, 3]⟩
abbrev S131072x3x1 : Shape := ⟨3, ![131072, 3, 1]⟩
abbrev S8x2048x8x12 : Shape := ⟨4, ![8, 2048, 8, 12]⟩
abbrev S8x12x8x2048 : Shape := ⟨4, ![8, 12, 8, 2048]⟩
abbrev S8x8x2048x12 : Shape := ⟨4, ![8, 8, 2048, 12]⟩
abbrev S8x12x8x2x1024 : Shape := ⟨5, ![8, 12, 8, 2, 1024]⟩
abbrev S8x2x12x8x1024 : Shape := ⟨5, ![8, 2, 12, 8, 1024]⟩

abbrev nBuf : Space → Nat
  | .hbm => 3540
  | .vmem => 0
  | .smem => 0
  | _ => 0

abbrev hbmTy0_0 (i : Nat) : BufTy := match i % 128 with
  | 0 => ⟨S8x2048x3, .f32⟩
  | 1 => ⟨S12x12, .f32⟩
  | 2 => ⟨S8x2048x3, .f32⟩
  | 3 => ⟨S_, .f32⟩
  | 4 => ⟨S8x2048, .f32⟩
  | 5 => ⟨S8x2048x1, .f32⟩
  | 6 => ⟨S8x1x2048, .f32⟩
  | 7 => ⟨S8x2048x2048, .f32⟩
  | 8 => ⟨S8x2048x2048, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S8x2048x2048, .f32⟩
  | 15 => ⟨S8x2048x2048, .f32⟩
  | 16 => ⟨S8x2048x8, .f32⟩
  | 17 => ⟨S8x2048x8, .i32⟩
  | 18 => ⟨S_, .i32⟩
  | 19 => ⟨S8x2048x8, .i32⟩
  | 20 => ⟨S8x2048x8, .i1⟩
  | 21 => ⟨S_, .i32⟩
  | 22 => ⟨S8x2048x8, .i32⟩
  | 23 => ⟨S8x2048x8, .i32⟩
  | 24 => ⟨S8x2048x8, .i32⟩
  | 25 => ⟨S8x2048x8x1, .i32⟩
  | 26 => ⟨S8x2048x8x3, .f32⟩
  | 27 => ⟨S8x2048x1x8x3, .f32⟩
  | 28 => ⟨S8x2048x8x8x3, .f32⟩
  | 29 => ⟨S8x2048x8x1x3, .f32⟩
  | 30 => ⟨S8x2048x8x8x3, .f32⟩
  | 31 => ⟨S8x2048x8x8x3, .f32⟩
  | 32 => ⟨S131072x8x3, .f32⟩
  | 33 => ⟨S131072x3x3, .f32⟩
  | 34 => ⟨S3x3, .i32⟩
  | 35 => ⟨S3x3, .i32⟩
  | 36 => ⟨S_, .i32⟩
  | 37 => ⟨S3x3, .i32⟩
  | 38 => ⟨S3x3, .i32⟩
  | 39 => ⟨S3x3, .i1⟩
  | 40 => ⟨S3x3, .f32⟩
  | 41 => ⟨S131072x3x3, .f32⟩
  | 42 => ⟨S131072x1x1, .f32⟩
  | 43 => ⟨S131072, .f32⟩
  | 44 => ⟨S131072x1x1, .f32⟩
  | 45 => ⟨S131072, .f32⟩
  | 46 => ⟨S131072x1x1, .f32⟩
  | 47 => ⟨S131072, .f32⟩
  | 48 => ⟨S131072, .f32⟩
  | 49 => ⟨S_, .f32⟩
  | 50 => ⟨S131072, .f32⟩
  | 51 => ⟨S131072, .f32⟩
  | 52 => ⟨S131072, .f32⟩
  | 53 => ⟨S131072, .f32⟩
  | 54 => ⟨S131072, .f32⟩
  | 55 => ⟨S131072, .f32⟩
  | 56 => ⟨S_, .f32⟩
  | 57 => ⟨S131072, .f32⟩
  | 58 => ⟨S131072, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .i1⟩
  | 65 => ⟨S_, .f32⟩
  | 66 => ⟨S_, .f32⟩
  | 67 => ⟨S131072, .f32⟩
  | 68 => ⟨S131072, .f32⟩
  | 69 => ⟨S131072, .f32⟩
  | 70 => ⟨S131072, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072, .i1⟩
  | 77 => ⟨S_, .f32⟩
  | 78 => ⟨S131072, .f32⟩
  | 79 => ⟨S131072, .i1⟩
  | 80 => ⟨S131072, .i1⟩
  | 81 => ⟨S_, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .f32⟩
  | 89 => ⟨S131072, .f32⟩
  | 90 => ⟨S_, .f32⟩
  | 91 => ⟨S131072, .f32⟩
  | 92 => ⟨S131072, .f32⟩
  | 93 => ⟨S131072, .f32⟩
  | 94 => ⟨S_, .f32⟩
  | 95 => ⟨S131072, .f32⟩
  | 96 => ⟨S_, .f32⟩
  | 97 => ⟨S131072, .f32⟩
  | 98 => ⟨S131072, .f32⟩
  | 99 => ⟨S131072x1, .f32⟩
  | 100 => ⟨S131072x1, .f32⟩
  | 101 => ⟨S131072x1, .f32⟩
  | 102 => ⟨S131072x3, .f32⟩
  | 103 => ⟨S131072x1, .f32⟩
  | 104 => ⟨S131072x1, .f32⟩
  | 105 => ⟨S131072x1, .f32⟩
  | 106 => ⟨S131072x3, .f32⟩
  | 107 => ⟨S131072x1, .f32⟩
  | 108 => ⟨S131072x1, .f32⟩
  | 109 => ⟨S131072x1, .f32⟩
  | 110 => ⟨S131072x3, .f32⟩
  | 111 => ⟨S131072x1x3, .f32⟩
  | 112 => ⟨S131072x1x3, .f32⟩
  | 113 => ⟨S131072x1x3, .f32⟩
  | 114 => ⟨S131072x3x3, .f32⟩
  | 115 => ⟨S131072x3x3, .f32⟩
  | 116 => ⟨S131072x3x3, .f32⟩
  | 117 => ⟨S131072x3x3, .f32⟩
  | 118 => ⟨S131072x1x1, .f32⟩
  | 119 => ⟨S131072, .f32⟩
  | 120 => ⟨S131072x1x1, .f32⟩
  | 121 => ⟨S131072, .f32⟩
  | 122 => ⟨S131072x1x1, .f32⟩
  | 123 => ⟨S131072, .f32⟩
  | 124 => ⟨S131072, .f32⟩
  | 125 => ⟨S_, .f32⟩
  | 126 => ⟨S131072, .f32⟩
  | 127 => ⟨S131072, .f32⟩
  | _ => ⟨S8x2048x3, .f32⟩

abbrev hbmTy0_1 (i : Nat) : BufTy := match i % 128 with
  | 0 => ⟨S131072, .f32⟩
  | 1 => ⟨S131072, .f32⟩
  | 2 => ⟨S131072, .f32⟩
  | 3 => ⟨S131072, .f32⟩
  | 4 => ⟨S_, .f32⟩
  | 5 => ⟨S131072, .f32⟩
  | 6 => ⟨S131072, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .i1⟩
  | 13 => ⟨S_, .f32⟩
  | 14 => ⟨S_, .f32⟩
  | 15 => ⟨S131072, .f32⟩
  | 16 => ⟨S131072, .f32⟩
  | 17 => ⟨S131072, .f32⟩
  | 18 => ⟨S131072, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .i1⟩
  | 25 => ⟨S_, .f32⟩
  | 26 => ⟨S131072, .f32⟩
  | 27 => ⟨S131072, .i1⟩
  | 28 => ⟨S131072, .i1⟩
  | 29 => ⟨S_, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072, .f32⟩
  | 42 => ⟨S_, .f32⟩
  | 43 => ⟨S131072, .f32⟩
  | 44 => ⟨S_, .f32⟩
  | 45 => ⟨S131072, .f32⟩
  | 46 => ⟨S131072, .f32⟩
  | 47 => ⟨S131072x1, .f32⟩
  | 48 => ⟨S131072x1, .f32⟩
  | 49 => ⟨S131072x1, .f32⟩
  | 50 => ⟨S131072x3, .f32⟩
  | 51 => ⟨S131072x1, .f32⟩
  | 52 => ⟨S131072x1, .f32⟩
  | 53 => ⟨S131072x1, .f32⟩
  | 54 => ⟨S131072x3, .f32⟩
  | 55 => ⟨S131072x1, .f32⟩
  | 56 => ⟨S131072x1, .f32⟩
  | 57 => ⟨S131072x1, .f32⟩
  | 58 => ⟨S131072x3, .f32⟩
  | 59 => ⟨S131072x1x3, .f32⟩
  | 60 => ⟨S131072x1x3, .f32⟩
  | 61 => ⟨S131072x1x3, .f32⟩
  | 62 => ⟨S131072x3x3, .f32⟩
  | 63 => ⟨S131072x3x3, .f32⟩
  | 64 => ⟨S131072x3x3, .f32⟩
  | 65 => ⟨S131072x3x3, .f32⟩
  | 66 => ⟨S131072x1x1, .f32⟩
  | 67 => ⟨S131072, .f32⟩
  | 68 => ⟨S131072x1x1, .f32⟩
  | 69 => ⟨S131072, .f32⟩
  | 70 => ⟨S131072x1x1, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072, .f32⟩
  | 77 => ⟨S131072, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .i1⟩
  | 89 => ⟨S_, .f32⟩
  | 90 => ⟨S_, .f32⟩
  | 91 => ⟨S131072, .f32⟩
  | 92 => ⟨S131072, .f32⟩
  | 93 => ⟨S131072, .f32⟩
  | 94 => ⟨S131072, .f32⟩
  | 95 => ⟨S131072, .f32⟩
  | 96 => ⟨S131072, .f32⟩
  | 97 => ⟨S_, .f32⟩
  | 98 => ⟨S131072, .f32⟩
  | 99 => ⟨S131072, .f32⟩
  | 100 => ⟨S131072, .i1⟩
  | 101 => ⟨S_, .f32⟩
  | 102 => ⟨S131072, .f32⟩
  | 103 => ⟨S131072, .i1⟩
  | 104 => ⟨S131072, .i1⟩
  | 105 => ⟨S_, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072, .f32⟩
  | 118 => ⟨S_, .f32⟩
  | 119 => ⟨S131072, .f32⟩
  | 120 => ⟨S_, .f32⟩
  | 121 => ⟨S131072, .f32⟩
  | 122 => ⟨S131072, .f32⟩
  | 123 => ⟨S131072x1, .f32⟩
  | 124 => ⟨S131072x1, .f32⟩
  | 125 => ⟨S131072x1, .f32⟩
  | 126 => ⟨S131072x3, .f32⟩
  | 127 => ⟨S131072x1, .f32⟩
  | _ => ⟨S8x2048x3, .f32⟩

abbrev hbmTy0_2 (i : Nat) : BufTy := match i % 128 with
  | 0 => ⟨S131072x1, .f32⟩
  | 1 => ⟨S131072x1, .f32⟩
  | 2 => ⟨S131072x3, .f32⟩
  | 3 => ⟨S131072x1, .f32⟩
  | 4 => ⟨S131072x1, .f32⟩
  | 5 => ⟨S131072x1, .f32⟩
  | 6 => ⟨S131072x3, .f32⟩
  | 7 => ⟨S131072x1x3, .f32⟩
  | 8 => ⟨S131072x1x3, .f32⟩
  | 9 => ⟨S131072x1x3, .f32⟩
  | 10 => ⟨S131072x3x3, .f32⟩
  | 11 => ⟨S131072x3x3, .f32⟩
  | 12 => ⟨S131072x3x3, .f32⟩
  | 13 => ⟨S131072x3x3, .f32⟩
  | 14 => ⟨S131072x1x1, .f32⟩
  | 15 => ⟨S131072, .f32⟩
  | 16 => ⟨S131072x1x1, .f32⟩
  | 17 => ⟨S131072, .f32⟩
  | 18 => ⟨S131072x1x1, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .f32⟩
  | 25 => ⟨S131072, .f32⟩
  | 26 => ⟨S131072, .f32⟩
  | 27 => ⟨S131072, .f32⟩
  | 28 => ⟨S_, .f32⟩
  | 29 => ⟨S131072, .f32⟩
  | 30 => ⟨S131072, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .i1⟩
  | 37 => ⟨S_, .f32⟩
  | 38 => ⟨S_, .f32⟩
  | 39 => ⟨S131072, .f32⟩
  | 40 => ⟨S131072, .f32⟩
  | 41 => ⟨S131072, .f32⟩
  | 42 => ⟨S131072, .f32⟩
  | 43 => ⟨S131072, .f32⟩
  | 44 => ⟨S131072, .f32⟩
  | 45 => ⟨S_, .f32⟩
  | 46 => ⟨S131072, .f32⟩
  | 47 => ⟨S131072, .f32⟩
  | 48 => ⟨S131072, .i1⟩
  | 49 => ⟨S_, .f32⟩
  | 50 => ⟨S131072, .f32⟩
  | 51 => ⟨S131072, .i1⟩
  | 52 => ⟨S131072, .i1⟩
  | 53 => ⟨S_, .f32⟩
  | 54 => ⟨S_, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .f32⟩
  | 65 => ⟨S131072, .f32⟩
  | 66 => ⟨S_, .f32⟩
  | 67 => ⟨S131072, .f32⟩
  | 68 => ⟨S_, .f32⟩
  | 69 => ⟨S131072, .f32⟩
  | 70 => ⟨S131072, .f32⟩
  | 71 => ⟨S131072x1, .f32⟩
  | 72 => ⟨S131072x1, .f32⟩
  | 73 => ⟨S131072x1, .f32⟩
  | 74 => ⟨S131072x3, .f32⟩
  | 75 => ⟨S131072x1, .f32⟩
  | 76 => ⟨S131072x1, .f32⟩
  | 77 => ⟨S131072x1, .f32⟩
  | 78 => ⟨S131072x3, .f32⟩
  | 79 => ⟨S131072x1, .f32⟩
  | 80 => ⟨S131072x1, .f32⟩
  | 81 => ⟨S131072x1, .f32⟩
  | 82 => ⟨S131072x3, .f32⟩
  | 83 => ⟨S131072x1x3, .f32⟩
  | 84 => ⟨S131072x1x3, .f32⟩
  | 85 => ⟨S131072x1x3, .f32⟩
  | 86 => ⟨S131072x3x3, .f32⟩
  | 87 => ⟨S131072x3x3, .f32⟩
  | 88 => ⟨S131072x3x3, .f32⟩
  | 89 => ⟨S131072x3x3, .f32⟩
  | 90 => ⟨S131072x1x1, .f32⟩
  | 91 => ⟨S131072, .f32⟩
  | 92 => ⟨S131072x1x1, .f32⟩
  | 93 => ⟨S131072, .f32⟩
  | 94 => ⟨S131072x1x1, .f32⟩
  | 95 => ⟨S131072, .f32⟩
  | 96 => ⟨S131072, .f32⟩
  | 97 => ⟨S_, .f32⟩
  | 98 => ⟨S131072, .f32⟩
  | 99 => ⟨S131072, .f32⟩
  | 100 => ⟨S131072, .f32⟩
  | 101 => ⟨S131072, .f32⟩
  | 102 => ⟨S131072, .f32⟩
  | 103 => ⟨S131072, .f32⟩
  | 104 => ⟨S_, .f32⟩
  | 105 => ⟨S131072, .f32⟩
  | 106 => ⟨S131072, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .i1⟩
  | 113 => ⟨S_, .f32⟩
  | 114 => ⟨S_, .f32⟩
  | 115 => ⟨S131072, .f32⟩
  | 116 => ⟨S131072, .f32⟩
  | 117 => ⟨S131072, .f32⟩
  | 118 => ⟨S131072, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .i1⟩
  | 125 => ⟨S_, .f32⟩
  | 126 => ⟨S131072, .f32⟩
  | 127 => ⟨S131072, .i1⟩
  | _ => ⟨S8x2048x3, .f32⟩

abbrev hbmTy0_3 (i : Nat) : BufTy := match i % 128 with
  | 0 => ⟨S131072, .i1⟩
  | 1 => ⟨S_, .f32⟩
  | 2 => ⟨S_, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .f32⟩
  | 13 => ⟨S131072, .f32⟩
  | 14 => ⟨S_, .f32⟩
  | 15 => ⟨S131072, .f32⟩
  | 16 => ⟨S_, .f32⟩
  | 17 => ⟨S131072, .f32⟩
  | 18 => ⟨S131072, .f32⟩
  | 19 => ⟨S131072x1, .f32⟩
  | 20 => ⟨S131072x1, .f32⟩
  | 21 => ⟨S131072x1, .f32⟩
  | 22 => ⟨S131072x3, .f32⟩
  | 23 => ⟨S131072x1, .f32⟩
  | 24 => ⟨S131072x1, .f32⟩
  | 25 => ⟨S131072x1, .f32⟩
  | 26 => ⟨S131072x3, .f32⟩
  | 27 => ⟨S131072x1, .f32⟩
  | 28 => ⟨S131072x1, .f32⟩
  | 29 => ⟨S131072x1, .f32⟩
  | 30 => ⟨S131072x3, .f32⟩
  | 31 => ⟨S131072x1x3, .f32⟩
  | 32 => ⟨S131072x1x3, .f32⟩
  | 33 => ⟨S131072x1x3, .f32⟩
  | 34 => ⟨S131072x3x3, .f32⟩
  | 35 => ⟨S131072x3x3, .f32⟩
  | 36 => ⟨S131072x3x3, .f32⟩
  | 37 => ⟨S131072x3x3, .f32⟩
  | 38 => ⟨S131072x1x1, .f32⟩
  | 39 => ⟨S131072, .f32⟩
  | 40 => ⟨S131072x1x1, .f32⟩
  | 41 => ⟨S131072, .f32⟩
  | 42 => ⟨S131072x1x1, .f32⟩
  | 43 => ⟨S131072, .f32⟩
  | 44 => ⟨S131072, .f32⟩
  | 45 => ⟨S_, .f32⟩
  | 46 => ⟨S131072, .f32⟩
  | 47 => ⟨S131072, .f32⟩
  | 48 => ⟨S131072, .f32⟩
  | 49 => ⟨S131072, .f32⟩
  | 50 => ⟨S131072, .f32⟩
  | 51 => ⟨S131072, .f32⟩
  | 52 => ⟨S_, .f32⟩
  | 53 => ⟨S131072, .f32⟩
  | 54 => ⟨S131072, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .i1⟩
  | 61 => ⟨S_, .f32⟩
  | 62 => ⟨S_, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .i1⟩
  | 73 => ⟨S_, .f32⟩
  | 74 => ⟨S131072, .f32⟩
  | 75 => ⟨S131072, .i1⟩
  | 76 => ⟨S131072, .i1⟩
  | 77 => ⟨S_, .f32⟩
  | 78 => ⟨S_, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .f32⟩
  | 89 => ⟨S131072, .f32⟩
  | 90 => ⟨S_, .f32⟩
  | 91 => ⟨S131072, .f32⟩
  | 92 => ⟨S_, .f32⟩
  | 93 => ⟨S131072, .f32⟩
  | 94 => ⟨S131072, .f32⟩
  | 95 => ⟨S131072x1, .f32⟩
  | 96 => ⟨S131072x1, .f32⟩
  | 97 => ⟨S131072x1, .f32⟩
  | 98 => ⟨S131072x3, .f32⟩
  | 99 => ⟨S131072x1, .f32⟩
  | 100 => ⟨S131072x1, .f32⟩
  | 101 => ⟨S131072x1, .f32⟩
  | 102 => ⟨S131072x3, .f32⟩
  | 103 => ⟨S131072x1, .f32⟩
  | 104 => ⟨S131072x1, .f32⟩
  | 105 => ⟨S131072x1, .f32⟩
  | 106 => ⟨S131072x3, .f32⟩
  | 107 => ⟨S131072x1x3, .f32⟩
  | 108 => ⟨S131072x1x3, .f32⟩
  | 109 => ⟨S131072x1x3, .f32⟩
  | 110 => ⟨S131072x3x3, .f32⟩
  | 111 => ⟨S131072x3x3, .f32⟩
  | 112 => ⟨S131072x3x3, .f32⟩
  | 113 => ⟨S131072x3x3, .f32⟩
  | 114 => ⟨S131072x1x1, .f32⟩
  | 115 => ⟨S131072, .f32⟩
  | 116 => ⟨S131072x1x1, .f32⟩
  | 117 => ⟨S131072, .f32⟩
  | 118 => ⟨S131072x1x1, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .f32⟩
  | 125 => ⟨S131072, .f32⟩
  | 126 => ⟨S131072, .f32⟩
  | 127 => ⟨S131072, .f32⟩
  | _ => ⟨S8x2048x3, .f32⟩

abbrev hbmTy0_4 (i : Nat) : BufTy := match i % 128 with
  | 0 => ⟨S_, .f32⟩
  | 1 => ⟨S131072, .f32⟩
  | 2 => ⟨S131072, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .i1⟩
  | 9 => ⟨S_, .f32⟩
  | 10 => ⟨S_, .f32⟩
  | 11 => ⟨S131072, .f32⟩
  | 12 => ⟨S131072, .f32⟩
  | 13 => ⟨S131072, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .i1⟩
  | 21 => ⟨S_, .f32⟩
  | 22 => ⟨S131072, .f32⟩
  | 23 => ⟨S131072, .i1⟩
  | 24 => ⟨S131072, .i1⟩
  | 25 => ⟨S_, .f32⟩
  | 26 => ⟨S_, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .f32⟩
  | 37 => ⟨S131072, .f32⟩
  | 38 => ⟨S_, .f32⟩
  | 39 => ⟨S131072, .f32⟩
  | 40 => ⟨S_, .f32⟩
  | 41 => ⟨S131072, .f32⟩
  | 42 => ⟨S131072, .f32⟩
  | 43 => ⟨S131072x1, .f32⟩
  | 44 => ⟨S131072x1, .f32⟩
  | 45 => ⟨S131072x1, .f32⟩
  | 46 => ⟨S131072x3, .f32⟩
  | 47 => ⟨S131072x1, .f32⟩
  | 48 => ⟨S131072x1, .f32⟩
  | 49 => ⟨S131072x1, .f32⟩
  | 50 => ⟨S131072x3, .f32⟩
  | 51 => ⟨S131072x1, .f32⟩
  | 52 => ⟨S131072x1, .f32⟩
  | 53 => ⟨S131072x1, .f32⟩
  | 54 => ⟨S131072x3, .f32⟩
  | 55 => ⟨S131072x1x3, .f32⟩
  | 56 => ⟨S131072x1x3, .f32⟩
  | 57 => ⟨S131072x1x3, .f32⟩
  | 58 => ⟨S131072x3x3, .f32⟩
  | 59 => ⟨S131072x3x3, .f32⟩
  | 60 => ⟨S131072x3x3, .f32⟩
  | 61 => ⟨S131072x3x3, .f32⟩
  | 62 => ⟨S131072x1x1, .f32⟩
  | 63 => ⟨S131072, .f32⟩
  | 64 => ⟨S131072x1x1, .f32⟩
  | 65 => ⟨S131072, .f32⟩
  | 66 => ⟨S131072x1x1, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .f32⟩
  | 73 => ⟨S131072, .f32⟩
  | 74 => ⟨S131072, .f32⟩
  | 75 => ⟨S131072, .f32⟩
  | 76 => ⟨S_, .f32⟩
  | 77 => ⟨S131072, .f32⟩
  | 78 => ⟨S131072, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .i1⟩
  | 85 => ⟨S_, .f32⟩
  | 86 => ⟨S_, .f32⟩
  | 87 => ⟨S131072, .f32⟩
  | 88 => ⟨S131072, .f32⟩
  | 89 => ⟨S131072, .f32⟩
  | 90 => ⟨S131072, .f32⟩
  | 91 => ⟨S131072, .f32⟩
  | 92 => ⟨S131072, .f32⟩
  | 93 => ⟨S_, .f32⟩
  | 94 => ⟨S131072, .f32⟩
  | 95 => ⟨S131072, .f32⟩
  | 96 => ⟨S131072, .i1⟩
  | 97 => ⟨S_, .f32⟩
  | 98 => ⟨S131072, .f32⟩
  | 99 => ⟨S131072, .i1⟩
  | 100 => ⟨S131072, .i1⟩
  | 101 => ⟨S_, .f32⟩
  | 102 => ⟨S_, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .f32⟩
  | 113 => ⟨S131072, .f32⟩
  | 114 => ⟨S_, .f32⟩
  | 115 => ⟨S131072, .f32⟩
  | 116 => ⟨S_, .f32⟩
  | 117 => ⟨S131072, .f32⟩
  | 118 => ⟨S131072, .f32⟩
  | 119 => ⟨S131072x1, .f32⟩
  | 120 => ⟨S131072x1, .f32⟩
  | 121 => ⟨S131072x1, .f32⟩
  | 122 => ⟨S131072x3, .f32⟩
  | 123 => ⟨S131072x1, .f32⟩
  | 124 => ⟨S131072x1, .f32⟩
  | 125 => ⟨S131072x1, .f32⟩
  | 126 => ⟨S131072x3, .f32⟩
  | 127 => ⟨S131072x1, .f32⟩
  | _ => ⟨S8x2048x3, .f32⟩

abbrev hbmTy0_5 (i : Nat) : BufTy := match i % 128 with
  | 0 => ⟨S131072x1, .f32⟩
  | 1 => ⟨S131072x1, .f32⟩
  | 2 => ⟨S131072x3, .f32⟩
  | 3 => ⟨S131072x1x3, .f32⟩
  | 4 => ⟨S131072x1x3, .f32⟩
  | 5 => ⟨S131072x1x3, .f32⟩
  | 6 => ⟨S131072x3x3, .f32⟩
  | 7 => ⟨S131072x3x3, .f32⟩
  | 8 => ⟨S131072x3x3, .f32⟩
  | 9 => ⟨S131072x3x3, .f32⟩
  | 10 => ⟨S131072x1x1, .f32⟩
  | 11 => ⟨S131072, .f32⟩
  | 12 => ⟨S131072x1x1, .f32⟩
  | 13 => ⟨S131072, .f32⟩
  | 14 => ⟨S131072x1x1, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .f32⟩
  | 21 => ⟨S131072, .f32⟩
  | 22 => ⟨S131072, .f32⟩
  | 23 => ⟨S131072, .f32⟩
  | 24 => ⟨S_, .f32⟩
  | 25 => ⟨S131072, .f32⟩
  | 26 => ⟨S131072, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .i1⟩
  | 33 => ⟨S_, .f32⟩
  | 34 => ⟨S_, .f32⟩
  | 35 => ⟨S131072, .f32⟩
  | 36 => ⟨S131072, .f32⟩
  | 37 => ⟨S131072, .f32⟩
  | 38 => ⟨S131072, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .i1⟩
  | 45 => ⟨S_, .f32⟩
  | 46 => ⟨S131072, .f32⟩
  | 47 => ⟨S131072, .i1⟩
  | 48 => ⟨S131072, .i1⟩
  | 49 => ⟨S_, .f32⟩
  | 50 => ⟨S_, .f32⟩
  | 51 => ⟨S131072, .f32⟩
  | 52 => ⟨S131072, .f32⟩
  | 53 => ⟨S131072, .f32⟩
  | 54 => ⟨S_, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S_, .f32⟩
  | 65 => ⟨S131072, .f32⟩
  | 66 => ⟨S131072, .f32⟩
  | 67 => ⟨S131072x1, .f32⟩
  | 68 => ⟨S131072x1, .f32⟩
  | 69 => ⟨S131072x1, .f32⟩
  | 70 => ⟨S131072x3, .f32⟩
  | 71 => ⟨S131072x1, .f32⟩
  | 72 => ⟨S131072x1, .f32⟩
  | 73 => ⟨S131072x1, .f32⟩
  | 74 => ⟨S131072x3, .f32⟩
  | 75 => ⟨S131072x1, .f32⟩
  | 76 => ⟨S131072x1, .f32⟩
  | 77 => ⟨S131072x1, .f32⟩
  | 78 => ⟨S131072x3, .f32⟩
  | 79 => ⟨S131072x1x3, .f32⟩
  | 80 => ⟨S131072x1x3, .f32⟩
  | 81 => ⟨S131072x1x3, .f32⟩
  | 82 => ⟨S131072x3x3, .f32⟩
  | 83 => ⟨S131072x3x3, .f32⟩
  | 84 => ⟨S131072x3x3, .f32⟩
  | 85 => ⟨S131072x3x3, .f32⟩
  | 86 => ⟨S131072x1x1, .f32⟩
  | 87 => ⟨S131072, .f32⟩
  | 88 => ⟨S131072x1x1, .f32⟩
  | 89 => ⟨S131072, .f32⟩
  | 90 => ⟨S131072x1x1, .f32⟩
  | 91 => ⟨S131072, .f32⟩
  | 92 => ⟨S131072, .f32⟩
  | 93 => ⟨S_, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .i1⟩
  | 109 => ⟨S_, .f32⟩
  | 110 => ⟨S_, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .i1⟩
  | 121 => ⟨S_, .f32⟩
  | 122 => ⟨S131072, .f32⟩
  | 123 => ⟨S131072, .i1⟩
  | 124 => ⟨S131072, .i1⟩
  | 125 => ⟨S_, .f32⟩
  | 126 => ⟨S_, .f32⟩
  | 127 => ⟨S131072, .f32⟩
  | _ => ⟨S8x2048x3, .f32⟩

abbrev hbmTy0_6 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S_, .f32⟩
  | 13 => ⟨S131072, .f32⟩
  | 14 => ⟨S131072, .f32⟩
  | 15 => ⟨S131072x1, .f32⟩
  | 16 => ⟨S131072x1, .f32⟩
  | 17 => ⟨S131072x1, .f32⟩
  | 18 => ⟨S131072x3, .f32⟩
  | 19 => ⟨S131072x1, .f32⟩
  | 20 => ⟨S131072x1, .f32⟩
  | 21 => ⟨S131072x1, .f32⟩
  | 22 => ⟨S131072x3, .f32⟩
  | 23 => ⟨S131072x1, .f32⟩
  | 24 => ⟨S131072x1, .f32⟩
  | 25 => ⟨S131072x1, .f32⟩
  | 26 => ⟨S131072x3, .f32⟩
  | 27 => ⟨S131072x1x3, .f32⟩
  | 28 => ⟨S131072x1x3, .f32⟩
  | 29 => ⟨S131072x1x3, .f32⟩
  | 30 => ⟨S131072x3x3, .f32⟩
  | 31 => ⟨S131072x3x3, .f32⟩
  | 32 => ⟨S131072x3x3, .f32⟩
  | 33 => ⟨S131072x3x3, .f32⟩
  | 34 => ⟨S131072x1x1, .f32⟩
  | 35 => ⟨S131072, .f32⟩
  | 36 => ⟨S131072x1x1, .f32⟩
  | 37 => ⟨S131072, .f32⟩
  | 38 => ⟨S131072x1x1, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072, .f32⟩
  | 48 => ⟨S_, .f32⟩
  | 49 => ⟨S131072, .f32⟩
  | 50 => ⟨S131072, .f32⟩
  | 51 => ⟨S131072, .f32⟩
  | 52 => ⟨S131072, .f32⟩
  | 53 => ⟨S131072, .f32⟩
  | 54 => ⟨S_, .f32⟩
  | 55 => ⟨S131072, .f32⟩
  | 56 => ⟨S131072, .i1⟩
  | 57 => ⟨S_, .f32⟩
  | 58 => ⟨S_, .f32⟩
  | 59 => ⟨S131072, .f32⟩
  | 60 => ⟨S131072, .f32⟩
  | 61 => ⟨S131072, .f32⟩
  | 62 => ⟨S131072, .f32⟩
  | 63 => ⟨S131072, .f32⟩
  | 64 => ⟨S131072, .f32⟩
  | 65 => ⟨S_, .f32⟩
  | 66 => ⟨S131072, .f32⟩
  | 67 => ⟨S131072, .f32⟩
  | 68 => ⟨S131072, .i1⟩
  | 69 => ⟨S_, .f32⟩
  | 70 => ⟨S131072, .f32⟩
  | 71 => ⟨S131072, .i1⟩
  | 72 => ⟨S131072, .i1⟩
  | 73 => ⟨S_, .f32⟩
  | 74 => ⟨S_, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S_, .f32⟩
  | 89 => ⟨S131072, .f32⟩
  | 90 => ⟨S131072, .f32⟩
  | 91 => ⟨S131072x1, .f32⟩
  | 92 => ⟨S131072x1, .f32⟩
  | 93 => ⟨S131072x1, .f32⟩
  | 94 => ⟨S131072x3, .f32⟩
  | 95 => ⟨S131072x1, .f32⟩
  | 96 => ⟨S131072x1, .f32⟩
  | 97 => ⟨S131072x1, .f32⟩
  | 98 => ⟨S131072x3, .f32⟩
  | 99 => ⟨S131072x1, .f32⟩
  | 100 => ⟨S131072x1, .f32⟩
  | 101 => ⟨S131072x1, .f32⟩
  | 102 => ⟨S131072x3, .f32⟩
  | 103 => ⟨S131072x1x3, .f32⟩
  | 104 => ⟨S131072x1x3, .f32⟩
  | 105 => ⟨S131072x1x3, .f32⟩
  | 106 => ⟨S131072x3x3, .f32⟩
  | 107 => ⟨S131072x3x3, .f32⟩
  | 108 => ⟨S131072x3x3, .f32⟩
  | 109 => ⟨S131072x3x3, .f32⟩
  | 110 => ⟨S131072x1x1, .f32⟩
  | 111 => ⟨S131072, .f32⟩
  | 112 => ⟨S131072x1x1, .f32⟩
  | 113 => ⟨S131072, .f32⟩
  | 114 => ⟨S131072x1x1, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .f32⟩
  | 121 => ⟨S131072, .f32⟩
  | 122 => ⟨S131072, .f32⟩
  | 123 => ⟨S131072, .f32⟩
  | 124 => ⟨S_, .f32⟩
  | 125 => ⟨S131072, .f32⟩
  | 126 => ⟨S131072, .f32⟩
  | 127 => ⟨S131072, .f32⟩
  | _ => ⟨S8x2048x3, .f32⟩

abbrev hbmTy0_7 (i : Nat) : BufTy := match i % 128 with
  | 0 => ⟨S131072, .f32⟩
  | 1 => ⟨S131072, .f32⟩
  | 2 => ⟨S_, .f32⟩
  | 3 => ⟨S131072, .f32⟩
  | 4 => ⟨S131072, .i1⟩
  | 5 => ⟨S_, .f32⟩
  | 6 => ⟨S_, .f32⟩
  | 7 => ⟨S131072, .f32⟩
  | 8 => ⟨S131072, .f32⟩
  | 9 => ⟨S131072, .f32⟩
  | 10 => ⟨S131072, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072, .i1⟩
  | 17 => ⟨S_, .f32⟩
  | 18 => ⟨S131072, .f32⟩
  | 19 => ⟨S131072, .i1⟩
  | 20 => ⟨S131072, .i1⟩
  | 21 => ⟨S_, .f32⟩
  | 22 => ⟨S_, .f32⟩
  | 23 => ⟨S131072, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S_, .f32⟩
  | 37 => ⟨S131072, .f32⟩
  | 38 => ⟨S131072, .f32⟩
  | 39 => ⟨S131072x1, .f32⟩
  | 40 => ⟨S131072x1, .f32⟩
  | 41 => ⟨S131072x1, .f32⟩
  | 42 => ⟨S131072x3, .f32⟩
  | 43 => ⟨S131072x1, .f32⟩
  | 44 => ⟨S131072x1, .f32⟩
  | 45 => ⟨S131072x1, .f32⟩
  | 46 => ⟨S131072x3, .f32⟩
  | 47 => ⟨S131072x1, .f32⟩
  | 48 => ⟨S131072x1, .f32⟩
  | 49 => ⟨S131072x1, .f32⟩
  | 50 => ⟨S131072x3, .f32⟩
  | 51 => ⟨S131072x1x3, .f32⟩
  | 52 => ⟨S131072x1x3, .f32⟩
  | 53 => ⟨S131072x1x3, .f32⟩
  | 54 => ⟨S131072x3x3, .f32⟩
  | 55 => ⟨S131072x3x3, .f32⟩
  | 56 => ⟨S131072x3x3, .f32⟩
  | 57 => ⟨S131072x3x3, .f32⟩
  | 58 => ⟨S131072x1x1, .f32⟩
  | 59 => ⟨S131072, .f32⟩
  | 60 => ⟨S131072x1x1, .f32⟩
  | 61 => ⟨S131072, .f32⟩
  | 62 => ⟨S131072x1x1, .f32⟩
  | 63 => ⟨S131072, .f32⟩
  | 64 => ⟨S131072, .f32⟩
  | 65 => ⟨S_, .f32⟩
  | 66 => ⟨S131072, .f32⟩
  | 67 => ⟨S131072, .f32⟩
  | 68 => ⟨S131072, .f32⟩
  | 69 => ⟨S131072, .f32⟩
  | 70 => ⟨S131072, .f32⟩
  | 71 => ⟨S131072, .f32⟩
  | 72 => ⟨S_, .f32⟩
  | 73 => ⟨S131072, .f32⟩
  | 74 => ⟨S131072, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .i1⟩
  | 81 => ⟨S_, .f32⟩
  | 82 => ⟨S_, .f32⟩
  | 83 => ⟨S131072, .f32⟩
  | 84 => ⟨S131072, .f32⟩
  | 85 => ⟨S131072, .f32⟩
  | 86 => ⟨S131072, .f32⟩
  | 87 => ⟨S131072, .f32⟩
  | 88 => ⟨S131072, .f32⟩
  | 89 => ⟨S_, .f32⟩
  | 90 => ⟨S131072, .f32⟩
  | 91 => ⟨S131072, .f32⟩
  | 92 => ⟨S131072, .i1⟩
  | 93 => ⟨S_, .f32⟩
  | 94 => ⟨S131072, .f32⟩
  | 95 => ⟨S131072, .i1⟩
  | 96 => ⟨S131072, .i1⟩
  | 97 => ⟨S_, .f32⟩
  | 98 => ⟨S_, .f32⟩
  | 99 => ⟨S131072, .f32⟩
  | 100 => ⟨S131072, .f32⟩
  | 101 => ⟨S131072, .f32⟩
  | 102 => ⟨S_, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x1, .f32⟩
  | 117 => ⟨S131072x1, .f32⟩
  | 118 => ⟨S131072x3, .f32⟩
  | 119 => ⟨S131072x1, .f32⟩
  | 120 => ⟨S131072x1, .f32⟩
  | 121 => ⟨S131072x1, .f32⟩
  | 122 => ⟨S131072x3, .f32⟩
  | 123 => ⟨S131072x1, .f32⟩
  | 124 => ⟨S131072x1, .f32⟩
  | 125 => ⟨S131072x1, .f32⟩
  | 126 => ⟨S131072x3, .f32⟩
  | 127 => ⟨S131072x1x3, .f32⟩
  | _ => ⟨S8x2048x3, .f32⟩

abbrev hbmTy0_8 (i : Nat) : BufTy := match i % 128 with
  | 0 => ⟨S131072x1x3, .f32⟩
  | 1 => ⟨S131072x1x3, .f32⟩
  | 2 => ⟨S131072x3x3, .f32⟩
  | 3 => ⟨S131072x3x3, .f32⟩
  | 4 => ⟨S131072x3x3, .f32⟩
  | 5 => ⟨S131072x3x3, .f32⟩
  | 6 => ⟨S131072x1x1, .f32⟩
  | 7 => ⟨S131072, .f32⟩
  | 8 => ⟨S131072x1x1, .f32⟩
  | 9 => ⟨S131072, .f32⟩
  | 10 => ⟨S131072x1x1, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072, .f32⟩
  | 17 => ⟨S131072, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072, .f32⟩
  | 24 => ⟨S131072, .f32⟩
  | 25 => ⟨S131072, .f32⟩
  | 26 => ⟨S_, .f32⟩
  | 27 => ⟨S131072, .f32⟩
  | 28 => ⟨S131072, .i1⟩
  | 29 => ⟨S_, .f32⟩
  | 30 => ⟨S_, .f32⟩
  | 31 => ⟨S131072, .f32⟩
  | 32 => ⟨S131072, .f32⟩
  | 33 => ⟨S131072, .f32⟩
  | 34 => ⟨S131072, .f32⟩
  | 35 => ⟨S131072, .f32⟩
  | 36 => ⟨S131072, .f32⟩
  | 37 => ⟨S_, .f32⟩
  | 38 => ⟨S131072, .f32⟩
  | 39 => ⟨S131072, .f32⟩
  | 40 => ⟨S131072, .i1⟩
  | 41 => ⟨S_, .f32⟩
  | 42 => ⟨S131072, .f32⟩
  | 43 => ⟨S131072, .i1⟩
  | 44 => ⟨S131072, .i1⟩
  | 45 => ⟨S_, .f32⟩
  | 46 => ⟨S_, .f32⟩
  | 47 => ⟨S131072, .f32⟩
  | 48 => ⟨S131072, .f32⟩
  | 49 => ⟨S131072, .f32⟩
  | 50 => ⟨S_, .f32⟩
  | 51 => ⟨S131072, .f32⟩
  | 52 => ⟨S131072, .f32⟩
  | 53 => ⟨S131072, .f32⟩
  | 54 => ⟨S_, .f32⟩
  | 55 => ⟨S131072, .f32⟩
  | 56 => ⟨S131072, .f32⟩
  | 57 => ⟨S131072, .f32⟩
  | 58 => ⟨S_, .f32⟩
  | 59 => ⟨S131072, .f32⟩
  | 60 => ⟨S_, .f32⟩
  | 61 => ⟨S131072, .f32⟩
  | 62 => ⟨S131072, .f32⟩
  | 63 => ⟨S131072x1, .f32⟩
  | 64 => ⟨S131072x1, .f32⟩
  | 65 => ⟨S131072x1, .f32⟩
  | 66 => ⟨S131072x3, .f32⟩
  | 67 => ⟨S131072x1, .f32⟩
  | 68 => ⟨S131072x1, .f32⟩
  | 69 => ⟨S131072x1, .f32⟩
  | 70 => ⟨S131072x3, .f32⟩
  | 71 => ⟨S131072x1, .f32⟩
  | 72 => ⟨S131072x1, .f32⟩
  | 73 => ⟨S131072x1, .f32⟩
  | 74 => ⟨S131072x3, .f32⟩
  | 75 => ⟨S131072x1x3, .f32⟩
  | 76 => ⟨S131072x1x3, .f32⟩
  | 77 => ⟨S131072x1x3, .f32⟩
  | 78 => ⟨S131072x3x3, .f32⟩
  | 79 => ⟨S131072x3x3, .f32⟩
  | 80 => ⟨S131072x3x3, .f32⟩
  | 81 => ⟨S131072x3x3, .f32⟩
  | 82 => ⟨S131072x1x1, .f32⟩
  | 83 => ⟨S131072, .f32⟩
  | 84 => ⟨S131072x1x1, .f32⟩
  | 85 => ⟨S131072, .f32⟩
  | 86 => ⟨S131072x1x1, .f32⟩
  | 87 => ⟨S131072, .f32⟩
  | 88 => ⟨S131072, .f32⟩
  | 89 => ⟨S_, .f32⟩
  | 90 => ⟨S131072, .f32⟩
  | 91 => ⟨S131072, .f32⟩
  | 92 => ⟨S131072, .f32⟩
  | 93 => ⟨S131072, .f32⟩
  | 94 => ⟨S131072, .f32⟩
  | 95 => ⟨S131072, .f32⟩
  | 96 => ⟨S_, .f32⟩
  | 97 => ⟨S131072, .f32⟩
  | 98 => ⟨S131072, .f32⟩
  | 99 => ⟨S131072, .f32⟩
  | 100 => ⟨S131072, .f32⟩
  | 101 => ⟨S131072, .f32⟩
  | 102 => ⟨S_, .f32⟩
  | 103 => ⟨S131072, .f32⟩
  | 104 => ⟨S131072, .i1⟩
  | 105 => ⟨S_, .f32⟩
  | 106 => ⟨S_, .f32⟩
  | 107 => ⟨S131072, .f32⟩
  | 108 => ⟨S131072, .f32⟩
  | 109 => ⟨S131072, .f32⟩
  | 110 => ⟨S131072, .f32⟩
  | 111 => ⟨S131072, .f32⟩
  | 112 => ⟨S131072, .f32⟩
  | 113 => ⟨S_, .f32⟩
  | 114 => ⟨S131072, .f32⟩
  | 115 => ⟨S131072, .f32⟩
  | 116 => ⟨S131072, .i1⟩
  | 117 => ⟨S_, .f32⟩
  | 118 => ⟨S131072, .f32⟩
  | 119 => ⟨S131072, .i1⟩
  | 120 => ⟨S131072, .i1⟩
  | 121 => ⟨S_, .f32⟩
  | 122 => ⟨S_, .f32⟩
  | 123 => ⟨S131072, .f32⟩
  | 124 => ⟨S131072, .f32⟩
  | 125 => ⟨S131072, .f32⟩
  | 126 => ⟨S_, .f32⟩
  | 127 => ⟨S131072, .f32⟩
  | _ => ⟨S8x2048x3, .f32⟩

abbrev hbmTy0_9 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S_, .f32⟩
  | 7 => ⟨S131072, .f32⟩
  | 8 => ⟨S_, .f32⟩
  | 9 => ⟨S131072, .f32⟩
  | 10 => ⟨S131072, .f32⟩
  | 11 => ⟨S131072x1, .f32⟩
  | 12 => ⟨S131072x1, .f32⟩
  | 13 => ⟨S131072x1, .f32⟩
  | 14 => ⟨S131072x3, .f32⟩
  | 15 => ⟨S131072x1, .f32⟩
  | 16 => ⟨S131072x1, .f32⟩
  | 17 => ⟨S131072x1, .f32⟩
  | 18 => ⟨S131072x3, .f32⟩
  | 19 => ⟨S131072x1, .f32⟩
  | 20 => ⟨S131072x1, .f32⟩
  | 21 => ⟨S131072x1, .f32⟩
  | 22 => ⟨S131072x3, .f32⟩
  | 23 => ⟨S131072x1x3, .f32⟩
  | 24 => ⟨S131072x1x3, .f32⟩
  | 25 => ⟨S131072x1x3, .f32⟩
  | 26 => ⟨S131072x3x3, .f32⟩
  | 27 => ⟨S131072x3x3, .f32⟩
  | 28 => ⟨S131072x3x3, .f32⟩
  | 29 => ⟨S131072x3x3, .f32⟩
  | 30 => ⟨S131072x1x1, .f32⟩
  | 31 => ⟨S131072, .f32⟩
  | 32 => ⟨S131072x1x1, .f32⟩
  | 33 => ⟨S131072, .f32⟩
  | 34 => ⟨S131072x1x1, .f32⟩
  | 35 => ⟨S131072, .f32⟩
  | 36 => ⟨S131072, .f32⟩
  | 37 => ⟨S_, .f32⟩
  | 38 => ⟨S131072, .f32⟩
  | 39 => ⟨S131072, .f32⟩
  | 40 => ⟨S131072, .f32⟩
  | 41 => ⟨S131072, .f32⟩
  | 42 => ⟨S131072, .f32⟩
  | 43 => ⟨S131072, .f32⟩
  | 44 => ⟨S_, .f32⟩
  | 45 => ⟨S131072, .f32⟩
  | 46 => ⟨S131072, .f32⟩
  | 47 => ⟨S131072, .f32⟩
  | 48 => ⟨S131072, .f32⟩
  | 49 => ⟨S131072, .f32⟩
  | 50 => ⟨S_, .f32⟩
  | 51 => ⟨S131072, .f32⟩
  | 52 => ⟨S131072, .i1⟩
  | 53 => ⟨S_, .f32⟩
  | 54 => ⟨S_, .f32⟩
  | 55 => ⟨S131072, .f32⟩
  | 56 => ⟨S131072, .f32⟩
  | 57 => ⟨S131072, .f32⟩
  | 58 => ⟨S131072, .f32⟩
  | 59 => ⟨S131072, .f32⟩
  | 60 => ⟨S131072, .f32⟩
  | 61 => ⟨S_, .f32⟩
  | 62 => ⟨S131072, .f32⟩
  | 63 => ⟨S131072, .f32⟩
  | 64 => ⟨S131072, .i1⟩
  | 65 => ⟨S_, .f32⟩
  | 66 => ⟨S131072, .f32⟩
  | 67 => ⟨S131072, .i1⟩
  | 68 => ⟨S131072, .i1⟩
  | 69 => ⟨S_, .f32⟩
  | 70 => ⟨S_, .f32⟩
  | 71 => ⟨S131072, .f32⟩
  | 72 => ⟨S131072, .f32⟩
  | 73 => ⟨S131072, .f32⟩
  | 74 => ⟨S_, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .f32⟩
  | 81 => ⟨S131072, .f32⟩
  | 82 => ⟨S_, .f32⟩
  | 83 => ⟨S131072, .f32⟩
  | 84 => ⟨S_, .f32⟩
  | 85 => ⟨S131072, .f32⟩
  | 86 => ⟨S131072, .f32⟩
  | 87 => ⟨S131072x1, .f32⟩
  | 88 => ⟨S131072x1, .f32⟩
  | 89 => ⟨S131072x1, .f32⟩
  | 90 => ⟨S131072x3, .f32⟩
  | 91 => ⟨S131072x1, .f32⟩
  | 92 => ⟨S131072x1, .f32⟩
  | 93 => ⟨S131072x1, .f32⟩
  | 94 => ⟨S131072x3, .f32⟩
  | 95 => ⟨S131072x1, .f32⟩
  | 96 => ⟨S131072x1, .f32⟩
  | 97 => ⟨S131072x1, .f32⟩
  | 98 => ⟨S131072x3, .f32⟩
  | 99 => ⟨S131072x1x3, .f32⟩
  | 100 => ⟨S131072x1x3, .f32⟩
  | 101 => ⟨S131072x1x3, .f32⟩
  | 102 => ⟨S131072x3x3, .f32⟩
  | 103 => ⟨S131072x3x3, .f32⟩
  | 104 => ⟨S131072x3x3, .f32⟩
  | 105 => ⟨S131072x3x3, .f32⟩
  | 106 => ⟨S131072x1x1, .f32⟩
  | 107 => ⟨S131072, .f32⟩
  | 108 => ⟨S131072x1x1, .f32⟩
  | 109 => ⟨S131072, .f32⟩
  | 110 => ⟨S131072x1x1, .f32⟩
  | 111 => ⟨S131072, .f32⟩
  | 112 => ⟨S131072, .f32⟩
  | 113 => ⟨S_, .f32⟩
  | 114 => ⟨S131072, .f32⟩
  | 115 => ⟨S131072, .f32⟩
  | 116 => ⟨S131072, .f32⟩
  | 117 => ⟨S131072, .f32⟩
  | 118 => ⟨S131072, .f32⟩
  | 119 => ⟨S131072, .f32⟩
  | 120 => ⟨S_, .f32⟩
  | 121 => ⟨S131072, .f32⟩
  | 122 => ⟨S131072, .f32⟩
  | 123 => ⟨S131072, .f32⟩
  | 124 => ⟨S131072, .f32⟩
  | 125 => ⟨S131072, .f32⟩
  | 126 => ⟨S_, .f32⟩
  | 127 => ⟨S131072, .f32⟩
  | _ => ⟨S8x2048x3, .f32⟩

abbrev hbmTy0_10 (i : Nat) : BufTy := match i % 128 with
  | 0 => ⟨S131072, .i1⟩
  | 1 => ⟨S_, .f32⟩
  | 2 => ⟨S_, .f32⟩
  | 3 => ⟨S131072, .f32⟩
  | 4 => ⟨S131072, .f32⟩
  | 5 => ⟨S131072, .f32⟩
  | 6 => ⟨S131072, .f32⟩
  | 7 => ⟨S131072, .f32⟩
  | 8 => ⟨S131072, .f32⟩
  | 9 => ⟨S_, .f32⟩
  | 10 => ⟨S131072, .f32⟩
  | 11 => ⟨S131072, .f32⟩
  | 12 => ⟨S131072, .i1⟩
  | 13 => ⟨S_, .f32⟩
  | 14 => ⟨S131072, .f32⟩
  | 15 => ⟨S131072, .i1⟩
  | 16 => ⟨S131072, .i1⟩
  | 17 => ⟨S_, .f32⟩
  | 18 => ⟨S_, .f32⟩
  | 19 => ⟨S131072, .f32⟩
  | 20 => ⟨S131072, .f32⟩
  | 21 => ⟨S131072, .f32⟩
  | 22 => ⟨S_, .f32⟩
  | 23 => ⟨S131072, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072, .f32⟩
  | 30 => ⟨S_, .f32⟩
  | 31 => ⟨S131072, .f32⟩
  | 32 => ⟨S_, .f32⟩
  | 33 => ⟨S131072, .f32⟩
  | 34 => ⟨S131072, .f32⟩
  | 35 => ⟨S131072x1, .f32⟩
  | 36 => ⟨S131072x1, .f32⟩
  | 37 => ⟨S131072x1, .f32⟩
  | 38 => ⟨S131072x3, .f32⟩
  | 39 => ⟨S131072x1, .f32⟩
  | 40 => ⟨S131072x1, .f32⟩
  | 41 => ⟨S131072x1, .f32⟩
  | 42 => ⟨S131072x3, .f32⟩
  | 43 => ⟨S131072x1, .f32⟩
  | 44 => ⟨S131072x1, .f32⟩
  | 45 => ⟨S131072x1, .f32⟩
  | 46 => ⟨S131072x3, .f32⟩
  | 47 => ⟨S131072x1x3, .f32⟩
  | 48 => ⟨S131072x1x3, .f32⟩
  | 49 => ⟨S131072x1x3, .f32⟩
  | 50 => ⟨S131072x3x3, .f32⟩
  | 51 => ⟨S131072x3x3, .f32⟩
  | 52 => ⟨S131072x3x3, .f32⟩
  | 53 => ⟨S131072x3x3, .f32⟩
  | 54 => ⟨S131072x1x1, .f32⟩
  | 55 => ⟨S131072, .f32⟩
  | 56 => ⟨S131072x1x1, .f32⟩
  | 57 => ⟨S131072, .f32⟩
  | 58 => ⟨S131072x1x1, .f32⟩
  | 59 => ⟨S131072, .f32⟩
  | 60 => ⟨S131072, .f32⟩
  | 61 => ⟨S_, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .f32⟩
  | 68 => ⟨S_, .f32⟩
  | 69 => ⟨S131072, .f32⟩
  | 70 => ⟨S131072, .f32⟩
  | 71 => ⟨S131072, .f32⟩
  | 72 => ⟨S131072, .f32⟩
  | 73 => ⟨S131072, .f32⟩
  | 74 => ⟨S_, .f32⟩
  | 75 => ⟨S131072, .f32⟩
  | 76 => ⟨S131072, .i1⟩
  | 77 => ⟨S_, .f32⟩
  | 78 => ⟨S_, .f32⟩
  | 79 => ⟨S131072, .f32⟩
  | 80 => ⟨S131072, .f32⟩
  | 81 => ⟨S131072, .f32⟩
  | 82 => ⟨S131072, .f32⟩
  | 83 => ⟨S131072, .f32⟩
  | 84 => ⟨S131072, .f32⟩
  | 85 => ⟨S_, .f32⟩
  | 86 => ⟨S131072, .f32⟩
  | 87 => ⟨S131072, .f32⟩
  | 88 => ⟨S131072, .i1⟩
  | 89 => ⟨S_, .f32⟩
  | 90 => ⟨S131072, .f32⟩
  | 91 => ⟨S131072, .i1⟩
  | 92 => ⟨S131072, .i1⟩
  | 93 => ⟨S_, .f32⟩
  | 94 => ⟨S_, .f32⟩
  | 95 => ⟨S131072, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072, .f32⟩
  | 102 => ⟨S_, .f32⟩
  | 103 => ⟨S131072, .f32⟩
  | 104 => ⟨S131072, .f32⟩
  | 105 => ⟨S131072, .f32⟩
  | 106 => ⟨S_, .f32⟩
  | 107 => ⟨S131072, .f32⟩
  | 108 => ⟨S_, .f32⟩
  | 109 => ⟨S131072, .f32⟩
  | 110 => ⟨S131072, .f32⟩
  | 111 => ⟨S131072x1, .f32⟩
  | 112 => ⟨S131072x1, .f32⟩
  | 113 => ⟨S131072x1, .f32⟩
  | 114 => ⟨S131072x3, .f32⟩
  | 115 => ⟨S131072x1, .f32⟩
  | 116 => ⟨S131072x1, .f32⟩
  | 117 => ⟨S131072x1, .f32⟩
  | 118 => ⟨S131072x3, .f32⟩
  | 119 => ⟨S131072x1, .f32⟩
  | 120 => ⟨S131072x1, .f32⟩
  | 121 => ⟨S131072x1, .f32⟩
  | 122 => ⟨S131072x3, .f32⟩
  | 123 => ⟨S131072x1x3, .f32⟩
  | 124 => ⟨S131072x1x3, .f32⟩
  | 125 => ⟨S131072x1x3, .f32⟩
  | 126 => ⟨S131072x3x3, .f32⟩
  | 127 => ⟨S131072x3x3, .f32⟩
  | _ => ⟨S8x2048x3, .f32⟩

abbrev hbmTy0_11 (i : Nat) : BufTy := match i % 128 with
  | 0 => ⟨S131072x3x3, .f32⟩
  | 1 => ⟨S131072x3x3, .f32⟩
  | 2 => ⟨S131072x1x1, .f32⟩
  | 3 => ⟨S131072, .f32⟩
  | 4 => ⟨S131072x1x1, .f32⟩
  | 5 => ⟨S131072, .f32⟩
  | 6 => ⟨S131072x1x1, .f32⟩
  | 7 => ⟨S131072, .f32⟩
  | 8 => ⟨S131072, .f32⟩
  | 9 => ⟨S_, .f32⟩
  | 10 => ⟨S131072, .f32⟩
  | 11 => ⟨S131072, .f32⟩
  | 12 => ⟨S131072, .f32⟩
  | 13 => ⟨S131072, .f32⟩
  | 14 => ⟨S131072, .f32⟩
  | 15 => ⟨S131072, .f32⟩
  | 16 => ⟨S_, .f32⟩
  | 17 => ⟨S131072, .f32⟩
  | 18 => ⟨S131072, .f32⟩
  | 19 => ⟨S131072, .f32⟩
  | 20 => ⟨S131072, .f32⟩
  | 21 => ⟨S131072, .f32⟩
  | 22 => ⟨S_, .f32⟩
  | 23 => ⟨S131072, .f32⟩
  | 24 => ⟨S131072, .i1⟩
  | 25 => ⟨S_, .f32⟩
  | 26 => ⟨S_, .f32⟩
  | 27 => ⟨S131072, .f32⟩
  | 28 => ⟨S131072, .f32⟩
  | 29 => ⟨S131072, .f32⟩
  | 30 => ⟨S131072, .f32⟩
  | 31 => ⟨S131072, .f32⟩
  | 32 => ⟨S131072, .f32⟩
  | 33 => ⟨S_, .f32⟩
  | 34 => ⟨S131072, .f32⟩
  | 35 => ⟨S131072, .f32⟩
  | 36 => ⟨S131072, .i1⟩
  | 37 => ⟨S_, .f32⟩
  | 38 => ⟨S131072, .f32⟩
  | 39 => ⟨S131072, .i1⟩
  | 40 => ⟨S131072, .i1⟩
  | 41 => ⟨S_, .f32⟩
  | 42 => ⟨S_, .f32⟩
  | 43 => ⟨S131072, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072, .f32⟩
  | 50 => ⟨S_, .f32⟩
  | 51 => ⟨S131072, .f32⟩
  | 52 => ⟨S131072, .f32⟩
  | 53 => ⟨S131072, .f32⟩
  | 54 => ⟨S_, .f32⟩
  | 55 => ⟨S131072, .f32⟩
  | 56 => ⟨S_, .f32⟩
  | 57 => ⟨S131072, .f32⟩
  | 58 => ⟨S131072, .f32⟩
  | 59 => ⟨S131072x1, .f32⟩
  | 60 => ⟨S131072x1, .f32⟩
  | 61 => ⟨S131072x1, .f32⟩
  | 62 => ⟨S131072x3, .f32⟩
  | 63 => ⟨S131072x1, .f32⟩
  | 64 => ⟨S131072x1, .f32⟩
  | 65 => ⟨S131072x1, .f32⟩
  | 66 => ⟨S131072x3, .f32⟩
  | 67 => ⟨S131072x1, .f32⟩
  | 68 => ⟨S131072x1, .f32⟩
  | 69 => ⟨S131072x1, .f32⟩
  | 70 => ⟨S131072x3, .f32⟩
  | 71 => ⟨S131072x1x3, .f32⟩
  | 72 => ⟨S131072x1x3, .f32⟩
  | 73 => ⟨S131072x1x3, .f32⟩
  | 74 => ⟨S131072x3x3, .f32⟩
  | 75 => ⟨S131072x3x3, .f32⟩
  | 76 => ⟨S131072x3x3, .f32⟩
  | 77 => ⟨S131072x3x3, .f32⟩
  | 78 => ⟨S131072x1x1, .f32⟩
  | 79 => ⟨S131072, .f32⟩
  | 80 => ⟨S131072x1x1, .f32⟩
  | 81 => ⟨S131072, .f32⟩
  | 82 => ⟨S131072x1x1, .f32⟩
  | 83 => ⟨S131072, .f32⟩
  | 84 => ⟨S131072, .f32⟩
  | 85 => ⟨S_, .f32⟩
  | 86 => ⟨S131072, .f32⟩
  | 87 => ⟨S131072, .f32⟩
  | 88 => ⟨S131072, .f32⟩
  | 89 => ⟨S131072, .f32⟩
  | 90 => ⟨S131072, .f32⟩
  | 91 => ⟨S131072, .f32⟩
  | 92 => ⟨S_, .f32⟩
  | 93 => ⟨S131072, .f32⟩
  | 94 => ⟨S131072, .f32⟩
  | 95 => ⟨S131072, .f32⟩
  | 96 => ⟨S131072, .f32⟩
  | 97 => ⟨S131072, .f32⟩
  | 98 => ⟨S_, .f32⟩
  | 99 => ⟨S131072, .f32⟩
  | 100 => ⟨S131072, .i1⟩
  | 101 => ⟨S_, .f32⟩
  | 102 => ⟨S_, .f32⟩
  | 103 => ⟨S131072, .f32⟩
  | 104 => ⟨S131072, .f32⟩
  | 105 => ⟨S131072, .f32⟩
  | 106 => ⟨S131072, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .i1⟩
  | 113 => ⟨S_, .f32⟩
  | 114 => ⟨S131072, .f32⟩
  | 115 => ⟨S131072, .i1⟩
  | 116 => ⟨S131072, .i1⟩
  | 117 => ⟨S_, .f32⟩
  | 118 => ⟨S_, .f32⟩
  | 119 => ⟨S131072, .f32⟩
  | 120 => ⟨S131072, .f32⟩
  | 121 => ⟨S131072, .f32⟩
  | 122 => ⟨S_, .f32⟩
  | 123 => ⟨S131072, .f32⟩
  | 124 => ⟨S131072, .f32⟩
  | 125 => ⟨S131072, .f32⟩
  | 126 => ⟨S_, .f32⟩
  | 127 => ⟨S131072, .f32⟩
  | _ => ⟨S8x2048x3, .f32⟩

abbrev hbmTy0_12 (i : Nat) : BufTy := match i % 128 with
  | 0 => ⟨S131072, .f32⟩
  | 1 => ⟨S131072, .f32⟩
  | 2 => ⟨S_, .f32⟩
  | 3 => ⟨S131072, .f32⟩
  | 4 => ⟨S_, .f32⟩
  | 5 => ⟨S131072, .f32⟩
  | 6 => ⟨S131072, .f32⟩
  | 7 => ⟨S131072x1, .f32⟩
  | 8 => ⟨S131072x1, .f32⟩
  | 9 => ⟨S131072x1, .f32⟩
  | 10 => ⟨S131072x3, .f32⟩
  | 11 => ⟨S131072x1, .f32⟩
  | 12 => ⟨S131072x1, .f32⟩
  | 13 => ⟨S131072x1, .f32⟩
  | 14 => ⟨S131072x3, .f32⟩
  | 15 => ⟨S131072x1, .f32⟩
  | 16 => ⟨S131072x1, .f32⟩
  | 17 => ⟨S131072x1, .f32⟩
  | 18 => ⟨S131072x3, .f32⟩
  | 19 => ⟨S131072x1x3, .f32⟩
  | 20 => ⟨S131072x1x3, .f32⟩
  | 21 => ⟨S131072x1x3, .f32⟩
  | 22 => ⟨S131072x3x3, .f32⟩
  | 23 => ⟨S131072x3x3, .f32⟩
  | 24 => ⟨S131072x3x3, .f32⟩
  | 25 => ⟨S131072x3x3, .f32⟩
  | 26 => ⟨S131072x1x1, .f32⟩
  | 27 => ⟨S131072, .f32⟩
  | 28 => ⟨S131072x1x1, .f32⟩
  | 29 => ⟨S131072, .f32⟩
  | 30 => ⟨S131072x1x1, .f32⟩
  | 31 => ⟨S131072, .f32⟩
  | 32 => ⟨S131072, .f32⟩
  | 33 => ⟨S_, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072, .f32⟩
  | 44 => ⟨S131072, .f32⟩
  | 45 => ⟨S131072, .f32⟩
  | 46 => ⟨S_, .f32⟩
  | 47 => ⟨S131072, .f32⟩
  | 48 => ⟨S131072, .i1⟩
  | 49 => ⟨S_, .f32⟩
  | 50 => ⟨S_, .f32⟩
  | 51 => ⟨S131072, .f32⟩
  | 52 => ⟨S131072, .f32⟩
  | 53 => ⟨S131072, .f32⟩
  | 54 => ⟨S131072, .f32⟩
  | 55 => ⟨S131072, .f32⟩
  | 56 => ⟨S131072, .f32⟩
  | 57 => ⟨S_, .f32⟩
  | 58 => ⟨S131072, .f32⟩
  | 59 => ⟨S131072, .f32⟩
  | 60 => ⟨S131072, .i1⟩
  | 61 => ⟨S_, .f32⟩
  | 62 => ⟨S131072, .f32⟩
  | 63 => ⟨S131072, .i1⟩
  | 64 => ⟨S131072, .i1⟩
  | 65 => ⟨S_, .f32⟩
  | 66 => ⟨S_, .f32⟩
  | 67 => ⟨S131072, .f32⟩
  | 68 => ⟨S131072, .f32⟩
  | 69 => ⟨S131072, .f32⟩
  | 70 => ⟨S_, .f32⟩
  | 71 => ⟨S131072, .f32⟩
  | 72 => ⟨S131072, .f32⟩
  | 73 => ⟨S131072, .f32⟩
  | 74 => ⟨S_, .f32⟩
  | 75 => ⟨S131072, .f32⟩
  | 76 => ⟨S131072, .f32⟩
  | 77 => ⟨S131072, .f32⟩
  | 78 => ⟨S_, .f32⟩
  | 79 => ⟨S131072, .f32⟩
  | 80 => ⟨S_, .f32⟩
  | 81 => ⟨S131072, .f32⟩
  | 82 => ⟨S131072, .f32⟩
  | 83 => ⟨S131072x1, .f32⟩
  | 84 => ⟨S131072x1, .f32⟩
  | 85 => ⟨S131072x1, .f32⟩
  | 86 => ⟨S131072x3, .f32⟩
  | 87 => ⟨S131072x1, .f32⟩
  | 88 => ⟨S131072x1, .f32⟩
  | 89 => ⟨S131072x1, .f32⟩
  | 90 => ⟨S131072x3, .f32⟩
  | 91 => ⟨S131072x1, .f32⟩
  | 92 => ⟨S131072x1, .f32⟩
  | 93 => ⟨S131072x1, .f32⟩
  | 94 => ⟨S131072x3, .f32⟩
  | 95 => ⟨S131072x1x3, .f32⟩
  | 96 => ⟨S131072x1x3, .f32⟩
  | 97 => ⟨S131072x1x3, .f32⟩
  | 98 => ⟨S131072x3x3, .f32⟩
  | 99 => ⟨S131072x3x3, .f32⟩
  | 100 => ⟨S131072x3x3, .f32⟩
  | 101 => ⟨S131072x3x3, .f32⟩
  | 102 => ⟨S131072x1x1, .f32⟩
  | 103 => ⟨S131072, .f32⟩
  | 104 => ⟨S131072x1x1, .f32⟩
  | 105 => ⟨S131072, .f32⟩
  | 106 => ⟨S131072x1x1, .f32⟩
  | 107 => ⟨S131072, .f32⟩
  | 108 => ⟨S131072, .f32⟩
  | 109 => ⟨S_, .f32⟩
  | 110 => ⟨S131072, .f32⟩
  | 111 => ⟨S131072, .f32⟩
  | 112 => ⟨S131072, .f32⟩
  | 113 => ⟨S131072, .f32⟩
  | 114 => ⟨S131072, .f32⟩
  | 115 => ⟨S131072, .f32⟩
  | 116 => ⟨S_, .f32⟩
  | 117 => ⟨S131072, .f32⟩
  | 118 => ⟨S131072, .f32⟩
  | 119 => ⟨S131072, .f32⟩
  | 120 => ⟨S131072, .f32⟩
  | 121 => ⟨S131072, .f32⟩
  | 122 => ⟨S_, .f32⟩
  | 123 => ⟨S131072, .f32⟩
  | 124 => ⟨S131072, .i1⟩
  | 125 => ⟨S_, .f32⟩
  | 126 => ⟨S_, .f32⟩
  | 127 => ⟨S131072, .f32⟩
  | _ => ⟨S8x2048x3, .f32⟩

abbrev hbmTy0_13 (i : Nat) : BufTy := match i % 128 with
  | 0 => ⟨S131072, .f32⟩
  | 1 => ⟨S131072, .f32⟩
  | 2 => ⟨S131072, .f32⟩
  | 3 => ⟨S131072, .f32⟩
  | 4 => ⟨S131072, .f32⟩
  | 5 => ⟨S_, .f32⟩
  | 6 => ⟨S131072, .f32⟩
  | 7 => ⟨S131072, .f32⟩
  | 8 => ⟨S131072, .i1⟩
  | 9 => ⟨S_, .f32⟩
  | 10 => ⟨S131072, .f32⟩
  | 11 => ⟨S131072, .i1⟩
  | 12 => ⟨S131072, .i1⟩
  | 13 => ⟨S_, .f32⟩
  | 14 => ⟨S_, .f32⟩
  | 15 => ⟨S131072, .f32⟩
  | 16 => ⟨S131072, .f32⟩
  | 17 => ⟨S131072, .f32⟩
  | 18 => ⟨S_, .f32⟩
  | 19 => ⟨S131072, .f32⟩
  | 20 => ⟨S131072, .f32⟩
  | 21 => ⟨S131072, .f32⟩
  | 22 => ⟨S_, .f32⟩
  | 23 => ⟨S131072, .f32⟩
  | 24 => ⟨S131072, .f32⟩
  | 25 => ⟨S131072, .f32⟩
  | 26 => ⟨S_, .f32⟩
  | 27 => ⟨S131072, .f32⟩
  | 28 => ⟨S_, .f32⟩
  | 29 => ⟨S131072, .f32⟩
  | 30 => ⟨S131072, .f32⟩
  | 31 => ⟨S131072x1, .f32⟩
  | 32 => ⟨S131072x1, .f32⟩
  | 33 => ⟨S131072x1, .f32⟩
  | 34 => ⟨S131072x3, .f32⟩
  | 35 => ⟨S131072x1, .f32⟩
  | 36 => ⟨S131072x1, .f32⟩
  | 37 => ⟨S131072x1, .f32⟩
  | 38 => ⟨S131072x3, .f32⟩
  | 39 => ⟨S131072x1, .f32⟩
  | 40 => ⟨S131072x1, .f32⟩
  | 41 => ⟨S131072x1, .f32⟩
  | 42 => ⟨S131072x3, .f32⟩
  | 43 => ⟨S131072x1x3, .f32⟩
  | 44 => ⟨S131072x1x3, .f32⟩
  | 45 => ⟨S131072x1x3, .f32⟩
  | 46 => ⟨S131072x3x3, .f32⟩
  | 47 => ⟨S131072x3x3, .f32⟩
  | 48 => ⟨S131072x3x3, .f32⟩
  | 49 => ⟨S131072x3x3, .f32⟩
  | 50 => ⟨S131072x1x1, .f32⟩
  | 51 => ⟨S131072, .f32⟩
  | 52 => ⟨S131072x1x1, .f32⟩
  | 53 => ⟨S131072, .f32⟩
  | 54 => ⟨S131072x1x1, .f32⟩
  | 55 => ⟨S131072, .f32⟩
  | 56 => ⟨S131072, .f32⟩
  | 57 => ⟨S_, .f32⟩
  | 58 => ⟨S131072, .f32⟩
  | 59 => ⟨S131072, .f32⟩
  | 60 => ⟨S131072, .f32⟩
  | 61 => ⟨S131072, .f32⟩
  | 62 => ⟨S131072, .f32⟩
  | 63 => ⟨S131072, .f32⟩
  | 64 => ⟨S_, .f32⟩
  | 65 => ⟨S131072, .f32⟩
  | 66 => ⟨S131072, .f32⟩
  | 67 => ⟨S131072, .f32⟩
  | 68 => ⟨S131072, .f32⟩
  | 69 => ⟨S131072, .f32⟩
  | 70 => ⟨S_, .f32⟩
  | 71 => ⟨S131072, .f32⟩
  | 72 => ⟨S131072, .i1⟩
  | 73 => ⟨S_, .f32⟩
  | 74 => ⟨S_, .f32⟩
  | 75 => ⟨S131072, .f32⟩
  | 76 => ⟨S131072, .f32⟩
  | 77 => ⟨S131072, .f32⟩
  | 78 => ⟨S131072, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072, .i1⟩
  | 85 => ⟨S_, .f32⟩
  | 86 => ⟨S131072, .f32⟩
  | 87 => ⟨S131072, .i1⟩
  | 88 => ⟨S131072, .i1⟩
  | 89 => ⟨S_, .f32⟩
  | 90 => ⟨S_, .f32⟩
  | 91 => ⟨S131072, .f32⟩
  | 92 => ⟨S131072, .f32⟩
  | 93 => ⟨S131072, .f32⟩
  | 94 => ⟨S_, .f32⟩
  | 95 => ⟨S131072, .f32⟩
  | 96 => ⟨S131072, .f32⟩
  | 97 => ⟨S131072, .f32⟩
  | 98 => ⟨S_, .f32⟩
  | 99 => ⟨S131072, .f32⟩
  | 100 => ⟨S131072, .f32⟩
  | 101 => ⟨S131072, .f32⟩
  | 102 => ⟨S_, .f32⟩
  | 103 => ⟨S131072, .f32⟩
  | 104 => ⟨S_, .f32⟩
  | 105 => ⟨S131072, .f32⟩
  | 106 => ⟨S131072, .f32⟩
  | 107 => ⟨S131072x1, .f32⟩
  | 108 => ⟨S131072x1, .f32⟩
  | 109 => ⟨S131072x1, .f32⟩
  | 110 => ⟨S131072x3, .f32⟩
  | 111 => ⟨S131072x1, .f32⟩
  | 112 => ⟨S131072x1, .f32⟩
  | 113 => ⟨S131072x1, .f32⟩
  | 114 => ⟨S131072x3, .f32⟩
  | 115 => ⟨S131072x1, .f32⟩
  | 116 => ⟨S131072x1, .f32⟩
  | 117 => ⟨S131072x1, .f32⟩
  | 118 => ⟨S131072x3, .f32⟩
  | 119 => ⟨S131072x1x3, .f32⟩
  | 120 => ⟨S131072x1x3, .f32⟩
  | 121 => ⟨S131072x1x3, .f32⟩
  | 122 => ⟨S131072x3x3, .f32⟩
  | 123 => ⟨S131072x3x3, .f32⟩
  | 124 => ⟨S131072x3x3, .f32⟩
  | 125 => ⟨S131072x3x3, .f32⟩
  | 126 => ⟨S131072x1x1, .f32⟩
  | 127 => ⟨S131072, .f32⟩
  | _ => ⟨S8x2048x3, .f32⟩

abbrev hbmTy0_14 (i : Nat) : BufTy := match i % 128 with
  | 0 => ⟨S131072x1x1, .f32⟩
  | 1 => ⟨S131072, .f32⟩
  | 2 => ⟨S131072x1x1, .f32⟩
  | 3 => ⟨S131072, .f32⟩
  | 4 => ⟨S131072, .f32⟩
  | 5 => ⟨S_, .f32⟩
  | 6 => ⟨S131072, .f32⟩
  | 7 => ⟨S131072, .f32⟩
  | 8 => ⟨S131072, .f32⟩
  | 9 => ⟨S131072, .f32⟩
  | 10 => ⟨S131072, .f32⟩
  | 11 => ⟨S131072, .f32⟩
  | 12 => ⟨S_, .f32⟩
  | 13 => ⟨S131072, .f32⟩
  | 14 => ⟨S131072, .f32⟩
  | 15 => ⟨S131072, .f32⟩
  | 16 => ⟨S131072, .f32⟩
  | 17 => ⟨S131072, .f32⟩
  | 18 => ⟨S_, .f32⟩
  | 19 => ⟨S131072, .f32⟩
  | 20 => ⟨S131072, .i1⟩
  | 21 => ⟨S_, .f32⟩
  | 22 => ⟨S_, .f32⟩
  | 23 => ⟨S131072, .f32⟩
  | 24 => ⟨S131072, .f32⟩
  | 25 => ⟨S131072, .f32⟩
  | 26 => ⟨S131072, .f32⟩
  | 27 => ⟨S131072, .f32⟩
  | 28 => ⟨S131072, .f32⟩
  | 29 => ⟨S_, .f32⟩
  | 30 => ⟨S131072, .f32⟩
  | 31 => ⟨S131072, .f32⟩
  | 32 => ⟨S131072, .i1⟩
  | 33 => ⟨S_, .f32⟩
  | 34 => ⟨S131072, .f32⟩
  | 35 => ⟨S131072, .i1⟩
  | 36 => ⟨S131072, .i1⟩
  | 37 => ⟨S_, .f32⟩
  | 38 => ⟨S_, .f32⟩
  | 39 => ⟨S131072, .f32⟩
  | 40 => ⟨S131072, .f32⟩
  | 41 => ⟨S131072, .f32⟩
  | 42 => ⟨S_, .f32⟩
  | 43 => ⟨S131072, .f32⟩
  | 44 => ⟨S131072, .f32⟩
  | 45 => ⟨S131072, .f32⟩
  | 46 => ⟨S_, .f32⟩
  | 47 => ⟨S131072, .f32⟩
  | 48 => ⟨S131072, .f32⟩
  | 49 => ⟨S131072, .f32⟩
  | 50 => ⟨S_, .f32⟩
  | 51 => ⟨S131072, .f32⟩
  | 52 => ⟨S_, .f32⟩
  | 53 => ⟨S131072, .f32⟩
  | 54 => ⟨S131072, .f32⟩
  | 55 => ⟨S131072x1, .f32⟩
  | 56 => ⟨S131072x1, .f32⟩
  | 57 => ⟨S131072x1, .f32⟩
  | 58 => ⟨S131072x3, .f32⟩
  | 59 => ⟨S131072x1, .f32⟩
  | 60 => ⟨S131072x1, .f32⟩
  | 61 => ⟨S131072x1, .f32⟩
  | 62 => ⟨S131072x3, .f32⟩
  | 63 => ⟨S131072x1, .f32⟩
  | 64 => ⟨S131072x1, .f32⟩
  | 65 => ⟨S131072x1, .f32⟩
  | 66 => ⟨S131072x3, .f32⟩
  | 67 => ⟨S131072x1x3, .f32⟩
  | 68 => ⟨S131072x1x3, .f32⟩
  | 69 => ⟨S131072x1x3, .f32⟩
  | 70 => ⟨S131072x3x3, .f32⟩
  | 71 => ⟨S131072x3x3, .f32⟩
  | 72 => ⟨S131072x3x3, .f32⟩
  | 73 => ⟨S131072x3x3, .f32⟩
  | 74 => ⟨S131072x1x1, .f32⟩
  | 75 => ⟨S131072, .f32⟩
  | 76 => ⟨S131072x1x1, .f32⟩
  | 77 => ⟨S131072, .f32⟩
  | 78 => ⟨S131072x1x1, .f32⟩
  | 79 => ⟨S131072, .f32⟩
  | 80 => ⟨S131072, .f32⟩
  | 81 => ⟨S_, .f32⟩
  | 82 => ⟨S131072, .f32⟩
  | 83 => ⟨S131072, .f32⟩
  | 84 => ⟨S131072, .f32⟩
  | 85 => ⟨S131072, .f32⟩
  | 86 => ⟨S131072, .f32⟩
  | 87 => ⟨S131072, .f32⟩
  | 88 => ⟨S_, .f32⟩
  | 89 => ⟨S131072, .f32⟩
  | 90 => ⟨S131072, .f32⟩
  | 91 => ⟨S131072, .f32⟩
  | 92 => ⟨S131072, .f32⟩
  | 93 => ⟨S131072, .f32⟩
  | 94 => ⟨S_, .f32⟩
  | 95 => ⟨S131072, .f32⟩
  | 96 => ⟨S131072, .i1⟩
  | 97 => ⟨S_, .f32⟩
  | 98 => ⟨S_, .f32⟩
  | 99 => ⟨S131072, .f32⟩
  | 100 => ⟨S131072, .f32⟩
  | 101 => ⟨S131072, .f32⟩
  | 102 => ⟨S131072, .f32⟩
  | 103 => ⟨S131072, .f32⟩
  | 104 => ⟨S131072, .f32⟩
  | 105 => ⟨S_, .f32⟩
  | 106 => ⟨S131072, .f32⟩
  | 107 => ⟨S131072, .f32⟩
  | 108 => ⟨S131072, .i1⟩
  | 109 => ⟨S_, .f32⟩
  | 110 => ⟨S131072, .f32⟩
  | 111 => ⟨S131072, .i1⟩
  | 112 => ⟨S131072, .i1⟩
  | 113 => ⟨S_, .f32⟩
  | 114 => ⟨S_, .f32⟩
  | 115 => ⟨S131072, .f32⟩
  | 116 => ⟨S131072, .f32⟩
  | 117 => ⟨S131072, .f32⟩
  | 118 => ⟨S_, .f32⟩
  | 119 => ⟨S131072, .f32⟩
  | 120 => ⟨S131072, .f32⟩
  | 121 => ⟨S131072, .f32⟩
  | 122 => ⟨S_, .f32⟩
  | 123 => ⟨S131072, .f32⟩
  | 124 => ⟨S131072, .f32⟩
  | 125 => ⟨S131072, .f32⟩
  | 126 => ⟨S_, .f32⟩
  | 127 => ⟨S131072, .f32⟩
  | _ => ⟨S8x2048x3, .f32⟩

abbrev hbmTy0_15 (i : Nat) : BufTy := match i % 128 with
  | 0 => ⟨S_, .f32⟩
  | 1 => ⟨S131072, .f32⟩
  | 2 => ⟨S131072, .f32⟩
  | 3 => ⟨S131072x1, .f32⟩
  | 4 => ⟨S131072x1, .f32⟩
  | 5 => ⟨S131072x1, .f32⟩
  | 6 => ⟨S131072x3, .f32⟩
  | 7 => ⟨S131072x1, .f32⟩
  | 8 => ⟨S131072x1, .f32⟩
  | 9 => ⟨S131072x1, .f32⟩
  | 10 => ⟨S131072x3, .f32⟩
  | 11 => ⟨S131072x1, .f32⟩
  | 12 => ⟨S131072x1, .f32⟩
  | 13 => ⟨S131072x1, .f32⟩
  | 14 => ⟨S131072x3, .f32⟩
  | 15 => ⟨S131072x1x3, .f32⟩
  | 16 => ⟨S131072x1x3, .f32⟩
  | 17 => ⟨S131072x1x3, .f32⟩
  | 18 => ⟨S131072x3x3, .f32⟩
  | 19 => ⟨S131072x3x3, .f32⟩
  | 20 => ⟨S131072x3x3, .f32⟩
  | 21 => ⟨S131072x3x3, .f32⟩
  | 22 => ⟨S131072x1x1, .f32⟩
  | 23 => ⟨S131072, .f32⟩
  | 24 => ⟨S131072x1x1, .f32⟩
  | 25 => ⟨S131072, .f32⟩
  | 26 => ⟨S131072x1x1, .f32⟩
  | 27 => ⟨S131072, .f32⟩
  | 28 => ⟨S131072, .f32⟩
  | 29 => ⟨S_, .f32⟩
  | 30 => ⟨S131072, .f32⟩
  | 31 => ⟨S131072, .f32⟩
  | 32 => ⟨S131072, .f32⟩
  | 33 => ⟨S131072, .f32⟩
  | 34 => ⟨S131072, .f32⟩
  | 35 => ⟨S131072, .f32⟩
  | 36 => ⟨S_, .f32⟩
  | 37 => ⟨S131072, .f32⟩
  | 38 => ⟨S131072, .f32⟩
  | 39 => ⟨S131072, .f32⟩
  | 40 => ⟨S131072, .f32⟩
  | 41 => ⟨S131072, .f32⟩
  | 42 => ⟨S_, .f32⟩
  | 43 => ⟨S131072, .f32⟩
  | 44 => ⟨S131072, .i1⟩
  | 45 => ⟨S_, .f32⟩
  | 46 => ⟨S_, .f32⟩
  | 47 => ⟨S131072, .f32⟩
  | 48 => ⟨S131072, .f32⟩
  | 49 => ⟨S131072, .f32⟩
  | 50 => ⟨S131072, .f32⟩
  | 51 => ⟨S131072, .f32⟩
  | 52 => ⟨S131072, .f32⟩
  | 53 => ⟨S_, .f32⟩
  | 54 => ⟨S131072, .f32⟩
  | 55 => ⟨S131072, .f32⟩
  | 56 => ⟨S131072, .i1⟩
  | 57 => ⟨S_, .f32⟩
  | 58 => ⟨S131072, .f32⟩
  | 59 => ⟨S131072, .i1⟩
  | 60 => ⟨S131072, .i1⟩
  | 61 => ⟨S_, .f32⟩
  | 62 => ⟨S_, .f32⟩
  | 63 => ⟨S131072, .f32⟩
  | 64 => ⟨S131072, .f32⟩
  | 65 => ⟨S131072, .f32⟩
  | 66 => ⟨S_, .f32⟩
  | 67 => ⟨S131072, .f32⟩
  | 68 => ⟨S131072, .f32⟩
  | 69 => ⟨S131072, .f32⟩
  | 70 => ⟨S_, .f32⟩
  | 71 => ⟨S131072, .f32⟩
  | 72 => ⟨S131072, .f32⟩
  | 73 => ⟨S131072, .f32⟩
  | 74 => ⟨S_, .f32⟩
  | 75 => ⟨S131072, .f32⟩
  | 76 => ⟨S_, .f32⟩
  | 77 => ⟨S131072, .f32⟩
  | 78 => ⟨S131072, .f32⟩
  | 79 => ⟨S131072x1, .f32⟩
  | 80 => ⟨S131072x1, .f32⟩
  | 81 => ⟨S131072x1, .f32⟩
  | 82 => ⟨S131072x3, .f32⟩
  | 83 => ⟨S131072x1, .f32⟩
  | 84 => ⟨S131072x1, .f32⟩
  | 85 => ⟨S131072x1, .f32⟩
  | 86 => ⟨S131072x3, .f32⟩
  | 87 => ⟨S131072x1, .f32⟩
  | 88 => ⟨S131072x1, .f32⟩
  | 89 => ⟨S131072x1, .f32⟩
  | 90 => ⟨S131072x3, .f32⟩
  | 91 => ⟨S131072x1x3, .f32⟩
  | 92 => ⟨S131072x1x3, .f32⟩
  | 93 => ⟨S131072x1x3, .f32⟩
  | 94 => ⟨S131072x3x3, .f32⟩
  | 95 => ⟨S131072x3x3, .f32⟩
  | 96 => ⟨S131072x3x3, .f32⟩
  | 97 => ⟨S131072x3x3, .f32⟩
  | 98 => ⟨S131072x1x1, .f32⟩
  | 99 => ⟨S131072, .f32⟩
  | 100 => ⟨S131072x1x1, .f32⟩
  | 101 => ⟨S131072, .f32⟩
  | 102 => ⟨S131072x1x1, .f32⟩
  | 103 => ⟨S131072, .f32⟩
  | 104 => ⟨S131072, .f32⟩
  | 105 => ⟨S_, .f32⟩
  | 106 => ⟨S131072, .f32⟩
  | 107 => ⟨S131072, .f32⟩
  | 108 => ⟨S131072, .f32⟩
  | 109 => ⟨S131072, .f32⟩
  | 110 => ⟨S131072, .f32⟩
  | 111 => ⟨S131072, .f32⟩
  | 112 => ⟨S_, .f32⟩
  | 113 => ⟨S131072, .f32⟩
  | 114 => ⟨S131072, .f32⟩
  | 115 => ⟨S131072, .f32⟩
  | 116 => ⟨S131072, .f32⟩
  | 117 => ⟨S131072, .f32⟩
  | 118 => ⟨S_, .f32⟩
  | 119 => ⟨S131072, .f32⟩
  | 120 => ⟨S131072, .i1⟩
  | 121 => ⟨S_, .f32⟩
  | 122 => ⟨S_, .f32⟩
  | 123 => ⟨S131072, .f32⟩
  | 124 => ⟨S131072, .f32⟩
  | 125 => ⟨S131072, .f32⟩
  | 126 => ⟨S131072, .f32⟩
  | 127 => ⟨S131072, .f32⟩
  | _ => ⟨S8x2048x3, .f32⟩

abbrev hbmTy0_16 (i : Nat) : BufTy := match i % 128 with
  | 0 => ⟨S131072, .f32⟩
  | 1 => ⟨S_, .f32⟩
  | 2 => ⟨S131072, .f32⟩
  | 3 => ⟨S131072, .f32⟩
  | 4 => ⟨S131072, .i1⟩
  | 5 => ⟨S_, .f32⟩
  | 6 => ⟨S131072, .f32⟩
  | 7 => ⟨S131072, .i1⟩
  | 8 => ⟨S131072, .i1⟩
  | 9 => ⟨S_, .f32⟩
  | 10 => ⟨S_, .f32⟩
  | 11 => ⟨S131072, .f32⟩
  | 12 => ⟨S131072, .f32⟩
  | 13 => ⟨S131072, .f32⟩
  | 14 => ⟨S_, .f32⟩
  | 15 => ⟨S131072, .f32⟩
  | 16 => ⟨S131072, .f32⟩
  | 17 => ⟨S131072, .f32⟩
  | 18 => ⟨S_, .f32⟩
  | 19 => ⟨S131072, .f32⟩
  | 20 => ⟨S131072, .f32⟩
  | 21 => ⟨S131072, .f32⟩
  | 22 => ⟨S_, .f32⟩
  | 23 => ⟨S131072, .f32⟩
  | 24 => ⟨S_, .f32⟩
  | 25 => ⟨S131072, .f32⟩
  | 26 => ⟨S131072, .f32⟩
  | 27 => ⟨S131072x1, .f32⟩
  | 28 => ⟨S131072x1, .f32⟩
  | 29 => ⟨S131072x1, .f32⟩
  | 30 => ⟨S131072x3, .f32⟩
  | 31 => ⟨S131072x1, .f32⟩
  | 32 => ⟨S131072x1, .f32⟩
  | 33 => ⟨S131072x1, .f32⟩
  | 34 => ⟨S131072x3, .f32⟩
  | 35 => ⟨S131072x1, .f32⟩
  | 36 => ⟨S131072x1, .f32⟩
  | 37 => ⟨S131072x1, .f32⟩
  | 38 => ⟨S131072x3, .f32⟩
  | 39 => ⟨S131072x1x3, .f32⟩
  | 40 => ⟨S131072x1x3, .f32⟩
  | 41 => ⟨S131072x1x3, .f32⟩
  | 42 => ⟨S131072x3x3, .f32⟩
  | 43 => ⟨S131072x3x3, .f32⟩
  | 44 => ⟨S131072x3x3, .f32⟩
  | 45 => ⟨S131072x3x3, .f32⟩
  | 46 => ⟨S131072x1x1, .f32⟩
  | 47 => ⟨S131072, .f32⟩
  | 48 => ⟨S131072x1x1, .f32⟩
  | 49 => ⟨S131072, .f32⟩
  | 50 => ⟨S131072x1x1, .f32⟩
  | 51 => ⟨S131072, .f32⟩
  | 52 => ⟨S131072, .f32⟩
  | 53 => ⟨S_, .f32⟩
  | 54 => ⟨S131072, .f32⟩
  | 55 => ⟨S131072, .f32⟩
  | 56 => ⟨S131072, .f32⟩
  | 57 => ⟨S131072, .f32⟩
  | 58 => ⟨S131072, .f32⟩
  | 59 => ⟨S131072, .f32⟩
  | 60 => ⟨S_, .f32⟩
  | 61 => ⟨S131072, .f32⟩
  | 62 => ⟨S131072, .f32⟩
  | 63 => ⟨S131072, .f32⟩
  | 64 => ⟨S131072, .f32⟩
  | 65 => ⟨S131072, .f32⟩
  | 66 => ⟨S_, .f32⟩
  | 67 => ⟨S131072, .f32⟩
  | 68 => ⟨S131072, .i1⟩
  | 69 => ⟨S_, .f32⟩
  | 70 => ⟨S_, .f32⟩
  | 71 => ⟨S131072, .f32⟩
  | 72 => ⟨S131072, .f32⟩
  | 73 => ⟨S131072, .f32⟩
  | 74 => ⟨S131072, .f32⟩
  | 75 => ⟨S131072, .f32⟩
  | 76 => ⟨S131072, .f32⟩
  | 77 => ⟨S_, .f32⟩
  | 78 => ⟨S131072, .f32⟩
  | 79 => ⟨S131072, .f32⟩
  | 80 => ⟨S131072, .i1⟩
  | 81 => ⟨S_, .f32⟩
  | 82 => ⟨S131072, .f32⟩
  | 83 => ⟨S131072, .i1⟩
  | 84 => ⟨S131072, .i1⟩
  | 85 => ⟨S_, .f32⟩
  | 86 => ⟨S_, .f32⟩
  | 87 => ⟨S131072, .f32⟩
  | 88 => ⟨S131072, .f32⟩
  | 89 => ⟨S131072, .f32⟩
  | 90 => ⟨S_, .f32⟩
  | 91 => ⟨S131072, .f32⟩
  | 92 => ⟨S131072, .f32⟩
  | 93 => ⟨S131072, .f32⟩
  | 94 => ⟨S_, .f32⟩
  | 95 => ⟨S131072, .f32⟩
  | 96 => ⟨S131072, .f32⟩
  | 97 => ⟨S131072, .f32⟩
  | 98 => ⟨S_, .f32⟩
  | 99 => ⟨S131072, .f32⟩
  | 100 => ⟨S_, .f32⟩
  | 101 => ⟨S131072, .f32⟩
  | 102 => ⟨S131072, .f32⟩
  | 103 => ⟨S131072x1, .f32⟩
  | 104 => ⟨S131072x1, .f32⟩
  | 105 => ⟨S131072x1, .f32⟩
  | 106 => ⟨S131072x3, .f32⟩
  | 107 => ⟨S131072x1, .f32⟩
  | 108 => ⟨S131072x1, .f32⟩
  | 109 => ⟨S131072x1, .f32⟩
  | 110 => ⟨S131072x3, .f32⟩
  | 111 => ⟨S131072x1, .f32⟩
  | 112 => ⟨S131072x1, .f32⟩
  | 113 => ⟨S131072x1, .f32⟩
  | 114 => ⟨S131072x3, .f32⟩
  | 115 => ⟨S131072x1x3, .f32⟩
  | 116 => ⟨S131072x1x3, .f32⟩
  | 117 => ⟨S131072x1x3, .f32⟩
  | 118 => ⟨S131072x3x3, .f32⟩
  | 119 => ⟨S131072x3x3, .f32⟩
  | 120 => ⟨S131072x3x3, .f32⟩
  | 121 => ⟨S131072x3x3, .f32⟩
  | 122 => ⟨S131072x1x1, .f32⟩
  | 123 => ⟨S131072, .f32⟩
  | 124 => ⟨S131072x1x1, .f32⟩
  | 125 => ⟨S131072, .f32⟩
  | 126 => ⟨S131072x1x1, .f32⟩
  | 127 => ⟨S131072, .f32⟩
  | _ => ⟨S8x2048x3, .f32⟩

abbrev hbmTy0_17 (i : Nat) : BufTy := match i % 128 with
  | 0 => ⟨S131072, .f32⟩
  | 1 => ⟨S_, .f32⟩
  | 2 => ⟨S131072, .f32⟩
  | 3 => ⟨S131072, .f32⟩
  | 4 => ⟨S131072, .f32⟩
  | 5 => ⟨S131072, .f32⟩
  | 6 => ⟨S131072, .f32⟩
  | 7 => ⟨S131072, .f32⟩
  | 8 => ⟨S_, .f32⟩
  | 9 => ⟨S131072, .f32⟩
  | 10 => ⟨S131072, .f32⟩
  | 11 => ⟨S131072, .f32⟩
  | 12 => ⟨S131072, .f32⟩
  | 13 => ⟨S131072, .f32⟩
  | 14 => ⟨S_, .f32⟩
  | 15 => ⟨S131072, .f32⟩
  | 16 => ⟨S131072, .i1⟩
  | 17 => ⟨S_, .f32⟩
  | 18 => ⟨S_, .f32⟩
  | 19 => ⟨S131072, .f32⟩
  | 20 => ⟨S131072, .f32⟩
  | 21 => ⟨S131072, .f32⟩
  | 22 => ⟨S131072, .f32⟩
  | 23 => ⟨S131072, .f32⟩
  | 24 => ⟨S131072, .f32⟩
  | 25 => ⟨S_, .f32⟩
  | 26 => ⟨S131072, .f32⟩
  | 27 => ⟨S131072, .f32⟩
  | 28 => ⟨S131072, .i1⟩
  | 29 => ⟨S_, .f32⟩
  | 30 => ⟨S131072, .f32⟩
  | 31 => ⟨S131072, .i1⟩
  | 32 => ⟨S131072, .i1⟩
  | 33 => ⟨S_, .f32⟩
  | 34 => ⟨S_, .f32⟩
  | 35 => ⟨S131072, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072, .f32⟩
  | 42 => ⟨S_, .f32⟩
  | 43 => ⟨S131072, .f32⟩
  | 44 => ⟨S131072, .f32⟩
  | 45 => ⟨S131072, .f32⟩
  | 46 => ⟨S_, .f32⟩
  | 47 => ⟨S131072, .f32⟩
  | 48 => ⟨S_, .f32⟩
  | 49 => ⟨S131072, .f32⟩
  | 50 => ⟨S131072, .f32⟩
  | 51 => ⟨S131072x1, .f32⟩
  | 52 => ⟨S131072x1, .f32⟩
  | 53 => ⟨S131072x1, .f32⟩
  | 54 => ⟨S131072x3, .f32⟩
  | 55 => ⟨S131072x1, .f32⟩
  | 56 => ⟨S131072x1, .f32⟩
  | 57 => ⟨S131072x1, .f32⟩
  | 58 => ⟨S131072x3, .f32⟩
  | 59 => ⟨S131072x1, .f32⟩
  | 60 => ⟨S131072x1, .f32⟩
  | 61 => ⟨S131072x1, .f32⟩
  | 62 => ⟨S131072x3, .f32⟩
  | 63 => ⟨S131072x1x3, .f32⟩
  | 64 => ⟨S131072x1x3, .f32⟩
  | 65 => ⟨S131072x1x3, .f32⟩
  | 66 => ⟨S131072x3x3, .f32⟩
  | 67 => ⟨S131072x3x3, .f32⟩
  | 68 => ⟨S131072x3x3, .f32⟩
  | 69 => ⟨S131072x3x3, .f32⟩
  | 70 => ⟨S131072x1x1, .f32⟩
  | 71 => ⟨S131072, .f32⟩
  | 72 => ⟨S131072x1x1, .f32⟩
  | 73 => ⟨S131072, .f32⟩
  | 74 => ⟨S131072x1x1, .f32⟩
  | 75 => ⟨S131072, .f32⟩
  | 76 => ⟨S131072, .f32⟩
  | 77 => ⟨S_, .f32⟩
  | 78 => ⟨S131072, .f32⟩
  | 79 => ⟨S131072, .f32⟩
  | 80 => ⟨S131072, .f32⟩
  | 81 => ⟨S131072, .f32⟩
  | 82 => ⟨S131072, .f32⟩
  | 83 => ⟨S131072, .f32⟩
  | 84 => ⟨S_, .f32⟩
  | 85 => ⟨S131072, .f32⟩
  | 86 => ⟨S131072, .f32⟩
  | 87 => ⟨S131072, .f32⟩
  | 88 => ⟨S131072, .f32⟩
  | 89 => ⟨S131072, .f32⟩
  | 90 => ⟨S_, .f32⟩
  | 91 => ⟨S131072, .f32⟩
  | 92 => ⟨S131072, .i1⟩
  | 93 => ⟨S_, .f32⟩
  | 94 => ⟨S_, .f32⟩
  | 95 => ⟨S131072, .f32⟩
  | 96 => ⟨S131072, .f32⟩
  | 97 => ⟨S131072, .f32⟩
  | 98 => ⟨S131072, .f32⟩
  | 99 => ⟨S131072, .f32⟩
  | 100 => ⟨S131072, .f32⟩
  | 101 => ⟨S_, .f32⟩
  | 102 => ⟨S131072, .f32⟩
  | 103 => ⟨S131072, .f32⟩
  | 104 => ⟨S131072, .i1⟩
  | 105 => ⟨S_, .f32⟩
  | 106 => ⟨S131072, .f32⟩
  | 107 => ⟨S131072, .i1⟩
  | 108 => ⟨S131072, .i1⟩
  | 109 => ⟨S_, .f32⟩
  | 110 => ⟨S_, .f32⟩
  | 111 => ⟨S131072, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072, .f32⟩
  | 118 => ⟨S_, .f32⟩
  | 119 => ⟨S131072, .f32⟩
  | 120 => ⟨S131072, .f32⟩
  | 121 => ⟨S131072, .f32⟩
  | 122 => ⟨S_, .f32⟩
  | 123 => ⟨S131072, .f32⟩
  | 124 => ⟨S_, .f32⟩
  | 125 => ⟨S131072, .f32⟩
  | 126 => ⟨S131072, .f32⟩
  | 127 => ⟨S131072x1, .f32⟩
  | _ => ⟨S8x2048x3, .f32⟩

abbrev hbmTy0_18 (i : Nat) : BufTy := match i % 128 with
  | 0 => ⟨S131072x1, .f32⟩
  | 1 => ⟨S131072x1, .f32⟩
  | 2 => ⟨S131072x3, .f32⟩
  | 3 => ⟨S131072x1, .f32⟩
  | 4 => ⟨S131072x1, .f32⟩
  | 5 => ⟨S131072x1, .f32⟩
  | 6 => ⟨S131072x3, .f32⟩
  | 7 => ⟨S131072x1, .f32⟩
  | 8 => ⟨S131072x1, .f32⟩
  | 9 => ⟨S131072x1, .f32⟩
  | 10 => ⟨S131072x3, .f32⟩
  | 11 => ⟨S131072x1x3, .f32⟩
  | 12 => ⟨S131072x1x3, .f32⟩
  | 13 => ⟨S131072x1x3, .f32⟩
  | 14 => ⟨S131072x3x3, .f32⟩
  | 15 => ⟨S131072x3x3, .f32⟩
  | 16 => ⟨S131072x3x3, .f32⟩
  | 17 => ⟨S131072x3x3, .f32⟩
  | 18 => ⟨S131072x1x1, .f32⟩
  | 19 => ⟨S131072, .f32⟩
  | 20 => ⟨S131072x1x1, .f32⟩
  | 21 => ⟨S131072, .f32⟩
  | 22 => ⟨S131072x1x1, .f32⟩
  | 23 => ⟨S131072, .f32⟩
  | 24 => ⟨S131072, .f32⟩
  | 25 => ⟨S_, .f32⟩
  | 26 => ⟨S131072, .f32⟩
  | 27 => ⟨S131072, .f32⟩
  | 28 => ⟨S131072, .f32⟩
  | 29 => ⟨S131072, .f32⟩
  | 30 => ⟨S131072, .f32⟩
  | 31 => ⟨S131072, .f32⟩
  | 32 => ⟨S_, .f32⟩
  | 33 => ⟨S131072, .f32⟩
  | 34 => ⟨S131072, .f32⟩
  | 35 => ⟨S131072, .f32⟩
  | 36 => ⟨S131072, .f32⟩
  | 37 => ⟨S131072, .f32⟩
  | 38 => ⟨S_, .f32⟩
  | 39 => ⟨S131072, .f32⟩
  | 40 => ⟨S131072, .i1⟩
  | 41 => ⟨S_, .f32⟩
  | 42 => ⟨S_, .f32⟩
  | 43 => ⟨S131072, .f32⟩
  | 44 => ⟨S131072, .f32⟩
  | 45 => ⟨S131072, .f32⟩
  | 46 => ⟨S131072, .f32⟩
  | 47 => ⟨S131072, .f32⟩
  | 48 => ⟨S131072, .f32⟩
  | 49 => ⟨S_, .f32⟩
  | 50 => ⟨S131072, .f32⟩
  | 51 => ⟨S131072, .f32⟩
  | 52 => ⟨S131072, .i1⟩
  | 53 => ⟨S_, .f32⟩
  | 54 => ⟨S131072, .f32⟩
  | 55 => ⟨S131072, .i1⟩
  | 56 => ⟨S131072, .i1⟩
  | 57 => ⟨S_, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .f32⟩
  | 65 => ⟨S131072, .f32⟩
  | 66 => ⟨S_, .f32⟩
  | 67 => ⟨S131072, .f32⟩
  | 68 => ⟨S131072, .f32⟩
  | 69 => ⟨S131072, .f32⟩
  | 70 => ⟨S_, .f32⟩
  | 71 => ⟨S131072, .f32⟩
  | 72 => ⟨S_, .f32⟩
  | 73 => ⟨S131072, .f32⟩
  | 74 => ⟨S131072, .f32⟩
  | 75 => ⟨S131072x1, .f32⟩
  | 76 => ⟨S131072x1, .f32⟩
  | 77 => ⟨S131072x1, .f32⟩
  | 78 => ⟨S131072x3, .f32⟩
  | 79 => ⟨S131072x1, .f32⟩
  | 80 => ⟨S131072x1, .f32⟩
  | 81 => ⟨S131072x1, .f32⟩
  | 82 => ⟨S131072x3, .f32⟩
  | 83 => ⟨S131072x1, .f32⟩
  | 84 => ⟨S131072x1, .f32⟩
  | 85 => ⟨S131072x1, .f32⟩
  | 86 => ⟨S131072x3, .f32⟩
  | 87 => ⟨S131072x1x3, .f32⟩
  | 88 => ⟨S131072x1x3, .f32⟩
  | 89 => ⟨S131072x1x3, .f32⟩
  | 90 => ⟨S131072x3x3, .f32⟩
  | 91 => ⟨S131072x3x3, .f32⟩
  | 92 => ⟨S131072x3x3, .f32⟩
  | 93 => ⟨S131072x3x3, .f32⟩
  | 94 => ⟨S131072x1x1, .f32⟩
  | 95 => ⟨S131072, .f32⟩
  | 96 => ⟨S131072x1x1, .f32⟩
  | 97 => ⟨S131072, .f32⟩
  | 98 => ⟨S131072x1x1, .f32⟩
  | 99 => ⟨S131072, .f32⟩
  | 100 => ⟨S131072, .f32⟩
  | 101 => ⟨S_, .f32⟩
  | 102 => ⟨S131072, .f32⟩
  | 103 => ⟨S131072, .f32⟩
  | 104 => ⟨S131072, .f32⟩
  | 105 => ⟨S131072, .f32⟩
  | 106 => ⟨S131072, .f32⟩
  | 107 => ⟨S131072, .f32⟩
  | 108 => ⟨S_, .f32⟩
  | 109 => ⟨S131072, .f32⟩
  | 110 => ⟨S131072, .f32⟩
  | 111 => ⟨S131072, .f32⟩
  | 112 => ⟨S131072, .f32⟩
  | 113 => ⟨S131072, .f32⟩
  | 114 => ⟨S_, .f32⟩
  | 115 => ⟨S131072, .f32⟩
  | 116 => ⟨S131072, .i1⟩
  | 117 => ⟨S_, .f32⟩
  | 118 => ⟨S_, .f32⟩
  | 119 => ⟨S131072, .f32⟩
  | 120 => ⟨S131072, .f32⟩
  | 121 => ⟨S131072, .f32⟩
  | 122 => ⟨S131072, .f32⟩
  | 123 => ⟨S131072, .f32⟩
  | 124 => ⟨S131072, .f32⟩
  | 125 => ⟨S_, .f32⟩
  | 126 => ⟨S131072, .f32⟩
  | 127 => ⟨S131072, .f32⟩
  | _ => ⟨S8x2048x3, .f32⟩

abbrev hbmTy0_19 (i : Nat) : BufTy := match i % 128 with
  | 0 => ⟨S131072, .i1⟩
  | 1 => ⟨S_, .f32⟩
  | 2 => ⟨S131072, .f32⟩
  | 3 => ⟨S131072, .i1⟩
  | 4 => ⟨S131072, .i1⟩
  | 5 => ⟨S_, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .f32⟩
  | 13 => ⟨S131072, .f32⟩
  | 14 => ⟨S_, .f32⟩
  | 15 => ⟨S131072, .f32⟩
  | 16 => ⟨S131072, .f32⟩
  | 17 => ⟨S131072, .f32⟩
  | 18 => ⟨S_, .f32⟩
  | 19 => ⟨S131072, .f32⟩
  | 20 => ⟨S_, .f32⟩
  | 21 => ⟨S131072, .f32⟩
  | 22 => ⟨S131072, .f32⟩
  | 23 => ⟨S131072x1, .f32⟩
  | 24 => ⟨S131072x1, .f32⟩
  | 25 => ⟨S131072x1, .f32⟩
  | 26 => ⟨S131072x3, .f32⟩
  | 27 => ⟨S131072x1, .f32⟩
  | 28 => ⟨S131072x1, .f32⟩
  | 29 => ⟨S131072x1, .f32⟩
  | 30 => ⟨S131072x3, .f32⟩
  | 31 => ⟨S131072x1, .f32⟩
  | 32 => ⟨S131072x1, .f32⟩
  | 33 => ⟨S131072x1, .f32⟩
  | 34 => ⟨S131072x3, .f32⟩
  | 35 => ⟨S131072x1x3, .f32⟩
  | 36 => ⟨S131072x1x3, .f32⟩
  | 37 => ⟨S131072x1x3, .f32⟩
  | 38 => ⟨S131072x3x3, .f32⟩
  | 39 => ⟨S131072x3x3, .f32⟩
  | 40 => ⟨S131072x3x3, .f32⟩
  | 41 => ⟨S131072x3x3, .f32⟩
  | 42 => ⟨S131072x1x1, .f32⟩
  | 43 => ⟨S131072, .f32⟩
  | 44 => ⟨S131072x1x1, .f32⟩
  | 45 => ⟨S131072, .f32⟩
  | 46 => ⟨S131072x1x1, .f32⟩
  | 47 => ⟨S131072, .f32⟩
  | 48 => ⟨S131072, .f32⟩
  | 49 => ⟨S_, .f32⟩
  | 50 => ⟨S131072, .f32⟩
  | 51 => ⟨S131072, .f32⟩
  | 52 => ⟨S131072, .f32⟩
  | 53 => ⟨S131072, .f32⟩
  | 54 => ⟨S131072, .f32⟩
  | 55 => ⟨S131072, .f32⟩
  | 56 => ⟨S_, .f32⟩
  | 57 => ⟨S131072, .f32⟩
  | 58 => ⟨S131072, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .i1⟩
  | 65 => ⟨S_, .f32⟩
  | 66 => ⟨S_, .f32⟩
  | 67 => ⟨S131072, .f32⟩
  | 68 => ⟨S131072, .f32⟩
  | 69 => ⟨S131072, .f32⟩
  | 70 => ⟨S131072, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072, .i1⟩
  | 77 => ⟨S_, .f32⟩
  | 78 => ⟨S131072, .f32⟩
  | 79 => ⟨S131072, .i1⟩
  | 80 => ⟨S131072, .i1⟩
  | 81 => ⟨S_, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .f32⟩
  | 89 => ⟨S131072, .f32⟩
  | 90 => ⟨S_, .f32⟩
  | 91 => ⟨S131072, .f32⟩
  | 92 => ⟨S131072, .f32⟩
  | 93 => ⟨S131072, .f32⟩
  | 94 => ⟨S_, .f32⟩
  | 95 => ⟨S131072, .f32⟩
  | 96 => ⟨S_, .f32⟩
  | 97 => ⟨S131072, .f32⟩
  | 98 => ⟨S131072, .f32⟩
  | 99 => ⟨S131072x1, .f32⟩
  | 100 => ⟨S131072x1, .f32⟩
  | 101 => ⟨S131072x1, .f32⟩
  | 102 => ⟨S131072x3, .f32⟩
  | 103 => ⟨S131072x1, .f32⟩
  | 104 => ⟨S131072x1, .f32⟩
  | 105 => ⟨S131072x1, .f32⟩
  | 106 => ⟨S131072x3, .f32⟩
  | 107 => ⟨S131072x1, .f32⟩
  | 108 => ⟨S131072x1, .f32⟩
  | 109 => ⟨S131072x1, .f32⟩
  | 110 => ⟨S131072x3, .f32⟩
  | 111 => ⟨S131072x1x3, .f32⟩
  | 112 => ⟨S131072x1x3, .f32⟩
  | 113 => ⟨S131072x1x3, .f32⟩
  | 114 => ⟨S131072x3x3, .f32⟩
  | 115 => ⟨S131072x3x3, .f32⟩
  | 116 => ⟨S131072x3x3, .f32⟩
  | 117 => ⟨S131072x3x3, .f32⟩
  | 118 => ⟨S131072x1x1, .f32⟩
  | 119 => ⟨S131072, .f32⟩
  | 120 => ⟨S131072x1x1, .f32⟩
  | 121 => ⟨S131072, .f32⟩
  | 122 => ⟨S131072x1x1, .f32⟩
  | 123 => ⟨S131072, .f32⟩
  | 124 => ⟨S131072, .f32⟩
  | 125 => ⟨S_, .f32⟩
  | 126 => ⟨S131072, .f32⟩
  | 127 => ⟨S131072, .f32⟩
  | _ => ⟨S8x2048x3, .f32⟩

abbrev hbmTy0_20 (i : Nat) : BufTy := match i % 128 with
  | 0 => ⟨S131072, .f32⟩
  | 1 => ⟨S131072, .f32⟩
  | 2 => ⟨S131072, .f32⟩
  | 3 => ⟨S131072, .f32⟩
  | 4 => ⟨S_, .f32⟩
  | 5 => ⟨S131072, .f32⟩
  | 6 => ⟨S131072, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .i1⟩
  | 13 => ⟨S_, .f32⟩
  | 14 => ⟨S_, .f32⟩
  | 15 => ⟨S131072, .f32⟩
  | 16 => ⟨S131072, .f32⟩
  | 17 => ⟨S131072, .f32⟩
  | 18 => ⟨S131072, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .i1⟩
  | 25 => ⟨S_, .f32⟩
  | 26 => ⟨S131072, .f32⟩
  | 27 => ⟨S131072, .i1⟩
  | 28 => ⟨S131072, .i1⟩
  | 29 => ⟨S_, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .f32⟩
  | 37 => ⟨S131072, .f32⟩
  | 38 => ⟨S_, .f32⟩
  | 39 => ⟨S131072, .f32⟩
  | 40 => ⟨S131072, .f32⟩
  | 41 => ⟨S131072, .f32⟩
  | 42 => ⟨S_, .f32⟩
  | 43 => ⟨S131072, .f32⟩
  | 44 => ⟨S_, .f32⟩
  | 45 => ⟨S131072, .f32⟩
  | 46 => ⟨S131072, .f32⟩
  | 47 => ⟨S131072x1, .f32⟩
  | 48 => ⟨S131072x1, .f32⟩
  | 49 => ⟨S131072x1, .f32⟩
  | 50 => ⟨S131072x3, .f32⟩
  | 51 => ⟨S131072x1, .f32⟩
  | 52 => ⟨S131072x1, .f32⟩
  | 53 => ⟨S131072x1, .f32⟩
  | 54 => ⟨S131072x3, .f32⟩
  | 55 => ⟨S131072x1, .f32⟩
  | 56 => ⟨S131072x1, .f32⟩
  | 57 => ⟨S131072x1, .f32⟩
  | 58 => ⟨S131072x3, .f32⟩
  | 59 => ⟨S131072x1x3, .f32⟩
  | 60 => ⟨S131072x1x3, .f32⟩
  | 61 => ⟨S131072x1x3, .f32⟩
  | 62 => ⟨S131072x3x3, .f32⟩
  | 63 => ⟨S131072x3x3, .f32⟩
  | 64 => ⟨S131072x3x3, .f32⟩
  | 65 => ⟨S131072x3x3, .f32⟩
  | 66 => ⟨S131072x1x1, .f32⟩
  | 67 => ⟨S131072, .f32⟩
  | 68 => ⟨S131072x1x1, .f32⟩
  | 69 => ⟨S131072, .f32⟩
  | 70 => ⟨S131072x1x1, .f32⟩
  | 71 => ⟨S131072, .f32⟩
  | 72 => ⟨S131072, .f32⟩
  | 73 => ⟨S_, .f32⟩
  | 74 => ⟨S131072, .f32⟩
  | 75 => ⟨S131072, .f32⟩
  | 76 => ⟨S131072, .f32⟩
  | 77 => ⟨S131072, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .i1⟩
  | 89 => ⟨S_, .f32⟩
  | 90 => ⟨S_, .f32⟩
  | 91 => ⟨S131072, .f32⟩
  | 92 => ⟨S131072, .f32⟩
  | 93 => ⟨S131072, .f32⟩
  | 94 => ⟨S131072, .f32⟩
  | 95 => ⟨S131072, .f32⟩
  | 96 => ⟨S131072, .f32⟩
  | 97 => ⟨S_, .f32⟩
  | 98 => ⟨S131072, .f32⟩
  | 99 => ⟨S131072, .f32⟩
  | 100 => ⟨S131072, .i1⟩
  | 101 => ⟨S_, .f32⟩
  | 102 => ⟨S131072, .f32⟩
  | 103 => ⟨S131072, .i1⟩
  | 104 => ⟨S131072, .i1⟩
  | 105 => ⟨S_, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .f32⟩
  | 113 => ⟨S131072, .f32⟩
  | 114 => ⟨S_, .f32⟩
  | 115 => ⟨S131072, .f32⟩
  | 116 => ⟨S131072, .f32⟩
  | 117 => ⟨S131072, .f32⟩
  | 118 => ⟨S_, .f32⟩
  | 119 => ⟨S131072, .f32⟩
  | 120 => ⟨S_, .f32⟩
  | 121 => ⟨S131072, .f32⟩
  | 122 => ⟨S131072, .f32⟩
  | 123 => ⟨S131072x1, .f32⟩
  | 124 => ⟨S131072x1, .f32⟩
  | 125 => ⟨S131072x1, .f32⟩
  | 126 => ⟨S131072x3, .f32⟩
  | 127 => ⟨S131072x1, .f32⟩
  | _ => ⟨S8x2048x3, .f32⟩

abbrev hbmTy0_21 (i : Nat) : BufTy := match i % 128 with
  | 0 => ⟨S131072x1, .f32⟩
  | 1 => ⟨S131072x1, .f32⟩
  | 2 => ⟨S131072x3, .f32⟩
  | 3 => ⟨S131072x1, .f32⟩
  | 4 => ⟨S131072x1, .f32⟩
  | 5 => ⟨S131072x1, .f32⟩
  | 6 => ⟨S131072x3, .f32⟩
  | 7 => ⟨S131072x1x3, .f32⟩
  | 8 => ⟨S131072x1x3, .f32⟩
  | 9 => ⟨S131072x1x3, .f32⟩
  | 10 => ⟨S131072x3x3, .f32⟩
  | 11 => ⟨S131072x3x3, .f32⟩
  | 12 => ⟨S131072x3x3, .f32⟩
  | 13 => ⟨S131072x3x3, .f32⟩
  | 14 => ⟨S131072x1x1, .f32⟩
  | 15 => ⟨S131072, .f32⟩
  | 16 => ⟨S131072x1x1, .f32⟩
  | 17 => ⟨S131072, .f32⟩
  | 18 => ⟨S131072x1x1, .f32⟩
  | 19 => ⟨S131072, .f32⟩
  | 20 => ⟨S131072, .f32⟩
  | 21 => ⟨S_, .f32⟩
  | 22 => ⟨S131072, .f32⟩
  | 23 => ⟨S131072, .f32⟩
  | 24 => ⟨S131072, .f32⟩
  | 25 => ⟨S131072, .f32⟩
  | 26 => ⟨S131072, .f32⟩
  | 27 => ⟨S131072, .f32⟩
  | 28 => ⟨S_, .f32⟩
  | 29 => ⟨S131072, .f32⟩
  | 30 => ⟨S131072, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .i1⟩
  | 37 => ⟨S_, .f32⟩
  | 38 => ⟨S_, .f32⟩
  | 39 => ⟨S131072, .f32⟩
  | 40 => ⟨S131072, .f32⟩
  | 41 => ⟨S131072, .f32⟩
  | 42 => ⟨S131072, .f32⟩
  | 43 => ⟨S131072, .f32⟩
  | 44 => ⟨S131072, .f32⟩
  | 45 => ⟨S_, .f32⟩
  | 46 => ⟨S131072, .f32⟩
  | 47 => ⟨S131072, .f32⟩
  | 48 => ⟨S131072, .i1⟩
  | 49 => ⟨S_, .f32⟩
  | 50 => ⟨S131072, .f32⟩
  | 51 => ⟨S131072, .i1⟩
  | 52 => ⟨S131072, .i1⟩
  | 53 => ⟨S_, .f32⟩
  | 54 => ⟨S_, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S131072, .f32⟩
  | 65 => ⟨S131072, .f32⟩
  | 66 => ⟨S_, .f32⟩
  | 67 => ⟨S131072, .f32⟩
  | 68 => ⟨S_, .f32⟩
  | 69 => ⟨S131072, .f32⟩
  | 70 => ⟨S131072, .f32⟩
  | 71 => ⟨S131072x1, .f32⟩
  | 72 => ⟨S131072x1, .f32⟩
  | 73 => ⟨S131072x1, .f32⟩
  | 74 => ⟨S131072x3, .f32⟩
  | 75 => ⟨S131072x1, .f32⟩
  | 76 => ⟨S131072x1, .f32⟩
  | 77 => ⟨S131072x1, .f32⟩
  | 78 => ⟨S131072x3, .f32⟩
  | 79 => ⟨S131072x1, .f32⟩
  | 80 => ⟨S131072x1, .f32⟩
  | 81 => ⟨S131072x1, .f32⟩
  | 82 => ⟨S131072x3, .f32⟩
  | 83 => ⟨S131072x1x3, .f32⟩
  | 84 => ⟨S131072x1x3, .f32⟩
  | 85 => ⟨S131072x1x3, .f32⟩
  | 86 => ⟨S131072x3x3, .f32⟩
  | 87 => ⟨S131072x3x3, .f32⟩
  | 88 => ⟨S131072x3x3, .f32⟩
  | 89 => ⟨S131072x3x3, .f32⟩
  | 90 => ⟨S131072x1x1, .f32⟩
  | 91 => ⟨S131072, .f32⟩
  | 92 => ⟨S131072x1x1, .f32⟩
  | 93 => ⟨S131072, .f32⟩
  | 94 => ⟨S131072x1x1, .f32⟩
  | 95 => ⟨S131072, .f32⟩
  | 96 => ⟨S131072, .f32⟩
  | 97 => ⟨S_, .f32⟩
  | 98 => ⟨S131072, .f32⟩
  | 99 => ⟨S131072, .f32⟩
  | 100 => ⟨S131072, .f32⟩
  | 101 => ⟨S131072, .f32⟩
  | 102 => ⟨S131072, .f32⟩
  | 103 => ⟨S131072, .f32⟩
  | 104 => ⟨S_, .f32⟩
  | 105 => ⟨S131072, .f32⟩
  | 106 => ⟨S131072, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .i1⟩
  | 113 => ⟨S_, .f32⟩
  | 114 => ⟨S_, .f32⟩
  | 115 => ⟨S131072, .f32⟩
  | 116 => ⟨S131072, .f32⟩
  | 117 => ⟨S131072, .f32⟩
  | 118 => ⟨S131072, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .i1⟩
  | 125 => ⟨S_, .f32⟩
  | 126 => ⟨S131072, .f32⟩
  | 127 => ⟨S131072, .i1⟩
  | _ => ⟨S8x2048x3, .f32⟩

abbrev hbmTy0_22 (i : Nat) : BufTy := match i % 128 with
  | 0 => ⟨S131072, .i1⟩
  | 1 => ⟨S_, .f32⟩
  | 2 => ⟨S_, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S131072, .f32⟩
  | 13 => ⟨S131072, .f32⟩
  | 14 => ⟨S_, .f32⟩
  | 15 => ⟨S131072, .f32⟩
  | 16 => ⟨S_, .f32⟩
  | 17 => ⟨S131072, .f32⟩
  | 18 => ⟨S131072, .f32⟩
  | 19 => ⟨S131072x1, .f32⟩
  | 20 => ⟨S131072x1, .f32⟩
  | 21 => ⟨S131072x1, .f32⟩
  | 22 => ⟨S131072x3, .f32⟩
  | 23 => ⟨S131072x1, .f32⟩
  | 24 => ⟨S131072x1, .f32⟩
  | 25 => ⟨S131072x1, .f32⟩
  | 26 => ⟨S131072x3, .f32⟩
  | 27 => ⟨S131072x1, .f32⟩
  | 28 => ⟨S131072x1, .f32⟩
  | 29 => ⟨S131072x1, .f32⟩
  | 30 => ⟨S131072x3, .f32⟩
  | 31 => ⟨S131072x1x3, .f32⟩
  | 32 => ⟨S131072x1x3, .f32⟩
  | 33 => ⟨S131072x1x3, .f32⟩
  | 34 => ⟨S131072x3x3, .f32⟩
  | 35 => ⟨S131072x3x3, .f32⟩
  | 36 => ⟨S131072x3x3, .f32⟩
  | 37 => ⟨S131072x3x3, .f32⟩
  | 38 => ⟨S131072x1x1, .f32⟩
  | 39 => ⟨S131072, .f32⟩
  | 40 => ⟨S131072x1x1, .f32⟩
  | 41 => ⟨S131072, .f32⟩
  | 42 => ⟨S131072x1x1, .f32⟩
  | 43 => ⟨S131072, .f32⟩
  | 44 => ⟨S131072, .f32⟩
  | 45 => ⟨S_, .f32⟩
  | 46 => ⟨S131072, .f32⟩
  | 47 => ⟨S131072, .f32⟩
  | 48 => ⟨S131072, .f32⟩
  | 49 => ⟨S131072, .f32⟩
  | 50 => ⟨S131072, .f32⟩
  | 51 => ⟨S131072, .f32⟩
  | 52 => ⟨S_, .f32⟩
  | 53 => ⟨S131072, .f32⟩
  | 54 => ⟨S131072, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .i1⟩
  | 61 => ⟨S_, .f32⟩
  | 62 => ⟨S_, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .i1⟩
  | 73 => ⟨S_, .f32⟩
  | 74 => ⟨S131072, .f32⟩
  | 75 => ⟨S131072, .i1⟩
  | 76 => ⟨S131072, .i1⟩
  | 77 => ⟨S_, .f32⟩
  | 78 => ⟨S_, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S131072, .f32⟩
  | 89 => ⟨S131072, .f32⟩
  | 90 => ⟨S_, .f32⟩
  | 91 => ⟨S131072, .f32⟩
  | 92 => ⟨S_, .f32⟩
  | 93 => ⟨S131072, .f32⟩
  | 94 => ⟨S131072, .f32⟩
  | 95 => ⟨S131072x1, .f32⟩
  | 96 => ⟨S131072x1, .f32⟩
  | 97 => ⟨S131072x1, .f32⟩
  | 98 => ⟨S131072x3, .f32⟩
  | 99 => ⟨S131072x1, .f32⟩
  | 100 => ⟨S131072x1, .f32⟩
  | 101 => ⟨S131072x1, .f32⟩
  | 102 => ⟨S131072x3, .f32⟩
  | 103 => ⟨S131072x1, .f32⟩
  | 104 => ⟨S131072x1, .f32⟩
  | 105 => ⟨S131072x1, .f32⟩
  | 106 => ⟨S131072x3, .f32⟩
  | 107 => ⟨S131072x1x3, .f32⟩
  | 108 => ⟨S131072x1x3, .f32⟩
  | 109 => ⟨S131072x1x3, .f32⟩
  | 110 => ⟨S131072x3x3, .f32⟩
  | 111 => ⟨S131072x3x3, .f32⟩
  | 112 => ⟨S131072x3x3, .f32⟩
  | 113 => ⟨S131072x3x3, .f32⟩
  | 114 => ⟨S131072x1x1, .f32⟩
  | 115 => ⟨S131072, .f32⟩
  | 116 => ⟨S131072x1x1, .f32⟩
  | 117 => ⟨S131072, .f32⟩
  | 118 => ⟨S131072x1x1, .f32⟩
  | 119 => ⟨S131072, .f32⟩
  | 120 => ⟨S131072, .f32⟩
  | 121 => ⟨S_, .f32⟩
  | 122 => ⟨S131072, .f32⟩
  | 123 => ⟨S131072, .f32⟩
  | 124 => ⟨S131072, .f32⟩
  | 125 => ⟨S131072, .f32⟩
  | 126 => ⟨S131072, .f32⟩
  | 127 => ⟨S131072, .f32⟩
  | _ => ⟨S8x2048x3, .f32⟩

abbrev hbmTy0_23 (i : Nat) : BufTy := match i % 128 with
  | 0 => ⟨S_, .f32⟩
  | 1 => ⟨S131072, .f32⟩
  | 2 => ⟨S131072, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .i1⟩
  | 9 => ⟨S_, .f32⟩
  | 10 => ⟨S_, .f32⟩
  | 11 => ⟨S131072, .f32⟩
  | 12 => ⟨S131072, .f32⟩
  | 13 => ⟨S131072, .f32⟩
  | 14 => ⟨S131072, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .i1⟩
  | 21 => ⟨S_, .f32⟩
  | 22 => ⟨S131072, .f32⟩
  | 23 => ⟨S131072, .i1⟩
  | 24 => ⟨S131072, .i1⟩
  | 25 => ⟨S_, .f32⟩
  | 26 => ⟨S_, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S131072, .f32⟩
  | 37 => ⟨S131072, .f32⟩
  | 38 => ⟨S_, .f32⟩
  | 39 => ⟨S131072, .f32⟩
  | 40 => ⟨S_, .f32⟩
  | 41 => ⟨S131072, .f32⟩
  | 42 => ⟨S131072, .f32⟩
  | 43 => ⟨S131072x1, .f32⟩
  | 44 => ⟨S131072x1, .f32⟩
  | 45 => ⟨S131072x1, .f32⟩
  | 46 => ⟨S131072x3, .f32⟩
  | 47 => ⟨S131072x1, .f32⟩
  | 48 => ⟨S131072x1, .f32⟩
  | 49 => ⟨S131072x1, .f32⟩
  | 50 => ⟨S131072x3, .f32⟩
  | 51 => ⟨S131072x1, .f32⟩
  | 52 => ⟨S131072x1, .f32⟩
  | 53 => ⟨S131072x1, .f32⟩
  | 54 => ⟨S131072x3, .f32⟩
  | 55 => ⟨S131072x1x3, .f32⟩
  | 56 => ⟨S131072x1x3, .f32⟩
  | 57 => ⟨S131072x1x3, .f32⟩
  | 58 => ⟨S131072x3x3, .f32⟩
  | 59 => ⟨S131072x3x3, .f32⟩
  | 60 => ⟨S131072x3x3, .f32⟩
  | 61 => ⟨S131072x3x3, .f32⟩
  | 62 => ⟨S131072x1x1, .f32⟩
  | 63 => ⟨S131072, .f32⟩
  | 64 => ⟨S131072x1x1, .f32⟩
  | 65 => ⟨S131072, .f32⟩
  | 66 => ⟨S131072x1x1, .f32⟩
  | 67 => ⟨S131072, .f32⟩
  | 68 => ⟨S131072, .f32⟩
  | 69 => ⟨S_, .f32⟩
  | 70 => ⟨S131072, .f32⟩
  | 71 => ⟨S131072, .f32⟩
  | 72 => ⟨S131072, .f32⟩
  | 73 => ⟨S131072, .f32⟩
  | 74 => ⟨S131072, .f32⟩
  | 75 => ⟨S131072, .f32⟩
  | 76 => ⟨S_, .f32⟩
  | 77 => ⟨S131072, .f32⟩
  | 78 => ⟨S131072, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .i1⟩
  | 85 => ⟨S_, .f32⟩
  | 86 => ⟨S_, .f32⟩
  | 87 => ⟨S131072, .f32⟩
  | 88 => ⟨S131072, .f32⟩
  | 89 => ⟨S131072, .f32⟩
  | 90 => ⟨S131072, .f32⟩
  | 91 => ⟨S131072, .f32⟩
  | 92 => ⟨S131072, .f32⟩
  | 93 => ⟨S_, .f32⟩
  | 94 => ⟨S131072, .f32⟩
  | 95 => ⟨S131072, .f32⟩
  | 96 => ⟨S131072, .i1⟩
  | 97 => ⟨S_, .f32⟩
  | 98 => ⟨S131072, .f32⟩
  | 99 => ⟨S131072, .i1⟩
  | 100 => ⟨S131072, .i1⟩
  | 101 => ⟨S_, .f32⟩
  | 102 => ⟨S_, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S131072, .f32⟩
  | 113 => ⟨S131072, .f32⟩
  | 114 => ⟨S_, .f32⟩
  | 115 => ⟨S131072, .f32⟩
  | 116 => ⟨S_, .f32⟩
  | 117 => ⟨S131072, .f32⟩
  | 118 => ⟨S131072, .f32⟩
  | 119 => ⟨S131072x1, .f32⟩
  | 120 => ⟨S131072x1, .f32⟩
  | 121 => ⟨S131072x1, .f32⟩
  | 122 => ⟨S131072x3, .f32⟩
  | 123 => ⟨S131072x1, .f32⟩
  | 124 => ⟨S131072x1, .f32⟩
  | 125 => ⟨S131072x1, .f32⟩
  | 126 => ⟨S131072x3, .f32⟩
  | 127 => ⟨S131072x1, .f32⟩
  | _ => ⟨S8x2048x3, .f32⟩

abbrev hbmTy0_24 (i : Nat) : BufTy := match i % 128 with
  | 0 => ⟨S131072x1, .f32⟩
  | 1 => ⟨S131072x1, .f32⟩
  | 2 => ⟨S131072x3, .f32⟩
  | 3 => ⟨S131072x1x3, .f32⟩
  | 4 => ⟨S131072x1x3, .f32⟩
  | 5 => ⟨S131072x1x3, .f32⟩
  | 6 => ⟨S131072x3x3, .f32⟩
  | 7 => ⟨S131072x3x3, .f32⟩
  | 8 => ⟨S131072x3x3, .f32⟩
  | 9 => ⟨S131072x3x3, .f32⟩
  | 10 => ⟨S131072x1x1, .f32⟩
  | 11 => ⟨S131072, .f32⟩
  | 12 => ⟨S131072x1x1, .f32⟩
  | 13 => ⟨S131072, .f32⟩
  | 14 => ⟨S131072x1x1, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .f32⟩
  | 21 => ⟨S131072, .f32⟩
  | 22 => ⟨S131072, .f32⟩
  | 23 => ⟨S131072, .f32⟩
  | 24 => ⟨S_, .f32⟩
  | 25 => ⟨S131072, .f32⟩
  | 26 => ⟨S131072, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .i1⟩
  | 33 => ⟨S_, .f32⟩
  | 34 => ⟨S_, .f32⟩
  | 35 => ⟨S131072, .f32⟩
  | 36 => ⟨S131072, .f32⟩
  | 37 => ⟨S131072, .f32⟩
  | 38 => ⟨S131072, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .i1⟩
  | 45 => ⟨S_, .f32⟩
  | 46 => ⟨S131072, .f32⟩
  | 47 => ⟨S131072, .i1⟩
  | 48 => ⟨S131072, .i1⟩
  | 49 => ⟨S_, .f32⟩
  | 50 => ⟨S_, .f32⟩
  | 51 => ⟨S131072, .f32⟩
  | 52 => ⟨S131072, .f32⟩
  | 53 => ⟨S131072, .f32⟩
  | 54 => ⟨S_, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S_, .f32⟩
  | 63 => ⟨S131072, .f32⟩
  | 64 => ⟨S_, .f32⟩
  | 65 => ⟨S131072, .f32⟩
  | 66 => ⟨S131072, .f32⟩
  | 67 => ⟨S131072x1, .f32⟩
  | 68 => ⟨S131072x1, .f32⟩
  | 69 => ⟨S131072x1, .f32⟩
  | 70 => ⟨S131072x3, .f32⟩
  | 71 => ⟨S131072x1, .f32⟩
  | 72 => ⟨S131072x1, .f32⟩
  | 73 => ⟨S131072x1, .f32⟩
  | 74 => ⟨S131072x3, .f32⟩
  | 75 => ⟨S131072x1, .f32⟩
  | 76 => ⟨S131072x1, .f32⟩
  | 77 => ⟨S131072x1, .f32⟩
  | 78 => ⟨S131072x3, .f32⟩
  | 79 => ⟨S131072x1x3, .f32⟩
  | 80 => ⟨S131072x1x3, .f32⟩
  | 81 => ⟨S131072x1x3, .f32⟩
  | 82 => ⟨S131072x3x3, .f32⟩
  | 83 => ⟨S131072x3x3, .f32⟩
  | 84 => ⟨S131072x3x3, .f32⟩
  | 85 => ⟨S131072x3x3, .f32⟩
  | 86 => ⟨S131072x1x1, .f32⟩
  | 87 => ⟨S131072, .f32⟩
  | 88 => ⟨S131072x1x1, .f32⟩
  | 89 => ⟨S131072, .f32⟩
  | 90 => ⟨S131072x1x1, .f32⟩
  | 91 => ⟨S131072, .f32⟩
  | 92 => ⟨S131072, .f32⟩
  | 93 => ⟨S_, .f32⟩
  | 94 => ⟨S131072, .f32⟩
  | 95 => ⟨S131072, .f32⟩
  | 96 => ⟨S131072, .f32⟩
  | 97 => ⟨S131072, .f32⟩
  | 98 => ⟨S131072, .f32⟩
  | 99 => ⟨S131072, .f32⟩
  | 100 => ⟨S_, .f32⟩
  | 101 => ⟨S131072, .f32⟩
  | 102 => ⟨S131072, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .i1⟩
  | 109 => ⟨S_, .f32⟩
  | 110 => ⟨S_, .f32⟩
  | 111 => ⟨S131072, .f32⟩
  | 112 => ⟨S131072, .f32⟩
  | 113 => ⟨S131072, .f32⟩
  | 114 => ⟨S131072, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .i1⟩
  | 121 => ⟨S_, .f32⟩
  | 122 => ⟨S131072, .f32⟩
  | 123 => ⟨S131072, .i1⟩
  | 124 => ⟨S131072, .i1⟩
  | 125 => ⟨S_, .f32⟩
  | 126 => ⟨S_, .f32⟩
  | 127 => ⟨S131072, .f32⟩
  | _ => ⟨S8x2048x3, .f32⟩

abbrev hbmTy0_25 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S_, .f32⟩
  | 7 => ⟨S131072, .f32⟩
  | 8 => ⟨S131072, .f32⟩
  | 9 => ⟨S131072, .f32⟩
  | 10 => ⟨S_, .f32⟩
  | 11 => ⟨S131072, .f32⟩
  | 12 => ⟨S_, .f32⟩
  | 13 => ⟨S131072, .f32⟩
  | 14 => ⟨S131072, .f32⟩
  | 15 => ⟨S131072x1, .f32⟩
  | 16 => ⟨S131072x1, .f32⟩
  | 17 => ⟨S131072x1, .f32⟩
  | 18 => ⟨S131072x3, .f32⟩
  | 19 => ⟨S131072x1, .f32⟩
  | 20 => ⟨S131072x1, .f32⟩
  | 21 => ⟨S131072x1, .f32⟩
  | 22 => ⟨S131072x3, .f32⟩
  | 23 => ⟨S131072x1, .f32⟩
  | 24 => ⟨S131072x1, .f32⟩
  | 25 => ⟨S131072x1, .f32⟩
  | 26 => ⟨S131072x3, .f32⟩
  | 27 => ⟨S131072x1x3, .f32⟩
  | 28 => ⟨S131072x1x3, .f32⟩
  | 29 => ⟨S131072x1x3, .f32⟩
  | 30 => ⟨S131072x3x3, .f32⟩
  | 31 => ⟨S131072x3x3, .f32⟩
  | 32 => ⟨S131072x3x3, .f32⟩
  | 33 => ⟨S131072x3x3, .f32⟩
  | 34 => ⟨S131072x1x1, .f32⟩
  | 35 => ⟨S131072, .f32⟩
  | 36 => ⟨S131072x1x1, .f32⟩
  | 37 => ⟨S131072, .f32⟩
  | 38 => ⟨S131072x1x1, .f32⟩
  | 39 => ⟨S131072, .f32⟩
  | 40 => ⟨S131072, .f32⟩
  | 41 => ⟨S_, .f32⟩
  | 42 => ⟨S131072, .f32⟩
  | 43 => ⟨S131072, .f32⟩
  | 44 => ⟨S131072, .f32⟩
  | 45 => ⟨S131072, .f32⟩
  | 46 => ⟨S131072, .f32⟩
  | 47 => ⟨S131072, .f32⟩
  | 48 => ⟨S_, .f32⟩
  | 49 => ⟨S131072, .f32⟩
  | 50 => ⟨S131072, .f32⟩
  | 51 => ⟨S131072, .f32⟩
  | 52 => ⟨S131072, .f32⟩
  | 53 => ⟨S131072, .f32⟩
  | 54 => ⟨S_, .f32⟩
  | 55 => ⟨S131072, .f32⟩
  | 56 => ⟨S131072, .i1⟩
  | 57 => ⟨S_, .f32⟩
  | 58 => ⟨S_, .f32⟩
  | 59 => ⟨S131072, .f32⟩
  | 60 => ⟨S131072, .f32⟩
  | 61 => ⟨S131072, .f32⟩
  | 62 => ⟨S131072, .f32⟩
  | 63 => ⟨S131072, .f32⟩
  | 64 => ⟨S131072, .f32⟩
  | 65 => ⟨S_, .f32⟩
  | 66 => ⟨S131072, .f32⟩
  | 67 => ⟨S131072, .f32⟩
  | 68 => ⟨S131072, .i1⟩
  | 69 => ⟨S_, .f32⟩
  | 70 => ⟨S131072, .f32⟩
  | 71 => ⟨S131072, .i1⟩
  | 72 => ⟨S131072, .i1⟩
  | 73 => ⟨S_, .f32⟩
  | 74 => ⟨S_, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .f32⟩
  | 81 => ⟨S131072, .f32⟩
  | 82 => ⟨S_, .f32⟩
  | 83 => ⟨S131072, .f32⟩
  | 84 => ⟨S131072, .f32⟩
  | 85 => ⟨S131072, .f32⟩
  | 86 => ⟨S_, .f32⟩
  | 87 => ⟨S131072, .f32⟩
  | 88 => ⟨S_, .f32⟩
  | 89 => ⟨S131072, .f32⟩
  | 90 => ⟨S131072, .f32⟩
  | 91 => ⟨S131072x1, .f32⟩
  | 92 => ⟨S131072x1, .f32⟩
  | 93 => ⟨S131072x1, .f32⟩
  | 94 => ⟨S131072x3, .f32⟩
  | 95 => ⟨S131072x1, .f32⟩
  | 96 => ⟨S131072x1, .f32⟩
  | 97 => ⟨S131072x1, .f32⟩
  | 98 => ⟨S131072x3, .f32⟩
  | 99 => ⟨S131072x1, .f32⟩
  | 100 => ⟨S131072x1, .f32⟩
  | 101 => ⟨S131072x1, .f32⟩
  | 102 => ⟨S131072x3, .f32⟩
  | 103 => ⟨S131072x1x3, .f32⟩
  | 104 => ⟨S131072x1x3, .f32⟩
  | 105 => ⟨S131072x1x3, .f32⟩
  | 106 => ⟨S131072x3x3, .f32⟩
  | 107 => ⟨S131072x3x3, .f32⟩
  | 108 => ⟨S131072x3x3, .f32⟩
  | 109 => ⟨S131072x3x3, .f32⟩
  | 110 => ⟨S131072x1x1, .f32⟩
  | 111 => ⟨S131072, .f32⟩
  | 112 => ⟨S131072x1x1, .f32⟩
  | 113 => ⟨S131072, .f32⟩
  | 114 => ⟨S131072x1x1, .f32⟩
  | 115 => ⟨S131072, .f32⟩
  | 116 => ⟨S131072, .f32⟩
  | 117 => ⟨S_, .f32⟩
  | 118 => ⟨S131072, .f32⟩
  | 119 => ⟨S131072, .f32⟩
  | 120 => ⟨S131072, .f32⟩
  | 121 => ⟨S131072, .f32⟩
  | 122 => ⟨S131072, .f32⟩
  | 123 => ⟨S131072, .f32⟩
  | 124 => ⟨S_, .f32⟩
  | 125 => ⟨S131072, .f32⟩
  | 126 => ⟨S131072, .f32⟩
  | 127 => ⟨S131072, .f32⟩
  | _ => ⟨S8x2048x3, .f32⟩

abbrev hbmTy0_26 (i : Nat) : BufTy := match i % 128 with
  | 0 => ⟨S131072, .f32⟩
  | 1 => ⟨S131072, .f32⟩
  | 2 => ⟨S_, .f32⟩
  | 3 => ⟨S131072, .f32⟩
  | 4 => ⟨S131072, .i1⟩
  | 5 => ⟨S_, .f32⟩
  | 6 => ⟨S_, .f32⟩
  | 7 => ⟨S131072, .f32⟩
  | 8 => ⟨S131072, .f32⟩
  | 9 => ⟨S131072, .f32⟩
  | 10 => ⟨S131072, .f32⟩
  | 11 => ⟨S131072, .f32⟩
  | 12 => ⟨S131072, .f32⟩
  | 13 => ⟨S_, .f32⟩
  | 14 => ⟨S131072, .f32⟩
  | 15 => ⟨S131072, .f32⟩
  | 16 => ⟨S131072, .i1⟩
  | 17 => ⟨S_, .f32⟩
  | 18 => ⟨S131072, .f32⟩
  | 19 => ⟨S131072, .i1⟩
  | 20 => ⟨S131072, .i1⟩
  | 21 => ⟨S_, .f32⟩
  | 22 => ⟨S_, .f32⟩
  | 23 => ⟨S131072, .f32⟩
  | 24 => ⟨S131072, .f32⟩
  | 25 => ⟨S131072, .f32⟩
  | 26 => ⟨S_, .f32⟩
  | 27 => ⟨S131072, .f32⟩
  | 28 => ⟨S131072, .f32⟩
  | 29 => ⟨S131072, .f32⟩
  | 30 => ⟨S_, .f32⟩
  | 31 => ⟨S131072, .f32⟩
  | 32 => ⟨S131072, .f32⟩
  | 33 => ⟨S131072, .f32⟩
  | 34 => ⟨S_, .f32⟩
  | 35 => ⟨S131072, .f32⟩
  | 36 => ⟨S_, .f32⟩
  | 37 => ⟨S131072, .f32⟩
  | 38 => ⟨S131072, .f32⟩
  | 39 => ⟨S131072x1, .f32⟩
  | 40 => ⟨S131072x1, .f32⟩
  | 41 => ⟨S131072x1, .f32⟩
  | 42 => ⟨S131072x3, .f32⟩
  | 43 => ⟨S131072x1, .f32⟩
  | 44 => ⟨S131072x1, .f32⟩
  | 45 => ⟨S131072x1, .f32⟩
  | 46 => ⟨S131072x3, .f32⟩
  | 47 => ⟨S131072x1, .f32⟩
  | 48 => ⟨S131072x1, .f32⟩
  | 49 => ⟨S131072x1, .f32⟩
  | 50 => ⟨S131072x3, .f32⟩
  | 51 => ⟨S131072x1x3, .f32⟩
  | 52 => ⟨S131072x1x3, .f32⟩
  | 53 => ⟨S131072x1x3, .f32⟩
  | 54 => ⟨S131072x3x3, .f32⟩
  | 55 => ⟨S131072x3x3, .f32⟩
  | 56 => ⟨S131072x3x3, .f32⟩
  | 57 => ⟨S131072x3x3, .f32⟩
  | 58 => ⟨S131072x1x1, .f32⟩
  | 59 => ⟨S131072, .f32⟩
  | 60 => ⟨S131072x1x1, .f32⟩
  | 61 => ⟨S131072, .f32⟩
  | 62 => ⟨S131072x1x1, .f32⟩
  | 63 => ⟨S131072, .f32⟩
  | 64 => ⟨S131072, .f32⟩
  | 65 => ⟨S_, .f32⟩
  | 66 => ⟨S131072, .f32⟩
  | 67 => ⟨S131072, .f32⟩
  | 68 => ⟨S131072, .f32⟩
  | 69 => ⟨S131072, .f32⟩
  | 70 => ⟨S131072, .f32⟩
  | 71 => ⟨S131072, .f32⟩
  | 72 => ⟨S_, .f32⟩
  | 73 => ⟨S131072, .f32⟩
  | 74 => ⟨S131072, .f32⟩
  | 75 => ⟨S131072, .f32⟩
  | 76 => ⟨S131072, .f32⟩
  | 77 => ⟨S131072, .f32⟩
  | 78 => ⟨S_, .f32⟩
  | 79 => ⟨S131072, .f32⟩
  | 80 => ⟨S131072, .i1⟩
  | 81 => ⟨S_, .f32⟩
  | 82 => ⟨S_, .f32⟩
  | 83 => ⟨S131072, .f32⟩
  | 84 => ⟨S131072, .f32⟩
  | 85 => ⟨S131072, .f32⟩
  | 86 => ⟨S131072, .f32⟩
  | 87 => ⟨S131072, .f32⟩
  | 88 => ⟨S131072, .f32⟩
  | 89 => ⟨S_, .f32⟩
  | 90 => ⟨S131072, .f32⟩
  | 91 => ⟨S131072, .f32⟩
  | 92 => ⟨S131072, .i1⟩
  | 93 => ⟨S_, .f32⟩
  | 94 => ⟨S131072, .f32⟩
  | 95 => ⟨S131072, .i1⟩
  | 96 => ⟨S131072, .i1⟩
  | 97 => ⟨S_, .f32⟩
  | 98 => ⟨S_, .f32⟩
  | 99 => ⟨S131072, .f32⟩
  | 100 => ⟨S131072, .f32⟩
  | 101 => ⟨S131072, .f32⟩
  | 102 => ⟨S_, .f32⟩
  | 103 => ⟨S131072, .f32⟩
  | 104 => ⟨S131072, .f32⟩
  | 105 => ⟨S131072, .f32⟩
  | 106 => ⟨S_, .f32⟩
  | 107 => ⟨S131072, .f32⟩
  | 108 => ⟨S131072, .f32⟩
  | 109 => ⟨S131072, .f32⟩
  | 110 => ⟨S_, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x1, .f32⟩
  | 117 => ⟨S131072x1, .f32⟩
  | 118 => ⟨S131072x3, .f32⟩
  | 119 => ⟨S131072x1, .f32⟩
  | 120 => ⟨S131072x1, .f32⟩
  | 121 => ⟨S131072x1, .f32⟩
  | 122 => ⟨S131072x3, .f32⟩
  | 123 => ⟨S131072x1, .f32⟩
  | 124 => ⟨S131072x1, .f32⟩
  | 125 => ⟨S131072x1, .f32⟩
  | 126 => ⟨S131072x3, .f32⟩
  | 127 => ⟨S131072x1x3, .f32⟩
  | _ => ⟨S8x2048x3, .f32⟩

abbrev hbmTy0_27 (i : Nat) : BufTy := match i % 128 with
  | 0 => ⟨S131072x1x3, .f32⟩
  | 1 => ⟨S131072x1x3, .f32⟩
  | 2 => ⟨S131072x3x3, .f32⟩
  | 3 => ⟨S131072x3x3, .f32⟩
  | 4 => ⟨S131072x3x3, .f32⟩
  | 5 => ⟨S131072x3x3, .f32⟩
  | 6 => ⟨S131072x1x1, .f32⟩
  | 7 => ⟨S131072, .f32⟩
  | 8 => ⟨S131072x1x1, .f32⟩
  | 9 => ⟨S131072, .f32⟩
  | 10 => ⟨S131072x1x1, .f32⟩
  | 11 => ⟨S131072, .f32⟩
  | 12 => ⟨S131072x1, .f32⟩
  | 13 => ⟨S131072x1, .f32⟩
  | 14 => ⟨S131072x1, .f32⟩
  | 15 => ⟨S131072x3, .f32⟩
  | 16 => ⟨S131072x1x3, .f32⟩
  | 17 => ⟨S131072x3, .f32⟩
  | 18 => ⟨S131072x1x3, .f32⟩
  | 19 => ⟨S131072x3, .f32⟩
  | 20 => ⟨S131072x1x3, .f32⟩
  | 21 => ⟨S131072x3, .f32⟩
  | 22 => ⟨S131072x3, .f32⟩
  | 23 => ⟨S131072x3, .f32⟩
  | 24 => ⟨S131072x3, .f32⟩
  | 25 => ⟨S131072x3, .f32⟩
  | 26 => ⟨S131072x1x3, .f32⟩
  | 27 => ⟨S131072x1x3, .f32⟩
  | 28 => ⟨S131072x1x3, .f32⟩
  | 29 => ⟨S131072x3x3, .f32⟩
  | 30 => ⟨S131072x1, .f32⟩
  | 31 => ⟨S131072, .f32⟩
  | 32 => ⟨S131072x1, .f32⟩
  | 33 => ⟨S131072, .f32⟩
  | 34 => ⟨S131072x1, .f32⟩
  | 35 => ⟨S131072, .f32⟩
  | 36 => ⟨S131072x3x1, .f32⟩
  | 37 => ⟨S131072x3, .f32⟩
  | 38 => ⟨S131072x3x1, .f32⟩
  | 39 => ⟨S131072x3, .f32⟩
  | 40 => ⟨S131072x3x1, .f32⟩
  | 41 => ⟨S131072x3, .f32⟩
  | 42 => ⟨S131072x3, .f32⟩
  | 43 => ⟨S131072x3, .f32⟩
  | 44 => ⟨S_, .f32⟩
  | 45 => ⟨S131072, .f32⟩
  | 46 => ⟨S131072, .f32⟩
  | 47 => ⟨S131072x3, .f32⟩
  | 48 => ⟨S_, .f32⟩
  | 49 => ⟨S131072, .f32⟩
  | 50 => ⟨S131072, .f32⟩
  | 51 => ⟨S131072x3, .f32⟩
  | 52 => ⟨S_, .f32⟩
  | 53 => ⟨S131072, .f32⟩
  | 54 => ⟨S131072, .f32⟩
  | 55 => ⟨S131072, .f32⟩
  | 56 => ⟨S131072, .f32⟩
  | 57 => ⟨S131072, .f32⟩
  | 58 => ⟨S131072x1, .f32⟩
  | 59 => ⟨S131072x3, .f32⟩
  | 60 => ⟨S131072x3, .f32⟩
  | 61 => ⟨S131072x1, .f32⟩
  | 62 => ⟨S131072x3, .f32⟩
  | 63 => ⟨S131072x3, .f32⟩
  | 64 => ⟨S131072x1, .f32⟩
  | 65 => ⟨S131072x3, .f32⟩
  | 66 => ⟨S131072x3, .f32⟩
  | 67 => ⟨S131072, .f32⟩
  | 68 => ⟨S131072, .f32⟩
  | 69 => ⟨S131072, .f32⟩
  | 70 => ⟨S131072, .f32⟩
  | 71 => ⟨S131072, .f32⟩
  | 72 => ⟨S8x2048x8x1, .f32⟩
  | 73 => ⟨S8x2048x8x1, .f32⟩
  | 74 => ⟨S8x2048x8x1, .f32⟩
  | 75 => ⟨S8x2048x8x3, .f32⟩
  | 76 => ⟨S8x2048x8x3, .f32⟩
  | 77 => ⟨S8x2048x8x3, .f32⟩
  | 78 => ⟨S8x2048x8x12, .f32⟩
  | 79 => ⟨S8x12x8x2048, .f32⟩
  | 80 => ⟨S8x8x2048x12, .f32⟩
  | 81 => ⟨S8x12x8x2048, .f32⟩
  | 82 => ⟨S8x12x8x2x1024, .f32⟩
  | 83 => ⟨S8x2x12x8x1024, .f32⟩
  | _ => ⟨S8x2048x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_values : Ref sig .tc := ⟨.hbm, 16, rfl⟩
abbrev main_indices : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_call0_v0 : Ref sig .tc := ⟨.hbm, 66, rfl⟩
abbrev main_call0_v1 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_call1_v0 : Ref sig .tc := ⟨.hbm, 82, rfl⟩
abbrev main_call1_v1 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_cst_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_14 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_15 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_16 : Ref sig .tc := ⟨.hbm, 138, rfl⟩
abbrev main_v112 : Ref sig .tc := ⟨.hbm, 139, rfl⟩
abbrev main_v113 : Ref sig .tc := ⟨.hbm, 140, rfl⟩
abbrev main_cst_17 : Ref sig .tc := ⟨.hbm, 141, rfl⟩
abbrev main_call2_v0 : Ref sig .tc := ⟨.hbm, 142, rfl⟩
abbrev main_call2_v1 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_18 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_19 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_20 : Ref sig .tc := ⟨.hbm, 157, rfl⟩
abbrev main_call3_v0 : Ref sig .tc := ⟨.hbm, 158, rfl⟩
abbrev main_call3_v1 : Ref sig .tc := ⟨.hbm, 159, rfl⟩
abbrev main_v125 : Ref sig .tc := ⟨.hbm, 160, rfl⟩
abbrev main_v126 : Ref sig .tc := ⟨.hbm, 161, rfl⟩
abbrev main_cst_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_22 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_23 : Ref sig .tc := ⟨.hbm, 170, rfl⟩
abbrev main_v133 : Ref sig .tc := ⟨.hbm, 171, rfl⟩
abbrev main_cst_24 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_25 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_26 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_27 : Ref sig .tc := ⟨.hbm, 214, rfl⟩
abbrev main_v173 : Ref sig .tc := ⟨.hbm, 215, rfl⟩
abbrev main_v174 : Ref sig .tc := ⟨.hbm, 216, rfl⟩
abbrev main_cst_28 : Ref sig .tc := ⟨.hbm, 217, rfl⟩
abbrev main_call4_v0 : Ref sig .tc := ⟨.hbm, 218, rfl⟩
abbrev main_call4_v1 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_29 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_30 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_31 : Ref sig .tc := ⟨.hbm, 233, rfl⟩
abbrev main_call5_v0 : Ref sig .tc := ⟨.hbm, 234, rfl⟩
abbrev main_call5_v1 : Ref sig .tc := ⟨.hbm, 235, rfl⟩
abbrev main_v186 : Ref sig .tc := ⟨.hbm, 236, rfl⟩
abbrev main_v187 : Ref sig .tc := ⟨.hbm, 237, rfl⟩
abbrev main_cst_32 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_33 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_cst_34 : Ref sig .tc := ⟨.hbm, 246, rfl⟩
abbrev main_v194 : Ref sig .tc := ⟨.hbm, 247, rfl⟩
abbrev main_cst_35 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_cst_36 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_cst_37 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_cst_38 : Ref sig .tc := ⟨.hbm, 290, rfl⟩
abbrev main_v234 : Ref sig .tc := ⟨.hbm, 291, rfl⟩
abbrev main_v235 : Ref sig .tc := ⟨.hbm, 292, rfl⟩
abbrev main_cst_39 : Ref sig .tc := ⟨.hbm, 293, rfl⟩
abbrev main_call6_v0 : Ref sig .tc := ⟨.hbm, 294, rfl⟩
abbrev main_call6_v1 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_cst_40 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_cst_41 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_cst_42 : Ref sig .tc := ⟨.hbm, 309, rfl⟩
abbrev main_call7_v0 : Ref sig .tc := ⟨.hbm, 310, rfl⟩
abbrev main_call7_v1 : Ref sig .tc := ⟨.hbm, 311, rfl⟩
abbrev main_v247 : Ref sig .tc := ⟨.hbm, 312, rfl⟩
abbrev main_v248 : Ref sig .tc := ⟨.hbm, 313, rfl⟩
abbrev main_cst_43 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_cst_44 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_cst_45 : Ref sig .tc := ⟨.hbm, 322, rfl⟩
abbrev main_v255 : Ref sig .tc := ⟨.hbm, 323, rfl⟩
abbrev main_cst_46 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_cst_47 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_cst_48 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_cst_49 : Ref sig .tc := ⟨.hbm, 366, rfl⟩
abbrev main_v295 : Ref sig .tc := ⟨.hbm, 367, rfl⟩
abbrev main_v296 : Ref sig .tc := ⟨.hbm, 368, rfl⟩
abbrev main_cst_50 : Ref sig .tc := ⟨.hbm, 369, rfl⟩
abbrev main_call8_v0 : Ref sig .tc := ⟨.hbm, 370, rfl⟩
abbrev main_call8_v1 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_cst_51 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_cst_52 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_cst_53 : Ref sig .tc := ⟨.hbm, 385, rfl⟩
abbrev main_call9_v0 : Ref sig .tc := ⟨.hbm, 386, rfl⟩
abbrev main_call9_v1 : Ref sig .tc := ⟨.hbm, 387, rfl⟩
abbrev main_v308 : Ref sig .tc := ⟨.hbm, 388, rfl⟩
abbrev main_v309 : Ref sig .tc := ⟨.hbm, 389, rfl⟩
abbrev main_cst_54 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_cst_55 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_cst_56 : Ref sig .tc := ⟨.hbm, 398, rfl⟩
abbrev main_v316 : Ref sig .tc := ⟨.hbm, 399, rfl⟩
abbrev main_cst_57 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_cst_58 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_cst_59 : Ref sig .tc := ⟨.hbm, 436, rfl⟩
abbrev main_v351 : Ref sig .tc := ⟨.hbm, 437, rfl⟩
abbrev main_v352 : Ref sig .tc := ⟨.hbm, 438, rfl⟩
abbrev main_v353 : Ref sig .tc := ⟨.hbm, 439, rfl⟩
abbrev main_v354 : Ref sig .tc := ⟨.hbm, 440, rfl⟩
abbrev main_v355 : Ref sig .tc := ⟨.hbm, 441, rfl⟩
abbrev main_cst_60 : Ref sig .tc := ⟨.hbm, 442, rfl⟩
abbrev main_v356 : Ref sig .tc := ⟨.hbm, 443, rfl⟩
abbrev main_v357 : Ref sig .tc := ⟨.hbm, 444, rfl⟩
abbrev main_cst_61 : Ref sig .tc := ⟨.hbm, 445, rfl⟩
abbrev main_call10_v0 : Ref sig .tc := ⟨.hbm, 446, rfl⟩
abbrev main_call10_v1 : Ref sig .tc := ⟨.hbm, 447, rfl⟩
abbrev main_v358 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_cst_62 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_cst_63 : Ref sig .tc := ⟨.hbm, 457, rfl⟩
abbrev main_v366 : Ref sig .tc := ⟨.hbm, 458, rfl⟩
abbrev main_v367 : Ref sig .tc := ⟨.hbm, 459, rfl⟩
abbrev main_v368 : Ref sig .tc := ⟨.hbm, 460, rfl⟩
abbrev main_cst_64 : Ref sig .tc := ⟨.hbm, 461, rfl⟩
abbrev main_call11_v0 : Ref sig .tc := ⟨.hbm, 462, rfl⟩
abbrev main_call11_v1 : Ref sig .tc := ⟨.hbm, 463, rfl⟩
abbrev main_v369 : Ref sig .tc := ⟨.hbm, 464, rfl⟩
abbrev main_v370 : Ref sig .tc := ⟨.hbm, 465, rfl⟩
abbrev main_cst_65 : Ref sig .tc := ⟨.hbm, 466, rfl⟩
abbrev main_v371 : Ref sig .tc := ⟨.hbm, 467, rfl⟩
abbrev main_v372 : Ref sig .tc := ⟨.hbm, 468, rfl⟩
abbrev main_v373 : Ref sig .tc := ⟨.hbm, 469, rfl⟩
abbrev main_cst_66 : Ref sig .tc := ⟨.hbm, 470, rfl⟩
abbrev main_v374 : Ref sig .tc := ⟨.hbm, 471, rfl⟩
abbrev main_v375 : Ref sig .tc := ⟨.hbm, 472, rfl⟩
abbrev main_v376 : Ref sig .tc := ⟨.hbm, 473, rfl⟩
abbrev main_cst_67 : Ref sig .tc := ⟨.hbm, 474, rfl⟩
abbrev main_v377 : Ref sig .tc := ⟨.hbm, 475, rfl⟩
abbrev main_cst_68 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩
abbrev main_v387 : Ref sig .tc := ⟨.hbm, 486, rfl⟩
abbrev main_v388 : Ref sig .tc := ⟨.hbm, 487, rfl⟩
abbrev main_v389 : Ref sig .tc := ⟨.hbm, 488, rfl⟩
abbrev main_v390 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_v402 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_cst_69 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_v409 : Ref sig .tc := ⟨.hbm, 509, rfl⟩
abbrev main_v410 : Ref sig .tc := ⟨.hbm, 510, rfl⟩
abbrev main_v411 : Ref sig .tc := ⟨.hbm, 511, rfl⟩
abbrev main_cst_70 : Ref sig .tc := ⟨.hbm, 512, rfl⟩
abbrev main_v412 : Ref sig .tc := ⟨.hbm, 513, rfl⟩
abbrev main_v413 : Ref sig .tc := ⟨.hbm, 514, rfl⟩
abbrev main_v414 : Ref sig .tc := ⟨.hbm, 515, rfl⟩
abbrev main_v415 : Ref sig .tc := ⟨.hbm, 516, rfl⟩
abbrev main_v416 : Ref sig .tc := ⟨.hbm, 517, rfl⟩
abbrev main_cst_71 : Ref sig .tc := ⟨.hbm, 518, rfl⟩
abbrev main_v417 : Ref sig .tc := ⟨.hbm, 519, rfl⟩
abbrev main_v418 : Ref sig .tc := ⟨.hbm, 520, rfl⟩
abbrev main_cst_72 : Ref sig .tc := ⟨.hbm, 521, rfl⟩
abbrev main_call12_v0 : Ref sig .tc := ⟨.hbm, 522, rfl⟩
abbrev main_call12_v1 : Ref sig .tc := ⟨.hbm, 523, rfl⟩
abbrev main_v419 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_cst_73 : Ref sig .tc := ⟨.hbm, 529, rfl⟩
abbrev main_v424 : Ref sig .tc := ⟨.hbm, 530, rfl⟩
abbrev main_v425 : Ref sig .tc := ⟨.hbm, 531, rfl⟩
abbrev main_v426 : Ref sig .tc := ⟨.hbm, 532, rfl⟩
abbrev main_cst_74 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_cst_75 : Ref sig .tc := ⟨.hbm, 537, rfl⟩
abbrev main_call13_v0 : Ref sig .tc := ⟨.hbm, 538, rfl⟩
abbrev main_call13_v1 : Ref sig .tc := ⟨.hbm, 539, rfl⟩
abbrev main_v430 : Ref sig .tc := ⟨.hbm, 540, rfl⟩
abbrev main_v431 : Ref sig .tc := ⟨.hbm, 541, rfl⟩
abbrev main_cst_76 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_cst_77 : Ref sig .tc := ⟨.hbm, 546, rfl⟩
abbrev main_v435 : Ref sig .tc := ⟨.hbm, 547, rfl⟩
abbrev main_v436 : Ref sig .tc := ⟨.hbm, 548, rfl⟩
abbrev main_v437 : Ref sig .tc := ⟨.hbm, 549, rfl⟩
abbrev main_cst_78 : Ref sig .tc := ⟨.hbm, 550, rfl⟩
abbrev main_v438 : Ref sig .tc := ⟨.hbm, 551, rfl⟩
abbrev main_cst_79 : Ref sig .tc := ⟨.hbm, 552, rfl⟩
abbrev main_v439 : Ref sig .tc := ⟨.hbm, 553, rfl⟩
abbrev main_v440 : Ref sig .tc := ⟨.hbm, 554, rfl⟩
abbrev main_v441 : Ref sig .tc := ⟨.hbm, 555, rfl⟩
abbrev main_v442 : Ref sig .tc := ⟨.hbm, 556, rfl⟩
abbrev main_v443 : Ref sig .tc := ⟨.hbm, 557, rfl⟩
abbrev main_v444 : Ref sig .tc := ⟨.hbm, 558, rfl⟩
abbrev main_v445 : Ref sig .tc := ⟨.hbm, 559, rfl⟩
abbrev main_v446 : Ref sig .tc := ⟨.hbm, 560, rfl⟩
abbrev main_v447 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_v453 : Ref sig .tc := ⟨.hbm, 567, rfl⟩
abbrev main_v454 : Ref sig .tc := ⟨.hbm, 568, rfl⟩
abbrev main_v455 : Ref sig .tc := ⟨.hbm, 569, rfl⟩
abbrev main_v456 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_v460 : Ref sig .tc := ⟨.hbm, 574, rfl⟩
abbrev main_v461 : Ref sig .tc := ⟨.hbm, 575, rfl⟩
abbrev main_v462 : Ref sig .tc := ⟨.hbm, 576, rfl⟩
abbrev main_v463 : Ref sig .tc := ⟨.hbm, 577, rfl⟩
abbrev main_v464 : Ref sig .tc := ⟨.hbm, 578, rfl⟩
abbrev main_v465 : Ref sig .tc := ⟨.hbm, 579, rfl⟩
abbrev main_v466 : Ref sig .tc := ⟨.hbm, 580, rfl⟩
abbrev main_cst_80 : Ref sig .tc := ⟨.hbm, 581, rfl⟩
abbrev main_v467 : Ref sig .tc := ⟨.hbm, 582, rfl⟩
abbrev main_v468 : Ref sig .tc := ⟨.hbm, 583, rfl⟩
abbrev main_v469 : Ref sig .tc := ⟨.hbm, 584, rfl⟩
abbrev main_v470 : Ref sig .tc := ⟨.hbm, 585, rfl⟩
abbrev main_v471 : Ref sig .tc := ⟨.hbm, 586, rfl⟩
abbrev main_v472 : Ref sig .tc := ⟨.hbm, 587, rfl⟩
abbrev main_cst_81 : Ref sig .tc := ⟨.hbm, 588, rfl⟩
abbrev main_v473 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩
abbrev main_cst_82 : Ref sig .tc := ⟨.hbm, 594, rfl⟩
abbrev main_v478 : Ref sig .tc := ⟨.hbm, 595, rfl⟩
abbrev main_v479 : Ref sig .tc := ⟨.hbm, 596, rfl⟩
abbrev main_cst_83 : Ref sig .tc := ⟨.hbm, 597, rfl⟩
abbrev main_call14_v0 : Ref sig .tc := ⟨.hbm, 598, rfl⟩
abbrev main_call14_v1 : Ref sig .tc := ⟨.hbm, 599, rfl⟩
abbrev main_v480 : Ref sig .tc := ⟨.hbm, 600, rfl⟩
abbrev main_v481 : Ref sig .tc := ⟨.hbm, 601, rfl⟩
abbrev main_v482 : Ref sig .tc := ⟨.hbm, 602, rfl⟩
abbrev main_v483 : Ref sig .tc := ⟨.hbm, 603, rfl⟩
abbrev main_v484 : Ref sig .tc := ⟨.hbm, 604, rfl⟩
abbrev main_cst_84 : Ref sig .tc := ⟨.hbm, 605, rfl⟩
abbrev main_v485 : Ref sig .tc := ⟨.hbm, 606, rfl⟩
abbrev main_v486 : Ref sig .tc := ⟨.hbm, 607, rfl⟩
abbrev main_v487 : Ref sig .tc := ⟨.hbm, 608, rfl⟩
abbrev main_cst_85 : Ref sig .tc := ⟨.hbm, 609, rfl⟩
abbrev main_v488 : Ref sig .tc := ⟨.hbm, 610, rfl⟩
abbrev main_v489 : Ref sig .tc := ⟨.hbm, 611, rfl⟩
abbrev main_v490 : Ref sig .tc := ⟨.hbm, 612, rfl⟩
abbrev main_cst_86 : Ref sig .tc := ⟨.hbm, 613, rfl⟩
abbrev main_call15_v0 : Ref sig .tc := ⟨.hbm, 614, rfl⟩
abbrev main_call15_v1 : Ref sig .tc := ⟨.hbm, 615, rfl⟩
abbrev main_v491 : Ref sig .tc := ⟨.hbm, 616, rfl⟩
abbrev main_v492 : Ref sig .tc := ⟨.hbm, 617, rfl⟩
abbrev main_cst_87 : Ref sig .tc := ⟨.hbm, 618, rfl⟩
abbrev main_v493 : Ref sig .tc := ⟨.hbm, 619, rfl⟩
abbrev main_v494 : Ref sig .tc := ⟨.hbm, 620, rfl⟩
abbrev main_v495 : Ref sig .tc := ⟨.hbm, 621, rfl⟩
abbrev main_cst_88 : Ref sig .tc := ⟨.hbm, 622, rfl⟩
abbrev main_v496 : Ref sig .tc := ⟨.hbm, 623, rfl⟩
abbrev main_v497 : Ref sig .tc := ⟨.hbm, 624, rfl⟩
abbrev main_v498 : Ref sig .tc := ⟨.hbm, 625, rfl⟩
abbrev main_cst_89 : Ref sig .tc := ⟨.hbm, 626, rfl⟩
abbrev main_v499 : Ref sig .tc := ⟨.hbm, 627, rfl⟩
abbrev main_cst_90 : Ref sig .tc := ⟨.hbm, 628, rfl⟩
abbrev main_v500 : Ref sig .tc := ⟨.hbm, 629, rfl⟩
abbrev main_v501 : Ref sig .tc := ⟨.hbm, 630, rfl⟩
abbrev main_v502 : Ref sig .tc := ⟨.hbm, 631, rfl⟩
abbrev main_v503 : Ref sig .tc := ⟨.hbm, 632, rfl⟩
abbrev main_v504 : Ref sig .tc := ⟨.hbm, 633, rfl⟩
abbrev main_v505 : Ref sig .tc := ⟨.hbm, 634, rfl⟩
abbrev main_v506 : Ref sig .tc := ⟨.hbm, 635, rfl⟩
abbrev main_v507 : Ref sig .tc := ⟨.hbm, 636, rfl⟩
abbrev main_v508 : Ref sig .tc := ⟨.hbm, 637, rfl⟩
abbrev main_v509 : Ref sig .tc := ⟨.hbm, 638, rfl⟩
abbrev main_v510 : Ref sig .tc := ⟨.hbm, 639, rfl⟩
abbrev main_v511 : Ref sig .tc := ⟨.hbm, 640, rfl⟩
abbrev main_v512 : Ref sig .tc := ⟨.hbm, 641, rfl⟩
abbrev main_v513 : Ref sig .tc := ⟨.hbm, 642, rfl⟩
abbrev main_v514 : Ref sig .tc := ⟨.hbm, 643, rfl⟩
abbrev main_v515 : Ref sig .tc := ⟨.hbm, 644, rfl⟩
abbrev main_v516 : Ref sig .tc := ⟨.hbm, 645, rfl⟩
abbrev main_v517 : Ref sig .tc := ⟨.hbm, 646, rfl⟩
abbrev main_v518 : Ref sig .tc := ⟨.hbm, 647, rfl⟩
abbrev main_v519 : Ref sig .tc := ⟨.hbm, 648, rfl⟩
abbrev main_v520 : Ref sig .tc := ⟨.hbm, 649, rfl⟩
abbrev main_v521 : Ref sig .tc := ⟨.hbm, 650, rfl⟩
abbrev main_v522 : Ref sig .tc := ⟨.hbm, 651, rfl⟩
abbrev main_v523 : Ref sig .tc := ⟨.hbm, 652, rfl⟩
abbrev main_v524 : Ref sig .tc := ⟨.hbm, 653, rfl⟩
abbrev main_v525 : Ref sig .tc := ⟨.hbm, 654, rfl⟩
abbrev main_v526 : Ref sig .tc := ⟨.hbm, 655, rfl⟩
abbrev main_v527 : Ref sig .tc := ⟨.hbm, 656, rfl⟩
abbrev main_cst_91 : Ref sig .tc := ⟨.hbm, 657, rfl⟩
abbrev main_v528 : Ref sig .tc := ⟨.hbm, 658, rfl⟩
abbrev main_v529 : Ref sig .tc := ⟨.hbm, 659, rfl⟩
abbrev main_v530 : Ref sig .tc := ⟨.hbm, 660, rfl⟩
abbrev main_v531 : Ref sig .tc := ⟨.hbm, 661, rfl⟩
abbrev main_v532 : Ref sig .tc := ⟨.hbm, 662, rfl⟩
abbrev main_v533 : Ref sig .tc := ⟨.hbm, 663, rfl⟩
abbrev main_cst_92 : Ref sig .tc := ⟨.hbm, 664, rfl⟩
abbrev main_v534 : Ref sig .tc := ⟨.hbm, 665, rfl⟩
abbrev main_v535 : Ref sig .tc := ⟨.hbm, 666, rfl⟩
abbrev main_v536 : Ref sig .tc := ⟨.hbm, 667, rfl⟩
abbrev main_v537 : Ref sig .tc := ⟨.hbm, 668, rfl⟩
abbrev main_v538 : Ref sig .tc := ⟨.hbm, 669, rfl⟩
abbrev main_cst_93 : Ref sig .tc := ⟨.hbm, 670, rfl⟩
abbrev main_v539 : Ref sig .tc := ⟨.hbm, 671, rfl⟩
abbrev main_v540 : Ref sig .tc := ⟨.hbm, 672, rfl⟩
abbrev main_cst_94 : Ref sig .tc := ⟨.hbm, 673, rfl⟩
abbrev main_call16_v0 : Ref sig .tc := ⟨.hbm, 674, rfl⟩
abbrev main_call16_v1 : Ref sig .tc := ⟨.hbm, 675, rfl⟩
abbrev main_v541 : Ref sig .tc := ⟨.hbm, 676, rfl⟩
abbrev main_v542 : Ref sig .tc := ⟨.hbm, 677, rfl⟩
abbrev main_v543 : Ref sig .tc := ⟨.hbm, 678, rfl⟩
abbrev main_v544 : Ref sig .tc := ⟨.hbm, 679, rfl⟩
abbrev main_v545 : Ref sig .tc := ⟨.hbm, 680, rfl⟩
abbrev main_cst_95 : Ref sig .tc := ⟨.hbm, 681, rfl⟩
abbrev main_v546 : Ref sig .tc := ⟨.hbm, 682, rfl⟩
abbrev main_v547 : Ref sig .tc := ⟨.hbm, 683, rfl⟩
abbrev main_v548 : Ref sig .tc := ⟨.hbm, 684, rfl⟩
abbrev main_cst_96 : Ref sig .tc := ⟨.hbm, 685, rfl⟩
abbrev main_v549 : Ref sig .tc := ⟨.hbm, 686, rfl⟩
abbrev main_v550 : Ref sig .tc := ⟨.hbm, 687, rfl⟩
abbrev main_v551 : Ref sig .tc := ⟨.hbm, 688, rfl⟩
abbrev main_cst_97 : Ref sig .tc := ⟨.hbm, 689, rfl⟩
abbrev main_call17_v0 : Ref sig .tc := ⟨.hbm, 690, rfl⟩
abbrev main_call17_v1 : Ref sig .tc := ⟨.hbm, 691, rfl⟩
abbrev main_v552 : Ref sig .tc := ⟨.hbm, 692, rfl⟩
abbrev main_v553 : Ref sig .tc := ⟨.hbm, 693, rfl⟩
abbrev main_cst_98 : Ref sig .tc := ⟨.hbm, 694, rfl⟩
abbrev main_v554 : Ref sig .tc := ⟨.hbm, 695, rfl⟩
abbrev main_v555 : Ref sig .tc := ⟨.hbm, 696, rfl⟩
abbrev main_v556 : Ref sig .tc := ⟨.hbm, 697, rfl⟩
abbrev main_cst_99 : Ref sig .tc := ⟨.hbm, 698, rfl⟩
abbrev main_v557 : Ref sig .tc := ⟨.hbm, 699, rfl⟩
abbrev main_v558 : Ref sig .tc := ⟨.hbm, 700, rfl⟩
abbrev main_v559 : Ref sig .tc := ⟨.hbm, 701, rfl⟩
abbrev main_cst_100 : Ref sig .tc := ⟨.hbm, 702, rfl⟩
abbrev main_v560 : Ref sig .tc := ⟨.hbm, 703, rfl⟩
abbrev main_cst_101 : Ref sig .tc := ⟨.hbm, 704, rfl⟩
abbrev main_v561 : Ref sig .tc := ⟨.hbm, 705, rfl⟩
abbrev main_v562 : Ref sig .tc := ⟨.hbm, 706, rfl⟩
abbrev main_v563 : Ref sig .tc := ⟨.hbm, 707, rfl⟩
abbrev main_v564 : Ref sig .tc := ⟨.hbm, 708, rfl⟩
abbrev main_v565 : Ref sig .tc := ⟨.hbm, 709, rfl⟩
abbrev main_v566 : Ref sig .tc := ⟨.hbm, 710, rfl⟩
abbrev main_v567 : Ref sig .tc := ⟨.hbm, 711, rfl⟩
abbrev main_v568 : Ref sig .tc := ⟨.hbm, 712, rfl⟩
abbrev main_v569 : Ref sig .tc := ⟨.hbm, 713, rfl⟩
abbrev main_v570 : Ref sig .tc := ⟨.hbm, 714, rfl⟩
abbrev main_v571 : Ref sig .tc := ⟨.hbm, 715, rfl⟩
abbrev main_v572 : Ref sig .tc := ⟨.hbm, 716, rfl⟩
abbrev main_v573 : Ref sig .tc := ⟨.hbm, 717, rfl⟩
abbrev main_v574 : Ref sig .tc := ⟨.hbm, 718, rfl⟩
abbrev main_v575 : Ref sig .tc := ⟨.hbm, 719, rfl⟩
abbrev main_v576 : Ref sig .tc := ⟨.hbm, 720, rfl⟩
abbrev main_v577 : Ref sig .tc := ⟨.hbm, 721, rfl⟩
abbrev main_v578 : Ref sig .tc := ⟨.hbm, 722, rfl⟩
abbrev main_v579 : Ref sig .tc := ⟨.hbm, 723, rfl⟩
abbrev main_v580 : Ref sig .tc := ⟨.hbm, 724, rfl⟩
abbrev main_v581 : Ref sig .tc := ⟨.hbm, 725, rfl⟩
abbrev main_v582 : Ref sig .tc := ⟨.hbm, 726, rfl⟩
abbrev main_v583 : Ref sig .tc := ⟨.hbm, 727, rfl⟩
abbrev main_v584 : Ref sig .tc := ⟨.hbm, 728, rfl⟩
abbrev main_v585 : Ref sig .tc := ⟨.hbm, 729, rfl⟩
abbrev main_v586 : Ref sig .tc := ⟨.hbm, 730, rfl⟩
abbrev main_v587 : Ref sig .tc := ⟨.hbm, 731, rfl⟩
abbrev main_v588 : Ref sig .tc := ⟨.hbm, 732, rfl⟩
abbrev main_cst_102 : Ref sig .tc := ⟨.hbm, 733, rfl⟩
abbrev main_v589 : Ref sig .tc := ⟨.hbm, 734, rfl⟩
abbrev main_v590 : Ref sig .tc := ⟨.hbm, 735, rfl⟩
abbrev main_v591 : Ref sig .tc := ⟨.hbm, 736, rfl⟩
abbrev main_v592 : Ref sig .tc := ⟨.hbm, 737, rfl⟩
abbrev main_v593 : Ref sig .tc := ⟨.hbm, 738, rfl⟩
abbrev main_v594 : Ref sig .tc := ⟨.hbm, 739, rfl⟩
abbrev main_cst_103 : Ref sig .tc := ⟨.hbm, 740, rfl⟩
abbrev main_v595 : Ref sig .tc := ⟨.hbm, 741, rfl⟩
abbrev main_v596 : Ref sig .tc := ⟨.hbm, 742, rfl⟩
abbrev main_v597 : Ref sig .tc := ⟨.hbm, 743, rfl⟩
abbrev main_v598 : Ref sig .tc := ⟨.hbm, 744, rfl⟩
abbrev main_v599 : Ref sig .tc := ⟨.hbm, 745, rfl⟩
abbrev main_cst_104 : Ref sig .tc := ⟨.hbm, 746, rfl⟩
abbrev main_v600 : Ref sig .tc := ⟨.hbm, 747, rfl⟩
abbrev main_v601 : Ref sig .tc := ⟨.hbm, 748, rfl⟩
abbrev main_cst_105 : Ref sig .tc := ⟨.hbm, 749, rfl⟩
abbrev main_call18_v0 : Ref sig .tc := ⟨.hbm, 750, rfl⟩
abbrev main_call18_v1 : Ref sig .tc := ⟨.hbm, 751, rfl⟩
abbrev main_v602 : Ref sig .tc := ⟨.hbm, 752, rfl⟩
abbrev main_v603 : Ref sig .tc := ⟨.hbm, 753, rfl⟩
abbrev main_v604 : Ref sig .tc := ⟨.hbm, 754, rfl⟩
abbrev main_v605 : Ref sig .tc := ⟨.hbm, 755, rfl⟩
abbrev main_v606 : Ref sig .tc := ⟨.hbm, 756, rfl⟩
abbrev main_cst_106 : Ref sig .tc := ⟨.hbm, 757, rfl⟩
abbrev main_v607 : Ref sig .tc := ⟨.hbm, 758, rfl⟩
abbrev main_v608 : Ref sig .tc := ⟨.hbm, 759, rfl⟩
abbrev main_v609 : Ref sig .tc := ⟨.hbm, 760, rfl⟩
abbrev main_cst_107 : Ref sig .tc := ⟨.hbm, 761, rfl⟩
abbrev main_v610 : Ref sig .tc := ⟨.hbm, 762, rfl⟩
abbrev main_v611 : Ref sig .tc := ⟨.hbm, 763, rfl⟩
abbrev main_v612 : Ref sig .tc := ⟨.hbm, 764, rfl⟩
abbrev main_cst_108 : Ref sig .tc := ⟨.hbm, 765, rfl⟩
abbrev main_call19_v0 : Ref sig .tc := ⟨.hbm, 766, rfl⟩
abbrev main_call19_v1 : Ref sig .tc := ⟨.hbm, 767, rfl⟩
abbrev main_v613 : Ref sig .tc := ⟨.hbm, 768, rfl⟩
abbrev main_v614 : Ref sig .tc := ⟨.hbm, 769, rfl⟩
abbrev main_cst_109 : Ref sig .tc := ⟨.hbm, 770, rfl⟩
abbrev main_v615 : Ref sig .tc := ⟨.hbm, 771, rfl⟩
abbrev main_v616 : Ref sig .tc := ⟨.hbm, 772, rfl⟩
abbrev main_v617 : Ref sig .tc := ⟨.hbm, 773, rfl⟩
abbrev main_cst_110 : Ref sig .tc := ⟨.hbm, 774, rfl⟩
abbrev main_v618 : Ref sig .tc := ⟨.hbm, 775, rfl⟩
abbrev main_v619 : Ref sig .tc := ⟨.hbm, 776, rfl⟩
abbrev main_v620 : Ref sig .tc := ⟨.hbm, 777, rfl⟩
abbrev main_cst_111 : Ref sig .tc := ⟨.hbm, 778, rfl⟩
abbrev main_v621 : Ref sig .tc := ⟨.hbm, 779, rfl⟩
abbrev main_cst_112 : Ref sig .tc := ⟨.hbm, 780, rfl⟩
abbrev main_v622 : Ref sig .tc := ⟨.hbm, 781, rfl⟩
abbrev main_v623 : Ref sig .tc := ⟨.hbm, 782, rfl⟩
abbrev main_v624 : Ref sig .tc := ⟨.hbm, 783, rfl⟩
abbrev main_v625 : Ref sig .tc := ⟨.hbm, 784, rfl⟩
abbrev main_v626 : Ref sig .tc := ⟨.hbm, 785, rfl⟩
abbrev main_v627 : Ref sig .tc := ⟨.hbm, 786, rfl⟩
abbrev main_v628 : Ref sig .tc := ⟨.hbm, 787, rfl⟩
abbrev main_v629 : Ref sig .tc := ⟨.hbm, 788, rfl⟩
abbrev main_v630 : Ref sig .tc := ⟨.hbm, 789, rfl⟩
abbrev main_v631 : Ref sig .tc := ⟨.hbm, 790, rfl⟩
abbrev main_v632 : Ref sig .tc := ⟨.hbm, 791, rfl⟩
abbrev main_v633 : Ref sig .tc := ⟨.hbm, 792, rfl⟩
abbrev main_v634 : Ref sig .tc := ⟨.hbm, 793, rfl⟩
abbrev main_v635 : Ref sig .tc := ⟨.hbm, 794, rfl⟩
abbrev main_v636 : Ref sig .tc := ⟨.hbm, 795, rfl⟩
abbrev main_v637 : Ref sig .tc := ⟨.hbm, 796, rfl⟩
abbrev main_v638 : Ref sig .tc := ⟨.hbm, 797, rfl⟩
abbrev main_v639 : Ref sig .tc := ⟨.hbm, 798, rfl⟩
abbrev main_v640 : Ref sig .tc := ⟨.hbm, 799, rfl⟩
abbrev main_v641 : Ref sig .tc := ⟨.hbm, 800, rfl⟩
abbrev main_v642 : Ref sig .tc := ⟨.hbm, 801, rfl⟩
abbrev main_v643 : Ref sig .tc := ⟨.hbm, 802, rfl⟩
abbrev main_v644 : Ref sig .tc := ⟨.hbm, 803, rfl⟩
abbrev main_v645 : Ref sig .tc := ⟨.hbm, 804, rfl⟩
abbrev main_v646 : Ref sig .tc := ⟨.hbm, 805, rfl⟩
abbrev main_v647 : Ref sig .tc := ⟨.hbm, 806, rfl⟩
abbrev main_v648 : Ref sig .tc := ⟨.hbm, 807, rfl⟩
abbrev main_v649 : Ref sig .tc := ⟨.hbm, 808, rfl⟩
abbrev main_cst_113 : Ref sig .tc := ⟨.hbm, 809, rfl⟩
abbrev main_v650 : Ref sig .tc := ⟨.hbm, 810, rfl⟩
abbrev main_v651 : Ref sig .tc := ⟨.hbm, 811, rfl⟩
abbrev main_v652 : Ref sig .tc := ⟨.hbm, 812, rfl⟩
abbrev main_v653 : Ref sig .tc := ⟨.hbm, 813, rfl⟩
abbrev main_v654 : Ref sig .tc := ⟨.hbm, 814, rfl⟩
abbrev main_v655 : Ref sig .tc := ⟨.hbm, 815, rfl⟩
abbrev main_cst_114 : Ref sig .tc := ⟨.hbm, 816, rfl⟩
abbrev main_v656 : Ref sig .tc := ⟨.hbm, 817, rfl⟩
abbrev main_v657 : Ref sig .tc := ⟨.hbm, 818, rfl⟩
abbrev main_v658 : Ref sig .tc := ⟨.hbm, 819, rfl⟩
abbrev main_v659 : Ref sig .tc := ⟨.hbm, 820, rfl⟩
abbrev main_v660 : Ref sig .tc := ⟨.hbm, 821, rfl⟩
abbrev main_cst_115 : Ref sig .tc := ⟨.hbm, 822, rfl⟩
abbrev main_v661 : Ref sig .tc := ⟨.hbm, 823, rfl⟩
abbrev main_v662 : Ref sig .tc := ⟨.hbm, 824, rfl⟩
abbrev main_cst_116 : Ref sig .tc := ⟨.hbm, 825, rfl⟩
abbrev main_call20_v0 : Ref sig .tc := ⟨.hbm, 826, rfl⟩
abbrev main_call20_v1 : Ref sig .tc := ⟨.hbm, 827, rfl⟩
abbrev main_v663 : Ref sig .tc := ⟨.hbm, 828, rfl⟩
abbrev main_v664 : Ref sig .tc := ⟨.hbm, 829, rfl⟩
abbrev main_v665 : Ref sig .tc := ⟨.hbm, 830, rfl⟩
abbrev main_v666 : Ref sig .tc := ⟨.hbm, 831, rfl⟩
abbrev main_v667 : Ref sig .tc := ⟨.hbm, 832, rfl⟩
abbrev main_cst_117 : Ref sig .tc := ⟨.hbm, 833, rfl⟩
abbrev main_v668 : Ref sig .tc := ⟨.hbm, 834, rfl⟩
abbrev main_v669 : Ref sig .tc := ⟨.hbm, 835, rfl⟩
abbrev main_v670 : Ref sig .tc := ⟨.hbm, 836, rfl⟩
abbrev main_cst_118 : Ref sig .tc := ⟨.hbm, 837, rfl⟩
abbrev main_v671 : Ref sig .tc := ⟨.hbm, 838, rfl⟩
abbrev main_v672 : Ref sig .tc := ⟨.hbm, 839, rfl⟩
abbrev main_v673 : Ref sig .tc := ⟨.hbm, 840, rfl⟩
abbrev main_cst_119 : Ref sig .tc := ⟨.hbm, 841, rfl⟩
abbrev main_call21_v0 : Ref sig .tc := ⟨.hbm, 842, rfl⟩
abbrev main_call21_v1 : Ref sig .tc := ⟨.hbm, 843, rfl⟩
abbrev main_v674 : Ref sig .tc := ⟨.hbm, 844, rfl⟩
abbrev main_v675 : Ref sig .tc := ⟨.hbm, 845, rfl⟩
abbrev main_cst_120 : Ref sig .tc := ⟨.hbm, 846, rfl⟩
abbrev main_v676 : Ref sig .tc := ⟨.hbm, 847, rfl⟩
abbrev main_v677 : Ref sig .tc := ⟨.hbm, 848, rfl⟩
abbrev main_v678 : Ref sig .tc := ⟨.hbm, 849, rfl⟩
abbrev main_cst_121 : Ref sig .tc := ⟨.hbm, 850, rfl⟩
abbrev main_v679 : Ref sig .tc := ⟨.hbm, 851, rfl⟩
abbrev main_v680 : Ref sig .tc := ⟨.hbm, 852, rfl⟩
abbrev main_v681 : Ref sig .tc := ⟨.hbm, 853, rfl⟩
abbrev main_cst_122 : Ref sig .tc := ⟨.hbm, 854, rfl⟩
abbrev main_v682 : Ref sig .tc := ⟨.hbm, 855, rfl⟩
abbrev main_cst_123 : Ref sig .tc := ⟨.hbm, 856, rfl⟩
abbrev main_v683 : Ref sig .tc := ⟨.hbm, 857, rfl⟩
abbrev main_v684 : Ref sig .tc := ⟨.hbm, 858, rfl⟩
abbrev main_v685 : Ref sig .tc := ⟨.hbm, 859, rfl⟩
abbrev main_v686 : Ref sig .tc := ⟨.hbm, 860, rfl⟩
abbrev main_v687 : Ref sig .tc := ⟨.hbm, 861, rfl⟩
abbrev main_v688 : Ref sig .tc := ⟨.hbm, 862, rfl⟩
abbrev main_v689 : Ref sig .tc := ⟨.hbm, 863, rfl⟩
abbrev main_v690 : Ref sig .tc := ⟨.hbm, 864, rfl⟩
abbrev main_v691 : Ref sig .tc := ⟨.hbm, 865, rfl⟩
abbrev main_v692 : Ref sig .tc := ⟨.hbm, 866, rfl⟩
abbrev main_v693 : Ref sig .tc := ⟨.hbm, 867, rfl⟩
abbrev main_v694 : Ref sig .tc := ⟨.hbm, 868, rfl⟩
abbrev main_v695 : Ref sig .tc := ⟨.hbm, 869, rfl⟩
abbrev main_v696 : Ref sig .tc := ⟨.hbm, 870, rfl⟩
abbrev main_v697 : Ref sig .tc := ⟨.hbm, 871, rfl⟩
abbrev main_v698 : Ref sig .tc := ⟨.hbm, 872, rfl⟩
abbrev main_v699 : Ref sig .tc := ⟨.hbm, 873, rfl⟩
abbrev main_v700 : Ref sig .tc := ⟨.hbm, 874, rfl⟩
abbrev main_v701 : Ref sig .tc := ⟨.hbm, 875, rfl⟩
abbrev main_v702 : Ref sig .tc := ⟨.hbm, 876, rfl⟩
abbrev main_v703 : Ref sig .tc := ⟨.hbm, 877, rfl⟩
abbrev main_v704 : Ref sig .tc := ⟨.hbm, 878, rfl⟩
abbrev main_v705 : Ref sig .tc := ⟨.hbm, 879, rfl⟩
abbrev main_v706 : Ref sig .tc := ⟨.hbm, 880, rfl⟩
abbrev main_v707 : Ref sig .tc := ⟨.hbm, 881, rfl⟩
abbrev main_v708 : Ref sig .tc := ⟨.hbm, 882, rfl⟩
abbrev main_v709 : Ref sig .tc := ⟨.hbm, 883, rfl⟩
abbrev main_v710 : Ref sig .tc := ⟨.hbm, 884, rfl⟩
abbrev main_cst_124 : Ref sig .tc := ⟨.hbm, 885, rfl⟩
abbrev main_v711 : Ref sig .tc := ⟨.hbm, 886, rfl⟩
abbrev main_v712 : Ref sig .tc := ⟨.hbm, 887, rfl⟩
abbrev main_v713 : Ref sig .tc := ⟨.hbm, 888, rfl⟩
abbrev main_v714 : Ref sig .tc := ⟨.hbm, 889, rfl⟩
abbrev main_v715 : Ref sig .tc := ⟨.hbm, 890, rfl⟩
abbrev main_v716 : Ref sig .tc := ⟨.hbm, 891, rfl⟩
abbrev main_cst_125 : Ref sig .tc := ⟨.hbm, 892, rfl⟩
abbrev main_v717 : Ref sig .tc := ⟨.hbm, 893, rfl⟩
abbrev main_v718 : Ref sig .tc := ⟨.hbm, 894, rfl⟩
abbrev main_v719 : Ref sig .tc := ⟨.hbm, 895, rfl⟩
abbrev main_v720 : Ref sig .tc := ⟨.hbm, 896, rfl⟩
abbrev main_v721 : Ref sig .tc := ⟨.hbm, 897, rfl⟩
abbrev main_cst_126 : Ref sig .tc := ⟨.hbm, 898, rfl⟩
abbrev main_v722 : Ref sig .tc := ⟨.hbm, 899, rfl⟩
abbrev main_v723 : Ref sig .tc := ⟨.hbm, 900, rfl⟩
abbrev main_cst_127 : Ref sig .tc := ⟨.hbm, 901, rfl⟩
abbrev main_call22_v0 : Ref sig .tc := ⟨.hbm, 902, rfl⟩
abbrev main_call22_v1 : Ref sig .tc := ⟨.hbm, 903, rfl⟩
abbrev main_v724 : Ref sig .tc := ⟨.hbm, 904, rfl⟩
abbrev main_v725 : Ref sig .tc := ⟨.hbm, 905, rfl⟩
abbrev main_v726 : Ref sig .tc := ⟨.hbm, 906, rfl⟩
abbrev main_v727 : Ref sig .tc := ⟨.hbm, 907, rfl⟩
abbrev main_v728 : Ref sig .tc := ⟨.hbm, 908, rfl⟩
abbrev main_cst_128 : Ref sig .tc := ⟨.hbm, 909, rfl⟩
abbrev main_v729 : Ref sig .tc := ⟨.hbm, 910, rfl⟩
abbrev main_v730 : Ref sig .tc := ⟨.hbm, 911, rfl⟩
abbrev main_v731 : Ref sig .tc := ⟨.hbm, 912, rfl⟩
abbrev main_cst_129 : Ref sig .tc := ⟨.hbm, 913, rfl⟩
abbrev main_v732 : Ref sig .tc := ⟨.hbm, 914, rfl⟩
abbrev main_v733 : Ref sig .tc := ⟨.hbm, 915, rfl⟩
abbrev main_v734 : Ref sig .tc := ⟨.hbm, 916, rfl⟩
abbrev main_cst_130 : Ref sig .tc := ⟨.hbm, 917, rfl⟩
abbrev main_call23_v0 : Ref sig .tc := ⟨.hbm, 918, rfl⟩
abbrev main_call23_v1 : Ref sig .tc := ⟨.hbm, 919, rfl⟩
abbrev main_v735 : Ref sig .tc := ⟨.hbm, 920, rfl⟩
abbrev main_v736 : Ref sig .tc := ⟨.hbm, 921, rfl⟩
abbrev main_cst_131 : Ref sig .tc := ⟨.hbm, 922, rfl⟩
abbrev main_v737 : Ref sig .tc := ⟨.hbm, 923, rfl⟩
abbrev main_v738 : Ref sig .tc := ⟨.hbm, 924, rfl⟩
abbrev main_v739 : Ref sig .tc := ⟨.hbm, 925, rfl⟩
abbrev main_cst_132 : Ref sig .tc := ⟨.hbm, 926, rfl⟩
abbrev main_v740 : Ref sig .tc := ⟨.hbm, 927, rfl⟩
abbrev main_v741 : Ref sig .tc := ⟨.hbm, 928, rfl⟩
abbrev main_v742 : Ref sig .tc := ⟨.hbm, 929, rfl⟩
abbrev main_cst_133 : Ref sig .tc := ⟨.hbm, 930, rfl⟩
abbrev main_v743 : Ref sig .tc := ⟨.hbm, 931, rfl⟩
abbrev main_cst_134 : Ref sig .tc := ⟨.hbm, 932, rfl⟩
abbrev main_v744 : Ref sig .tc := ⟨.hbm, 933, rfl⟩
abbrev main_v745 : Ref sig .tc := ⟨.hbm, 934, rfl⟩
abbrev main_v746 : Ref sig .tc := ⟨.hbm, 935, rfl⟩
abbrev main_v747 : Ref sig .tc := ⟨.hbm, 936, rfl⟩
abbrev main_v748 : Ref sig .tc := ⟨.hbm, 937, rfl⟩
abbrev main_v749 : Ref sig .tc := ⟨.hbm, 938, rfl⟩
abbrev main_v750 : Ref sig .tc := ⟨.hbm, 939, rfl⟩
abbrev main_v751 : Ref sig .tc := ⟨.hbm, 940, rfl⟩
abbrev main_v752 : Ref sig .tc := ⟨.hbm, 941, rfl⟩
abbrev main_v753 : Ref sig .tc := ⟨.hbm, 942, rfl⟩
abbrev main_v754 : Ref sig .tc := ⟨.hbm, 943, rfl⟩
abbrev main_v755 : Ref sig .tc := ⟨.hbm, 944, rfl⟩
abbrev main_v756 : Ref sig .tc := ⟨.hbm, 945, rfl⟩
abbrev main_v757 : Ref sig .tc := ⟨.hbm, 946, rfl⟩
abbrev main_v758 : Ref sig .tc := ⟨.hbm, 947, rfl⟩
abbrev main_v759 : Ref sig .tc := ⟨.hbm, 948, rfl⟩
abbrev main_v760 : Ref sig .tc := ⟨.hbm, 949, rfl⟩
abbrev main_v761 : Ref sig .tc := ⟨.hbm, 950, rfl⟩
abbrev main_v762 : Ref sig .tc := ⟨.hbm, 951, rfl⟩
abbrev main_v763 : Ref sig .tc := ⟨.hbm, 952, rfl⟩
abbrev main_v764 : Ref sig .tc := ⟨.hbm, 953, rfl⟩
abbrev main_v765 : Ref sig .tc := ⟨.hbm, 954, rfl⟩
abbrev main_v766 : Ref sig .tc := ⟨.hbm, 955, rfl⟩
abbrev main_v767 : Ref sig .tc := ⟨.hbm, 956, rfl⟩
abbrev main_v768 : Ref sig .tc := ⟨.hbm, 957, rfl⟩
abbrev main_v769 : Ref sig .tc := ⟨.hbm, 958, rfl⟩
abbrev main_v770 : Ref sig .tc := ⟨.hbm, 959, rfl⟩
abbrev main_v771 : Ref sig .tc := ⟨.hbm, 960, rfl⟩
abbrev main_cst_135 : Ref sig .tc := ⟨.hbm, 961, rfl⟩
abbrev main_v772 : Ref sig .tc := ⟨.hbm, 962, rfl⟩
abbrev main_v773 : Ref sig .tc := ⟨.hbm, 963, rfl⟩
abbrev main_v774 : Ref sig .tc := ⟨.hbm, 964, rfl⟩
abbrev main_v775 : Ref sig .tc := ⟨.hbm, 965, rfl⟩
abbrev main_v776 : Ref sig .tc := ⟨.hbm, 966, rfl⟩
abbrev main_v777 : Ref sig .tc := ⟨.hbm, 967, rfl⟩
abbrev main_cst_136 : Ref sig .tc := ⟨.hbm, 968, rfl⟩
abbrev main_v778 : Ref sig .tc := ⟨.hbm, 969, rfl⟩
abbrev main_v779 : Ref sig .tc := ⟨.hbm, 970, rfl⟩
abbrev main_v780 : Ref sig .tc := ⟨.hbm, 971, rfl⟩
abbrev main_v781 : Ref sig .tc := ⟨.hbm, 972, rfl⟩
abbrev main_v782 : Ref sig .tc := ⟨.hbm, 973, rfl⟩
abbrev main_cst_137 : Ref sig .tc := ⟨.hbm, 974, rfl⟩
abbrev main_v783 : Ref sig .tc := ⟨.hbm, 975, rfl⟩
abbrev main_v784 : Ref sig .tc := ⟨.hbm, 976, rfl⟩
abbrev main_cst_138 : Ref sig .tc := ⟨.hbm, 977, rfl⟩
abbrev main_call24_v0 : Ref sig .tc := ⟨.hbm, 978, rfl⟩
abbrev main_call24_v1 : Ref sig .tc := ⟨.hbm, 979, rfl⟩
abbrev main_v785 : Ref sig .tc := ⟨.hbm, 980, rfl⟩
abbrev main_v786 : Ref sig .tc := ⟨.hbm, 981, rfl⟩
abbrev main_v787 : Ref sig .tc := ⟨.hbm, 982, rfl⟩
abbrev main_v788 : Ref sig .tc := ⟨.hbm, 983, rfl⟩
abbrev main_v789 : Ref sig .tc := ⟨.hbm, 984, rfl⟩
abbrev main_cst_139 : Ref sig .tc := ⟨.hbm, 985, rfl⟩
abbrev main_v790 : Ref sig .tc := ⟨.hbm, 986, rfl⟩
abbrev main_v791 : Ref sig .tc := ⟨.hbm, 987, rfl⟩
abbrev main_v792 : Ref sig .tc := ⟨.hbm, 988, rfl⟩
abbrev main_cst_140 : Ref sig .tc := ⟨.hbm, 989, rfl⟩
abbrev main_v793 : Ref sig .tc := ⟨.hbm, 990, rfl⟩
abbrev main_v794 : Ref sig .tc := ⟨.hbm, 991, rfl⟩
abbrev main_v795 : Ref sig .tc := ⟨.hbm, 992, rfl⟩
abbrev main_cst_141 : Ref sig .tc := ⟨.hbm, 993, rfl⟩
abbrev main_call25_v0 : Ref sig .tc := ⟨.hbm, 994, rfl⟩
abbrev main_call25_v1 : Ref sig .tc := ⟨.hbm, 995, rfl⟩
abbrev main_v796 : Ref sig .tc := ⟨.hbm, 996, rfl⟩
abbrev main_v797 : Ref sig .tc := ⟨.hbm, 997, rfl⟩
abbrev main_cst_142 : Ref sig .tc := ⟨.hbm, 998, rfl⟩
abbrev main_v798 : Ref sig .tc := ⟨.hbm, 999, rfl⟩
abbrev main_v799 : Ref sig .tc := ⟨.hbm, 1000, rfl⟩
abbrev main_v800 : Ref sig .tc := ⟨.hbm, 1001, rfl⟩
abbrev main_cst_143 : Ref sig .tc := ⟨.hbm, 1002, rfl⟩
abbrev main_v801 : Ref sig .tc := ⟨.hbm, 1003, rfl⟩
abbrev main_v802 : Ref sig .tc := ⟨.hbm, 1004, rfl⟩
abbrev main_v803 : Ref sig .tc := ⟨.hbm, 1005, rfl⟩
abbrev main_cst_144 : Ref sig .tc := ⟨.hbm, 1006, rfl⟩
abbrev main_v804 : Ref sig .tc := ⟨.hbm, 1007, rfl⟩
abbrev main_cst_145 : Ref sig .tc := ⟨.hbm, 1008, rfl⟩
abbrev main_v805 : Ref sig .tc := ⟨.hbm, 1009, rfl⟩
abbrev main_v806 : Ref sig .tc := ⟨.hbm, 1010, rfl⟩
abbrev main_v807 : Ref sig .tc := ⟨.hbm, 1011, rfl⟩
abbrev main_v808 : Ref sig .tc := ⟨.hbm, 1012, rfl⟩
abbrev main_v809 : Ref sig .tc := ⟨.hbm, 1013, rfl⟩
abbrev main_v810 : Ref sig .tc := ⟨.hbm, 1014, rfl⟩
abbrev main_v811 : Ref sig .tc := ⟨.hbm, 1015, rfl⟩
abbrev main_v812 : Ref sig .tc := ⟨.hbm, 1016, rfl⟩
abbrev main_v813 : Ref sig .tc := ⟨.hbm, 1017, rfl⟩
abbrev main_v814 : Ref sig .tc := ⟨.hbm, 1018, rfl⟩
abbrev main_v815 : Ref sig .tc := ⟨.hbm, 1019, rfl⟩
abbrev main_v816 : Ref sig .tc := ⟨.hbm, 1020, rfl⟩
abbrev main_v817 : Ref sig .tc := ⟨.hbm, 1021, rfl⟩
abbrev main_v818 : Ref sig .tc := ⟨.hbm, 1022, rfl⟩
abbrev main_v819 : Ref sig .tc := ⟨.hbm, 1023, rfl⟩
abbrev main_v820 : Ref sig .tc := ⟨.hbm, 1024, rfl⟩
abbrev main_v821 : Ref sig .tc := ⟨.hbm, 1025, rfl⟩
abbrev main_v822 : Ref sig .tc := ⟨.hbm, 1026, rfl⟩
abbrev main_v823 : Ref sig .tc := ⟨.hbm, 1027, rfl⟩
abbrev main_v824 : Ref sig .tc := ⟨.hbm, 1028, rfl⟩
abbrev main_v825 : Ref sig .tc := ⟨.hbm, 1029, rfl⟩
abbrev main_v826 : Ref sig .tc := ⟨.hbm, 1030, rfl⟩
abbrev main_v827 : Ref sig .tc := ⟨.hbm, 1031, rfl⟩
abbrev main_v828 : Ref sig .tc := ⟨.hbm, 1032, rfl⟩
abbrev main_v829 : Ref sig .tc := ⟨.hbm, 1033, rfl⟩
abbrev main_v830 : Ref sig .tc := ⟨.hbm, 1034, rfl⟩
abbrev main_v831 : Ref sig .tc := ⟨.hbm, 1035, rfl⟩
abbrev main_v832 : Ref sig .tc := ⟨.hbm, 1036, rfl⟩
abbrev main_cst_146 : Ref sig .tc := ⟨.hbm, 1037, rfl⟩
abbrev main_v833 : Ref sig .tc := ⟨.hbm, 1038, rfl⟩
abbrev main_v834 : Ref sig .tc := ⟨.hbm, 1039, rfl⟩
abbrev main_v835 : Ref sig .tc := ⟨.hbm, 1040, rfl⟩
abbrev main_v836 : Ref sig .tc := ⟨.hbm, 1041, rfl⟩
abbrev main_v837 : Ref sig .tc := ⟨.hbm, 1042, rfl⟩
abbrev main_v838 : Ref sig .tc := ⟨.hbm, 1043, rfl⟩
abbrev main_cst_147 : Ref sig .tc := ⟨.hbm, 1044, rfl⟩
abbrev main_v839 : Ref sig .tc := ⟨.hbm, 1045, rfl⟩
abbrev main_v840 : Ref sig .tc := ⟨.hbm, 1046, rfl⟩
abbrev main_v841 : Ref sig .tc := ⟨.hbm, 1047, rfl⟩
abbrev main_v842 : Ref sig .tc := ⟨.hbm, 1048, rfl⟩
abbrev main_v843 : Ref sig .tc := ⟨.hbm, 1049, rfl⟩
abbrev main_cst_148 : Ref sig .tc := ⟨.hbm, 1050, rfl⟩
abbrev main_v844 : Ref sig .tc := ⟨.hbm, 1051, rfl⟩
abbrev main_v845 : Ref sig .tc := ⟨.hbm, 1052, rfl⟩
abbrev main_cst_149 : Ref sig .tc := ⟨.hbm, 1053, rfl⟩
abbrev main_call26_v0 : Ref sig .tc := ⟨.hbm, 1054, rfl⟩
abbrev main_call26_v1 : Ref sig .tc := ⟨.hbm, 1055, rfl⟩
abbrev main_v846 : Ref sig .tc := ⟨.hbm, 1056, rfl⟩
abbrev main_v847 : Ref sig .tc := ⟨.hbm, 1057, rfl⟩
abbrev main_v848 : Ref sig .tc := ⟨.hbm, 1058, rfl⟩
abbrev main_v849 : Ref sig .tc := ⟨.hbm, 1059, rfl⟩
abbrev main_v850 : Ref sig .tc := ⟨.hbm, 1060, rfl⟩
abbrev main_cst_150 : Ref sig .tc := ⟨.hbm, 1061, rfl⟩
abbrev main_v851 : Ref sig .tc := ⟨.hbm, 1062, rfl⟩
abbrev main_v852 : Ref sig .tc := ⟨.hbm, 1063, rfl⟩
abbrev main_v853 : Ref sig .tc := ⟨.hbm, 1064, rfl⟩
abbrev main_cst_151 : Ref sig .tc := ⟨.hbm, 1065, rfl⟩
abbrev main_v854 : Ref sig .tc := ⟨.hbm, 1066, rfl⟩
abbrev main_v855 : Ref sig .tc := ⟨.hbm, 1067, rfl⟩
abbrev main_v856 : Ref sig .tc := ⟨.hbm, 1068, rfl⟩
abbrev main_cst_152 : Ref sig .tc := ⟨.hbm, 1069, rfl⟩
abbrev main_call27_v0 : Ref sig .tc := ⟨.hbm, 1070, rfl⟩
abbrev main_call27_v1 : Ref sig .tc := ⟨.hbm, 1071, rfl⟩
abbrev main_v857 : Ref sig .tc := ⟨.hbm, 1072, rfl⟩
abbrev main_v858 : Ref sig .tc := ⟨.hbm, 1073, rfl⟩
abbrev main_cst_153 : Ref sig .tc := ⟨.hbm, 1074, rfl⟩
abbrev main_v859 : Ref sig .tc := ⟨.hbm, 1075, rfl⟩
abbrev main_v860 : Ref sig .tc := ⟨.hbm, 1076, rfl⟩
abbrev main_v861 : Ref sig .tc := ⟨.hbm, 1077, rfl⟩
abbrev main_cst_154 : Ref sig .tc := ⟨.hbm, 1078, rfl⟩
abbrev main_v862 : Ref sig .tc := ⟨.hbm, 1079, rfl⟩
abbrev main_v863 : Ref sig .tc := ⟨.hbm, 1080, rfl⟩
abbrev main_v864 : Ref sig .tc := ⟨.hbm, 1081, rfl⟩
abbrev main_cst_155 : Ref sig .tc := ⟨.hbm, 1082, rfl⟩
abbrev main_v865 : Ref sig .tc := ⟨.hbm, 1083, rfl⟩
abbrev main_cst_156 : Ref sig .tc := ⟨.hbm, 1084, rfl⟩
abbrev main_v866 : Ref sig .tc := ⟨.hbm, 1085, rfl⟩
abbrev main_v867 : Ref sig .tc := ⟨.hbm, 1086, rfl⟩
abbrev main_v868 : Ref sig .tc := ⟨.hbm, 1087, rfl⟩
abbrev main_v869 : Ref sig .tc := ⟨.hbm, 1088, rfl⟩
abbrev main_v870 : Ref sig .tc := ⟨.hbm, 1089, rfl⟩
abbrev main_v871 : Ref sig .tc := ⟨.hbm, 1090, rfl⟩
abbrev main_v872 : Ref sig .tc := ⟨.hbm, 1091, rfl⟩
abbrev main_v873 : Ref sig .tc := ⟨.hbm, 1092, rfl⟩
abbrev main_v874 : Ref sig .tc := ⟨.hbm, 1093, rfl⟩
abbrev main_v875 : Ref sig .tc := ⟨.hbm, 1094, rfl⟩
abbrev main_v876 : Ref sig .tc := ⟨.hbm, 1095, rfl⟩
abbrev main_v877 : Ref sig .tc := ⟨.hbm, 1096, rfl⟩
abbrev main_v878 : Ref sig .tc := ⟨.hbm, 1097, rfl⟩
abbrev main_v879 : Ref sig .tc := ⟨.hbm, 1098, rfl⟩
abbrev main_v880 : Ref sig .tc := ⟨.hbm, 1099, rfl⟩
abbrev main_v881 : Ref sig .tc := ⟨.hbm, 1100, rfl⟩
abbrev main_v882 : Ref sig .tc := ⟨.hbm, 1101, rfl⟩
abbrev main_v883 : Ref sig .tc := ⟨.hbm, 1102, rfl⟩
abbrev main_v884 : Ref sig .tc := ⟨.hbm, 1103, rfl⟩
abbrev main_v885 : Ref sig .tc := ⟨.hbm, 1104, rfl⟩
abbrev main_v886 : Ref sig .tc := ⟨.hbm, 1105, rfl⟩
abbrev main_v887 : Ref sig .tc := ⟨.hbm, 1106, rfl⟩
abbrev main_v888 : Ref sig .tc := ⟨.hbm, 1107, rfl⟩
abbrev main_v889 : Ref sig .tc := ⟨.hbm, 1108, rfl⟩
abbrev main_v890 : Ref sig .tc := ⟨.hbm, 1109, rfl⟩
abbrev main_v891 : Ref sig .tc := ⟨.hbm, 1110, rfl⟩
abbrev main_v892 : Ref sig .tc := ⟨.hbm, 1111, rfl⟩
abbrev main_v893 : Ref sig .tc := ⟨.hbm, 1112, rfl⟩
abbrev main_cst_157 : Ref sig .tc := ⟨.hbm, 1113, rfl⟩
abbrev main_v894 : Ref sig .tc := ⟨.hbm, 1114, rfl⟩
abbrev main_v895 : Ref sig .tc := ⟨.hbm, 1115, rfl⟩
abbrev main_v896 : Ref sig .tc := ⟨.hbm, 1116, rfl⟩
abbrev main_v897 : Ref sig .tc := ⟨.hbm, 1117, rfl⟩
abbrev main_v898 : Ref sig .tc := ⟨.hbm, 1118, rfl⟩
abbrev main_v899 : Ref sig .tc := ⟨.hbm, 1119, rfl⟩
abbrev main_cst_158 : Ref sig .tc := ⟨.hbm, 1120, rfl⟩
abbrev main_v900 : Ref sig .tc := ⟨.hbm, 1121, rfl⟩
abbrev main_v901 : Ref sig .tc := ⟨.hbm, 1122, rfl⟩
abbrev main_v902 : Ref sig .tc := ⟨.hbm, 1123, rfl⟩
abbrev main_v903 : Ref sig .tc := ⟨.hbm, 1124, rfl⟩
abbrev main_v904 : Ref sig .tc := ⟨.hbm, 1125, rfl⟩
abbrev main_cst_159 : Ref sig .tc := ⟨.hbm, 1126, rfl⟩
abbrev main_v905 : Ref sig .tc := ⟨.hbm, 1127, rfl⟩
abbrev main_v906 : Ref sig .tc := ⟨.hbm, 1128, rfl⟩
abbrev main_cst_160 : Ref sig .tc := ⟨.hbm, 1129, rfl⟩
abbrev main_call28_v0 : Ref sig .tc := ⟨.hbm, 1130, rfl⟩
abbrev main_call28_v1 : Ref sig .tc := ⟨.hbm, 1131, rfl⟩
abbrev main_v907 : Ref sig .tc := ⟨.hbm, 1132, rfl⟩
abbrev main_v908 : Ref sig .tc := ⟨.hbm, 1133, rfl⟩
abbrev main_v909 : Ref sig .tc := ⟨.hbm, 1134, rfl⟩
abbrev main_v910 : Ref sig .tc := ⟨.hbm, 1135, rfl⟩
abbrev main_v911 : Ref sig .tc := ⟨.hbm, 1136, rfl⟩
abbrev main_cst_161 : Ref sig .tc := ⟨.hbm, 1137, rfl⟩
abbrev main_v912 : Ref sig .tc := ⟨.hbm, 1138, rfl⟩
abbrev main_v913 : Ref sig .tc := ⟨.hbm, 1139, rfl⟩
abbrev main_v914 : Ref sig .tc := ⟨.hbm, 1140, rfl⟩
abbrev main_cst_162 : Ref sig .tc := ⟨.hbm, 1141, rfl⟩
abbrev main_v915 : Ref sig .tc := ⟨.hbm, 1142, rfl⟩
abbrev main_v916 : Ref sig .tc := ⟨.hbm, 1143, rfl⟩
abbrev main_v917 : Ref sig .tc := ⟨.hbm, 1144, rfl⟩
abbrev main_cst_163 : Ref sig .tc := ⟨.hbm, 1145, rfl⟩
abbrev main_call29_v0 : Ref sig .tc := ⟨.hbm, 1146, rfl⟩
abbrev main_call29_v1 : Ref sig .tc := ⟨.hbm, 1147, rfl⟩
abbrev main_v918 : Ref sig .tc := ⟨.hbm, 1148, rfl⟩
abbrev main_v919 : Ref sig .tc := ⟨.hbm, 1149, rfl⟩
abbrev main_cst_164 : Ref sig .tc := ⟨.hbm, 1150, rfl⟩
abbrev main_v920 : Ref sig .tc := ⟨.hbm, 1151, rfl⟩
abbrev main_v921 : Ref sig .tc := ⟨.hbm, 1152, rfl⟩
abbrev main_v922 : Ref sig .tc := ⟨.hbm, 1153, rfl⟩
abbrev main_cst_165 : Ref sig .tc := ⟨.hbm, 1154, rfl⟩
abbrev main_v923 : Ref sig .tc := ⟨.hbm, 1155, rfl⟩
abbrev main_v924 : Ref sig .tc := ⟨.hbm, 1156, rfl⟩
abbrev main_v925 : Ref sig .tc := ⟨.hbm, 1157, rfl⟩
abbrev main_cst_166 : Ref sig .tc := ⟨.hbm, 1158, rfl⟩
abbrev main_v926 : Ref sig .tc := ⟨.hbm, 1159, rfl⟩
abbrev main_cst_167 : Ref sig .tc := ⟨.hbm, 1160, rfl⟩
abbrev main_v927 : Ref sig .tc := ⟨.hbm, 1161, rfl⟩
abbrev main_v928 : Ref sig .tc := ⟨.hbm, 1162, rfl⟩
abbrev main_v929 : Ref sig .tc := ⟨.hbm, 1163, rfl⟩
abbrev main_v930 : Ref sig .tc := ⟨.hbm, 1164, rfl⟩
abbrev main_v931 : Ref sig .tc := ⟨.hbm, 1165, rfl⟩
abbrev main_v932 : Ref sig .tc := ⟨.hbm, 1166, rfl⟩
abbrev main_v933 : Ref sig .tc := ⟨.hbm, 1167, rfl⟩
abbrev main_v934 : Ref sig .tc := ⟨.hbm, 1168, rfl⟩
abbrev main_v935 : Ref sig .tc := ⟨.hbm, 1169, rfl⟩
abbrev main_v936 : Ref sig .tc := ⟨.hbm, 1170, rfl⟩
abbrev main_v937 : Ref sig .tc := ⟨.hbm, 1171, rfl⟩
abbrev main_v938 : Ref sig .tc := ⟨.hbm, 1172, rfl⟩
abbrev main_v939 : Ref sig .tc := ⟨.hbm, 1173, rfl⟩
abbrev main_v940 : Ref sig .tc := ⟨.hbm, 1174, rfl⟩
abbrev main_v941 : Ref sig .tc := ⟨.hbm, 1175, rfl⟩
abbrev main_v942 : Ref sig .tc := ⟨.hbm, 1176, rfl⟩
abbrev main_v943 : Ref sig .tc := ⟨.hbm, 1177, rfl⟩
abbrev main_v944 : Ref sig .tc := ⟨.hbm, 1178, rfl⟩
abbrev main_v945 : Ref sig .tc := ⟨.hbm, 1179, rfl⟩
abbrev main_v946 : Ref sig .tc := ⟨.hbm, 1180, rfl⟩
abbrev main_v947 : Ref sig .tc := ⟨.hbm, 1181, rfl⟩
abbrev main_v948 : Ref sig .tc := ⟨.hbm, 1182, rfl⟩
abbrev main_v949 : Ref sig .tc := ⟨.hbm, 1183, rfl⟩
abbrev main_v950 : Ref sig .tc := ⟨.hbm, 1184, rfl⟩
abbrev main_v951 : Ref sig .tc := ⟨.hbm, 1185, rfl⟩
abbrev main_v952 : Ref sig .tc := ⟨.hbm, 1186, rfl⟩
abbrev main_v953 : Ref sig .tc := ⟨.hbm, 1187, rfl⟩
abbrev main_v954 : Ref sig .tc := ⟨.hbm, 1188, rfl⟩
abbrev main_cst_168 : Ref sig .tc := ⟨.hbm, 1189, rfl⟩
abbrev main_v955 : Ref sig .tc := ⟨.hbm, 1190, rfl⟩
abbrev main_v956 : Ref sig .tc := ⟨.hbm, 1191, rfl⟩
abbrev main_v957 : Ref sig .tc := ⟨.hbm, 1192, rfl⟩
abbrev main_v958 : Ref sig .tc := ⟨.hbm, 1193, rfl⟩
abbrev main_v959 : Ref sig .tc := ⟨.hbm, 1194, rfl⟩
abbrev main_v960 : Ref sig .tc := ⟨.hbm, 1195, rfl⟩
abbrev main_cst_169 : Ref sig .tc := ⟨.hbm, 1196, rfl⟩
abbrev main_v961 : Ref sig .tc := ⟨.hbm, 1197, rfl⟩
abbrev main_v962 : Ref sig .tc := ⟨.hbm, 1198, rfl⟩
abbrev main_v963 : Ref sig .tc := ⟨.hbm, 1199, rfl⟩
abbrev main_v964 : Ref sig .tc := ⟨.hbm, 1200, rfl⟩
abbrev main_v965 : Ref sig .tc := ⟨.hbm, 1201, rfl⟩
abbrev main_cst_170 : Ref sig .tc := ⟨.hbm, 1202, rfl⟩
abbrev main_v966 : Ref sig .tc := ⟨.hbm, 1203, rfl⟩
abbrev main_v967 : Ref sig .tc := ⟨.hbm, 1204, rfl⟩
abbrev main_cst_171 : Ref sig .tc := ⟨.hbm, 1205, rfl⟩
abbrev main_call30_v0 : Ref sig .tc := ⟨.hbm, 1206, rfl⟩
abbrev main_call30_v1 : Ref sig .tc := ⟨.hbm, 1207, rfl⟩
abbrev main_v968 : Ref sig .tc := ⟨.hbm, 1208, rfl⟩
abbrev main_v969 : Ref sig .tc := ⟨.hbm, 1209, rfl⟩
abbrev main_v970 : Ref sig .tc := ⟨.hbm, 1210, rfl⟩
abbrev main_v971 : Ref sig .tc := ⟨.hbm, 1211, rfl⟩
abbrev main_v972 : Ref sig .tc := ⟨.hbm, 1212, rfl⟩
abbrev main_cst_172 : Ref sig .tc := ⟨.hbm, 1213, rfl⟩
abbrev main_v973 : Ref sig .tc := ⟨.hbm, 1214, rfl⟩
abbrev main_v974 : Ref sig .tc := ⟨.hbm, 1215, rfl⟩
abbrev main_v975 : Ref sig .tc := ⟨.hbm, 1216, rfl⟩
abbrev main_cst_173 : Ref sig .tc := ⟨.hbm, 1217, rfl⟩
abbrev main_v976 : Ref sig .tc := ⟨.hbm, 1218, rfl⟩
abbrev main_v977 : Ref sig .tc := ⟨.hbm, 1219, rfl⟩
abbrev main_v978 : Ref sig .tc := ⟨.hbm, 1220, rfl⟩
abbrev main_cst_174 : Ref sig .tc := ⟨.hbm, 1221, rfl⟩
abbrev main_call31_v0 : Ref sig .tc := ⟨.hbm, 1222, rfl⟩
abbrev main_call31_v1 : Ref sig .tc := ⟨.hbm, 1223, rfl⟩
abbrev main_v979 : Ref sig .tc := ⟨.hbm, 1224, rfl⟩
abbrev main_v980 : Ref sig .tc := ⟨.hbm, 1225, rfl⟩
abbrev main_cst_175 : Ref sig .tc := ⟨.hbm, 1226, rfl⟩
abbrev main_v981 : Ref sig .tc := ⟨.hbm, 1227, rfl⟩
abbrev main_v982 : Ref sig .tc := ⟨.hbm, 1228, rfl⟩
abbrev main_v983 : Ref sig .tc := ⟨.hbm, 1229, rfl⟩
abbrev main_cst_176 : Ref sig .tc := ⟨.hbm, 1230, rfl⟩
abbrev main_v984 : Ref sig .tc := ⟨.hbm, 1231, rfl⟩
abbrev main_v985 : Ref sig .tc := ⟨.hbm, 1232, rfl⟩
abbrev main_v986 : Ref sig .tc := ⟨.hbm, 1233, rfl⟩
abbrev main_cst_177 : Ref sig .tc := ⟨.hbm, 1234, rfl⟩
abbrev main_v987 : Ref sig .tc := ⟨.hbm, 1235, rfl⟩
abbrev main_cst_178 : Ref sig .tc := ⟨.hbm, 1236, rfl⟩
abbrev main_v988 : Ref sig .tc := ⟨.hbm, 1237, rfl⟩
abbrev main_v989 : Ref sig .tc := ⟨.hbm, 1238, rfl⟩
abbrev main_v990 : Ref sig .tc := ⟨.hbm, 1239, rfl⟩
abbrev main_v991 : Ref sig .tc := ⟨.hbm, 1240, rfl⟩
abbrev main_v992 : Ref sig .tc := ⟨.hbm, 1241, rfl⟩
abbrev main_v993 : Ref sig .tc := ⟨.hbm, 1242, rfl⟩
abbrev main_v994 : Ref sig .tc := ⟨.hbm, 1243, rfl⟩
abbrev main_v995 : Ref sig .tc := ⟨.hbm, 1244, rfl⟩
abbrev main_v996 : Ref sig .tc := ⟨.hbm, 1245, rfl⟩
abbrev main_v997 : Ref sig .tc := ⟨.hbm, 1246, rfl⟩
abbrev main_v998 : Ref sig .tc := ⟨.hbm, 1247, rfl⟩
abbrev main_v999 : Ref sig .tc := ⟨.hbm, 1248, rfl⟩
abbrev main_v1000 : Ref sig .tc := ⟨.hbm, 1249, rfl⟩
abbrev main_v1001 : Ref sig .tc := ⟨.hbm, 1250, rfl⟩
abbrev main_v1002 : Ref sig .tc := ⟨.hbm, 1251, rfl⟩
abbrev main_v1003 : Ref sig .tc := ⟨.hbm, 1252, rfl⟩
abbrev main_v1004 : Ref sig .tc := ⟨.hbm, 1253, rfl⟩
abbrev main_v1005 : Ref sig .tc := ⟨.hbm, 1254, rfl⟩
abbrev main_v1006 : Ref sig .tc := ⟨.hbm, 1255, rfl⟩
abbrev main_v1007 : Ref sig .tc := ⟨.hbm, 1256, rfl⟩
abbrev main_v1008 : Ref sig .tc := ⟨.hbm, 1257, rfl⟩
abbrev main_v1009 : Ref sig .tc := ⟨.hbm, 1258, rfl⟩
abbrev main_v1010 : Ref sig .tc := ⟨.hbm, 1259, rfl⟩
abbrev main_v1011 : Ref sig .tc := ⟨.hbm, 1260, rfl⟩
abbrev main_v1012 : Ref sig .tc := ⟨.hbm, 1261, rfl⟩
abbrev main_v1013 : Ref sig .tc := ⟨.hbm, 1262, rfl⟩
abbrev main_v1014 : Ref sig .tc := ⟨.hbm, 1263, rfl⟩
abbrev main_v1015 : Ref sig .tc := ⟨.hbm, 1264, rfl⟩
abbrev main_cst_179 : Ref sig .tc := ⟨.hbm, 1265, rfl⟩
abbrev main_v1016 : Ref sig .tc := ⟨.hbm, 1266, rfl⟩
abbrev main_v1017 : Ref sig .tc := ⟨.hbm, 1267, rfl⟩
abbrev main_v1018 : Ref sig .tc := ⟨.hbm, 1268, rfl⟩
abbrev main_v1019 : Ref sig .tc := ⟨.hbm, 1269, rfl⟩
abbrev main_v1020 : Ref sig .tc := ⟨.hbm, 1270, rfl⟩
abbrev main_v1021 : Ref sig .tc := ⟨.hbm, 1271, rfl⟩
abbrev main_cst_180 : Ref sig .tc := ⟨.hbm, 1272, rfl⟩
abbrev main_v1022 : Ref sig .tc := ⟨.hbm, 1273, rfl⟩
abbrev main_v1023 : Ref sig .tc := ⟨.hbm, 1274, rfl⟩
abbrev main_v1024 : Ref sig .tc := ⟨.hbm, 1275, rfl⟩
abbrev main_v1025 : Ref sig .tc := ⟨.hbm, 1276, rfl⟩
abbrev main_v1026 : Ref sig .tc := ⟨.hbm, 1277, rfl⟩
abbrev main_cst_181 : Ref sig .tc := ⟨.hbm, 1278, rfl⟩
abbrev main_v1027 : Ref sig .tc := ⟨.hbm, 1279, rfl⟩
abbrev main_v1028 : Ref sig .tc := ⟨.hbm, 1280, rfl⟩
abbrev main_cst_182 : Ref sig .tc := ⟨.hbm, 1281, rfl⟩
abbrev main_call32_v0 : Ref sig .tc := ⟨.hbm, 1282, rfl⟩
abbrev main_call32_v1 : Ref sig .tc := ⟨.hbm, 1283, rfl⟩
abbrev main_v1029 : Ref sig .tc := ⟨.hbm, 1284, rfl⟩
abbrev main_v1030 : Ref sig .tc := ⟨.hbm, 1285, rfl⟩
abbrev main_v1031 : Ref sig .tc := ⟨.hbm, 1286, rfl⟩
abbrev main_v1032 : Ref sig .tc := ⟨.hbm, 1287, rfl⟩
abbrev main_v1033 : Ref sig .tc := ⟨.hbm, 1288, rfl⟩
abbrev main_cst_183 : Ref sig .tc := ⟨.hbm, 1289, rfl⟩
abbrev main_v1034 : Ref sig .tc := ⟨.hbm, 1290, rfl⟩
abbrev main_v1035 : Ref sig .tc := ⟨.hbm, 1291, rfl⟩
abbrev main_v1036 : Ref sig .tc := ⟨.hbm, 1292, rfl⟩
abbrev main_cst_184 : Ref sig .tc := ⟨.hbm, 1293, rfl⟩
abbrev main_v1037 : Ref sig .tc := ⟨.hbm, 1294, rfl⟩
abbrev main_v1038 : Ref sig .tc := ⟨.hbm, 1295, rfl⟩
abbrev main_v1039 : Ref sig .tc := ⟨.hbm, 1296, rfl⟩
abbrev main_cst_185 : Ref sig .tc := ⟨.hbm, 1297, rfl⟩
abbrev main_call33_v0 : Ref sig .tc := ⟨.hbm, 1298, rfl⟩
abbrev main_call33_v1 : Ref sig .tc := ⟨.hbm, 1299, rfl⟩
abbrev main_v1040 : Ref sig .tc := ⟨.hbm, 1300, rfl⟩
abbrev main_v1041 : Ref sig .tc := ⟨.hbm, 1301, rfl⟩
abbrev main_cst_186 : Ref sig .tc := ⟨.hbm, 1302, rfl⟩
abbrev main_v1042 : Ref sig .tc := ⟨.hbm, 1303, rfl⟩
abbrev main_v1043 : Ref sig .tc := ⟨.hbm, 1304, rfl⟩
abbrev main_v1044 : Ref sig .tc := ⟨.hbm, 1305, rfl⟩
abbrev main_cst_187 : Ref sig .tc := ⟨.hbm, 1306, rfl⟩
abbrev main_v1045 : Ref sig .tc := ⟨.hbm, 1307, rfl⟩
abbrev main_v1046 : Ref sig .tc := ⟨.hbm, 1308, rfl⟩
abbrev main_v1047 : Ref sig .tc := ⟨.hbm, 1309, rfl⟩
abbrev main_cst_188 : Ref sig .tc := ⟨.hbm, 1310, rfl⟩
abbrev main_v1048 : Ref sig .tc := ⟨.hbm, 1311, rfl⟩
abbrev main_cst_189 : Ref sig .tc := ⟨.hbm, 1312, rfl⟩
abbrev main_v1049 : Ref sig .tc := ⟨.hbm, 1313, rfl⟩
abbrev main_v1050 : Ref sig .tc := ⟨.hbm, 1314, rfl⟩
abbrev main_v1051 : Ref sig .tc := ⟨.hbm, 1315, rfl⟩
abbrev main_v1052 : Ref sig .tc := ⟨.hbm, 1316, rfl⟩
abbrev main_v1053 : Ref sig .tc := ⟨.hbm, 1317, rfl⟩
abbrev main_v1054 : Ref sig .tc := ⟨.hbm, 1318, rfl⟩
abbrev main_v1055 : Ref sig .tc := ⟨.hbm, 1319, rfl⟩
abbrev main_v1056 : Ref sig .tc := ⟨.hbm, 1320, rfl⟩
abbrev main_v1057 : Ref sig .tc := ⟨.hbm, 1321, rfl⟩
abbrev main_v1058 : Ref sig .tc := ⟨.hbm, 1322, rfl⟩
abbrev main_v1059 : Ref sig .tc := ⟨.hbm, 1323, rfl⟩
abbrev main_v1060 : Ref sig .tc := ⟨.hbm, 1324, rfl⟩
abbrev main_v1061 : Ref sig .tc := ⟨.hbm, 1325, rfl⟩
abbrev main_v1062 : Ref sig .tc := ⟨.hbm, 1326, rfl⟩
abbrev main_v1063 : Ref sig .tc := ⟨.hbm, 1327, rfl⟩
abbrev main_v1064 : Ref sig .tc := ⟨.hbm, 1328, rfl⟩
abbrev main_v1065 : Ref sig .tc := ⟨.hbm, 1329, rfl⟩
abbrev main_v1066 : Ref sig .tc := ⟨.hbm, 1330, rfl⟩
abbrev main_v1067 : Ref sig .tc := ⟨.hbm, 1331, rfl⟩
abbrev main_v1068 : Ref sig .tc := ⟨.hbm, 1332, rfl⟩
abbrev main_v1069 : Ref sig .tc := ⟨.hbm, 1333, rfl⟩
abbrev main_v1070 : Ref sig .tc := ⟨.hbm, 1334, rfl⟩
abbrev main_v1071 : Ref sig .tc := ⟨.hbm, 1335, rfl⟩
abbrev main_v1072 : Ref sig .tc := ⟨.hbm, 1336, rfl⟩
abbrev main_v1073 : Ref sig .tc := ⟨.hbm, 1337, rfl⟩
abbrev main_v1074 : Ref sig .tc := ⟨.hbm, 1338, rfl⟩
abbrev main_v1075 : Ref sig .tc := ⟨.hbm, 1339, rfl⟩
abbrev main_v1076 : Ref sig .tc := ⟨.hbm, 1340, rfl⟩
abbrev main_cst_190 : Ref sig .tc := ⟨.hbm, 1341, rfl⟩
abbrev main_v1077 : Ref sig .tc := ⟨.hbm, 1342, rfl⟩
abbrev main_v1078 : Ref sig .tc := ⟨.hbm, 1343, rfl⟩
abbrev main_v1079 : Ref sig .tc := ⟨.hbm, 1344, rfl⟩
abbrev main_v1080 : Ref sig .tc := ⟨.hbm, 1345, rfl⟩
abbrev main_v1081 : Ref sig .tc := ⟨.hbm, 1346, rfl⟩
abbrev main_v1082 : Ref sig .tc := ⟨.hbm, 1347, rfl⟩
abbrev main_cst_191 : Ref sig .tc := ⟨.hbm, 1348, rfl⟩
abbrev main_v1083 : Ref sig .tc := ⟨.hbm, 1349, rfl⟩
abbrev main_v1084 : Ref sig .tc := ⟨.hbm, 1350, rfl⟩
abbrev main_v1085 : Ref sig .tc := ⟨.hbm, 1351, rfl⟩
abbrev main_v1086 : Ref sig .tc := ⟨.hbm, 1352, rfl⟩
abbrev main_v1087 : Ref sig .tc := ⟨.hbm, 1353, rfl⟩
abbrev main_cst_192 : Ref sig .tc := ⟨.hbm, 1354, rfl⟩
abbrev main_v1088 : Ref sig .tc := ⟨.hbm, 1355, rfl⟩
abbrev main_v1089 : Ref sig .tc := ⟨.hbm, 1356, rfl⟩
abbrev main_cst_193 : Ref sig .tc := ⟨.hbm, 1357, rfl⟩
abbrev main_call34_v0 : Ref sig .tc := ⟨.hbm, 1358, rfl⟩
abbrev main_call34_v1 : Ref sig .tc := ⟨.hbm, 1359, rfl⟩
abbrev main_v1090 : Ref sig .tc := ⟨.hbm, 1360, rfl⟩
abbrev main_v1091 : Ref sig .tc := ⟨.hbm, 1361, rfl⟩
abbrev main_v1092 : Ref sig .tc := ⟨.hbm, 1362, rfl⟩
abbrev main_v1093 : Ref sig .tc := ⟨.hbm, 1363, rfl⟩
abbrev main_v1094 : Ref sig .tc := ⟨.hbm, 1364, rfl⟩
abbrev main_cst_194 : Ref sig .tc := ⟨.hbm, 1365, rfl⟩
abbrev main_v1095 : Ref sig .tc := ⟨.hbm, 1366, rfl⟩
abbrev main_v1096 : Ref sig .tc := ⟨.hbm, 1367, rfl⟩
abbrev main_v1097 : Ref sig .tc := ⟨.hbm, 1368, rfl⟩
abbrev main_cst_195 : Ref sig .tc := ⟨.hbm, 1369, rfl⟩
abbrev main_v1098 : Ref sig .tc := ⟨.hbm, 1370, rfl⟩
abbrev main_v1099 : Ref sig .tc := ⟨.hbm, 1371, rfl⟩
abbrev main_v1100 : Ref sig .tc := ⟨.hbm, 1372, rfl⟩
abbrev main_cst_196 : Ref sig .tc := ⟨.hbm, 1373, rfl⟩
abbrev main_call35_v0 : Ref sig .tc := ⟨.hbm, 1374, rfl⟩
abbrev main_call35_v1 : Ref sig .tc := ⟨.hbm, 1375, rfl⟩
abbrev main_v1101 : Ref sig .tc := ⟨.hbm, 1376, rfl⟩
abbrev main_v1102 : Ref sig .tc := ⟨.hbm, 1377, rfl⟩
abbrev main_cst_197 : Ref sig .tc := ⟨.hbm, 1378, rfl⟩
abbrev main_v1103 : Ref sig .tc := ⟨.hbm, 1379, rfl⟩
abbrev main_v1104 : Ref sig .tc := ⟨.hbm, 1380, rfl⟩
abbrev main_v1105 : Ref sig .tc := ⟨.hbm, 1381, rfl⟩
abbrev main_cst_198 : Ref sig .tc := ⟨.hbm, 1382, rfl⟩
abbrev main_v1106 : Ref sig .tc := ⟨.hbm, 1383, rfl⟩
abbrev main_v1107 : Ref sig .tc := ⟨.hbm, 1384, rfl⟩
abbrev main_v1108 : Ref sig .tc := ⟨.hbm, 1385, rfl⟩
abbrev main_cst_199 : Ref sig .tc := ⟨.hbm, 1386, rfl⟩
abbrev main_v1109 : Ref sig .tc := ⟨.hbm, 1387, rfl⟩
abbrev main_cst_200 : Ref sig .tc := ⟨.hbm, 1388, rfl⟩
abbrev main_v1110 : Ref sig .tc := ⟨.hbm, 1389, rfl⟩
abbrev main_v1111 : Ref sig .tc := ⟨.hbm, 1390, rfl⟩
abbrev main_v1112 : Ref sig .tc := ⟨.hbm, 1391, rfl⟩
abbrev main_v1113 : Ref sig .tc := ⟨.hbm, 1392, rfl⟩
abbrev main_v1114 : Ref sig .tc := ⟨.hbm, 1393, rfl⟩
abbrev main_v1115 : Ref sig .tc := ⟨.hbm, 1394, rfl⟩
abbrev main_v1116 : Ref sig .tc := ⟨.hbm, 1395, rfl⟩
abbrev main_v1117 : Ref sig .tc := ⟨.hbm, 1396, rfl⟩
abbrev main_v1118 : Ref sig .tc := ⟨.hbm, 1397, rfl⟩
abbrev main_v1119 : Ref sig .tc := ⟨.hbm, 1398, rfl⟩
abbrev main_v1120 : Ref sig .tc := ⟨.hbm, 1399, rfl⟩
abbrev main_v1121 : Ref sig .tc := ⟨.hbm, 1400, rfl⟩
abbrev main_v1122 : Ref sig .tc := ⟨.hbm, 1401, rfl⟩
abbrev main_v1123 : Ref sig .tc := ⟨.hbm, 1402, rfl⟩
abbrev main_v1124 : Ref sig .tc := ⟨.hbm, 1403, rfl⟩
abbrev main_v1125 : Ref sig .tc := ⟨.hbm, 1404, rfl⟩
abbrev main_v1126 : Ref sig .tc := ⟨.hbm, 1405, rfl⟩
abbrev main_v1127 : Ref sig .tc := ⟨.hbm, 1406, rfl⟩
abbrev main_v1128 : Ref sig .tc := ⟨.hbm, 1407, rfl⟩
abbrev main_v1129 : Ref sig .tc := ⟨.hbm, 1408, rfl⟩
abbrev main_v1130 : Ref sig .tc := ⟨.hbm, 1409, rfl⟩
abbrev main_v1131 : Ref sig .tc := ⟨.hbm, 1410, rfl⟩
abbrev main_v1132 : Ref sig .tc := ⟨.hbm, 1411, rfl⟩
abbrev main_v1133 : Ref sig .tc := ⟨.hbm, 1412, rfl⟩
abbrev main_v1134 : Ref sig .tc := ⟨.hbm, 1413, rfl⟩
abbrev main_v1135 : Ref sig .tc := ⟨.hbm, 1414, rfl⟩
abbrev main_v1136 : Ref sig .tc := ⟨.hbm, 1415, rfl⟩
abbrev main_v1137 : Ref sig .tc := ⟨.hbm, 1416, rfl⟩
abbrev main_cst_201 : Ref sig .tc := ⟨.hbm, 1417, rfl⟩
abbrev main_v1138 : Ref sig .tc := ⟨.hbm, 1418, rfl⟩
abbrev main_v1139 : Ref sig .tc := ⟨.hbm, 1419, rfl⟩
abbrev main_v1140 : Ref sig .tc := ⟨.hbm, 1420, rfl⟩
abbrev main_v1141 : Ref sig .tc := ⟨.hbm, 1421, rfl⟩
abbrev main_v1142 : Ref sig .tc := ⟨.hbm, 1422, rfl⟩
abbrev main_v1143 : Ref sig .tc := ⟨.hbm, 1423, rfl⟩
abbrev main_cst_202 : Ref sig .tc := ⟨.hbm, 1424, rfl⟩
abbrev main_v1144 : Ref sig .tc := ⟨.hbm, 1425, rfl⟩
abbrev main_v1145 : Ref sig .tc := ⟨.hbm, 1426, rfl⟩
abbrev main_v1146 : Ref sig .tc := ⟨.hbm, 1427, rfl⟩
abbrev main_v1147 : Ref sig .tc := ⟨.hbm, 1428, rfl⟩
abbrev main_v1148 : Ref sig .tc := ⟨.hbm, 1429, rfl⟩
abbrev main_cst_203 : Ref sig .tc := ⟨.hbm, 1430, rfl⟩
abbrev main_v1149 : Ref sig .tc := ⟨.hbm, 1431, rfl⟩
abbrev main_v1150 : Ref sig .tc := ⟨.hbm, 1432, rfl⟩
abbrev main_cst_204 : Ref sig .tc := ⟨.hbm, 1433, rfl⟩
abbrev main_call36_v0 : Ref sig .tc := ⟨.hbm, 1434, rfl⟩
abbrev main_call36_v1 : Ref sig .tc := ⟨.hbm, 1435, rfl⟩
abbrev main_v1151 : Ref sig .tc := ⟨.hbm, 1436, rfl⟩
abbrev main_v1152 : Ref sig .tc := ⟨.hbm, 1437, rfl⟩
abbrev main_v1153 : Ref sig .tc := ⟨.hbm, 1438, rfl⟩
abbrev main_v1154 : Ref sig .tc := ⟨.hbm, 1439, rfl⟩
abbrev main_v1155 : Ref sig .tc := ⟨.hbm, 1440, rfl⟩
abbrev main_cst_205 : Ref sig .tc := ⟨.hbm, 1441, rfl⟩
abbrev main_v1156 : Ref sig .tc := ⟨.hbm, 1442, rfl⟩
abbrev main_v1157 : Ref sig .tc := ⟨.hbm, 1443, rfl⟩
abbrev main_v1158 : Ref sig .tc := ⟨.hbm, 1444, rfl⟩
abbrev main_cst_206 : Ref sig .tc := ⟨.hbm, 1445, rfl⟩
abbrev main_v1159 : Ref sig .tc := ⟨.hbm, 1446, rfl⟩
abbrev main_v1160 : Ref sig .tc := ⟨.hbm, 1447, rfl⟩
abbrev main_v1161 : Ref sig .tc := ⟨.hbm, 1448, rfl⟩
abbrev main_cst_207 : Ref sig .tc := ⟨.hbm, 1449, rfl⟩
abbrev main_call37_v0 : Ref sig .tc := ⟨.hbm, 1450, rfl⟩
abbrev main_call37_v1 : Ref sig .tc := ⟨.hbm, 1451, rfl⟩
abbrev main_v1162 : Ref sig .tc := ⟨.hbm, 1452, rfl⟩
abbrev main_v1163 : Ref sig .tc := ⟨.hbm, 1453, rfl⟩
abbrev main_cst_208 : Ref sig .tc := ⟨.hbm, 1454, rfl⟩
abbrev main_v1164 : Ref sig .tc := ⟨.hbm, 1455, rfl⟩
abbrev main_v1165 : Ref sig .tc := ⟨.hbm, 1456, rfl⟩
abbrev main_v1166 : Ref sig .tc := ⟨.hbm, 1457, rfl⟩
abbrev main_cst_209 : Ref sig .tc := ⟨.hbm, 1458, rfl⟩
abbrev main_v1167 : Ref sig .tc := ⟨.hbm, 1459, rfl⟩
abbrev main_v1168 : Ref sig .tc := ⟨.hbm, 1460, rfl⟩
abbrev main_v1169 : Ref sig .tc := ⟨.hbm, 1461, rfl⟩
abbrev main_cst_210 : Ref sig .tc := ⟨.hbm, 1462, rfl⟩
abbrev main_v1170 : Ref sig .tc := ⟨.hbm, 1463, rfl⟩
abbrev main_cst_211 : Ref sig .tc := ⟨.hbm, 1464, rfl⟩
abbrev main_v1171 : Ref sig .tc := ⟨.hbm, 1465, rfl⟩
abbrev main_v1172 : Ref sig .tc := ⟨.hbm, 1466, rfl⟩
abbrev main_v1173 : Ref sig .tc := ⟨.hbm, 1467, rfl⟩
abbrev main_v1174 : Ref sig .tc := ⟨.hbm, 1468, rfl⟩
abbrev main_v1175 : Ref sig .tc := ⟨.hbm, 1469, rfl⟩
abbrev main_v1176 : Ref sig .tc := ⟨.hbm, 1470, rfl⟩
abbrev main_v1177 : Ref sig .tc := ⟨.hbm, 1471, rfl⟩
abbrev main_v1178 : Ref sig .tc := ⟨.hbm, 1472, rfl⟩
abbrev main_v1179 : Ref sig .tc := ⟨.hbm, 1473, rfl⟩
abbrev main_v1180 : Ref sig .tc := ⟨.hbm, 1474, rfl⟩
abbrev main_v1181 : Ref sig .tc := ⟨.hbm, 1475, rfl⟩
abbrev main_v1182 : Ref sig .tc := ⟨.hbm, 1476, rfl⟩
abbrev main_v1183 : Ref sig .tc := ⟨.hbm, 1477, rfl⟩
abbrev main_v1184 : Ref sig .tc := ⟨.hbm, 1478, rfl⟩
abbrev main_v1185 : Ref sig .tc := ⟨.hbm, 1479, rfl⟩
abbrev main_v1186 : Ref sig .tc := ⟨.hbm, 1480, rfl⟩
abbrev main_v1187 : Ref sig .tc := ⟨.hbm, 1481, rfl⟩
abbrev main_v1188 : Ref sig .tc := ⟨.hbm, 1482, rfl⟩
abbrev main_v1189 : Ref sig .tc := ⟨.hbm, 1483, rfl⟩
abbrev main_v1190 : Ref sig .tc := ⟨.hbm, 1484, rfl⟩
abbrev main_v1191 : Ref sig .tc := ⟨.hbm, 1485, rfl⟩
abbrev main_v1192 : Ref sig .tc := ⟨.hbm, 1486, rfl⟩
abbrev main_v1193 : Ref sig .tc := ⟨.hbm, 1487, rfl⟩
abbrev main_v1194 : Ref sig .tc := ⟨.hbm, 1488, rfl⟩
abbrev main_v1195 : Ref sig .tc := ⟨.hbm, 1489, rfl⟩
abbrev main_v1196 : Ref sig .tc := ⟨.hbm, 1490, rfl⟩
abbrev main_v1197 : Ref sig .tc := ⟨.hbm, 1491, rfl⟩
abbrev main_v1198 : Ref sig .tc := ⟨.hbm, 1492, rfl⟩
abbrev main_cst_212 : Ref sig .tc := ⟨.hbm, 1493, rfl⟩
abbrev main_v1199 : Ref sig .tc := ⟨.hbm, 1494, rfl⟩
abbrev main_v1200 : Ref sig .tc := ⟨.hbm, 1495, rfl⟩
abbrev main_v1201 : Ref sig .tc := ⟨.hbm, 1496, rfl⟩
abbrev main_v1202 : Ref sig .tc := ⟨.hbm, 1497, rfl⟩
abbrev main_v1203 : Ref sig .tc := ⟨.hbm, 1498, rfl⟩
abbrev main_v1204 : Ref sig .tc := ⟨.hbm, 1499, rfl⟩
abbrev main_cst_213 : Ref sig .tc := ⟨.hbm, 1500, rfl⟩
abbrev main_v1205 : Ref sig .tc := ⟨.hbm, 1501, rfl⟩
abbrev main_v1206 : Ref sig .tc := ⟨.hbm, 1502, rfl⟩
abbrev main_v1207 : Ref sig .tc := ⟨.hbm, 1503, rfl⟩
abbrev main_v1208 : Ref sig .tc := ⟨.hbm, 1504, rfl⟩
abbrev main_v1209 : Ref sig .tc := ⟨.hbm, 1505, rfl⟩
abbrev main_cst_214 : Ref sig .tc := ⟨.hbm, 1506, rfl⟩
abbrev main_v1210 : Ref sig .tc := ⟨.hbm, 1507, rfl⟩
abbrev main_v1211 : Ref sig .tc := ⟨.hbm, 1508, rfl⟩
abbrev main_cst_215 : Ref sig .tc := ⟨.hbm, 1509, rfl⟩
abbrev main_call38_v0 : Ref sig .tc := ⟨.hbm, 1510, rfl⟩
abbrev main_call38_v1 : Ref sig .tc := ⟨.hbm, 1511, rfl⟩
abbrev main_v1212 : Ref sig .tc := ⟨.hbm, 1512, rfl⟩
abbrev main_v1213 : Ref sig .tc := ⟨.hbm, 1513, rfl⟩
abbrev main_v1214 : Ref sig .tc := ⟨.hbm, 1514, rfl⟩
abbrev main_v1215 : Ref sig .tc := ⟨.hbm, 1515, rfl⟩
abbrev main_v1216 : Ref sig .tc := ⟨.hbm, 1516, rfl⟩
abbrev main_cst_216 : Ref sig .tc := ⟨.hbm, 1517, rfl⟩
abbrev main_v1217 : Ref sig .tc := ⟨.hbm, 1518, rfl⟩
abbrev main_v1218 : Ref sig .tc := ⟨.hbm, 1519, rfl⟩
abbrev main_v1219 : Ref sig .tc := ⟨.hbm, 1520, rfl⟩
abbrev main_cst_217 : Ref sig .tc := ⟨.hbm, 1521, rfl⟩
abbrev main_v1220 : Ref sig .tc := ⟨.hbm, 1522, rfl⟩
abbrev main_v1221 : Ref sig .tc := ⟨.hbm, 1523, rfl⟩
abbrev main_v1222 : Ref sig .tc := ⟨.hbm, 1524, rfl⟩
abbrev main_cst_218 : Ref sig .tc := ⟨.hbm, 1525, rfl⟩
abbrev main_call39_v0 : Ref sig .tc := ⟨.hbm, 1526, rfl⟩
abbrev main_call39_v1 : Ref sig .tc := ⟨.hbm, 1527, rfl⟩
abbrev main_v1223 : Ref sig .tc := ⟨.hbm, 1528, rfl⟩
abbrev main_v1224 : Ref sig .tc := ⟨.hbm, 1529, rfl⟩
abbrev main_cst_219 : Ref sig .tc := ⟨.hbm, 1530, rfl⟩
abbrev main_v1225 : Ref sig .tc := ⟨.hbm, 1531, rfl⟩
abbrev main_v1226 : Ref sig .tc := ⟨.hbm, 1532, rfl⟩
abbrev main_v1227 : Ref sig .tc := ⟨.hbm, 1533, rfl⟩
abbrev main_cst_220 : Ref sig .tc := ⟨.hbm, 1534, rfl⟩
abbrev main_v1228 : Ref sig .tc := ⟨.hbm, 1535, rfl⟩
abbrev main_v1229 : Ref sig .tc := ⟨.hbm, 1536, rfl⟩
abbrev main_v1230 : Ref sig .tc := ⟨.hbm, 1537, rfl⟩
abbrev main_cst_221 : Ref sig .tc := ⟨.hbm, 1538, rfl⟩
abbrev main_v1231 : Ref sig .tc := ⟨.hbm, 1539, rfl⟩
abbrev main_cst_222 : Ref sig .tc := ⟨.hbm, 1540, rfl⟩
abbrev main_v1232 : Ref sig .tc := ⟨.hbm, 1541, rfl⟩
abbrev main_v1233 : Ref sig .tc := ⟨.hbm, 1542, rfl⟩
abbrev main_v1234 : Ref sig .tc := ⟨.hbm, 1543, rfl⟩
abbrev main_v1235 : Ref sig .tc := ⟨.hbm, 1544, rfl⟩
abbrev main_v1236 : Ref sig .tc := ⟨.hbm, 1545, rfl⟩
abbrev main_v1237 : Ref sig .tc := ⟨.hbm, 1546, rfl⟩
abbrev main_v1238 : Ref sig .tc := ⟨.hbm, 1547, rfl⟩
abbrev main_v1239 : Ref sig .tc := ⟨.hbm, 1548, rfl⟩
abbrev main_v1240 : Ref sig .tc := ⟨.hbm, 1549, rfl⟩
abbrev main_v1241 : Ref sig .tc := ⟨.hbm, 1550, rfl⟩
abbrev main_v1242 : Ref sig .tc := ⟨.hbm, 1551, rfl⟩
abbrev main_v1243 : Ref sig .tc := ⟨.hbm, 1552, rfl⟩
abbrev main_v1244 : Ref sig .tc := ⟨.hbm, 1553, rfl⟩
abbrev main_v1245 : Ref sig .tc := ⟨.hbm, 1554, rfl⟩
abbrev main_v1246 : Ref sig .tc := ⟨.hbm, 1555, rfl⟩
abbrev main_v1247 : Ref sig .tc := ⟨.hbm, 1556, rfl⟩
abbrev main_v1248 : Ref sig .tc := ⟨.hbm, 1557, rfl⟩
abbrev main_v1249 : Ref sig .tc := ⟨.hbm, 1558, rfl⟩
abbrev main_v1250 : Ref sig .tc := ⟨.hbm, 1559, rfl⟩
abbrev main_v1251 : Ref sig .tc := ⟨.hbm, 1560, rfl⟩
abbrev main_v1252 : Ref sig .tc := ⟨.hbm, 1561, rfl⟩
abbrev main_v1253 : Ref sig .tc := ⟨.hbm, 1562, rfl⟩
abbrev main_v1254 : Ref sig .tc := ⟨.hbm, 1563, rfl⟩
abbrev main_v1255 : Ref sig .tc := ⟨.hbm, 1564, rfl⟩
abbrev main_v1256 : Ref sig .tc := ⟨.hbm, 1565, rfl⟩
abbrev main_v1257 : Ref sig .tc := ⟨.hbm, 1566, rfl⟩
abbrev main_v1258 : Ref sig .tc := ⟨.hbm, 1567, rfl⟩
abbrev main_v1259 : Ref sig .tc := ⟨.hbm, 1568, rfl⟩
abbrev main_cst_223 : Ref sig .tc := ⟨.hbm, 1569, rfl⟩
abbrev main_v1260 : Ref sig .tc := ⟨.hbm, 1570, rfl⟩
abbrev main_v1261 : Ref sig .tc := ⟨.hbm, 1571, rfl⟩
abbrev main_v1262 : Ref sig .tc := ⟨.hbm, 1572, rfl⟩
abbrev main_v1263 : Ref sig .tc := ⟨.hbm, 1573, rfl⟩
abbrev main_v1264 : Ref sig .tc := ⟨.hbm, 1574, rfl⟩
abbrev main_v1265 : Ref sig .tc := ⟨.hbm, 1575, rfl⟩
abbrev main_cst_224 : Ref sig .tc := ⟨.hbm, 1576, rfl⟩
abbrev main_v1266 : Ref sig .tc := ⟨.hbm, 1577, rfl⟩
abbrev main_v1267 : Ref sig .tc := ⟨.hbm, 1578, rfl⟩
abbrev main_v1268 : Ref sig .tc := ⟨.hbm, 1579, rfl⟩
abbrev main_v1269 : Ref sig .tc := ⟨.hbm, 1580, rfl⟩
abbrev main_v1270 : Ref sig .tc := ⟨.hbm, 1581, rfl⟩
abbrev main_cst_225 : Ref sig .tc := ⟨.hbm, 1582, rfl⟩
abbrev main_v1271 : Ref sig .tc := ⟨.hbm, 1583, rfl⟩
abbrev main_v1272 : Ref sig .tc := ⟨.hbm, 1584, rfl⟩
abbrev main_cst_226 : Ref sig .tc := ⟨.hbm, 1585, rfl⟩
abbrev main_call40_v0 : Ref sig .tc := ⟨.hbm, 1586, rfl⟩
abbrev main_call40_v1 : Ref sig .tc := ⟨.hbm, 1587, rfl⟩
abbrev main_v1273 : Ref sig .tc := ⟨.hbm, 1588, rfl⟩
abbrev main_v1274 : Ref sig .tc := ⟨.hbm, 1589, rfl⟩
abbrev main_v1275 : Ref sig .tc := ⟨.hbm, 1590, rfl⟩
abbrev main_v1276 : Ref sig .tc := ⟨.hbm, 1591, rfl⟩
abbrev main_v1277 : Ref sig .tc := ⟨.hbm, 1592, rfl⟩
abbrev main_cst_227 : Ref sig .tc := ⟨.hbm, 1593, rfl⟩
abbrev main_v1278 : Ref sig .tc := ⟨.hbm, 1594, rfl⟩
abbrev main_v1279 : Ref sig .tc := ⟨.hbm, 1595, rfl⟩
abbrev main_v1280 : Ref sig .tc := ⟨.hbm, 1596, rfl⟩
abbrev main_cst_228 : Ref sig .tc := ⟨.hbm, 1597, rfl⟩
abbrev main_v1281 : Ref sig .tc := ⟨.hbm, 1598, rfl⟩
abbrev main_v1282 : Ref sig .tc := ⟨.hbm, 1599, rfl⟩
abbrev main_v1283 : Ref sig .tc := ⟨.hbm, 1600, rfl⟩
abbrev main_cst_229 : Ref sig .tc := ⟨.hbm, 1601, rfl⟩
abbrev main_call41_v0 : Ref sig .tc := ⟨.hbm, 1602, rfl⟩
abbrev main_call41_v1 : Ref sig .tc := ⟨.hbm, 1603, rfl⟩
abbrev main_v1284 : Ref sig .tc := ⟨.hbm, 1604, rfl⟩
abbrev main_v1285 : Ref sig .tc := ⟨.hbm, 1605, rfl⟩
abbrev main_cst_230 : Ref sig .tc := ⟨.hbm, 1606, rfl⟩
abbrev main_v1286 : Ref sig .tc := ⟨.hbm, 1607, rfl⟩
abbrev main_v1287 : Ref sig .tc := ⟨.hbm, 1608, rfl⟩
abbrev main_v1288 : Ref sig .tc := ⟨.hbm, 1609, rfl⟩
abbrev main_cst_231 : Ref sig .tc := ⟨.hbm, 1610, rfl⟩
abbrev main_v1289 : Ref sig .tc := ⟨.hbm, 1611, rfl⟩
abbrev main_v1290 : Ref sig .tc := ⟨.hbm, 1612, rfl⟩
abbrev main_v1291 : Ref sig .tc := ⟨.hbm, 1613, rfl⟩
abbrev main_cst_232 : Ref sig .tc := ⟨.hbm, 1614, rfl⟩
abbrev main_v1292 : Ref sig .tc := ⟨.hbm, 1615, rfl⟩
abbrev main_cst_233 : Ref sig .tc := ⟨.hbm, 1616, rfl⟩
abbrev main_v1293 : Ref sig .tc := ⟨.hbm, 1617, rfl⟩
abbrev main_v1294 : Ref sig .tc := ⟨.hbm, 1618, rfl⟩
abbrev main_v1295 : Ref sig .tc := ⟨.hbm, 1619, rfl⟩
abbrev main_v1296 : Ref sig .tc := ⟨.hbm, 1620, rfl⟩
abbrev main_v1297 : Ref sig .tc := ⟨.hbm, 1621, rfl⟩
abbrev main_v1298 : Ref sig .tc := ⟨.hbm, 1622, rfl⟩
abbrev main_v1299 : Ref sig .tc := ⟨.hbm, 1623, rfl⟩
abbrev main_v1300 : Ref sig .tc := ⟨.hbm, 1624, rfl⟩
abbrev main_v1301 : Ref sig .tc := ⟨.hbm, 1625, rfl⟩
abbrev main_v1302 : Ref sig .tc := ⟨.hbm, 1626, rfl⟩
abbrev main_v1303 : Ref sig .tc := ⟨.hbm, 1627, rfl⟩
abbrev main_v1304 : Ref sig .tc := ⟨.hbm, 1628, rfl⟩
abbrev main_v1305 : Ref sig .tc := ⟨.hbm, 1629, rfl⟩
abbrev main_v1306 : Ref sig .tc := ⟨.hbm, 1630, rfl⟩
abbrev main_v1307 : Ref sig .tc := ⟨.hbm, 1631, rfl⟩
abbrev main_v1308 : Ref sig .tc := ⟨.hbm, 1632, rfl⟩
abbrev main_v1309 : Ref sig .tc := ⟨.hbm, 1633, rfl⟩
abbrev main_v1310 : Ref sig .tc := ⟨.hbm, 1634, rfl⟩
abbrev main_v1311 : Ref sig .tc := ⟨.hbm, 1635, rfl⟩
abbrev main_v1312 : Ref sig .tc := ⟨.hbm, 1636, rfl⟩
abbrev main_v1313 : Ref sig .tc := ⟨.hbm, 1637, rfl⟩
abbrev main_v1314 : Ref sig .tc := ⟨.hbm, 1638, rfl⟩
abbrev main_v1315 : Ref sig .tc := ⟨.hbm, 1639, rfl⟩
abbrev main_v1316 : Ref sig .tc := ⟨.hbm, 1640, rfl⟩
abbrev main_v1317 : Ref sig .tc := ⟨.hbm, 1641, rfl⟩
abbrev main_v1318 : Ref sig .tc := ⟨.hbm, 1642, rfl⟩
abbrev main_v1319 : Ref sig .tc := ⟨.hbm, 1643, rfl⟩
abbrev main_v1320 : Ref sig .tc := ⟨.hbm, 1644, rfl⟩
abbrev main_cst_234 : Ref sig .tc := ⟨.hbm, 1645, rfl⟩
abbrev main_v1321 : Ref sig .tc := ⟨.hbm, 1646, rfl⟩
abbrev main_v1322 : Ref sig .tc := ⟨.hbm, 1647, rfl⟩
abbrev main_v1323 : Ref sig .tc := ⟨.hbm, 1648, rfl⟩
abbrev main_v1324 : Ref sig .tc := ⟨.hbm, 1649, rfl⟩
abbrev main_v1325 : Ref sig .tc := ⟨.hbm, 1650, rfl⟩
abbrev main_v1326 : Ref sig .tc := ⟨.hbm, 1651, rfl⟩
abbrev main_cst_235 : Ref sig .tc := ⟨.hbm, 1652, rfl⟩
abbrev main_v1327 : Ref sig .tc := ⟨.hbm, 1653, rfl⟩
abbrev main_v1328 : Ref sig .tc := ⟨.hbm, 1654, rfl⟩
abbrev main_v1329 : Ref sig .tc := ⟨.hbm, 1655, rfl⟩
abbrev main_v1330 : Ref sig .tc := ⟨.hbm, 1656, rfl⟩
abbrev main_v1331 : Ref sig .tc := ⟨.hbm, 1657, rfl⟩
abbrev main_cst_236 : Ref sig .tc := ⟨.hbm, 1658, rfl⟩
abbrev main_v1332 : Ref sig .tc := ⟨.hbm, 1659, rfl⟩
abbrev main_v1333 : Ref sig .tc := ⟨.hbm, 1660, rfl⟩
abbrev main_cst_237 : Ref sig .tc := ⟨.hbm, 1661, rfl⟩
abbrev main_call42_v0 : Ref sig .tc := ⟨.hbm, 1662, rfl⟩
abbrev main_call42_v1 : Ref sig .tc := ⟨.hbm, 1663, rfl⟩
abbrev main_v1334 : Ref sig .tc := ⟨.hbm, 1664, rfl⟩
abbrev main_v1335 : Ref sig .tc := ⟨.hbm, 1665, rfl⟩
abbrev main_v1336 : Ref sig .tc := ⟨.hbm, 1666, rfl⟩
abbrev main_v1337 : Ref sig .tc := ⟨.hbm, 1667, rfl⟩
abbrev main_v1338 : Ref sig .tc := ⟨.hbm, 1668, rfl⟩
abbrev main_cst_238 : Ref sig .tc := ⟨.hbm, 1669, rfl⟩
abbrev main_v1339 : Ref sig .tc := ⟨.hbm, 1670, rfl⟩
abbrev main_v1340 : Ref sig .tc := ⟨.hbm, 1671, rfl⟩
abbrev main_v1341 : Ref sig .tc := ⟨.hbm, 1672, rfl⟩
abbrev main_cst_239 : Ref sig .tc := ⟨.hbm, 1673, rfl⟩
abbrev main_v1342 : Ref sig .tc := ⟨.hbm, 1674, rfl⟩
abbrev main_v1343 : Ref sig .tc := ⟨.hbm, 1675, rfl⟩
abbrev main_v1344 : Ref sig .tc := ⟨.hbm, 1676, rfl⟩
abbrev main_cst_240 : Ref sig .tc := ⟨.hbm, 1677, rfl⟩
abbrev main_call43_v0 : Ref sig .tc := ⟨.hbm, 1678, rfl⟩
abbrev main_call43_v1 : Ref sig .tc := ⟨.hbm, 1679, rfl⟩
abbrev main_v1345 : Ref sig .tc := ⟨.hbm, 1680, rfl⟩
abbrev main_v1346 : Ref sig .tc := ⟨.hbm, 1681, rfl⟩
abbrev main_cst_241 : Ref sig .tc := ⟨.hbm, 1682, rfl⟩
abbrev main_v1347 : Ref sig .tc := ⟨.hbm, 1683, rfl⟩
abbrev main_v1348 : Ref sig .tc := ⟨.hbm, 1684, rfl⟩
abbrev main_v1349 : Ref sig .tc := ⟨.hbm, 1685, rfl⟩
abbrev main_cst_242 : Ref sig .tc := ⟨.hbm, 1686, rfl⟩
abbrev main_v1350 : Ref sig .tc := ⟨.hbm, 1687, rfl⟩
abbrev main_v1351 : Ref sig .tc := ⟨.hbm, 1688, rfl⟩
abbrev main_v1352 : Ref sig .tc := ⟨.hbm, 1689, rfl⟩
abbrev main_cst_243 : Ref sig .tc := ⟨.hbm, 1690, rfl⟩
abbrev main_v1353 : Ref sig .tc := ⟨.hbm, 1691, rfl⟩
abbrev main_cst_244 : Ref sig .tc := ⟨.hbm, 1692, rfl⟩
abbrev main_v1354 : Ref sig .tc := ⟨.hbm, 1693, rfl⟩
abbrev main_v1355 : Ref sig .tc := ⟨.hbm, 1694, rfl⟩
abbrev main_v1356 : Ref sig .tc := ⟨.hbm, 1695, rfl⟩
abbrev main_v1357 : Ref sig .tc := ⟨.hbm, 1696, rfl⟩
abbrev main_v1358 : Ref sig .tc := ⟨.hbm, 1697, rfl⟩
abbrev main_v1359 : Ref sig .tc := ⟨.hbm, 1698, rfl⟩
abbrev main_v1360 : Ref sig .tc := ⟨.hbm, 1699, rfl⟩
abbrev main_v1361 : Ref sig .tc := ⟨.hbm, 1700, rfl⟩
abbrev main_v1362 : Ref sig .tc := ⟨.hbm, 1701, rfl⟩
abbrev main_v1363 : Ref sig .tc := ⟨.hbm, 1702, rfl⟩
abbrev main_v1364 : Ref sig .tc := ⟨.hbm, 1703, rfl⟩
abbrev main_v1365 : Ref sig .tc := ⟨.hbm, 1704, rfl⟩
abbrev main_v1366 : Ref sig .tc := ⟨.hbm, 1705, rfl⟩
abbrev main_v1367 : Ref sig .tc := ⟨.hbm, 1706, rfl⟩
abbrev main_v1368 : Ref sig .tc := ⟨.hbm, 1707, rfl⟩
abbrev main_v1369 : Ref sig .tc := ⟨.hbm, 1708, rfl⟩
abbrev main_v1370 : Ref sig .tc := ⟨.hbm, 1709, rfl⟩
abbrev main_v1371 : Ref sig .tc := ⟨.hbm, 1710, rfl⟩
abbrev main_v1372 : Ref sig .tc := ⟨.hbm, 1711, rfl⟩
abbrev main_v1373 : Ref sig .tc := ⟨.hbm, 1712, rfl⟩
abbrev main_v1374 : Ref sig .tc := ⟨.hbm, 1713, rfl⟩
abbrev main_v1375 : Ref sig .tc := ⟨.hbm, 1714, rfl⟩
abbrev main_v1376 : Ref sig .tc := ⟨.hbm, 1715, rfl⟩
abbrev main_v1377 : Ref sig .tc := ⟨.hbm, 1716, rfl⟩
abbrev main_v1378 : Ref sig .tc := ⟨.hbm, 1717, rfl⟩
abbrev main_v1379 : Ref sig .tc := ⟨.hbm, 1718, rfl⟩
abbrev main_v1380 : Ref sig .tc := ⟨.hbm, 1719, rfl⟩
abbrev main_v1381 : Ref sig .tc := ⟨.hbm, 1720, rfl⟩
abbrev main_cst_245 : Ref sig .tc := ⟨.hbm, 1721, rfl⟩
abbrev main_v1382 : Ref sig .tc := ⟨.hbm, 1722, rfl⟩
abbrev main_v1383 : Ref sig .tc := ⟨.hbm, 1723, rfl⟩
abbrev main_v1384 : Ref sig .tc := ⟨.hbm, 1724, rfl⟩
abbrev main_v1385 : Ref sig .tc := ⟨.hbm, 1725, rfl⟩
abbrev main_v1386 : Ref sig .tc := ⟨.hbm, 1726, rfl⟩
abbrev main_v1387 : Ref sig .tc := ⟨.hbm, 1727, rfl⟩
abbrev main_cst_246 : Ref sig .tc := ⟨.hbm, 1728, rfl⟩
abbrev main_v1388 : Ref sig .tc := ⟨.hbm, 1729, rfl⟩
abbrev main_v1389 : Ref sig .tc := ⟨.hbm, 1730, rfl⟩
abbrev main_v1390 : Ref sig .tc := ⟨.hbm, 1731, rfl⟩
abbrev main_v1391 : Ref sig .tc := ⟨.hbm, 1732, rfl⟩
abbrev main_v1392 : Ref sig .tc := ⟨.hbm, 1733, rfl⟩
abbrev main_cst_247 : Ref sig .tc := ⟨.hbm, 1734, rfl⟩
abbrev main_v1393 : Ref sig .tc := ⟨.hbm, 1735, rfl⟩
abbrev main_v1394 : Ref sig .tc := ⟨.hbm, 1736, rfl⟩
abbrev main_cst_248 : Ref sig .tc := ⟨.hbm, 1737, rfl⟩
abbrev main_call44_v0 : Ref sig .tc := ⟨.hbm, 1738, rfl⟩
abbrev main_call44_v1 : Ref sig .tc := ⟨.hbm, 1739, rfl⟩
abbrev main_v1395 : Ref sig .tc := ⟨.hbm, 1740, rfl⟩
abbrev main_v1396 : Ref sig .tc := ⟨.hbm, 1741, rfl⟩
abbrev main_v1397 : Ref sig .tc := ⟨.hbm, 1742, rfl⟩
abbrev main_v1398 : Ref sig .tc := ⟨.hbm, 1743, rfl⟩
abbrev main_v1399 : Ref sig .tc := ⟨.hbm, 1744, rfl⟩
abbrev main_cst_249 : Ref sig .tc := ⟨.hbm, 1745, rfl⟩
abbrev main_v1400 : Ref sig .tc := ⟨.hbm, 1746, rfl⟩
abbrev main_v1401 : Ref sig .tc := ⟨.hbm, 1747, rfl⟩
abbrev main_v1402 : Ref sig .tc := ⟨.hbm, 1748, rfl⟩
abbrev main_cst_250 : Ref sig .tc := ⟨.hbm, 1749, rfl⟩
abbrev main_v1403 : Ref sig .tc := ⟨.hbm, 1750, rfl⟩
abbrev main_v1404 : Ref sig .tc := ⟨.hbm, 1751, rfl⟩
abbrev main_v1405 : Ref sig .tc := ⟨.hbm, 1752, rfl⟩
abbrev main_cst_251 : Ref sig .tc := ⟨.hbm, 1753, rfl⟩
abbrev main_call45_v0 : Ref sig .tc := ⟨.hbm, 1754, rfl⟩
abbrev main_call45_v1 : Ref sig .tc := ⟨.hbm, 1755, rfl⟩
abbrev main_v1406 : Ref sig .tc := ⟨.hbm, 1756, rfl⟩
abbrev main_v1407 : Ref sig .tc := ⟨.hbm, 1757, rfl⟩
abbrev main_cst_252 : Ref sig .tc := ⟨.hbm, 1758, rfl⟩
abbrev main_v1408 : Ref sig .tc := ⟨.hbm, 1759, rfl⟩
abbrev main_v1409 : Ref sig .tc := ⟨.hbm, 1760, rfl⟩
abbrev main_v1410 : Ref sig .tc := ⟨.hbm, 1761, rfl⟩
abbrev main_cst_253 : Ref sig .tc := ⟨.hbm, 1762, rfl⟩
abbrev main_v1411 : Ref sig .tc := ⟨.hbm, 1763, rfl⟩
abbrev main_v1412 : Ref sig .tc := ⟨.hbm, 1764, rfl⟩
abbrev main_v1413 : Ref sig .tc := ⟨.hbm, 1765, rfl⟩
abbrev main_cst_254 : Ref sig .tc := ⟨.hbm, 1766, rfl⟩
abbrev main_v1414 : Ref sig .tc := ⟨.hbm, 1767, rfl⟩
abbrev main_cst_255 : Ref sig .tc := ⟨.hbm, 1768, rfl⟩
abbrev main_v1415 : Ref sig .tc := ⟨.hbm, 1769, rfl⟩
abbrev main_v1416 : Ref sig .tc := ⟨.hbm, 1770, rfl⟩
abbrev main_v1417 : Ref sig .tc := ⟨.hbm, 1771, rfl⟩
abbrev main_v1418 : Ref sig .tc := ⟨.hbm, 1772, rfl⟩
abbrev main_v1419 : Ref sig .tc := ⟨.hbm, 1773, rfl⟩
abbrev main_v1420 : Ref sig .tc := ⟨.hbm, 1774, rfl⟩
abbrev main_v1421 : Ref sig .tc := ⟨.hbm, 1775, rfl⟩
abbrev main_v1422 : Ref sig .tc := ⟨.hbm, 1776, rfl⟩
abbrev main_v1423 : Ref sig .tc := ⟨.hbm, 1777, rfl⟩
abbrev main_v1424 : Ref sig .tc := ⟨.hbm, 1778, rfl⟩
abbrev main_v1425 : Ref sig .tc := ⟨.hbm, 1779, rfl⟩
abbrev main_v1426 : Ref sig .tc := ⟨.hbm, 1780, rfl⟩
abbrev main_v1427 : Ref sig .tc := ⟨.hbm, 1781, rfl⟩
abbrev main_v1428 : Ref sig .tc := ⟨.hbm, 1782, rfl⟩
abbrev main_v1429 : Ref sig .tc := ⟨.hbm, 1783, rfl⟩
abbrev main_v1430 : Ref sig .tc := ⟨.hbm, 1784, rfl⟩
abbrev main_v1431 : Ref sig .tc := ⟨.hbm, 1785, rfl⟩
abbrev main_v1432 : Ref sig .tc := ⟨.hbm, 1786, rfl⟩
abbrev main_v1433 : Ref sig .tc := ⟨.hbm, 1787, rfl⟩
abbrev main_v1434 : Ref sig .tc := ⟨.hbm, 1788, rfl⟩
abbrev main_v1435 : Ref sig .tc := ⟨.hbm, 1789, rfl⟩
abbrev main_v1436 : Ref sig .tc := ⟨.hbm, 1790, rfl⟩
abbrev main_v1437 : Ref sig .tc := ⟨.hbm, 1791, rfl⟩
abbrev main_v1438 : Ref sig .tc := ⟨.hbm, 1792, rfl⟩
abbrev main_v1439 : Ref sig .tc := ⟨.hbm, 1793, rfl⟩
abbrev main_v1440 : Ref sig .tc := ⟨.hbm, 1794, rfl⟩
abbrev main_v1441 : Ref sig .tc := ⟨.hbm, 1795, rfl⟩
abbrev main_v1442 : Ref sig .tc := ⟨.hbm, 1796, rfl⟩
abbrev main_cst_256 : Ref sig .tc := ⟨.hbm, 1797, rfl⟩
abbrev main_v1443 : Ref sig .tc := ⟨.hbm, 1798, rfl⟩
abbrev main_v1444 : Ref sig .tc := ⟨.hbm, 1799, rfl⟩
abbrev main_v1445 : Ref sig .tc := ⟨.hbm, 1800, rfl⟩
abbrev main_v1446 : Ref sig .tc := ⟨.hbm, 1801, rfl⟩
abbrev main_v1447 : Ref sig .tc := ⟨.hbm, 1802, rfl⟩
abbrev main_v1448 : Ref sig .tc := ⟨.hbm, 1803, rfl⟩
abbrev main_cst_257 : Ref sig .tc := ⟨.hbm, 1804, rfl⟩
abbrev main_v1449 : Ref sig .tc := ⟨.hbm, 1805, rfl⟩
abbrev main_v1450 : Ref sig .tc := ⟨.hbm, 1806, rfl⟩
abbrev main_v1451 : Ref sig .tc := ⟨.hbm, 1807, rfl⟩
abbrev main_v1452 : Ref sig .tc := ⟨.hbm, 1808, rfl⟩
abbrev main_v1453 : Ref sig .tc := ⟨.hbm, 1809, rfl⟩
abbrev main_cst_258 : Ref sig .tc := ⟨.hbm, 1810, rfl⟩
abbrev main_v1454 : Ref sig .tc := ⟨.hbm, 1811, rfl⟩
abbrev main_v1455 : Ref sig .tc := ⟨.hbm, 1812, rfl⟩
abbrev main_cst_259 : Ref sig .tc := ⟨.hbm, 1813, rfl⟩
abbrev main_call46_v0 : Ref sig .tc := ⟨.hbm, 1814, rfl⟩
abbrev main_call46_v1 : Ref sig .tc := ⟨.hbm, 1815, rfl⟩
abbrev main_v1456 : Ref sig .tc := ⟨.hbm, 1816, rfl⟩
abbrev main_v1457 : Ref sig .tc := ⟨.hbm, 1817, rfl⟩
abbrev main_v1458 : Ref sig .tc := ⟨.hbm, 1818, rfl⟩
abbrev main_v1459 : Ref sig .tc := ⟨.hbm, 1819, rfl⟩
abbrev main_v1460 : Ref sig .tc := ⟨.hbm, 1820, rfl⟩
abbrev main_cst_260 : Ref sig .tc := ⟨.hbm, 1821, rfl⟩
abbrev main_v1461 : Ref sig .tc := ⟨.hbm, 1822, rfl⟩
abbrev main_v1462 : Ref sig .tc := ⟨.hbm, 1823, rfl⟩
abbrev main_v1463 : Ref sig .tc := ⟨.hbm, 1824, rfl⟩
abbrev main_cst_261 : Ref sig .tc := ⟨.hbm, 1825, rfl⟩
abbrev main_v1464 : Ref sig .tc := ⟨.hbm, 1826, rfl⟩
abbrev main_v1465 : Ref sig .tc := ⟨.hbm, 1827, rfl⟩
abbrev main_v1466 : Ref sig .tc := ⟨.hbm, 1828, rfl⟩
abbrev main_cst_262 : Ref sig .tc := ⟨.hbm, 1829, rfl⟩
abbrev main_call47_v0 : Ref sig .tc := ⟨.hbm, 1830, rfl⟩
abbrev main_call47_v1 : Ref sig .tc := ⟨.hbm, 1831, rfl⟩
abbrev main_v1467 : Ref sig .tc := ⟨.hbm, 1832, rfl⟩
abbrev main_v1468 : Ref sig .tc := ⟨.hbm, 1833, rfl⟩
abbrev main_cst_263 : Ref sig .tc := ⟨.hbm, 1834, rfl⟩
abbrev main_v1469 : Ref sig .tc := ⟨.hbm, 1835, rfl⟩
abbrev main_v1470 : Ref sig .tc := ⟨.hbm, 1836, rfl⟩
abbrev main_v1471 : Ref sig .tc := ⟨.hbm, 1837, rfl⟩
abbrev main_cst_264 : Ref sig .tc := ⟨.hbm, 1838, rfl⟩
abbrev main_v1472 : Ref sig .tc := ⟨.hbm, 1839, rfl⟩
abbrev main_v1473 : Ref sig .tc := ⟨.hbm, 1840, rfl⟩
abbrev main_v1474 : Ref sig .tc := ⟨.hbm, 1841, rfl⟩
abbrev main_cst_265 : Ref sig .tc := ⟨.hbm, 1842, rfl⟩
abbrev main_v1475 : Ref sig .tc := ⟨.hbm, 1843, rfl⟩
abbrev main_cst_266 : Ref sig .tc := ⟨.hbm, 1844, rfl⟩
abbrev main_v1476 : Ref sig .tc := ⟨.hbm, 1845, rfl⟩
abbrev main_v1477 : Ref sig .tc := ⟨.hbm, 1846, rfl⟩
abbrev main_v1478 : Ref sig .tc := ⟨.hbm, 1847, rfl⟩
abbrev main_v1479 : Ref sig .tc := ⟨.hbm, 1848, rfl⟩
abbrev main_v1480 : Ref sig .tc := ⟨.hbm, 1849, rfl⟩
abbrev main_v1481 : Ref sig .tc := ⟨.hbm, 1850, rfl⟩
abbrev main_v1482 : Ref sig .tc := ⟨.hbm, 1851, rfl⟩
abbrev main_v1483 : Ref sig .tc := ⟨.hbm, 1852, rfl⟩
abbrev main_v1484 : Ref sig .tc := ⟨.hbm, 1853, rfl⟩
abbrev main_v1485 : Ref sig .tc := ⟨.hbm, 1854, rfl⟩
abbrev main_v1486 : Ref sig .tc := ⟨.hbm, 1855, rfl⟩
abbrev main_v1487 : Ref sig .tc := ⟨.hbm, 1856, rfl⟩
abbrev main_v1488 : Ref sig .tc := ⟨.hbm, 1857, rfl⟩
abbrev main_v1489 : Ref sig .tc := ⟨.hbm, 1858, rfl⟩
abbrev main_v1490 : Ref sig .tc := ⟨.hbm, 1859, rfl⟩
abbrev main_v1491 : Ref sig .tc := ⟨.hbm, 1860, rfl⟩
abbrev main_v1492 : Ref sig .tc := ⟨.hbm, 1861, rfl⟩
abbrev main_v1493 : Ref sig .tc := ⟨.hbm, 1862, rfl⟩
abbrev main_v1494 : Ref sig .tc := ⟨.hbm, 1863, rfl⟩
abbrev main_v1495 : Ref sig .tc := ⟨.hbm, 1864, rfl⟩
abbrev main_v1496 : Ref sig .tc := ⟨.hbm, 1865, rfl⟩
abbrev main_v1497 : Ref sig .tc := ⟨.hbm, 1866, rfl⟩
abbrev main_v1498 : Ref sig .tc := ⟨.hbm, 1867, rfl⟩
abbrev main_v1499 : Ref sig .tc := ⟨.hbm, 1868, rfl⟩
abbrev main_v1500 : Ref sig .tc := ⟨.hbm, 1869, rfl⟩
abbrev main_v1501 : Ref sig .tc := ⟨.hbm, 1870, rfl⟩
abbrev main_v1502 : Ref sig .tc := ⟨.hbm, 1871, rfl⟩
abbrev main_v1503 : Ref sig .tc := ⟨.hbm, 1872, rfl⟩
abbrev main_cst_267 : Ref sig .tc := ⟨.hbm, 1873, rfl⟩
abbrev main_v1504 : Ref sig .tc := ⟨.hbm, 1874, rfl⟩
abbrev main_v1505 : Ref sig .tc := ⟨.hbm, 1875, rfl⟩
abbrev main_v1506 : Ref sig .tc := ⟨.hbm, 1876, rfl⟩
abbrev main_v1507 : Ref sig .tc := ⟨.hbm, 1877, rfl⟩
abbrev main_v1508 : Ref sig .tc := ⟨.hbm, 1878, rfl⟩
abbrev main_v1509 : Ref sig .tc := ⟨.hbm, 1879, rfl⟩
abbrev main_cst_268 : Ref sig .tc := ⟨.hbm, 1880, rfl⟩
abbrev main_v1510 : Ref sig .tc := ⟨.hbm, 1881, rfl⟩
abbrev main_v1511 : Ref sig .tc := ⟨.hbm, 1882, rfl⟩
abbrev main_v1512 : Ref sig .tc := ⟨.hbm, 1883, rfl⟩
abbrev main_v1513 : Ref sig .tc := ⟨.hbm, 1884, rfl⟩
abbrev main_v1514 : Ref sig .tc := ⟨.hbm, 1885, rfl⟩
abbrev main_cst_269 : Ref sig .tc := ⟨.hbm, 1886, rfl⟩
abbrev main_v1515 : Ref sig .tc := ⟨.hbm, 1887, rfl⟩
abbrev main_v1516 : Ref sig .tc := ⟨.hbm, 1888, rfl⟩
abbrev main_cst_270 : Ref sig .tc := ⟨.hbm, 1889, rfl⟩
abbrev main_call48_v0 : Ref sig .tc := ⟨.hbm, 1890, rfl⟩
abbrev main_call48_v1 : Ref sig .tc := ⟨.hbm, 1891, rfl⟩
abbrev main_v1517 : Ref sig .tc := ⟨.hbm, 1892, rfl⟩
abbrev main_v1518 : Ref sig .tc := ⟨.hbm, 1893, rfl⟩
abbrev main_v1519 : Ref sig .tc := ⟨.hbm, 1894, rfl⟩
abbrev main_v1520 : Ref sig .tc := ⟨.hbm, 1895, rfl⟩
abbrev main_v1521 : Ref sig .tc := ⟨.hbm, 1896, rfl⟩
abbrev main_cst_271 : Ref sig .tc := ⟨.hbm, 1897, rfl⟩
abbrev main_v1522 : Ref sig .tc := ⟨.hbm, 1898, rfl⟩
abbrev main_v1523 : Ref sig .tc := ⟨.hbm, 1899, rfl⟩
abbrev main_v1524 : Ref sig .tc := ⟨.hbm, 1900, rfl⟩
abbrev main_cst_272 : Ref sig .tc := ⟨.hbm, 1901, rfl⟩
abbrev main_v1525 : Ref sig .tc := ⟨.hbm, 1902, rfl⟩
abbrev main_v1526 : Ref sig .tc := ⟨.hbm, 1903, rfl⟩
abbrev main_v1527 : Ref sig .tc := ⟨.hbm, 1904, rfl⟩
abbrev main_cst_273 : Ref sig .tc := ⟨.hbm, 1905, rfl⟩
abbrev main_call49_v0 : Ref sig .tc := ⟨.hbm, 1906, rfl⟩
abbrev main_call49_v1 : Ref sig .tc := ⟨.hbm, 1907, rfl⟩
abbrev main_v1528 : Ref sig .tc := ⟨.hbm, 1908, rfl⟩
abbrev main_v1529 : Ref sig .tc := ⟨.hbm, 1909, rfl⟩
abbrev main_cst_274 : Ref sig .tc := ⟨.hbm, 1910, rfl⟩
abbrev main_v1530 : Ref sig .tc := ⟨.hbm, 1911, rfl⟩
abbrev main_v1531 : Ref sig .tc := ⟨.hbm, 1912, rfl⟩
abbrev main_v1532 : Ref sig .tc := ⟨.hbm, 1913, rfl⟩
abbrev main_cst_275 : Ref sig .tc := ⟨.hbm, 1914, rfl⟩
abbrev main_v1533 : Ref sig .tc := ⟨.hbm, 1915, rfl⟩
abbrev main_v1534 : Ref sig .tc := ⟨.hbm, 1916, rfl⟩
abbrev main_v1535 : Ref sig .tc := ⟨.hbm, 1917, rfl⟩
abbrev main_cst_276 : Ref sig .tc := ⟨.hbm, 1918, rfl⟩
abbrev main_v1536 : Ref sig .tc := ⟨.hbm, 1919, rfl⟩
abbrev main_cst_277 : Ref sig .tc := ⟨.hbm, 1920, rfl⟩
abbrev main_v1537 : Ref sig .tc := ⟨.hbm, 1921, rfl⟩
abbrev main_v1538 : Ref sig .tc := ⟨.hbm, 1922, rfl⟩
abbrev main_v1539 : Ref sig .tc := ⟨.hbm, 1923, rfl⟩
abbrev main_v1540 : Ref sig .tc := ⟨.hbm, 1924, rfl⟩
abbrev main_v1541 : Ref sig .tc := ⟨.hbm, 1925, rfl⟩
abbrev main_v1542 : Ref sig .tc := ⟨.hbm, 1926, rfl⟩
abbrev main_v1543 : Ref sig .tc := ⟨.hbm, 1927, rfl⟩
abbrev main_v1544 : Ref sig .tc := ⟨.hbm, 1928, rfl⟩
abbrev main_v1545 : Ref sig .tc := ⟨.hbm, 1929, rfl⟩
abbrev main_v1546 : Ref sig .tc := ⟨.hbm, 1930, rfl⟩
abbrev main_v1547 : Ref sig .tc := ⟨.hbm, 1931, rfl⟩
abbrev main_v1548 : Ref sig .tc := ⟨.hbm, 1932, rfl⟩
abbrev main_v1549 : Ref sig .tc := ⟨.hbm, 1933, rfl⟩
abbrev main_v1550 : Ref sig .tc := ⟨.hbm, 1934, rfl⟩
abbrev main_v1551 : Ref sig .tc := ⟨.hbm, 1935, rfl⟩
abbrev main_v1552 : Ref sig .tc := ⟨.hbm, 1936, rfl⟩
abbrev main_v1553 : Ref sig .tc := ⟨.hbm, 1937, rfl⟩
abbrev main_v1554 : Ref sig .tc := ⟨.hbm, 1938, rfl⟩
abbrev main_v1555 : Ref sig .tc := ⟨.hbm, 1939, rfl⟩
abbrev main_v1556 : Ref sig .tc := ⟨.hbm, 1940, rfl⟩
abbrev main_v1557 : Ref sig .tc := ⟨.hbm, 1941, rfl⟩
abbrev main_v1558 : Ref sig .tc := ⟨.hbm, 1942, rfl⟩
abbrev main_v1559 : Ref sig .tc := ⟨.hbm, 1943, rfl⟩
abbrev main_v1560 : Ref sig .tc := ⟨.hbm, 1944, rfl⟩
abbrev main_v1561 : Ref sig .tc := ⟨.hbm, 1945, rfl⟩
abbrev main_v1562 : Ref sig .tc := ⟨.hbm, 1946, rfl⟩
abbrev main_v1563 : Ref sig .tc := ⟨.hbm, 1947, rfl⟩
abbrev main_v1564 : Ref sig .tc := ⟨.hbm, 1948, rfl⟩
abbrev main_cst_278 : Ref sig .tc := ⟨.hbm, 1949, rfl⟩
abbrev main_v1565 : Ref sig .tc := ⟨.hbm, 1950, rfl⟩
abbrev main_v1566 : Ref sig .tc := ⟨.hbm, 1951, rfl⟩
abbrev main_v1567 : Ref sig .tc := ⟨.hbm, 1952, rfl⟩
abbrev main_v1568 : Ref sig .tc := ⟨.hbm, 1953, rfl⟩
abbrev main_v1569 : Ref sig .tc := ⟨.hbm, 1954, rfl⟩
abbrev main_v1570 : Ref sig .tc := ⟨.hbm, 1955, rfl⟩
abbrev main_cst_279 : Ref sig .tc := ⟨.hbm, 1956, rfl⟩
abbrev main_v1571 : Ref sig .tc := ⟨.hbm, 1957, rfl⟩
abbrev main_v1572 : Ref sig .tc := ⟨.hbm, 1958, rfl⟩
abbrev main_v1573 : Ref sig .tc := ⟨.hbm, 1959, rfl⟩
abbrev main_v1574 : Ref sig .tc := ⟨.hbm, 1960, rfl⟩
abbrev main_v1575 : Ref sig .tc := ⟨.hbm, 1961, rfl⟩
abbrev main_cst_280 : Ref sig .tc := ⟨.hbm, 1962, rfl⟩
abbrev main_v1576 : Ref sig .tc := ⟨.hbm, 1963, rfl⟩
abbrev main_v1577 : Ref sig .tc := ⟨.hbm, 1964, rfl⟩
abbrev main_cst_281 : Ref sig .tc := ⟨.hbm, 1965, rfl⟩
abbrev main_call50_v0 : Ref sig .tc := ⟨.hbm, 1966, rfl⟩
abbrev main_call50_v1 : Ref sig .tc := ⟨.hbm, 1967, rfl⟩
abbrev main_v1578 : Ref sig .tc := ⟨.hbm, 1968, rfl⟩
abbrev main_v1579 : Ref sig .tc := ⟨.hbm, 1969, rfl⟩
abbrev main_v1580 : Ref sig .tc := ⟨.hbm, 1970, rfl⟩
abbrev main_v1581 : Ref sig .tc := ⟨.hbm, 1971, rfl⟩
abbrev main_v1582 : Ref sig .tc := ⟨.hbm, 1972, rfl⟩
abbrev main_cst_282 : Ref sig .tc := ⟨.hbm, 1973, rfl⟩
abbrev main_v1583 : Ref sig .tc := ⟨.hbm, 1974, rfl⟩
abbrev main_v1584 : Ref sig .tc := ⟨.hbm, 1975, rfl⟩
abbrev main_v1585 : Ref sig .tc := ⟨.hbm, 1976, rfl⟩
abbrev main_cst_283 : Ref sig .tc := ⟨.hbm, 1977, rfl⟩
abbrev main_v1586 : Ref sig .tc := ⟨.hbm, 1978, rfl⟩
abbrev main_v1587 : Ref sig .tc := ⟨.hbm, 1979, rfl⟩
abbrev main_v1588 : Ref sig .tc := ⟨.hbm, 1980, rfl⟩
abbrev main_cst_284 : Ref sig .tc := ⟨.hbm, 1981, rfl⟩
abbrev main_call51_v0 : Ref sig .tc := ⟨.hbm, 1982, rfl⟩
abbrev main_call51_v1 : Ref sig .tc := ⟨.hbm, 1983, rfl⟩
abbrev main_v1589 : Ref sig .tc := ⟨.hbm, 1984, rfl⟩
abbrev main_v1590 : Ref sig .tc := ⟨.hbm, 1985, rfl⟩
abbrev main_cst_285 : Ref sig .tc := ⟨.hbm, 1986, rfl⟩
abbrev main_v1591 : Ref sig .tc := ⟨.hbm, 1987, rfl⟩
abbrev main_v1592 : Ref sig .tc := ⟨.hbm, 1988, rfl⟩
abbrev main_v1593 : Ref sig .tc := ⟨.hbm, 1989, rfl⟩
abbrev main_cst_286 : Ref sig .tc := ⟨.hbm, 1990, rfl⟩
abbrev main_v1594 : Ref sig .tc := ⟨.hbm, 1991, rfl⟩
abbrev main_v1595 : Ref sig .tc := ⟨.hbm, 1992, rfl⟩
abbrev main_v1596 : Ref sig .tc := ⟨.hbm, 1993, rfl⟩
abbrev main_cst_287 : Ref sig .tc := ⟨.hbm, 1994, rfl⟩
abbrev main_v1597 : Ref sig .tc := ⟨.hbm, 1995, rfl⟩
abbrev main_cst_288 : Ref sig .tc := ⟨.hbm, 1996, rfl⟩
abbrev main_v1598 : Ref sig .tc := ⟨.hbm, 1997, rfl⟩
abbrev main_v1599 : Ref sig .tc := ⟨.hbm, 1998, rfl⟩
abbrev main_v1600 : Ref sig .tc := ⟨.hbm, 1999, rfl⟩
abbrev main_v1601 : Ref sig .tc := ⟨.hbm, 2000, rfl⟩
abbrev main_v1602 : Ref sig .tc := ⟨.hbm, 2001, rfl⟩
abbrev main_v1603 : Ref sig .tc := ⟨.hbm, 2002, rfl⟩
abbrev main_v1604 : Ref sig .tc := ⟨.hbm, 2003, rfl⟩
abbrev main_v1605 : Ref sig .tc := ⟨.hbm, 2004, rfl⟩
abbrev main_v1606 : Ref sig .tc := ⟨.hbm, 2005, rfl⟩
abbrev main_v1607 : Ref sig .tc := ⟨.hbm, 2006, rfl⟩
abbrev main_v1608 : Ref sig .tc := ⟨.hbm, 2007, rfl⟩
abbrev main_v1609 : Ref sig .tc := ⟨.hbm, 2008, rfl⟩
abbrev main_v1610 : Ref sig .tc := ⟨.hbm, 2009, rfl⟩
abbrev main_v1611 : Ref sig .tc := ⟨.hbm, 2010, rfl⟩
abbrev main_v1612 : Ref sig .tc := ⟨.hbm, 2011, rfl⟩
abbrev main_v1613 : Ref sig .tc := ⟨.hbm, 2012, rfl⟩
abbrev main_v1614 : Ref sig .tc := ⟨.hbm, 2013, rfl⟩
abbrev main_v1615 : Ref sig .tc := ⟨.hbm, 2014, rfl⟩
abbrev main_v1616 : Ref sig .tc := ⟨.hbm, 2015, rfl⟩
abbrev main_v1617 : Ref sig .tc := ⟨.hbm, 2016, rfl⟩
abbrev main_v1618 : Ref sig .tc := ⟨.hbm, 2017, rfl⟩
abbrev main_v1619 : Ref sig .tc := ⟨.hbm, 2018, rfl⟩
abbrev main_v1620 : Ref sig .tc := ⟨.hbm, 2019, rfl⟩
abbrev main_v1621 : Ref sig .tc := ⟨.hbm, 2020, rfl⟩
abbrev main_v1622 : Ref sig .tc := ⟨.hbm, 2021, rfl⟩
abbrev main_v1623 : Ref sig .tc := ⟨.hbm, 2022, rfl⟩
abbrev main_v1624 : Ref sig .tc := ⟨.hbm, 2023, rfl⟩
abbrev main_v1625 : Ref sig .tc := ⟨.hbm, 2024, rfl⟩
abbrev main_cst_289 : Ref sig .tc := ⟨.hbm, 2025, rfl⟩
abbrev main_v1626 : Ref sig .tc := ⟨.hbm, 2026, rfl⟩
abbrev main_v1627 : Ref sig .tc := ⟨.hbm, 2027, rfl⟩
abbrev main_v1628 : Ref sig .tc := ⟨.hbm, 2028, rfl⟩
abbrev main_v1629 : Ref sig .tc := ⟨.hbm, 2029, rfl⟩
abbrev main_v1630 : Ref sig .tc := ⟨.hbm, 2030, rfl⟩
abbrev main_v1631 : Ref sig .tc := ⟨.hbm, 2031, rfl⟩
abbrev main_cst_290 : Ref sig .tc := ⟨.hbm, 2032, rfl⟩
abbrev main_v1632 : Ref sig .tc := ⟨.hbm, 2033, rfl⟩
abbrev main_v1633 : Ref sig .tc := ⟨.hbm, 2034, rfl⟩
abbrev main_v1634 : Ref sig .tc := ⟨.hbm, 2035, rfl⟩
abbrev main_v1635 : Ref sig .tc := ⟨.hbm, 2036, rfl⟩
abbrev main_v1636 : Ref sig .tc := ⟨.hbm, 2037, rfl⟩
abbrev main_cst_291 : Ref sig .tc := ⟨.hbm, 2038, rfl⟩
abbrev main_v1637 : Ref sig .tc := ⟨.hbm, 2039, rfl⟩
abbrev main_v1638 : Ref sig .tc := ⟨.hbm, 2040, rfl⟩
abbrev main_cst_292 : Ref sig .tc := ⟨.hbm, 2041, rfl⟩
abbrev main_call52_v0 : Ref sig .tc := ⟨.hbm, 2042, rfl⟩
abbrev main_call52_v1 : Ref sig .tc := ⟨.hbm, 2043, rfl⟩
abbrev main_v1639 : Ref sig .tc := ⟨.hbm, 2044, rfl⟩
abbrev main_v1640 : Ref sig .tc := ⟨.hbm, 2045, rfl⟩
abbrev main_v1641 : Ref sig .tc := ⟨.hbm, 2046, rfl⟩
abbrev main_v1642 : Ref sig .tc := ⟨.hbm, 2047, rfl⟩
abbrev main_v1643 : Ref sig .tc := ⟨.hbm, 2048, rfl⟩
abbrev main_cst_293 : Ref sig .tc := ⟨.hbm, 2049, rfl⟩
abbrev main_v1644 : Ref sig .tc := ⟨.hbm, 2050, rfl⟩
abbrev main_v1645 : Ref sig .tc := ⟨.hbm, 2051, rfl⟩
abbrev main_v1646 : Ref sig .tc := ⟨.hbm, 2052, rfl⟩
abbrev main_cst_294 : Ref sig .tc := ⟨.hbm, 2053, rfl⟩
abbrev main_v1647 : Ref sig .tc := ⟨.hbm, 2054, rfl⟩
abbrev main_v1648 : Ref sig .tc := ⟨.hbm, 2055, rfl⟩
abbrev main_v1649 : Ref sig .tc := ⟨.hbm, 2056, rfl⟩
abbrev main_cst_295 : Ref sig .tc := ⟨.hbm, 2057, rfl⟩
abbrev main_call53_v0 : Ref sig .tc := ⟨.hbm, 2058, rfl⟩
abbrev main_call53_v1 : Ref sig .tc := ⟨.hbm, 2059, rfl⟩
abbrev main_v1650 : Ref sig .tc := ⟨.hbm, 2060, rfl⟩
abbrev main_v1651 : Ref sig .tc := ⟨.hbm, 2061, rfl⟩
abbrev main_cst_296 : Ref sig .tc := ⟨.hbm, 2062, rfl⟩
abbrev main_v1652 : Ref sig .tc := ⟨.hbm, 2063, rfl⟩
abbrev main_v1653 : Ref sig .tc := ⟨.hbm, 2064, rfl⟩
abbrev main_v1654 : Ref sig .tc := ⟨.hbm, 2065, rfl⟩
abbrev main_cst_297 : Ref sig .tc := ⟨.hbm, 2066, rfl⟩
abbrev main_v1655 : Ref sig .tc := ⟨.hbm, 2067, rfl⟩
abbrev main_v1656 : Ref sig .tc := ⟨.hbm, 2068, rfl⟩
abbrev main_v1657 : Ref sig .tc := ⟨.hbm, 2069, rfl⟩
abbrev main_cst_298 : Ref sig .tc := ⟨.hbm, 2070, rfl⟩
abbrev main_v1658 : Ref sig .tc := ⟨.hbm, 2071, rfl⟩
abbrev main_cst_299 : Ref sig .tc := ⟨.hbm, 2072, rfl⟩
abbrev main_v1659 : Ref sig .tc := ⟨.hbm, 2073, rfl⟩
abbrev main_v1660 : Ref sig .tc := ⟨.hbm, 2074, rfl⟩
abbrev main_v1661 : Ref sig .tc := ⟨.hbm, 2075, rfl⟩
abbrev main_v1662 : Ref sig .tc := ⟨.hbm, 2076, rfl⟩
abbrev main_v1663 : Ref sig .tc := ⟨.hbm, 2077, rfl⟩
abbrev main_v1664 : Ref sig .tc := ⟨.hbm, 2078, rfl⟩
abbrev main_v1665 : Ref sig .tc := ⟨.hbm, 2079, rfl⟩
abbrev main_v1666 : Ref sig .tc := ⟨.hbm, 2080, rfl⟩
abbrev main_v1667 : Ref sig .tc := ⟨.hbm, 2081, rfl⟩
abbrev main_v1668 : Ref sig .tc := ⟨.hbm, 2082, rfl⟩
abbrev main_v1669 : Ref sig .tc := ⟨.hbm, 2083, rfl⟩
abbrev main_v1670 : Ref sig .tc := ⟨.hbm, 2084, rfl⟩
abbrev main_v1671 : Ref sig .tc := ⟨.hbm, 2085, rfl⟩
abbrev main_v1672 : Ref sig .tc := ⟨.hbm, 2086, rfl⟩
abbrev main_v1673 : Ref sig .tc := ⟨.hbm, 2087, rfl⟩
abbrev main_v1674 : Ref sig .tc := ⟨.hbm, 2088, rfl⟩
abbrev main_v1675 : Ref sig .tc := ⟨.hbm, 2089, rfl⟩
abbrev main_v1676 : Ref sig .tc := ⟨.hbm, 2090, rfl⟩
abbrev main_v1677 : Ref sig .tc := ⟨.hbm, 2091, rfl⟩
abbrev main_v1678 : Ref sig .tc := ⟨.hbm, 2092, rfl⟩
abbrev main_v1679 : Ref sig .tc := ⟨.hbm, 2093, rfl⟩
abbrev main_v1680 : Ref sig .tc := ⟨.hbm, 2094, rfl⟩
abbrev main_v1681 : Ref sig .tc := ⟨.hbm, 2095, rfl⟩
abbrev main_v1682 : Ref sig .tc := ⟨.hbm, 2096, rfl⟩
abbrev main_v1683 : Ref sig .tc := ⟨.hbm, 2097, rfl⟩
abbrev main_v1684 : Ref sig .tc := ⟨.hbm, 2098, rfl⟩
abbrev main_v1685 : Ref sig .tc := ⟨.hbm, 2099, rfl⟩
abbrev main_v1686 : Ref sig .tc := ⟨.hbm, 2100, rfl⟩
abbrev main_cst_300 : Ref sig .tc := ⟨.hbm, 2101, rfl⟩
abbrev main_v1687 : Ref sig .tc := ⟨.hbm, 2102, rfl⟩
abbrev main_v1688 : Ref sig .tc := ⟨.hbm, 2103, rfl⟩
abbrev main_v1689 : Ref sig .tc := ⟨.hbm, 2104, rfl⟩
abbrev main_v1690 : Ref sig .tc := ⟨.hbm, 2105, rfl⟩
abbrev main_v1691 : Ref sig .tc := ⟨.hbm, 2106, rfl⟩
abbrev main_v1692 : Ref sig .tc := ⟨.hbm, 2107, rfl⟩
abbrev main_cst_301 : Ref sig .tc := ⟨.hbm, 2108, rfl⟩
abbrev main_v1693 : Ref sig .tc := ⟨.hbm, 2109, rfl⟩
abbrev main_v1694 : Ref sig .tc := ⟨.hbm, 2110, rfl⟩
abbrev main_v1695 : Ref sig .tc := ⟨.hbm, 2111, rfl⟩
abbrev main_v1696 : Ref sig .tc := ⟨.hbm, 2112, rfl⟩
abbrev main_v1697 : Ref sig .tc := ⟨.hbm, 2113, rfl⟩
abbrev main_cst_302 : Ref sig .tc := ⟨.hbm, 2114, rfl⟩
abbrev main_v1698 : Ref sig .tc := ⟨.hbm, 2115, rfl⟩
abbrev main_v1699 : Ref sig .tc := ⟨.hbm, 2116, rfl⟩
abbrev main_cst_303 : Ref sig .tc := ⟨.hbm, 2117, rfl⟩
abbrev main_call54_v0 : Ref sig .tc := ⟨.hbm, 2118, rfl⟩
abbrev main_call54_v1 : Ref sig .tc := ⟨.hbm, 2119, rfl⟩
abbrev main_v1700 : Ref sig .tc := ⟨.hbm, 2120, rfl⟩
abbrev main_v1701 : Ref sig .tc := ⟨.hbm, 2121, rfl⟩
abbrev main_v1702 : Ref sig .tc := ⟨.hbm, 2122, rfl⟩
abbrev main_v1703 : Ref sig .tc := ⟨.hbm, 2123, rfl⟩
abbrev main_v1704 : Ref sig .tc := ⟨.hbm, 2124, rfl⟩
abbrev main_cst_304 : Ref sig .tc := ⟨.hbm, 2125, rfl⟩
abbrev main_v1705 : Ref sig .tc := ⟨.hbm, 2126, rfl⟩
abbrev main_v1706 : Ref sig .tc := ⟨.hbm, 2127, rfl⟩
abbrev main_v1707 : Ref sig .tc := ⟨.hbm, 2128, rfl⟩
abbrev main_cst_305 : Ref sig .tc := ⟨.hbm, 2129, rfl⟩
abbrev main_v1708 : Ref sig .tc := ⟨.hbm, 2130, rfl⟩
abbrev main_v1709 : Ref sig .tc := ⟨.hbm, 2131, rfl⟩
abbrev main_v1710 : Ref sig .tc := ⟨.hbm, 2132, rfl⟩
abbrev main_cst_306 : Ref sig .tc := ⟨.hbm, 2133, rfl⟩
abbrev main_call55_v0 : Ref sig .tc := ⟨.hbm, 2134, rfl⟩
abbrev main_call55_v1 : Ref sig .tc := ⟨.hbm, 2135, rfl⟩
abbrev main_v1711 : Ref sig .tc := ⟨.hbm, 2136, rfl⟩
abbrev main_v1712 : Ref sig .tc := ⟨.hbm, 2137, rfl⟩
abbrev main_cst_307 : Ref sig .tc := ⟨.hbm, 2138, rfl⟩
abbrev main_v1713 : Ref sig .tc := ⟨.hbm, 2139, rfl⟩
abbrev main_v1714 : Ref sig .tc := ⟨.hbm, 2140, rfl⟩
abbrev main_v1715 : Ref sig .tc := ⟨.hbm, 2141, rfl⟩
abbrev main_cst_308 : Ref sig .tc := ⟨.hbm, 2142, rfl⟩
abbrev main_v1716 : Ref sig .tc := ⟨.hbm, 2143, rfl⟩
abbrev main_v1717 : Ref sig .tc := ⟨.hbm, 2144, rfl⟩
abbrev main_v1718 : Ref sig .tc := ⟨.hbm, 2145, rfl⟩
abbrev main_cst_309 : Ref sig .tc := ⟨.hbm, 2146, rfl⟩
abbrev main_v1719 : Ref sig .tc := ⟨.hbm, 2147, rfl⟩
abbrev main_cst_310 : Ref sig .tc := ⟨.hbm, 2148, rfl⟩
abbrev main_v1720 : Ref sig .tc := ⟨.hbm, 2149, rfl⟩
abbrev main_v1721 : Ref sig .tc := ⟨.hbm, 2150, rfl⟩
abbrev main_v1722 : Ref sig .tc := ⟨.hbm, 2151, rfl⟩
abbrev main_v1723 : Ref sig .tc := ⟨.hbm, 2152, rfl⟩
abbrev main_v1724 : Ref sig .tc := ⟨.hbm, 2153, rfl⟩
abbrev main_v1725 : Ref sig .tc := ⟨.hbm, 2154, rfl⟩
abbrev main_v1726 : Ref sig .tc := ⟨.hbm, 2155, rfl⟩
abbrev main_v1727 : Ref sig .tc := ⟨.hbm, 2156, rfl⟩
abbrev main_v1728 : Ref sig .tc := ⟨.hbm, 2157, rfl⟩
abbrev main_v1729 : Ref sig .tc := ⟨.hbm, 2158, rfl⟩
abbrev main_v1730 : Ref sig .tc := ⟨.hbm, 2159, rfl⟩
abbrev main_v1731 : Ref sig .tc := ⟨.hbm, 2160, rfl⟩
abbrev main_v1732 : Ref sig .tc := ⟨.hbm, 2161, rfl⟩
abbrev main_v1733 : Ref sig .tc := ⟨.hbm, 2162, rfl⟩
abbrev main_v1734 : Ref sig .tc := ⟨.hbm, 2163, rfl⟩
abbrev main_v1735 : Ref sig .tc := ⟨.hbm, 2164, rfl⟩
abbrev main_v1736 : Ref sig .tc := ⟨.hbm, 2165, rfl⟩
abbrev main_v1737 : Ref sig .tc := ⟨.hbm, 2166, rfl⟩
abbrev main_v1738 : Ref sig .tc := ⟨.hbm, 2167, rfl⟩
abbrev main_v1739 : Ref sig .tc := ⟨.hbm, 2168, rfl⟩
abbrev main_v1740 : Ref sig .tc := ⟨.hbm, 2169, rfl⟩
abbrev main_v1741 : Ref sig .tc := ⟨.hbm, 2170, rfl⟩
abbrev main_v1742 : Ref sig .tc := ⟨.hbm, 2171, rfl⟩
abbrev main_v1743 : Ref sig .tc := ⟨.hbm, 2172, rfl⟩
abbrev main_v1744 : Ref sig .tc := ⟨.hbm, 2173, rfl⟩
abbrev main_v1745 : Ref sig .tc := ⟨.hbm, 2174, rfl⟩
abbrev main_v1746 : Ref sig .tc := ⟨.hbm, 2175, rfl⟩
abbrev main_v1747 : Ref sig .tc := ⟨.hbm, 2176, rfl⟩
abbrev main_cst_311 : Ref sig .tc := ⟨.hbm, 2177, rfl⟩
abbrev main_v1748 : Ref sig .tc := ⟨.hbm, 2178, rfl⟩
abbrev main_v1749 : Ref sig .tc := ⟨.hbm, 2179, rfl⟩
abbrev main_v1750 : Ref sig .tc := ⟨.hbm, 2180, rfl⟩
abbrev main_v1751 : Ref sig .tc := ⟨.hbm, 2181, rfl⟩
abbrev main_v1752 : Ref sig .tc := ⟨.hbm, 2182, rfl⟩
abbrev main_v1753 : Ref sig .tc := ⟨.hbm, 2183, rfl⟩
abbrev main_cst_312 : Ref sig .tc := ⟨.hbm, 2184, rfl⟩
abbrev main_v1754 : Ref sig .tc := ⟨.hbm, 2185, rfl⟩
abbrev main_v1755 : Ref sig .tc := ⟨.hbm, 2186, rfl⟩
abbrev main_v1756 : Ref sig .tc := ⟨.hbm, 2187, rfl⟩
abbrev main_v1757 : Ref sig .tc := ⟨.hbm, 2188, rfl⟩
abbrev main_v1758 : Ref sig .tc := ⟨.hbm, 2189, rfl⟩
abbrev main_cst_313 : Ref sig .tc := ⟨.hbm, 2190, rfl⟩
abbrev main_v1759 : Ref sig .tc := ⟨.hbm, 2191, rfl⟩
abbrev main_v1760 : Ref sig .tc := ⟨.hbm, 2192, rfl⟩
abbrev main_cst_314 : Ref sig .tc := ⟨.hbm, 2193, rfl⟩
abbrev main_call56_v0 : Ref sig .tc := ⟨.hbm, 2194, rfl⟩
abbrev main_call56_v1 : Ref sig .tc := ⟨.hbm, 2195, rfl⟩
abbrev main_v1761 : Ref sig .tc := ⟨.hbm, 2196, rfl⟩
abbrev main_v1762 : Ref sig .tc := ⟨.hbm, 2197, rfl⟩
abbrev main_v1763 : Ref sig .tc := ⟨.hbm, 2198, rfl⟩
abbrev main_v1764 : Ref sig .tc := ⟨.hbm, 2199, rfl⟩
abbrev main_v1765 : Ref sig .tc := ⟨.hbm, 2200, rfl⟩
abbrev main_cst_315 : Ref sig .tc := ⟨.hbm, 2201, rfl⟩
abbrev main_v1766 : Ref sig .tc := ⟨.hbm, 2202, rfl⟩
abbrev main_v1767 : Ref sig .tc := ⟨.hbm, 2203, rfl⟩
abbrev main_v1768 : Ref sig .tc := ⟨.hbm, 2204, rfl⟩
abbrev main_cst_316 : Ref sig .tc := ⟨.hbm, 2205, rfl⟩
abbrev main_v1769 : Ref sig .tc := ⟨.hbm, 2206, rfl⟩
abbrev main_v1770 : Ref sig .tc := ⟨.hbm, 2207, rfl⟩
abbrev main_v1771 : Ref sig .tc := ⟨.hbm, 2208, rfl⟩
abbrev main_cst_317 : Ref sig .tc := ⟨.hbm, 2209, rfl⟩
abbrev main_call57_v0 : Ref sig .tc := ⟨.hbm, 2210, rfl⟩
abbrev main_call57_v1 : Ref sig .tc := ⟨.hbm, 2211, rfl⟩
abbrev main_v1772 : Ref sig .tc := ⟨.hbm, 2212, rfl⟩
abbrev main_v1773 : Ref sig .tc := ⟨.hbm, 2213, rfl⟩
abbrev main_cst_318 : Ref sig .tc := ⟨.hbm, 2214, rfl⟩
abbrev main_v1774 : Ref sig .tc := ⟨.hbm, 2215, rfl⟩
abbrev main_v1775 : Ref sig .tc := ⟨.hbm, 2216, rfl⟩
abbrev main_v1776 : Ref sig .tc := ⟨.hbm, 2217, rfl⟩
abbrev main_cst_319 : Ref sig .tc := ⟨.hbm, 2218, rfl⟩
abbrev main_v1777 : Ref sig .tc := ⟨.hbm, 2219, rfl⟩
abbrev main_v1778 : Ref sig .tc := ⟨.hbm, 2220, rfl⟩
abbrev main_v1779 : Ref sig .tc := ⟨.hbm, 2221, rfl⟩
abbrev main_cst_320 : Ref sig .tc := ⟨.hbm, 2222, rfl⟩
abbrev main_v1780 : Ref sig .tc := ⟨.hbm, 2223, rfl⟩
abbrev main_cst_321 : Ref sig .tc := ⟨.hbm, 2224, rfl⟩
abbrev main_v1781 : Ref sig .tc := ⟨.hbm, 2225, rfl⟩
abbrev main_v1782 : Ref sig .tc := ⟨.hbm, 2226, rfl⟩
abbrev main_v1783 : Ref sig .tc := ⟨.hbm, 2227, rfl⟩
abbrev main_v1784 : Ref sig .tc := ⟨.hbm, 2228, rfl⟩
abbrev main_v1785 : Ref sig .tc := ⟨.hbm, 2229, rfl⟩
abbrev main_v1786 : Ref sig .tc := ⟨.hbm, 2230, rfl⟩
abbrev main_v1787 : Ref sig .tc := ⟨.hbm, 2231, rfl⟩
abbrev main_v1788 : Ref sig .tc := ⟨.hbm, 2232, rfl⟩
abbrev main_v1789 : Ref sig .tc := ⟨.hbm, 2233, rfl⟩
abbrev main_v1790 : Ref sig .tc := ⟨.hbm, 2234, rfl⟩
abbrev main_v1791 : Ref sig .tc := ⟨.hbm, 2235, rfl⟩
abbrev main_v1792 : Ref sig .tc := ⟨.hbm, 2236, rfl⟩
abbrev main_v1793 : Ref sig .tc := ⟨.hbm, 2237, rfl⟩
abbrev main_v1794 : Ref sig .tc := ⟨.hbm, 2238, rfl⟩
abbrev main_v1795 : Ref sig .tc := ⟨.hbm, 2239, rfl⟩
abbrev main_v1796 : Ref sig .tc := ⟨.hbm, 2240, rfl⟩
abbrev main_v1797 : Ref sig .tc := ⟨.hbm, 2241, rfl⟩
abbrev main_v1798 : Ref sig .tc := ⟨.hbm, 2242, rfl⟩
abbrev main_v1799 : Ref sig .tc := ⟨.hbm, 2243, rfl⟩
abbrev main_v1800 : Ref sig .tc := ⟨.hbm, 2244, rfl⟩
abbrev main_v1801 : Ref sig .tc := ⟨.hbm, 2245, rfl⟩
abbrev main_v1802 : Ref sig .tc := ⟨.hbm, 2246, rfl⟩
abbrev main_v1803 : Ref sig .tc := ⟨.hbm, 2247, rfl⟩
abbrev main_v1804 : Ref sig .tc := ⟨.hbm, 2248, rfl⟩
abbrev main_v1805 : Ref sig .tc := ⟨.hbm, 2249, rfl⟩
abbrev main_v1806 : Ref sig .tc := ⟨.hbm, 2250, rfl⟩
abbrev main_v1807 : Ref sig .tc := ⟨.hbm, 2251, rfl⟩
abbrev main_v1808 : Ref sig .tc := ⟨.hbm, 2252, rfl⟩
abbrev main_cst_322 : Ref sig .tc := ⟨.hbm, 2253, rfl⟩
abbrev main_v1809 : Ref sig .tc := ⟨.hbm, 2254, rfl⟩
abbrev main_v1810 : Ref sig .tc := ⟨.hbm, 2255, rfl⟩
abbrev main_v1811 : Ref sig .tc := ⟨.hbm, 2256, rfl⟩
abbrev main_v1812 : Ref sig .tc := ⟨.hbm, 2257, rfl⟩
abbrev main_v1813 : Ref sig .tc := ⟨.hbm, 2258, rfl⟩
abbrev main_v1814 : Ref sig .tc := ⟨.hbm, 2259, rfl⟩
abbrev main_cst_323 : Ref sig .tc := ⟨.hbm, 2260, rfl⟩
abbrev main_v1815 : Ref sig .tc := ⟨.hbm, 2261, rfl⟩
abbrev main_v1816 : Ref sig .tc := ⟨.hbm, 2262, rfl⟩
abbrev main_v1817 : Ref sig .tc := ⟨.hbm, 2263, rfl⟩
abbrev main_v1818 : Ref sig .tc := ⟨.hbm, 2264, rfl⟩
abbrev main_v1819 : Ref sig .tc := ⟨.hbm, 2265, rfl⟩
abbrev main_cst_324 : Ref sig .tc := ⟨.hbm, 2266, rfl⟩
abbrev main_v1820 : Ref sig .tc := ⟨.hbm, 2267, rfl⟩
abbrev main_v1821 : Ref sig .tc := ⟨.hbm, 2268, rfl⟩
abbrev main_cst_325 : Ref sig .tc := ⟨.hbm, 2269, rfl⟩
abbrev main_call58_v0 : Ref sig .tc := ⟨.hbm, 2270, rfl⟩
abbrev main_call58_v1 : Ref sig .tc := ⟨.hbm, 2271, rfl⟩
abbrev main_v1822 : Ref sig .tc := ⟨.hbm, 2272, rfl⟩
abbrev main_v1823 : Ref sig .tc := ⟨.hbm, 2273, rfl⟩
abbrev main_v1824 : Ref sig .tc := ⟨.hbm, 2274, rfl⟩
abbrev main_v1825 : Ref sig .tc := ⟨.hbm, 2275, rfl⟩
abbrev main_v1826 : Ref sig .tc := ⟨.hbm, 2276, rfl⟩
abbrev main_cst_326 : Ref sig .tc := ⟨.hbm, 2277, rfl⟩
abbrev main_v1827 : Ref sig .tc := ⟨.hbm, 2278, rfl⟩
abbrev main_v1828 : Ref sig .tc := ⟨.hbm, 2279, rfl⟩
abbrev main_v1829 : Ref sig .tc := ⟨.hbm, 2280, rfl⟩
abbrev main_cst_327 : Ref sig .tc := ⟨.hbm, 2281, rfl⟩
abbrev main_v1830 : Ref sig .tc := ⟨.hbm, 2282, rfl⟩
abbrev main_v1831 : Ref sig .tc := ⟨.hbm, 2283, rfl⟩
abbrev main_v1832 : Ref sig .tc := ⟨.hbm, 2284, rfl⟩
abbrev main_cst_328 : Ref sig .tc := ⟨.hbm, 2285, rfl⟩
abbrev main_call59_v0 : Ref sig .tc := ⟨.hbm, 2286, rfl⟩
abbrev main_call59_v1 : Ref sig .tc := ⟨.hbm, 2287, rfl⟩
abbrev main_v1833 : Ref sig .tc := ⟨.hbm, 2288, rfl⟩
abbrev main_v1834 : Ref sig .tc := ⟨.hbm, 2289, rfl⟩
abbrev main_cst_329 : Ref sig .tc := ⟨.hbm, 2290, rfl⟩
abbrev main_v1835 : Ref sig .tc := ⟨.hbm, 2291, rfl⟩
abbrev main_v1836 : Ref sig .tc := ⟨.hbm, 2292, rfl⟩
abbrev main_v1837 : Ref sig .tc := ⟨.hbm, 2293, rfl⟩
abbrev main_cst_330 : Ref sig .tc := ⟨.hbm, 2294, rfl⟩
abbrev main_v1838 : Ref sig .tc := ⟨.hbm, 2295, rfl⟩
abbrev main_v1839 : Ref sig .tc := ⟨.hbm, 2296, rfl⟩
abbrev main_v1840 : Ref sig .tc := ⟨.hbm, 2297, rfl⟩
abbrev main_cst_331 : Ref sig .tc := ⟨.hbm, 2298, rfl⟩
abbrev main_v1841 : Ref sig .tc := ⟨.hbm, 2299, rfl⟩
abbrev main_cst_332 : Ref sig .tc := ⟨.hbm, 2300, rfl⟩
abbrev main_v1842 : Ref sig .tc := ⟨.hbm, 2301, rfl⟩
abbrev main_v1843 : Ref sig .tc := ⟨.hbm, 2302, rfl⟩
abbrev main_v1844 : Ref sig .tc := ⟨.hbm, 2303, rfl⟩
abbrev main_v1845 : Ref sig .tc := ⟨.hbm, 2304, rfl⟩
abbrev main_v1846 : Ref sig .tc := ⟨.hbm, 2305, rfl⟩
abbrev main_v1847 : Ref sig .tc := ⟨.hbm, 2306, rfl⟩
abbrev main_v1848 : Ref sig .tc := ⟨.hbm, 2307, rfl⟩
abbrev main_v1849 : Ref sig .tc := ⟨.hbm, 2308, rfl⟩
abbrev main_v1850 : Ref sig .tc := ⟨.hbm, 2309, rfl⟩
abbrev main_v1851 : Ref sig .tc := ⟨.hbm, 2310, rfl⟩
abbrev main_v1852 : Ref sig .tc := ⟨.hbm, 2311, rfl⟩
abbrev main_v1853 : Ref sig .tc := ⟨.hbm, 2312, rfl⟩
abbrev main_v1854 : Ref sig .tc := ⟨.hbm, 2313, rfl⟩
abbrev main_v1855 : Ref sig .tc := ⟨.hbm, 2314, rfl⟩
abbrev main_v1856 : Ref sig .tc := ⟨.hbm, 2315, rfl⟩
abbrev main_v1857 : Ref sig .tc := ⟨.hbm, 2316, rfl⟩
abbrev main_v1858 : Ref sig .tc := ⟨.hbm, 2317, rfl⟩
abbrev main_v1859 : Ref sig .tc := ⟨.hbm, 2318, rfl⟩
abbrev main_v1860 : Ref sig .tc := ⟨.hbm, 2319, rfl⟩
abbrev main_v1861 : Ref sig .tc := ⟨.hbm, 2320, rfl⟩
abbrev main_v1862 : Ref sig .tc := ⟨.hbm, 2321, rfl⟩
abbrev main_v1863 : Ref sig .tc := ⟨.hbm, 2322, rfl⟩
abbrev main_v1864 : Ref sig .tc := ⟨.hbm, 2323, rfl⟩
abbrev main_v1865 : Ref sig .tc := ⟨.hbm, 2324, rfl⟩
abbrev main_v1866 : Ref sig .tc := ⟨.hbm, 2325, rfl⟩
abbrev main_v1867 : Ref sig .tc := ⟨.hbm, 2326, rfl⟩
abbrev main_v1868 : Ref sig .tc := ⟨.hbm, 2327, rfl⟩
abbrev main_v1869 : Ref sig .tc := ⟨.hbm, 2328, rfl⟩
abbrev main_cst_333 : Ref sig .tc := ⟨.hbm, 2329, rfl⟩
abbrev main_v1870 : Ref sig .tc := ⟨.hbm, 2330, rfl⟩
abbrev main_v1871 : Ref sig .tc := ⟨.hbm, 2331, rfl⟩
abbrev main_v1872 : Ref sig .tc := ⟨.hbm, 2332, rfl⟩
abbrev main_v1873 : Ref sig .tc := ⟨.hbm, 2333, rfl⟩
abbrev main_v1874 : Ref sig .tc := ⟨.hbm, 2334, rfl⟩
abbrev main_v1875 : Ref sig .tc := ⟨.hbm, 2335, rfl⟩
abbrev main_cst_334 : Ref sig .tc := ⟨.hbm, 2336, rfl⟩
abbrev main_v1876 : Ref sig .tc := ⟨.hbm, 2337, rfl⟩
abbrev main_v1877 : Ref sig .tc := ⟨.hbm, 2338, rfl⟩
abbrev main_v1878 : Ref sig .tc := ⟨.hbm, 2339, rfl⟩
abbrev main_v1879 : Ref sig .tc := ⟨.hbm, 2340, rfl⟩
abbrev main_v1880 : Ref sig .tc := ⟨.hbm, 2341, rfl⟩
abbrev main_cst_335 : Ref sig .tc := ⟨.hbm, 2342, rfl⟩
abbrev main_v1881 : Ref sig .tc := ⟨.hbm, 2343, rfl⟩
abbrev main_v1882 : Ref sig .tc := ⟨.hbm, 2344, rfl⟩
abbrev main_cst_336 : Ref sig .tc := ⟨.hbm, 2345, rfl⟩
abbrev main_call60_v0 : Ref sig .tc := ⟨.hbm, 2346, rfl⟩
abbrev main_call60_v1 : Ref sig .tc := ⟨.hbm, 2347, rfl⟩
abbrev main_v1883 : Ref sig .tc := ⟨.hbm, 2348, rfl⟩
abbrev main_v1884 : Ref sig .tc := ⟨.hbm, 2349, rfl⟩
abbrev main_v1885 : Ref sig .tc := ⟨.hbm, 2350, rfl⟩
abbrev main_v1886 : Ref sig .tc := ⟨.hbm, 2351, rfl⟩
abbrev main_v1887 : Ref sig .tc := ⟨.hbm, 2352, rfl⟩
abbrev main_cst_337 : Ref sig .tc := ⟨.hbm, 2353, rfl⟩
abbrev main_v1888 : Ref sig .tc := ⟨.hbm, 2354, rfl⟩
abbrev main_v1889 : Ref sig .tc := ⟨.hbm, 2355, rfl⟩
abbrev main_v1890 : Ref sig .tc := ⟨.hbm, 2356, rfl⟩
abbrev main_cst_338 : Ref sig .tc := ⟨.hbm, 2357, rfl⟩
abbrev main_v1891 : Ref sig .tc := ⟨.hbm, 2358, rfl⟩
abbrev main_v1892 : Ref sig .tc := ⟨.hbm, 2359, rfl⟩
abbrev main_v1893 : Ref sig .tc := ⟨.hbm, 2360, rfl⟩
abbrev main_cst_339 : Ref sig .tc := ⟨.hbm, 2361, rfl⟩
abbrev main_call61_v0 : Ref sig .tc := ⟨.hbm, 2362, rfl⟩
abbrev main_call61_v1 : Ref sig .tc := ⟨.hbm, 2363, rfl⟩
abbrev main_v1894 : Ref sig .tc := ⟨.hbm, 2364, rfl⟩
abbrev main_v1895 : Ref sig .tc := ⟨.hbm, 2365, rfl⟩
abbrev main_cst_340 : Ref sig .tc := ⟨.hbm, 2366, rfl⟩
abbrev main_v1896 : Ref sig .tc := ⟨.hbm, 2367, rfl⟩
abbrev main_v1897 : Ref sig .tc := ⟨.hbm, 2368, rfl⟩
abbrev main_v1898 : Ref sig .tc := ⟨.hbm, 2369, rfl⟩
abbrev main_cst_341 : Ref sig .tc := ⟨.hbm, 2370, rfl⟩
abbrev main_v1899 : Ref sig .tc := ⟨.hbm, 2371, rfl⟩
abbrev main_v1900 : Ref sig .tc := ⟨.hbm, 2372, rfl⟩
abbrev main_v1901 : Ref sig .tc := ⟨.hbm, 2373, rfl⟩
abbrev main_cst_342 : Ref sig .tc := ⟨.hbm, 2374, rfl⟩
abbrev main_v1902 : Ref sig .tc := ⟨.hbm, 2375, rfl⟩
abbrev main_cst_343 : Ref sig .tc := ⟨.hbm, 2376, rfl⟩
abbrev main_v1903 : Ref sig .tc := ⟨.hbm, 2377, rfl⟩
abbrev main_v1904 : Ref sig .tc := ⟨.hbm, 2378, rfl⟩
abbrev main_v1905 : Ref sig .tc := ⟨.hbm, 2379, rfl⟩
abbrev main_v1906 : Ref sig .tc := ⟨.hbm, 2380, rfl⟩
abbrev main_v1907 : Ref sig .tc := ⟨.hbm, 2381, rfl⟩
abbrev main_v1908 : Ref sig .tc := ⟨.hbm, 2382, rfl⟩
abbrev main_v1909 : Ref sig .tc := ⟨.hbm, 2383, rfl⟩
abbrev main_v1910 : Ref sig .tc := ⟨.hbm, 2384, rfl⟩
abbrev main_v1911 : Ref sig .tc := ⟨.hbm, 2385, rfl⟩
abbrev main_v1912 : Ref sig .tc := ⟨.hbm, 2386, rfl⟩
abbrev main_v1913 : Ref sig .tc := ⟨.hbm, 2387, rfl⟩
abbrev main_v1914 : Ref sig .tc := ⟨.hbm, 2388, rfl⟩
abbrev main_v1915 : Ref sig .tc := ⟨.hbm, 2389, rfl⟩
abbrev main_v1916 : Ref sig .tc := ⟨.hbm, 2390, rfl⟩
abbrev main_v1917 : Ref sig .tc := ⟨.hbm, 2391, rfl⟩
abbrev main_v1918 : Ref sig .tc := ⟨.hbm, 2392, rfl⟩
abbrev main_v1919 : Ref sig .tc := ⟨.hbm, 2393, rfl⟩
abbrev main_v1920 : Ref sig .tc := ⟨.hbm, 2394, rfl⟩
abbrev main_v1921 : Ref sig .tc := ⟨.hbm, 2395, rfl⟩
abbrev main_v1922 : Ref sig .tc := ⟨.hbm, 2396, rfl⟩
abbrev main_v1923 : Ref sig .tc := ⟨.hbm, 2397, rfl⟩
abbrev main_v1924 : Ref sig .tc := ⟨.hbm, 2398, rfl⟩
abbrev main_v1925 : Ref sig .tc := ⟨.hbm, 2399, rfl⟩
abbrev main_v1926 : Ref sig .tc := ⟨.hbm, 2400, rfl⟩
abbrev main_v1927 : Ref sig .tc := ⟨.hbm, 2401, rfl⟩
abbrev main_v1928 : Ref sig .tc := ⟨.hbm, 2402, rfl⟩
abbrev main_v1929 : Ref sig .tc := ⟨.hbm, 2403, rfl⟩
abbrev main_v1930 : Ref sig .tc := ⟨.hbm, 2404, rfl⟩
abbrev main_cst_344 : Ref sig .tc := ⟨.hbm, 2405, rfl⟩
abbrev main_v1931 : Ref sig .tc := ⟨.hbm, 2406, rfl⟩
abbrev main_v1932 : Ref sig .tc := ⟨.hbm, 2407, rfl⟩
abbrev main_v1933 : Ref sig .tc := ⟨.hbm, 2408, rfl⟩
abbrev main_v1934 : Ref sig .tc := ⟨.hbm, 2409, rfl⟩
abbrev main_v1935 : Ref sig .tc := ⟨.hbm, 2410, rfl⟩
abbrev main_v1936 : Ref sig .tc := ⟨.hbm, 2411, rfl⟩
abbrev main_cst_345 : Ref sig .tc := ⟨.hbm, 2412, rfl⟩
abbrev main_v1937 : Ref sig .tc := ⟨.hbm, 2413, rfl⟩
abbrev main_v1938 : Ref sig .tc := ⟨.hbm, 2414, rfl⟩
abbrev main_v1939 : Ref sig .tc := ⟨.hbm, 2415, rfl⟩
abbrev main_v1940 : Ref sig .tc := ⟨.hbm, 2416, rfl⟩
abbrev main_v1941 : Ref sig .tc := ⟨.hbm, 2417, rfl⟩
abbrev main_cst_346 : Ref sig .tc := ⟨.hbm, 2418, rfl⟩
abbrev main_v1942 : Ref sig .tc := ⟨.hbm, 2419, rfl⟩
abbrev main_v1943 : Ref sig .tc := ⟨.hbm, 2420, rfl⟩
abbrev main_cst_347 : Ref sig .tc := ⟨.hbm, 2421, rfl⟩
abbrev main_call62_v0 : Ref sig .tc := ⟨.hbm, 2422, rfl⟩
abbrev main_call62_v1 : Ref sig .tc := ⟨.hbm, 2423, rfl⟩
abbrev main_v1944 : Ref sig .tc := ⟨.hbm, 2424, rfl⟩
abbrev main_v1945 : Ref sig .tc := ⟨.hbm, 2425, rfl⟩
abbrev main_v1946 : Ref sig .tc := ⟨.hbm, 2426, rfl⟩
abbrev main_v1947 : Ref sig .tc := ⟨.hbm, 2427, rfl⟩
abbrev main_v1948 : Ref sig .tc := ⟨.hbm, 2428, rfl⟩
abbrev main_cst_348 : Ref sig .tc := ⟨.hbm, 2429, rfl⟩
abbrev main_v1949 : Ref sig .tc := ⟨.hbm, 2430, rfl⟩
abbrev main_v1950 : Ref sig .tc := ⟨.hbm, 2431, rfl⟩
abbrev main_v1951 : Ref sig .tc := ⟨.hbm, 2432, rfl⟩
abbrev main_cst_349 : Ref sig .tc := ⟨.hbm, 2433, rfl⟩
abbrev main_v1952 : Ref sig .tc := ⟨.hbm, 2434, rfl⟩
abbrev main_v1953 : Ref sig .tc := ⟨.hbm, 2435, rfl⟩
abbrev main_v1954 : Ref sig .tc := ⟨.hbm, 2436, rfl⟩
abbrev main_cst_350 : Ref sig .tc := ⟨.hbm, 2437, rfl⟩
abbrev main_call63_v0 : Ref sig .tc := ⟨.hbm, 2438, rfl⟩
abbrev main_call63_v1 : Ref sig .tc := ⟨.hbm, 2439, rfl⟩
abbrev main_v1955 : Ref sig .tc := ⟨.hbm, 2440, rfl⟩
abbrev main_v1956 : Ref sig .tc := ⟨.hbm, 2441, rfl⟩
abbrev main_cst_351 : Ref sig .tc := ⟨.hbm, 2442, rfl⟩
abbrev main_v1957 : Ref sig .tc := ⟨.hbm, 2443, rfl⟩
abbrev main_v1958 : Ref sig .tc := ⟨.hbm, 2444, rfl⟩
abbrev main_v1959 : Ref sig .tc := ⟨.hbm, 2445, rfl⟩
abbrev main_cst_352 : Ref sig .tc := ⟨.hbm, 2446, rfl⟩
abbrev main_v1960 : Ref sig .tc := ⟨.hbm, 2447, rfl⟩
abbrev main_v1961 : Ref sig .tc := ⟨.hbm, 2448, rfl⟩
abbrev main_v1962 : Ref sig .tc := ⟨.hbm, 2449, rfl⟩
abbrev main_cst_353 : Ref sig .tc := ⟨.hbm, 2450, rfl⟩
abbrev main_v1963 : Ref sig .tc := ⟨.hbm, 2451, rfl⟩
abbrev main_cst_354 : Ref sig .tc := ⟨.hbm, 2452, rfl⟩
abbrev main_v1964 : Ref sig .tc := ⟨.hbm, 2453, rfl⟩
abbrev main_v1965 : Ref sig .tc := ⟨.hbm, 2454, rfl⟩
abbrev main_v1966 : Ref sig .tc := ⟨.hbm, 2455, rfl⟩
abbrev main_v1967 : Ref sig .tc := ⟨.hbm, 2456, rfl⟩
abbrev main_v1968 : Ref sig .tc := ⟨.hbm, 2457, rfl⟩
abbrev main_v1969 : Ref sig .tc := ⟨.hbm, 2458, rfl⟩
abbrev main_v1970 : Ref sig .tc := ⟨.hbm, 2459, rfl⟩
abbrev main_v1971 : Ref sig .tc := ⟨.hbm, 2460, rfl⟩
abbrev main_v1972 : Ref sig .tc := ⟨.hbm, 2461, rfl⟩
abbrev main_v1973 : Ref sig .tc := ⟨.hbm, 2462, rfl⟩
abbrev main_v1974 : Ref sig .tc := ⟨.hbm, 2463, rfl⟩
abbrev main_v1975 : Ref sig .tc := ⟨.hbm, 2464, rfl⟩
abbrev main_v1976 : Ref sig .tc := ⟨.hbm, 2465, rfl⟩
abbrev main_v1977 : Ref sig .tc := ⟨.hbm, 2466, rfl⟩
abbrev main_v1978 : Ref sig .tc := ⟨.hbm, 2467, rfl⟩
abbrev main_v1979 : Ref sig .tc := ⟨.hbm, 2468, rfl⟩
abbrev main_v1980 : Ref sig .tc := ⟨.hbm, 2469, rfl⟩
abbrev main_v1981 : Ref sig .tc := ⟨.hbm, 2470, rfl⟩
abbrev main_v1982 : Ref sig .tc := ⟨.hbm, 2471, rfl⟩
abbrev main_v1983 : Ref sig .tc := ⟨.hbm, 2472, rfl⟩
abbrev main_v1984 : Ref sig .tc := ⟨.hbm, 2473, rfl⟩
abbrev main_v1985 : Ref sig .tc := ⟨.hbm, 2474, rfl⟩
abbrev main_v1986 : Ref sig .tc := ⟨.hbm, 2475, rfl⟩
abbrev main_v1987 : Ref sig .tc := ⟨.hbm, 2476, rfl⟩
abbrev main_v1988 : Ref sig .tc := ⟨.hbm, 2477, rfl⟩
abbrev main_v1989 : Ref sig .tc := ⟨.hbm, 2478, rfl⟩
abbrev main_v1990 : Ref sig .tc := ⟨.hbm, 2479, rfl⟩
abbrev main_v1991 : Ref sig .tc := ⟨.hbm, 2480, rfl⟩
abbrev main_cst_355 : Ref sig .tc := ⟨.hbm, 2481, rfl⟩
abbrev main_v1992 : Ref sig .tc := ⟨.hbm, 2482, rfl⟩
abbrev main_v1993 : Ref sig .tc := ⟨.hbm, 2483, rfl⟩
abbrev main_v1994 : Ref sig .tc := ⟨.hbm, 2484, rfl⟩
abbrev main_v1995 : Ref sig .tc := ⟨.hbm, 2485, rfl⟩
abbrev main_v1996 : Ref sig .tc := ⟨.hbm, 2486, rfl⟩
abbrev main_v1997 : Ref sig .tc := ⟨.hbm, 2487, rfl⟩
abbrev main_cst_356 : Ref sig .tc := ⟨.hbm, 2488, rfl⟩
abbrev main_v1998 : Ref sig .tc := ⟨.hbm, 2489, rfl⟩
abbrev main_v1999 : Ref sig .tc := ⟨.hbm, 2490, rfl⟩
abbrev main_v2000 : Ref sig .tc := ⟨.hbm, 2491, rfl⟩
abbrev main_v2001 : Ref sig .tc := ⟨.hbm, 2492, rfl⟩
abbrev main_v2002 : Ref sig .tc := ⟨.hbm, 2493, rfl⟩
abbrev main_cst_357 : Ref sig .tc := ⟨.hbm, 2494, rfl⟩
abbrev main_v2003 : Ref sig .tc := ⟨.hbm, 2495, rfl⟩
abbrev main_v2004 : Ref sig .tc := ⟨.hbm, 2496, rfl⟩
abbrev main_cst_358 : Ref sig .tc := ⟨.hbm, 2497, rfl⟩
abbrev main_call64_v0 : Ref sig .tc := ⟨.hbm, 2498, rfl⟩
abbrev main_call64_v1 : Ref sig .tc := ⟨.hbm, 2499, rfl⟩
abbrev main_v2005 : Ref sig .tc := ⟨.hbm, 2500, rfl⟩
abbrev main_v2006 : Ref sig .tc := ⟨.hbm, 2501, rfl⟩
abbrev main_v2007 : Ref sig .tc := ⟨.hbm, 2502, rfl⟩
abbrev main_v2008 : Ref sig .tc := ⟨.hbm, 2503, rfl⟩
abbrev main_v2009 : Ref sig .tc := ⟨.hbm, 2504, rfl⟩
abbrev main_cst_359 : Ref sig .tc := ⟨.hbm, 2505, rfl⟩
abbrev main_v2010 : Ref sig .tc := ⟨.hbm, 2506, rfl⟩
abbrev main_v2011 : Ref sig .tc := ⟨.hbm, 2507, rfl⟩
abbrev main_v2012 : Ref sig .tc := ⟨.hbm, 2508, rfl⟩
abbrev main_cst_360 : Ref sig .tc := ⟨.hbm, 2509, rfl⟩
abbrev main_v2013 : Ref sig .tc := ⟨.hbm, 2510, rfl⟩
abbrev main_v2014 : Ref sig .tc := ⟨.hbm, 2511, rfl⟩
abbrev main_v2015 : Ref sig .tc := ⟨.hbm, 2512, rfl⟩
abbrev main_cst_361 : Ref sig .tc := ⟨.hbm, 2513, rfl⟩
abbrev main_call65_v0 : Ref sig .tc := ⟨.hbm, 2514, rfl⟩
abbrev main_call65_v1 : Ref sig .tc := ⟨.hbm, 2515, rfl⟩
abbrev main_v2016 : Ref sig .tc := ⟨.hbm, 2516, rfl⟩
abbrev main_v2017 : Ref sig .tc := ⟨.hbm, 2517, rfl⟩
abbrev main_cst_362 : Ref sig .tc := ⟨.hbm, 2518, rfl⟩
abbrev main_v2018 : Ref sig .tc := ⟨.hbm, 2519, rfl⟩
abbrev main_v2019 : Ref sig .tc := ⟨.hbm, 2520, rfl⟩
abbrev main_v2020 : Ref sig .tc := ⟨.hbm, 2521, rfl⟩
abbrev main_cst_363 : Ref sig .tc := ⟨.hbm, 2522, rfl⟩
abbrev main_v2021 : Ref sig .tc := ⟨.hbm, 2523, rfl⟩
abbrev main_v2022 : Ref sig .tc := ⟨.hbm, 2524, rfl⟩
abbrev main_v2023 : Ref sig .tc := ⟨.hbm, 2525, rfl⟩
abbrev main_cst_364 : Ref sig .tc := ⟨.hbm, 2526, rfl⟩
abbrev main_v2024 : Ref sig .tc := ⟨.hbm, 2527, rfl⟩
abbrev main_cst_365 : Ref sig .tc := ⟨.hbm, 2528, rfl⟩
abbrev main_v2025 : Ref sig .tc := ⟨.hbm, 2529, rfl⟩
abbrev main_v2026 : Ref sig .tc := ⟨.hbm, 2530, rfl⟩
abbrev main_v2027 : Ref sig .tc := ⟨.hbm, 2531, rfl⟩
abbrev main_v2028 : Ref sig .tc := ⟨.hbm, 2532, rfl⟩
abbrev main_v2029 : Ref sig .tc := ⟨.hbm, 2533, rfl⟩
abbrev main_v2030 : Ref sig .tc := ⟨.hbm, 2534, rfl⟩
abbrev main_v2031 : Ref sig .tc := ⟨.hbm, 2535, rfl⟩
abbrev main_v2032 : Ref sig .tc := ⟨.hbm, 2536, rfl⟩
abbrev main_v2033 : Ref sig .tc := ⟨.hbm, 2537, rfl⟩
abbrev main_v2034 : Ref sig .tc := ⟨.hbm, 2538, rfl⟩
abbrev main_v2035 : Ref sig .tc := ⟨.hbm, 2539, rfl⟩
abbrev main_v2036 : Ref sig .tc := ⟨.hbm, 2540, rfl⟩
abbrev main_v2037 : Ref sig .tc := ⟨.hbm, 2541, rfl⟩
abbrev main_v2038 : Ref sig .tc := ⟨.hbm, 2542, rfl⟩
abbrev main_v2039 : Ref sig .tc := ⟨.hbm, 2543, rfl⟩
abbrev main_v2040 : Ref sig .tc := ⟨.hbm, 2544, rfl⟩
abbrev main_v2041 : Ref sig .tc := ⟨.hbm, 2545, rfl⟩
abbrev main_v2042 : Ref sig .tc := ⟨.hbm, 2546, rfl⟩
abbrev main_v2043 : Ref sig .tc := ⟨.hbm, 2547, rfl⟩
abbrev main_v2044 : Ref sig .tc := ⟨.hbm, 2548, rfl⟩
abbrev main_v2045 : Ref sig .tc := ⟨.hbm, 2549, rfl⟩
abbrev main_v2046 : Ref sig .tc := ⟨.hbm, 2550, rfl⟩
abbrev main_v2047 : Ref sig .tc := ⟨.hbm, 2551, rfl⟩
abbrev main_v2048 : Ref sig .tc := ⟨.hbm, 2552, rfl⟩
abbrev main_v2049 : Ref sig .tc := ⟨.hbm, 2553, rfl⟩
abbrev main_v2050 : Ref sig .tc := ⟨.hbm, 2554, rfl⟩
abbrev main_v2051 : Ref sig .tc := ⟨.hbm, 2555, rfl⟩
abbrev main_v2052 : Ref sig .tc := ⟨.hbm, 2556, rfl⟩
abbrev main_cst_366 : Ref sig .tc := ⟨.hbm, 2557, rfl⟩
abbrev main_v2053 : Ref sig .tc := ⟨.hbm, 2558, rfl⟩
abbrev main_v2054 : Ref sig .tc := ⟨.hbm, 2559, rfl⟩
abbrev main_v2055 : Ref sig .tc := ⟨.hbm, 2560, rfl⟩
abbrev main_v2056 : Ref sig .tc := ⟨.hbm, 2561, rfl⟩
abbrev main_v2057 : Ref sig .tc := ⟨.hbm, 2562, rfl⟩
abbrev main_v2058 : Ref sig .tc := ⟨.hbm, 2563, rfl⟩
abbrev main_cst_367 : Ref sig .tc := ⟨.hbm, 2564, rfl⟩
abbrev main_v2059 : Ref sig .tc := ⟨.hbm, 2565, rfl⟩
abbrev main_v2060 : Ref sig .tc := ⟨.hbm, 2566, rfl⟩
abbrev main_v2061 : Ref sig .tc := ⟨.hbm, 2567, rfl⟩
abbrev main_v2062 : Ref sig .tc := ⟨.hbm, 2568, rfl⟩
abbrev main_v2063 : Ref sig .tc := ⟨.hbm, 2569, rfl⟩
abbrev main_cst_368 : Ref sig .tc := ⟨.hbm, 2570, rfl⟩
abbrev main_v2064 : Ref sig .tc := ⟨.hbm, 2571, rfl⟩
abbrev main_v2065 : Ref sig .tc := ⟨.hbm, 2572, rfl⟩
abbrev main_cst_369 : Ref sig .tc := ⟨.hbm, 2573, rfl⟩
abbrev main_call66_v0 : Ref sig .tc := ⟨.hbm, 2574, rfl⟩
abbrev main_call66_v1 : Ref sig .tc := ⟨.hbm, 2575, rfl⟩
abbrev main_v2066 : Ref sig .tc := ⟨.hbm, 2576, rfl⟩
abbrev main_v2067 : Ref sig .tc := ⟨.hbm, 2577, rfl⟩
abbrev main_v2068 : Ref sig .tc := ⟨.hbm, 2578, rfl⟩
abbrev main_v2069 : Ref sig .tc := ⟨.hbm, 2579, rfl⟩
abbrev main_v2070 : Ref sig .tc := ⟨.hbm, 2580, rfl⟩
abbrev main_cst_370 : Ref sig .tc := ⟨.hbm, 2581, rfl⟩
abbrev main_v2071 : Ref sig .tc := ⟨.hbm, 2582, rfl⟩
abbrev main_v2072 : Ref sig .tc := ⟨.hbm, 2583, rfl⟩
abbrev main_v2073 : Ref sig .tc := ⟨.hbm, 2584, rfl⟩
abbrev main_cst_371 : Ref sig .tc := ⟨.hbm, 2585, rfl⟩
abbrev main_v2074 : Ref sig .tc := ⟨.hbm, 2586, rfl⟩
abbrev main_v2075 : Ref sig .tc := ⟨.hbm, 2587, rfl⟩
abbrev main_v2076 : Ref sig .tc := ⟨.hbm, 2588, rfl⟩
abbrev main_cst_372 : Ref sig .tc := ⟨.hbm, 2589, rfl⟩
abbrev main_call67_v0 : Ref sig .tc := ⟨.hbm, 2590, rfl⟩
abbrev main_call67_v1 : Ref sig .tc := ⟨.hbm, 2591, rfl⟩
abbrev main_v2077 : Ref sig .tc := ⟨.hbm, 2592, rfl⟩
abbrev main_v2078 : Ref sig .tc := ⟨.hbm, 2593, rfl⟩
abbrev main_cst_373 : Ref sig .tc := ⟨.hbm, 2594, rfl⟩
abbrev main_v2079 : Ref sig .tc := ⟨.hbm, 2595, rfl⟩
abbrev main_v2080 : Ref sig .tc := ⟨.hbm, 2596, rfl⟩
abbrev main_v2081 : Ref sig .tc := ⟨.hbm, 2597, rfl⟩
abbrev main_cst_374 : Ref sig .tc := ⟨.hbm, 2598, rfl⟩
abbrev main_v2082 : Ref sig .tc := ⟨.hbm, 2599, rfl⟩
abbrev main_v2083 : Ref sig .tc := ⟨.hbm, 2600, rfl⟩
abbrev main_v2084 : Ref sig .tc := ⟨.hbm, 2601, rfl⟩
abbrev main_cst_375 : Ref sig .tc := ⟨.hbm, 2602, rfl⟩
abbrev main_v2085 : Ref sig .tc := ⟨.hbm, 2603, rfl⟩
abbrev main_cst_376 : Ref sig .tc := ⟨.hbm, 2604, rfl⟩
abbrev main_v2086 : Ref sig .tc := ⟨.hbm, 2605, rfl⟩
abbrev main_v2087 : Ref sig .tc := ⟨.hbm, 2606, rfl⟩
abbrev main_v2088 : Ref sig .tc := ⟨.hbm, 2607, rfl⟩
abbrev main_v2089 : Ref sig .tc := ⟨.hbm, 2608, rfl⟩
abbrev main_v2090 : Ref sig .tc := ⟨.hbm, 2609, rfl⟩
abbrev main_v2091 : Ref sig .tc := ⟨.hbm, 2610, rfl⟩
abbrev main_v2092 : Ref sig .tc := ⟨.hbm, 2611, rfl⟩
abbrev main_v2093 : Ref sig .tc := ⟨.hbm, 2612, rfl⟩
abbrev main_v2094 : Ref sig .tc := ⟨.hbm, 2613, rfl⟩
abbrev main_v2095 : Ref sig .tc := ⟨.hbm, 2614, rfl⟩
abbrev main_v2096 : Ref sig .tc := ⟨.hbm, 2615, rfl⟩
abbrev main_v2097 : Ref sig .tc := ⟨.hbm, 2616, rfl⟩
abbrev main_v2098 : Ref sig .tc := ⟨.hbm, 2617, rfl⟩
abbrev main_v2099 : Ref sig .tc := ⟨.hbm, 2618, rfl⟩
abbrev main_v2100 : Ref sig .tc := ⟨.hbm, 2619, rfl⟩
abbrev main_v2101 : Ref sig .tc := ⟨.hbm, 2620, rfl⟩
abbrev main_v2102 : Ref sig .tc := ⟨.hbm, 2621, rfl⟩
abbrev main_v2103 : Ref sig .tc := ⟨.hbm, 2622, rfl⟩
abbrev main_v2104 : Ref sig .tc := ⟨.hbm, 2623, rfl⟩
abbrev main_v2105 : Ref sig .tc := ⟨.hbm, 2624, rfl⟩
abbrev main_v2106 : Ref sig .tc := ⟨.hbm, 2625, rfl⟩
abbrev main_v2107 : Ref sig .tc := ⟨.hbm, 2626, rfl⟩
abbrev main_v2108 : Ref sig .tc := ⟨.hbm, 2627, rfl⟩
abbrev main_v2109 : Ref sig .tc := ⟨.hbm, 2628, rfl⟩
abbrev main_v2110 : Ref sig .tc := ⟨.hbm, 2629, rfl⟩
abbrev main_v2111 : Ref sig .tc := ⟨.hbm, 2630, rfl⟩
abbrev main_v2112 : Ref sig .tc := ⟨.hbm, 2631, rfl⟩
abbrev main_v2113 : Ref sig .tc := ⟨.hbm, 2632, rfl⟩
abbrev main_cst_377 : Ref sig .tc := ⟨.hbm, 2633, rfl⟩
abbrev main_v2114 : Ref sig .tc := ⟨.hbm, 2634, rfl⟩
abbrev main_v2115 : Ref sig .tc := ⟨.hbm, 2635, rfl⟩
abbrev main_v2116 : Ref sig .tc := ⟨.hbm, 2636, rfl⟩
abbrev main_v2117 : Ref sig .tc := ⟨.hbm, 2637, rfl⟩
abbrev main_v2118 : Ref sig .tc := ⟨.hbm, 2638, rfl⟩
abbrev main_v2119 : Ref sig .tc := ⟨.hbm, 2639, rfl⟩
abbrev main_cst_378 : Ref sig .tc := ⟨.hbm, 2640, rfl⟩
abbrev main_v2120 : Ref sig .tc := ⟨.hbm, 2641, rfl⟩
abbrev main_v2121 : Ref sig .tc := ⟨.hbm, 2642, rfl⟩
abbrev main_v2122 : Ref sig .tc := ⟨.hbm, 2643, rfl⟩
abbrev main_v2123 : Ref sig .tc := ⟨.hbm, 2644, rfl⟩
abbrev main_v2124 : Ref sig .tc := ⟨.hbm, 2645, rfl⟩
abbrev main_cst_379 : Ref sig .tc := ⟨.hbm, 2646, rfl⟩
abbrev main_v2125 : Ref sig .tc := ⟨.hbm, 2647, rfl⟩
abbrev main_v2126 : Ref sig .tc := ⟨.hbm, 2648, rfl⟩
abbrev main_cst_380 : Ref sig .tc := ⟨.hbm, 2649, rfl⟩
abbrev main_call68_v0 : Ref sig .tc := ⟨.hbm, 2650, rfl⟩
abbrev main_call68_v1 : Ref sig .tc := ⟨.hbm, 2651, rfl⟩
abbrev main_v2127 : Ref sig .tc := ⟨.hbm, 2652, rfl⟩
abbrev main_v2128 : Ref sig .tc := ⟨.hbm, 2653, rfl⟩
abbrev main_v2129 : Ref sig .tc := ⟨.hbm, 2654, rfl⟩
abbrev main_v2130 : Ref sig .tc := ⟨.hbm, 2655, rfl⟩
abbrev main_v2131 : Ref sig .tc := ⟨.hbm, 2656, rfl⟩
abbrev main_cst_381 : Ref sig .tc := ⟨.hbm, 2657, rfl⟩
abbrev main_v2132 : Ref sig .tc := ⟨.hbm, 2658, rfl⟩
abbrev main_v2133 : Ref sig .tc := ⟨.hbm, 2659, rfl⟩
abbrev main_v2134 : Ref sig .tc := ⟨.hbm, 2660, rfl⟩
abbrev main_cst_382 : Ref sig .tc := ⟨.hbm, 2661, rfl⟩
abbrev main_v2135 : Ref sig .tc := ⟨.hbm, 2662, rfl⟩
abbrev main_v2136 : Ref sig .tc := ⟨.hbm, 2663, rfl⟩
abbrev main_v2137 : Ref sig .tc := ⟨.hbm, 2664, rfl⟩
abbrev main_cst_383 : Ref sig .tc := ⟨.hbm, 2665, rfl⟩
abbrev main_call69_v0 : Ref sig .tc := ⟨.hbm, 2666, rfl⟩
abbrev main_call69_v1 : Ref sig .tc := ⟨.hbm, 2667, rfl⟩
abbrev main_v2138 : Ref sig .tc := ⟨.hbm, 2668, rfl⟩
abbrev main_v2139 : Ref sig .tc := ⟨.hbm, 2669, rfl⟩
abbrev main_cst_384 : Ref sig .tc := ⟨.hbm, 2670, rfl⟩
abbrev main_v2140 : Ref sig .tc := ⟨.hbm, 2671, rfl⟩
abbrev main_v2141 : Ref sig .tc := ⟨.hbm, 2672, rfl⟩
abbrev main_v2142 : Ref sig .tc := ⟨.hbm, 2673, rfl⟩
abbrev main_cst_385 : Ref sig .tc := ⟨.hbm, 2674, rfl⟩
abbrev main_v2143 : Ref sig .tc := ⟨.hbm, 2675, rfl⟩
abbrev main_v2144 : Ref sig .tc := ⟨.hbm, 2676, rfl⟩
abbrev main_v2145 : Ref sig .tc := ⟨.hbm, 2677, rfl⟩
abbrev main_cst_386 : Ref sig .tc := ⟨.hbm, 2678, rfl⟩
abbrev main_v2146 : Ref sig .tc := ⟨.hbm, 2679, rfl⟩
abbrev main_cst_387 : Ref sig .tc := ⟨.hbm, 2680, rfl⟩
abbrev main_v2147 : Ref sig .tc := ⟨.hbm, 2681, rfl⟩
abbrev main_v2148 : Ref sig .tc := ⟨.hbm, 2682, rfl⟩
abbrev main_v2149 : Ref sig .tc := ⟨.hbm, 2683, rfl⟩
abbrev main_v2150 : Ref sig .tc := ⟨.hbm, 2684, rfl⟩
abbrev main_v2151 : Ref sig .tc := ⟨.hbm, 2685, rfl⟩
abbrev main_v2152 : Ref sig .tc := ⟨.hbm, 2686, rfl⟩
abbrev main_v2153 : Ref sig .tc := ⟨.hbm, 2687, rfl⟩
abbrev main_v2154 : Ref sig .tc := ⟨.hbm, 2688, rfl⟩
abbrev main_v2155 : Ref sig .tc := ⟨.hbm, 2689, rfl⟩
abbrev main_v2156 : Ref sig .tc := ⟨.hbm, 2690, rfl⟩
abbrev main_v2157 : Ref sig .tc := ⟨.hbm, 2691, rfl⟩
abbrev main_v2158 : Ref sig .tc := ⟨.hbm, 2692, rfl⟩
abbrev main_v2159 : Ref sig .tc := ⟨.hbm, 2693, rfl⟩
abbrev main_v2160 : Ref sig .tc := ⟨.hbm, 2694, rfl⟩
abbrev main_v2161 : Ref sig .tc := ⟨.hbm, 2695, rfl⟩
abbrev main_v2162 : Ref sig .tc := ⟨.hbm, 2696, rfl⟩
abbrev main_v2163 : Ref sig .tc := ⟨.hbm, 2697, rfl⟩
abbrev main_v2164 : Ref sig .tc := ⟨.hbm, 2698, rfl⟩
abbrev main_v2165 : Ref sig .tc := ⟨.hbm, 2699, rfl⟩
abbrev main_v2166 : Ref sig .tc := ⟨.hbm, 2700, rfl⟩
abbrev main_v2167 : Ref sig .tc := ⟨.hbm, 2701, rfl⟩
abbrev main_v2168 : Ref sig .tc := ⟨.hbm, 2702, rfl⟩
abbrev main_v2169 : Ref sig .tc := ⟨.hbm, 2703, rfl⟩
abbrev main_v2170 : Ref sig .tc := ⟨.hbm, 2704, rfl⟩
abbrev main_v2171 : Ref sig .tc := ⟨.hbm, 2705, rfl⟩
abbrev main_v2172 : Ref sig .tc := ⟨.hbm, 2706, rfl⟩
abbrev main_v2173 : Ref sig .tc := ⟨.hbm, 2707, rfl⟩
abbrev main_v2174 : Ref sig .tc := ⟨.hbm, 2708, rfl⟩
abbrev main_cst_388 : Ref sig .tc := ⟨.hbm, 2709, rfl⟩
abbrev main_v2175 : Ref sig .tc := ⟨.hbm, 2710, rfl⟩
abbrev main_v2176 : Ref sig .tc := ⟨.hbm, 2711, rfl⟩
abbrev main_v2177 : Ref sig .tc := ⟨.hbm, 2712, rfl⟩
abbrev main_v2178 : Ref sig .tc := ⟨.hbm, 2713, rfl⟩
abbrev main_v2179 : Ref sig .tc := ⟨.hbm, 2714, rfl⟩
abbrev main_v2180 : Ref sig .tc := ⟨.hbm, 2715, rfl⟩
abbrev main_cst_389 : Ref sig .tc := ⟨.hbm, 2716, rfl⟩
abbrev main_v2181 : Ref sig .tc := ⟨.hbm, 2717, rfl⟩
abbrev main_v2182 : Ref sig .tc := ⟨.hbm, 2718, rfl⟩
abbrev main_v2183 : Ref sig .tc := ⟨.hbm, 2719, rfl⟩
abbrev main_v2184 : Ref sig .tc := ⟨.hbm, 2720, rfl⟩
abbrev main_v2185 : Ref sig .tc := ⟨.hbm, 2721, rfl⟩
abbrev main_cst_390 : Ref sig .tc := ⟨.hbm, 2722, rfl⟩
abbrev main_v2186 : Ref sig .tc := ⟨.hbm, 2723, rfl⟩
abbrev main_v2187 : Ref sig .tc := ⟨.hbm, 2724, rfl⟩
abbrev main_cst_391 : Ref sig .tc := ⟨.hbm, 2725, rfl⟩
abbrev main_call70_v0 : Ref sig .tc := ⟨.hbm, 2726, rfl⟩
abbrev main_call70_v1 : Ref sig .tc := ⟨.hbm, 2727, rfl⟩
abbrev main_v2188 : Ref sig .tc := ⟨.hbm, 2728, rfl⟩
abbrev main_v2189 : Ref sig .tc := ⟨.hbm, 2729, rfl⟩
abbrev main_v2190 : Ref sig .tc := ⟨.hbm, 2730, rfl⟩
abbrev main_v2191 : Ref sig .tc := ⟨.hbm, 2731, rfl⟩
abbrev main_v2192 : Ref sig .tc := ⟨.hbm, 2732, rfl⟩
abbrev main_cst_392 : Ref sig .tc := ⟨.hbm, 2733, rfl⟩
abbrev main_v2193 : Ref sig .tc := ⟨.hbm, 2734, rfl⟩
abbrev main_v2194 : Ref sig .tc := ⟨.hbm, 2735, rfl⟩
abbrev main_v2195 : Ref sig .tc := ⟨.hbm, 2736, rfl⟩
abbrev main_cst_393 : Ref sig .tc := ⟨.hbm, 2737, rfl⟩
abbrev main_v2196 : Ref sig .tc := ⟨.hbm, 2738, rfl⟩
abbrev main_v2197 : Ref sig .tc := ⟨.hbm, 2739, rfl⟩
abbrev main_v2198 : Ref sig .tc := ⟨.hbm, 2740, rfl⟩
abbrev main_cst_394 : Ref sig .tc := ⟨.hbm, 2741, rfl⟩
abbrev main_call71_v0 : Ref sig .tc := ⟨.hbm, 2742, rfl⟩
abbrev main_call71_v1 : Ref sig .tc := ⟨.hbm, 2743, rfl⟩
abbrev main_v2199 : Ref sig .tc := ⟨.hbm, 2744, rfl⟩
abbrev main_v2200 : Ref sig .tc := ⟨.hbm, 2745, rfl⟩
abbrev main_cst_395 : Ref sig .tc := ⟨.hbm, 2746, rfl⟩
abbrev main_v2201 : Ref sig .tc := ⟨.hbm, 2747, rfl⟩
abbrev main_v2202 : Ref sig .tc := ⟨.hbm, 2748, rfl⟩
abbrev main_v2203 : Ref sig .tc := ⟨.hbm, 2749, rfl⟩
abbrev main_cst_396 : Ref sig .tc := ⟨.hbm, 2750, rfl⟩
abbrev main_v2204 : Ref sig .tc := ⟨.hbm, 2751, rfl⟩
abbrev main_v2205 : Ref sig .tc := ⟨.hbm, 2752, rfl⟩
abbrev main_v2206 : Ref sig .tc := ⟨.hbm, 2753, rfl⟩
abbrev main_cst_397 : Ref sig .tc := ⟨.hbm, 2754, rfl⟩
abbrev main_v2207 : Ref sig .tc := ⟨.hbm, 2755, rfl⟩
abbrev main_cst_398 : Ref sig .tc := ⟨.hbm, 2756, rfl⟩
abbrev main_v2208 : Ref sig .tc := ⟨.hbm, 2757, rfl⟩
abbrev main_v2209 : Ref sig .tc := ⟨.hbm, 2758, rfl⟩
abbrev main_v2210 : Ref sig .tc := ⟨.hbm, 2759, rfl⟩
abbrev main_v2211 : Ref sig .tc := ⟨.hbm, 2760, rfl⟩
abbrev main_v2212 : Ref sig .tc := ⟨.hbm, 2761, rfl⟩
abbrev main_v2213 : Ref sig .tc := ⟨.hbm, 2762, rfl⟩
abbrev main_v2214 : Ref sig .tc := ⟨.hbm, 2763, rfl⟩
abbrev main_v2215 : Ref sig .tc := ⟨.hbm, 2764, rfl⟩
abbrev main_v2216 : Ref sig .tc := ⟨.hbm, 2765, rfl⟩
abbrev main_v2217 : Ref sig .tc := ⟨.hbm, 2766, rfl⟩
abbrev main_v2218 : Ref sig .tc := ⟨.hbm, 2767, rfl⟩
abbrev main_v2219 : Ref sig .tc := ⟨.hbm, 2768, rfl⟩
abbrev main_v2220 : Ref sig .tc := ⟨.hbm, 2769, rfl⟩
abbrev main_v2221 : Ref sig .tc := ⟨.hbm, 2770, rfl⟩
abbrev main_v2222 : Ref sig .tc := ⟨.hbm, 2771, rfl⟩
abbrev main_v2223 : Ref sig .tc := ⟨.hbm, 2772, rfl⟩
abbrev main_v2224 : Ref sig .tc := ⟨.hbm, 2773, rfl⟩
abbrev main_v2225 : Ref sig .tc := ⟨.hbm, 2774, rfl⟩
abbrev main_v2226 : Ref sig .tc := ⟨.hbm, 2775, rfl⟩
abbrev main_v2227 : Ref sig .tc := ⟨.hbm, 2776, rfl⟩
abbrev main_v2228 : Ref sig .tc := ⟨.hbm, 2777, rfl⟩
abbrev main_v2229 : Ref sig .tc := ⟨.hbm, 2778, rfl⟩
abbrev main_v2230 : Ref sig .tc := ⟨.hbm, 2779, rfl⟩
abbrev main_v2231 : Ref sig .tc := ⟨.hbm, 2780, rfl⟩
abbrev main_v2232 : Ref sig .tc := ⟨.hbm, 2781, rfl⟩
abbrev main_v2233 : Ref sig .tc := ⟨.hbm, 2782, rfl⟩
abbrev main_v2234 : Ref sig .tc := ⟨.hbm, 2783, rfl⟩
abbrev main_v2235 : Ref sig .tc := ⟨.hbm, 2784, rfl⟩
abbrev main_cst_399 : Ref sig .tc := ⟨.hbm, 2785, rfl⟩
abbrev main_v2236 : Ref sig .tc := ⟨.hbm, 2786, rfl⟩
abbrev main_v2237 : Ref sig .tc := ⟨.hbm, 2787, rfl⟩
abbrev main_v2238 : Ref sig .tc := ⟨.hbm, 2788, rfl⟩
abbrev main_v2239 : Ref sig .tc := ⟨.hbm, 2789, rfl⟩
abbrev main_v2240 : Ref sig .tc := ⟨.hbm, 2790, rfl⟩
abbrev main_v2241 : Ref sig .tc := ⟨.hbm, 2791, rfl⟩
abbrev main_cst_400 : Ref sig .tc := ⟨.hbm, 2792, rfl⟩
abbrev main_v2242 : Ref sig .tc := ⟨.hbm, 2793, rfl⟩
abbrev main_v2243 : Ref sig .tc := ⟨.hbm, 2794, rfl⟩
abbrev main_v2244 : Ref sig .tc := ⟨.hbm, 2795, rfl⟩
abbrev main_v2245 : Ref sig .tc := ⟨.hbm, 2796, rfl⟩
abbrev main_v2246 : Ref sig .tc := ⟨.hbm, 2797, rfl⟩
abbrev main_cst_401 : Ref sig .tc := ⟨.hbm, 2798, rfl⟩
abbrev main_v2247 : Ref sig .tc := ⟨.hbm, 2799, rfl⟩
abbrev main_v2248 : Ref sig .tc := ⟨.hbm, 2800, rfl⟩
abbrev main_cst_402 : Ref sig .tc := ⟨.hbm, 2801, rfl⟩
abbrev main_call72_v0 : Ref sig .tc := ⟨.hbm, 2802, rfl⟩
abbrev main_call72_v1 : Ref sig .tc := ⟨.hbm, 2803, rfl⟩
abbrev main_v2249 : Ref sig .tc := ⟨.hbm, 2804, rfl⟩
abbrev main_v2250 : Ref sig .tc := ⟨.hbm, 2805, rfl⟩
abbrev main_v2251 : Ref sig .tc := ⟨.hbm, 2806, rfl⟩
abbrev main_v2252 : Ref sig .tc := ⟨.hbm, 2807, rfl⟩
abbrev main_v2253 : Ref sig .tc := ⟨.hbm, 2808, rfl⟩
abbrev main_cst_403 : Ref sig .tc := ⟨.hbm, 2809, rfl⟩
abbrev main_v2254 : Ref sig .tc := ⟨.hbm, 2810, rfl⟩
abbrev main_v2255 : Ref sig .tc := ⟨.hbm, 2811, rfl⟩
abbrev main_v2256 : Ref sig .tc := ⟨.hbm, 2812, rfl⟩
abbrev main_cst_404 : Ref sig .tc := ⟨.hbm, 2813, rfl⟩
abbrev main_v2257 : Ref sig .tc := ⟨.hbm, 2814, rfl⟩
abbrev main_v2258 : Ref sig .tc := ⟨.hbm, 2815, rfl⟩
abbrev main_v2259 : Ref sig .tc := ⟨.hbm, 2816, rfl⟩
abbrev main_cst_405 : Ref sig .tc := ⟨.hbm, 2817, rfl⟩
abbrev main_call73_v0 : Ref sig .tc := ⟨.hbm, 2818, rfl⟩
abbrev main_call73_v1 : Ref sig .tc := ⟨.hbm, 2819, rfl⟩
abbrev main_v2260 : Ref sig .tc := ⟨.hbm, 2820, rfl⟩
abbrev main_v2261 : Ref sig .tc := ⟨.hbm, 2821, rfl⟩
abbrev main_cst_406 : Ref sig .tc := ⟨.hbm, 2822, rfl⟩
abbrev main_v2262 : Ref sig .tc := ⟨.hbm, 2823, rfl⟩
abbrev main_v2263 : Ref sig .tc := ⟨.hbm, 2824, rfl⟩
abbrev main_v2264 : Ref sig .tc := ⟨.hbm, 2825, rfl⟩
abbrev main_cst_407 : Ref sig .tc := ⟨.hbm, 2826, rfl⟩
abbrev main_v2265 : Ref sig .tc := ⟨.hbm, 2827, rfl⟩
abbrev main_v2266 : Ref sig .tc := ⟨.hbm, 2828, rfl⟩
abbrev main_v2267 : Ref sig .tc := ⟨.hbm, 2829, rfl⟩
abbrev main_cst_408 : Ref sig .tc := ⟨.hbm, 2830, rfl⟩
abbrev main_v2268 : Ref sig .tc := ⟨.hbm, 2831, rfl⟩
abbrev main_cst_409 : Ref sig .tc := ⟨.hbm, 2832, rfl⟩
abbrev main_v2269 : Ref sig .tc := ⟨.hbm, 2833, rfl⟩
abbrev main_v2270 : Ref sig .tc := ⟨.hbm, 2834, rfl⟩
abbrev main_v2271 : Ref sig .tc := ⟨.hbm, 2835, rfl⟩
abbrev main_v2272 : Ref sig .tc := ⟨.hbm, 2836, rfl⟩
abbrev main_v2273 : Ref sig .tc := ⟨.hbm, 2837, rfl⟩
abbrev main_v2274 : Ref sig .tc := ⟨.hbm, 2838, rfl⟩
abbrev main_v2275 : Ref sig .tc := ⟨.hbm, 2839, rfl⟩
abbrev main_v2276 : Ref sig .tc := ⟨.hbm, 2840, rfl⟩
abbrev main_v2277 : Ref sig .tc := ⟨.hbm, 2841, rfl⟩
abbrev main_v2278 : Ref sig .tc := ⟨.hbm, 2842, rfl⟩
abbrev main_v2279 : Ref sig .tc := ⟨.hbm, 2843, rfl⟩
abbrev main_v2280 : Ref sig .tc := ⟨.hbm, 2844, rfl⟩
abbrev main_v2281 : Ref sig .tc := ⟨.hbm, 2845, rfl⟩
abbrev main_v2282 : Ref sig .tc := ⟨.hbm, 2846, rfl⟩
abbrev main_v2283 : Ref sig .tc := ⟨.hbm, 2847, rfl⟩
abbrev main_v2284 : Ref sig .tc := ⟨.hbm, 2848, rfl⟩
abbrev main_v2285 : Ref sig .tc := ⟨.hbm, 2849, rfl⟩
abbrev main_v2286 : Ref sig .tc := ⟨.hbm, 2850, rfl⟩
abbrev main_v2287 : Ref sig .tc := ⟨.hbm, 2851, rfl⟩
abbrev main_v2288 : Ref sig .tc := ⟨.hbm, 2852, rfl⟩
abbrev main_v2289 : Ref sig .tc := ⟨.hbm, 2853, rfl⟩
abbrev main_v2290 : Ref sig .tc := ⟨.hbm, 2854, rfl⟩
abbrev main_v2291 : Ref sig .tc := ⟨.hbm, 2855, rfl⟩
abbrev main_v2292 : Ref sig .tc := ⟨.hbm, 2856, rfl⟩
abbrev main_v2293 : Ref sig .tc := ⟨.hbm, 2857, rfl⟩
abbrev main_v2294 : Ref sig .tc := ⟨.hbm, 2858, rfl⟩
abbrev main_v2295 : Ref sig .tc := ⟨.hbm, 2859, rfl⟩
abbrev main_v2296 : Ref sig .tc := ⟨.hbm, 2860, rfl⟩
abbrev main_cst_410 : Ref sig .tc := ⟨.hbm, 2861, rfl⟩
abbrev main_v2297 : Ref sig .tc := ⟨.hbm, 2862, rfl⟩
abbrev main_v2298 : Ref sig .tc := ⟨.hbm, 2863, rfl⟩
abbrev main_v2299 : Ref sig .tc := ⟨.hbm, 2864, rfl⟩
abbrev main_v2300 : Ref sig .tc := ⟨.hbm, 2865, rfl⟩
abbrev main_v2301 : Ref sig .tc := ⟨.hbm, 2866, rfl⟩
abbrev main_v2302 : Ref sig .tc := ⟨.hbm, 2867, rfl⟩
abbrev main_cst_411 : Ref sig .tc := ⟨.hbm, 2868, rfl⟩
abbrev main_v2303 : Ref sig .tc := ⟨.hbm, 2869, rfl⟩
abbrev main_v2304 : Ref sig .tc := ⟨.hbm, 2870, rfl⟩
abbrev main_v2305 : Ref sig .tc := ⟨.hbm, 2871, rfl⟩
abbrev main_v2306 : Ref sig .tc := ⟨.hbm, 2872, rfl⟩
abbrev main_v2307 : Ref sig .tc := ⟨.hbm, 2873, rfl⟩
abbrev main_cst_412 : Ref sig .tc := ⟨.hbm, 2874, rfl⟩
abbrev main_v2308 : Ref sig .tc := ⟨.hbm, 2875, rfl⟩
abbrev main_v2309 : Ref sig .tc := ⟨.hbm, 2876, rfl⟩
abbrev main_cst_413 : Ref sig .tc := ⟨.hbm, 2877, rfl⟩
abbrev main_call74_v0 : Ref sig .tc := ⟨.hbm, 2878, rfl⟩
abbrev main_call74_v1 : Ref sig .tc := ⟨.hbm, 2879, rfl⟩
abbrev main_v2310 : Ref sig .tc := ⟨.hbm, 2880, rfl⟩
abbrev main_v2311 : Ref sig .tc := ⟨.hbm, 2881, rfl⟩
abbrev main_v2312 : Ref sig .tc := ⟨.hbm, 2882, rfl⟩
abbrev main_v2313 : Ref sig .tc := ⟨.hbm, 2883, rfl⟩
abbrev main_v2314 : Ref sig .tc := ⟨.hbm, 2884, rfl⟩
abbrev main_cst_414 : Ref sig .tc := ⟨.hbm, 2885, rfl⟩
abbrev main_v2315 : Ref sig .tc := ⟨.hbm, 2886, rfl⟩
abbrev main_v2316 : Ref sig .tc := ⟨.hbm, 2887, rfl⟩
abbrev main_v2317 : Ref sig .tc := ⟨.hbm, 2888, rfl⟩
abbrev main_cst_415 : Ref sig .tc := ⟨.hbm, 2889, rfl⟩
abbrev main_v2318 : Ref sig .tc := ⟨.hbm, 2890, rfl⟩
abbrev main_v2319 : Ref sig .tc := ⟨.hbm, 2891, rfl⟩
abbrev main_v2320 : Ref sig .tc := ⟨.hbm, 2892, rfl⟩
abbrev main_cst_416 : Ref sig .tc := ⟨.hbm, 2893, rfl⟩
abbrev main_call75_v0 : Ref sig .tc := ⟨.hbm, 2894, rfl⟩
abbrev main_call75_v1 : Ref sig .tc := ⟨.hbm, 2895, rfl⟩
abbrev main_v2321 : Ref sig .tc := ⟨.hbm, 2896, rfl⟩
abbrev main_v2322 : Ref sig .tc := ⟨.hbm, 2897, rfl⟩
abbrev main_cst_417 : Ref sig .tc := ⟨.hbm, 2898, rfl⟩
abbrev main_v2323 : Ref sig .tc := ⟨.hbm, 2899, rfl⟩
abbrev main_v2324 : Ref sig .tc := ⟨.hbm, 2900, rfl⟩
abbrev main_v2325 : Ref sig .tc := ⟨.hbm, 2901, rfl⟩
abbrev main_cst_418 : Ref sig .tc := ⟨.hbm, 2902, rfl⟩
abbrev main_v2326 : Ref sig .tc := ⟨.hbm, 2903, rfl⟩
abbrev main_v2327 : Ref sig .tc := ⟨.hbm, 2904, rfl⟩
abbrev main_v2328 : Ref sig .tc := ⟨.hbm, 2905, rfl⟩
abbrev main_cst_419 : Ref sig .tc := ⟨.hbm, 2906, rfl⟩
abbrev main_v2329 : Ref sig .tc := ⟨.hbm, 2907, rfl⟩
abbrev main_cst_420 : Ref sig .tc := ⟨.hbm, 2908, rfl⟩
abbrev main_v2330 : Ref sig .tc := ⟨.hbm, 2909, rfl⟩
abbrev main_v2331 : Ref sig .tc := ⟨.hbm, 2910, rfl⟩
abbrev main_v2332 : Ref sig .tc := ⟨.hbm, 2911, rfl⟩
abbrev main_v2333 : Ref sig .tc := ⟨.hbm, 2912, rfl⟩
abbrev main_v2334 : Ref sig .tc := ⟨.hbm, 2913, rfl⟩
abbrev main_v2335 : Ref sig .tc := ⟨.hbm, 2914, rfl⟩
abbrev main_v2336 : Ref sig .tc := ⟨.hbm, 2915, rfl⟩
abbrev main_v2337 : Ref sig .tc := ⟨.hbm, 2916, rfl⟩
abbrev main_v2338 : Ref sig .tc := ⟨.hbm, 2917, rfl⟩
abbrev main_v2339 : Ref sig .tc := ⟨.hbm, 2918, rfl⟩
abbrev main_v2340 : Ref sig .tc := ⟨.hbm, 2919, rfl⟩
abbrev main_v2341 : Ref sig .tc := ⟨.hbm, 2920, rfl⟩
abbrev main_v2342 : Ref sig .tc := ⟨.hbm, 2921, rfl⟩
abbrev main_v2343 : Ref sig .tc := ⟨.hbm, 2922, rfl⟩
abbrev main_v2344 : Ref sig .tc := ⟨.hbm, 2923, rfl⟩
abbrev main_v2345 : Ref sig .tc := ⟨.hbm, 2924, rfl⟩
abbrev main_v2346 : Ref sig .tc := ⟨.hbm, 2925, rfl⟩
abbrev main_v2347 : Ref sig .tc := ⟨.hbm, 2926, rfl⟩
abbrev main_v2348 : Ref sig .tc := ⟨.hbm, 2927, rfl⟩
abbrev main_v2349 : Ref sig .tc := ⟨.hbm, 2928, rfl⟩
abbrev main_v2350 : Ref sig .tc := ⟨.hbm, 2929, rfl⟩
abbrev main_v2351 : Ref sig .tc := ⟨.hbm, 2930, rfl⟩
abbrev main_v2352 : Ref sig .tc := ⟨.hbm, 2931, rfl⟩
abbrev main_v2353 : Ref sig .tc := ⟨.hbm, 2932, rfl⟩
abbrev main_v2354 : Ref sig .tc := ⟨.hbm, 2933, rfl⟩
abbrev main_v2355 : Ref sig .tc := ⟨.hbm, 2934, rfl⟩
abbrev main_v2356 : Ref sig .tc := ⟨.hbm, 2935, rfl⟩
abbrev main_v2357 : Ref sig .tc := ⟨.hbm, 2936, rfl⟩
abbrev main_cst_421 : Ref sig .tc := ⟨.hbm, 2937, rfl⟩
abbrev main_v2358 : Ref sig .tc := ⟨.hbm, 2938, rfl⟩
abbrev main_v2359 : Ref sig .tc := ⟨.hbm, 2939, rfl⟩
abbrev main_v2360 : Ref sig .tc := ⟨.hbm, 2940, rfl⟩
abbrev main_v2361 : Ref sig .tc := ⟨.hbm, 2941, rfl⟩
abbrev main_v2362 : Ref sig .tc := ⟨.hbm, 2942, rfl⟩
abbrev main_v2363 : Ref sig .tc := ⟨.hbm, 2943, rfl⟩
abbrev main_cst_422 : Ref sig .tc := ⟨.hbm, 2944, rfl⟩
abbrev main_v2364 : Ref sig .tc := ⟨.hbm, 2945, rfl⟩
abbrev main_v2365 : Ref sig .tc := ⟨.hbm, 2946, rfl⟩
abbrev main_v2366 : Ref sig .tc := ⟨.hbm, 2947, rfl⟩
abbrev main_v2367 : Ref sig .tc := ⟨.hbm, 2948, rfl⟩
abbrev main_v2368 : Ref sig .tc := ⟨.hbm, 2949, rfl⟩
abbrev main_cst_423 : Ref sig .tc := ⟨.hbm, 2950, rfl⟩
abbrev main_v2369 : Ref sig .tc := ⟨.hbm, 2951, rfl⟩
abbrev main_v2370 : Ref sig .tc := ⟨.hbm, 2952, rfl⟩
abbrev main_cst_424 : Ref sig .tc := ⟨.hbm, 2953, rfl⟩
abbrev main_call76_v0 : Ref sig .tc := ⟨.hbm, 2954, rfl⟩
abbrev main_call76_v1 : Ref sig .tc := ⟨.hbm, 2955, rfl⟩
abbrev main_v2371 : Ref sig .tc := ⟨.hbm, 2956, rfl⟩
abbrev main_v2372 : Ref sig .tc := ⟨.hbm, 2957, rfl⟩
abbrev main_v2373 : Ref sig .tc := ⟨.hbm, 2958, rfl⟩
abbrev main_v2374 : Ref sig .tc := ⟨.hbm, 2959, rfl⟩
abbrev main_v2375 : Ref sig .tc := ⟨.hbm, 2960, rfl⟩
abbrev main_cst_425 : Ref sig .tc := ⟨.hbm, 2961, rfl⟩
abbrev main_v2376 : Ref sig .tc := ⟨.hbm, 2962, rfl⟩
abbrev main_v2377 : Ref sig .tc := ⟨.hbm, 2963, rfl⟩
abbrev main_v2378 : Ref sig .tc := ⟨.hbm, 2964, rfl⟩
abbrev main_cst_426 : Ref sig .tc := ⟨.hbm, 2965, rfl⟩
abbrev main_v2379 : Ref sig .tc := ⟨.hbm, 2966, rfl⟩
abbrev main_v2380 : Ref sig .tc := ⟨.hbm, 2967, rfl⟩
abbrev main_v2381 : Ref sig .tc := ⟨.hbm, 2968, rfl⟩
abbrev main_cst_427 : Ref sig .tc := ⟨.hbm, 2969, rfl⟩
abbrev main_call77_v0 : Ref sig .tc := ⟨.hbm, 2970, rfl⟩
abbrev main_call77_v1 : Ref sig .tc := ⟨.hbm, 2971, rfl⟩
abbrev main_v2382 : Ref sig .tc := ⟨.hbm, 2972, rfl⟩
abbrev main_v2383 : Ref sig .tc := ⟨.hbm, 2973, rfl⟩
abbrev main_cst_428 : Ref sig .tc := ⟨.hbm, 2974, rfl⟩
abbrev main_v2384 : Ref sig .tc := ⟨.hbm, 2975, rfl⟩
abbrev main_v2385 : Ref sig .tc := ⟨.hbm, 2976, rfl⟩
abbrev main_v2386 : Ref sig .tc := ⟨.hbm, 2977, rfl⟩
abbrev main_cst_429 : Ref sig .tc := ⟨.hbm, 2978, rfl⟩
abbrev main_v2387 : Ref sig .tc := ⟨.hbm, 2979, rfl⟩
abbrev main_v2388 : Ref sig .tc := ⟨.hbm, 2980, rfl⟩
abbrev main_v2389 : Ref sig .tc := ⟨.hbm, 2981, rfl⟩
abbrev main_cst_430 : Ref sig .tc := ⟨.hbm, 2982, rfl⟩
abbrev main_v2390 : Ref sig .tc := ⟨.hbm, 2983, rfl⟩
abbrev main_cst_431 : Ref sig .tc := ⟨.hbm, 2984, rfl⟩
abbrev main_v2391 : Ref sig .tc := ⟨.hbm, 2985, rfl⟩
abbrev main_v2392 : Ref sig .tc := ⟨.hbm, 2986, rfl⟩
abbrev main_v2393 : Ref sig .tc := ⟨.hbm, 2987, rfl⟩
abbrev main_v2394 : Ref sig .tc := ⟨.hbm, 2988, rfl⟩
abbrev main_v2395 : Ref sig .tc := ⟨.hbm, 2989, rfl⟩
abbrev main_v2396 : Ref sig .tc := ⟨.hbm, 2990, rfl⟩
abbrev main_v2397 : Ref sig .tc := ⟨.hbm, 2991, rfl⟩
abbrev main_v2398 : Ref sig .tc := ⟨.hbm, 2992, rfl⟩
abbrev main_v2399 : Ref sig .tc := ⟨.hbm, 2993, rfl⟩
abbrev main_v2400 : Ref sig .tc := ⟨.hbm, 2994, rfl⟩
abbrev main_v2401 : Ref sig .tc := ⟨.hbm, 2995, rfl⟩
abbrev main_v2402 : Ref sig .tc := ⟨.hbm, 2996, rfl⟩
abbrev main_v2403 : Ref sig .tc := ⟨.hbm, 2997, rfl⟩
abbrev main_v2404 : Ref sig .tc := ⟨.hbm, 2998, rfl⟩
abbrev main_v2405 : Ref sig .tc := ⟨.hbm, 2999, rfl⟩
abbrev main_v2406 : Ref sig .tc := ⟨.hbm, 3000, rfl⟩
abbrev main_v2407 : Ref sig .tc := ⟨.hbm, 3001, rfl⟩
abbrev main_v2408 : Ref sig .tc := ⟨.hbm, 3002, rfl⟩
abbrev main_v2409 : Ref sig .tc := ⟨.hbm, 3003, rfl⟩
abbrev main_v2410 : Ref sig .tc := ⟨.hbm, 3004, rfl⟩
abbrev main_v2411 : Ref sig .tc := ⟨.hbm, 3005, rfl⟩
abbrev main_v2412 : Ref sig .tc := ⟨.hbm, 3006, rfl⟩
abbrev main_v2413 : Ref sig .tc := ⟨.hbm, 3007, rfl⟩
abbrev main_v2414 : Ref sig .tc := ⟨.hbm, 3008, rfl⟩
abbrev main_v2415 : Ref sig .tc := ⟨.hbm, 3009, rfl⟩
abbrev main_v2416 : Ref sig .tc := ⟨.hbm, 3010, rfl⟩
abbrev main_v2417 : Ref sig .tc := ⟨.hbm, 3011, rfl⟩
abbrev main_v2418 : Ref sig .tc := ⟨.hbm, 3012, rfl⟩
abbrev main_cst_432 : Ref sig .tc := ⟨.hbm, 3013, rfl⟩
abbrev main_v2419 : Ref sig .tc := ⟨.hbm, 3014, rfl⟩
abbrev main_v2420 : Ref sig .tc := ⟨.hbm, 3015, rfl⟩
abbrev main_v2421 : Ref sig .tc := ⟨.hbm, 3016, rfl⟩
abbrev main_v2422 : Ref sig .tc := ⟨.hbm, 3017, rfl⟩
abbrev main_v2423 : Ref sig .tc := ⟨.hbm, 3018, rfl⟩
abbrev main_v2424 : Ref sig .tc := ⟨.hbm, 3019, rfl⟩
abbrev main_cst_433 : Ref sig .tc := ⟨.hbm, 3020, rfl⟩
abbrev main_v2425 : Ref sig .tc := ⟨.hbm, 3021, rfl⟩
abbrev main_v2426 : Ref sig .tc := ⟨.hbm, 3022, rfl⟩
abbrev main_v2427 : Ref sig .tc := ⟨.hbm, 3023, rfl⟩
abbrev main_v2428 : Ref sig .tc := ⟨.hbm, 3024, rfl⟩
abbrev main_v2429 : Ref sig .tc := ⟨.hbm, 3025, rfl⟩
abbrev main_cst_434 : Ref sig .tc := ⟨.hbm, 3026, rfl⟩
abbrev main_v2430 : Ref sig .tc := ⟨.hbm, 3027, rfl⟩
abbrev main_v2431 : Ref sig .tc := ⟨.hbm, 3028, rfl⟩
abbrev main_cst_435 : Ref sig .tc := ⟨.hbm, 3029, rfl⟩
abbrev main_call78_v0 : Ref sig .tc := ⟨.hbm, 3030, rfl⟩
abbrev main_call78_v1 : Ref sig .tc := ⟨.hbm, 3031, rfl⟩
abbrev main_v2432 : Ref sig .tc := ⟨.hbm, 3032, rfl⟩
abbrev main_v2433 : Ref sig .tc := ⟨.hbm, 3033, rfl⟩
abbrev main_v2434 : Ref sig .tc := ⟨.hbm, 3034, rfl⟩
abbrev main_v2435 : Ref sig .tc := ⟨.hbm, 3035, rfl⟩
abbrev main_v2436 : Ref sig .tc := ⟨.hbm, 3036, rfl⟩
abbrev main_cst_436 : Ref sig .tc := ⟨.hbm, 3037, rfl⟩
abbrev main_v2437 : Ref sig .tc := ⟨.hbm, 3038, rfl⟩
abbrev main_v2438 : Ref sig .tc := ⟨.hbm, 3039, rfl⟩
abbrev main_v2439 : Ref sig .tc := ⟨.hbm, 3040, rfl⟩
abbrev main_cst_437 : Ref sig .tc := ⟨.hbm, 3041, rfl⟩
abbrev main_v2440 : Ref sig .tc := ⟨.hbm, 3042, rfl⟩
abbrev main_v2441 : Ref sig .tc := ⟨.hbm, 3043, rfl⟩
abbrev main_v2442 : Ref sig .tc := ⟨.hbm, 3044, rfl⟩
abbrev main_cst_438 : Ref sig .tc := ⟨.hbm, 3045, rfl⟩
abbrev main_call79_v0 : Ref sig .tc := ⟨.hbm, 3046, rfl⟩
abbrev main_call79_v1 : Ref sig .tc := ⟨.hbm, 3047, rfl⟩
abbrev main_v2443 : Ref sig .tc := ⟨.hbm, 3048, rfl⟩
abbrev main_v2444 : Ref sig .tc := ⟨.hbm, 3049, rfl⟩
abbrev main_cst_439 : Ref sig .tc := ⟨.hbm, 3050, rfl⟩
abbrev main_v2445 : Ref sig .tc := ⟨.hbm, 3051, rfl⟩
abbrev main_v2446 : Ref sig .tc := ⟨.hbm, 3052, rfl⟩
abbrev main_v2447 : Ref sig .tc := ⟨.hbm, 3053, rfl⟩
abbrev main_cst_440 : Ref sig .tc := ⟨.hbm, 3054, rfl⟩
abbrev main_v2448 : Ref sig .tc := ⟨.hbm, 3055, rfl⟩
abbrev main_v2449 : Ref sig .tc := ⟨.hbm, 3056, rfl⟩
abbrev main_v2450 : Ref sig .tc := ⟨.hbm, 3057, rfl⟩
abbrev main_cst_441 : Ref sig .tc := ⟨.hbm, 3058, rfl⟩
abbrev main_v2451 : Ref sig .tc := ⟨.hbm, 3059, rfl⟩
abbrev main_cst_442 : Ref sig .tc := ⟨.hbm, 3060, rfl⟩
abbrev main_v2452 : Ref sig .tc := ⟨.hbm, 3061, rfl⟩
abbrev main_v2453 : Ref sig .tc := ⟨.hbm, 3062, rfl⟩
abbrev main_v2454 : Ref sig .tc := ⟨.hbm, 3063, rfl⟩
abbrev main_v2455 : Ref sig .tc := ⟨.hbm, 3064, rfl⟩
abbrev main_v2456 : Ref sig .tc := ⟨.hbm, 3065, rfl⟩
abbrev main_v2457 : Ref sig .tc := ⟨.hbm, 3066, rfl⟩
abbrev main_v2458 : Ref sig .tc := ⟨.hbm, 3067, rfl⟩
abbrev main_v2459 : Ref sig .tc := ⟨.hbm, 3068, rfl⟩
abbrev main_v2460 : Ref sig .tc := ⟨.hbm, 3069, rfl⟩
abbrev main_v2461 : Ref sig .tc := ⟨.hbm, 3070, rfl⟩
abbrev main_v2462 : Ref sig .tc := ⟨.hbm, 3071, rfl⟩
abbrev main_v2463 : Ref sig .tc := ⟨.hbm, 3072, rfl⟩
abbrev main_v2464 : Ref sig .tc := ⟨.hbm, 3073, rfl⟩
abbrev main_v2465 : Ref sig .tc := ⟨.hbm, 3074, rfl⟩
abbrev main_v2466 : Ref sig .tc := ⟨.hbm, 3075, rfl⟩
abbrev main_v2467 : Ref sig .tc := ⟨.hbm, 3076, rfl⟩
abbrev main_v2468 : Ref sig .tc := ⟨.hbm, 3077, rfl⟩
abbrev main_v2469 : Ref sig .tc := ⟨.hbm, 3078, rfl⟩
abbrev main_v2470 : Ref sig .tc := ⟨.hbm, 3079, rfl⟩
abbrev main_v2471 : Ref sig .tc := ⟨.hbm, 3080, rfl⟩
abbrev main_v2472 : Ref sig .tc := ⟨.hbm, 3081, rfl⟩
abbrev main_v2473 : Ref sig .tc := ⟨.hbm, 3082, rfl⟩
abbrev main_v2474 : Ref sig .tc := ⟨.hbm, 3083, rfl⟩
abbrev main_v2475 : Ref sig .tc := ⟨.hbm, 3084, rfl⟩
abbrev main_v2476 : Ref sig .tc := ⟨.hbm, 3085, rfl⟩
abbrev main_v2477 : Ref sig .tc := ⟨.hbm, 3086, rfl⟩
abbrev main_v2478 : Ref sig .tc := ⟨.hbm, 3087, rfl⟩
abbrev main_v2479 : Ref sig .tc := ⟨.hbm, 3088, rfl⟩
abbrev main_cst_443 : Ref sig .tc := ⟨.hbm, 3089, rfl⟩
abbrev main_v2480 : Ref sig .tc := ⟨.hbm, 3090, rfl⟩
abbrev main_v2481 : Ref sig .tc := ⟨.hbm, 3091, rfl⟩
abbrev main_v2482 : Ref sig .tc := ⟨.hbm, 3092, rfl⟩
abbrev main_v2483 : Ref sig .tc := ⟨.hbm, 3093, rfl⟩
abbrev main_v2484 : Ref sig .tc := ⟨.hbm, 3094, rfl⟩
abbrev main_v2485 : Ref sig .tc := ⟨.hbm, 3095, rfl⟩
abbrev main_cst_444 : Ref sig .tc := ⟨.hbm, 3096, rfl⟩
abbrev main_v2486 : Ref sig .tc := ⟨.hbm, 3097, rfl⟩
abbrev main_v2487 : Ref sig .tc := ⟨.hbm, 3098, rfl⟩
abbrev main_v2488 : Ref sig .tc := ⟨.hbm, 3099, rfl⟩
abbrev main_v2489 : Ref sig .tc := ⟨.hbm, 3100, rfl⟩
abbrev main_v2490 : Ref sig .tc := ⟨.hbm, 3101, rfl⟩
abbrev main_cst_445 : Ref sig .tc := ⟨.hbm, 3102, rfl⟩
abbrev main_v2491 : Ref sig .tc := ⟨.hbm, 3103, rfl⟩
abbrev main_v2492 : Ref sig .tc := ⟨.hbm, 3104, rfl⟩
abbrev main_cst_446 : Ref sig .tc := ⟨.hbm, 3105, rfl⟩
abbrev main_call80_v0 : Ref sig .tc := ⟨.hbm, 3106, rfl⟩
abbrev main_call80_v1 : Ref sig .tc := ⟨.hbm, 3107, rfl⟩
abbrev main_v2493 : Ref sig .tc := ⟨.hbm, 3108, rfl⟩
abbrev main_v2494 : Ref sig .tc := ⟨.hbm, 3109, rfl⟩
abbrev main_v2495 : Ref sig .tc := ⟨.hbm, 3110, rfl⟩
abbrev main_v2496 : Ref sig .tc := ⟨.hbm, 3111, rfl⟩
abbrev main_v2497 : Ref sig .tc := ⟨.hbm, 3112, rfl⟩
abbrev main_cst_447 : Ref sig .tc := ⟨.hbm, 3113, rfl⟩
abbrev main_v2498 : Ref sig .tc := ⟨.hbm, 3114, rfl⟩
abbrev main_v2499 : Ref sig .tc := ⟨.hbm, 3115, rfl⟩
abbrev main_v2500 : Ref sig .tc := ⟨.hbm, 3116, rfl⟩
abbrev main_cst_448 : Ref sig .tc := ⟨.hbm, 3117, rfl⟩
abbrev main_v2501 : Ref sig .tc := ⟨.hbm, 3118, rfl⟩
abbrev main_v2502 : Ref sig .tc := ⟨.hbm, 3119, rfl⟩
abbrev main_v2503 : Ref sig .tc := ⟨.hbm, 3120, rfl⟩
abbrev main_cst_449 : Ref sig .tc := ⟨.hbm, 3121, rfl⟩
abbrev main_call81_v0 : Ref sig .tc := ⟨.hbm, 3122, rfl⟩
abbrev main_call81_v1 : Ref sig .tc := ⟨.hbm, 3123, rfl⟩
abbrev main_v2504 : Ref sig .tc := ⟨.hbm, 3124, rfl⟩
abbrev main_v2505 : Ref sig .tc := ⟨.hbm, 3125, rfl⟩
abbrev main_cst_450 : Ref sig .tc := ⟨.hbm, 3126, rfl⟩
abbrev main_v2506 : Ref sig .tc := ⟨.hbm, 3127, rfl⟩
abbrev main_v2507 : Ref sig .tc := ⟨.hbm, 3128, rfl⟩
abbrev main_v2508 : Ref sig .tc := ⟨.hbm, 3129, rfl⟩
abbrev main_cst_451 : Ref sig .tc := ⟨.hbm, 3130, rfl⟩
abbrev main_v2509 : Ref sig .tc := ⟨.hbm, 3131, rfl⟩
abbrev main_v2510 : Ref sig .tc := ⟨.hbm, 3132, rfl⟩
abbrev main_v2511 : Ref sig .tc := ⟨.hbm, 3133, rfl⟩
abbrev main_cst_452 : Ref sig .tc := ⟨.hbm, 3134, rfl⟩
abbrev main_v2512 : Ref sig .tc := ⟨.hbm, 3135, rfl⟩
abbrev main_cst_453 : Ref sig .tc := ⟨.hbm, 3136, rfl⟩
abbrev main_v2513 : Ref sig .tc := ⟨.hbm, 3137, rfl⟩
abbrev main_v2514 : Ref sig .tc := ⟨.hbm, 3138, rfl⟩
abbrev main_v2515 : Ref sig .tc := ⟨.hbm, 3139, rfl⟩
abbrev main_v2516 : Ref sig .tc := ⟨.hbm, 3140, rfl⟩
abbrev main_v2517 : Ref sig .tc := ⟨.hbm, 3141, rfl⟩
abbrev main_v2518 : Ref sig .tc := ⟨.hbm, 3142, rfl⟩
abbrev main_v2519 : Ref sig .tc := ⟨.hbm, 3143, rfl⟩
abbrev main_v2520 : Ref sig .tc := ⟨.hbm, 3144, rfl⟩
abbrev main_v2521 : Ref sig .tc := ⟨.hbm, 3145, rfl⟩
abbrev main_v2522 : Ref sig .tc := ⟨.hbm, 3146, rfl⟩
abbrev main_v2523 : Ref sig .tc := ⟨.hbm, 3147, rfl⟩
abbrev main_v2524 : Ref sig .tc := ⟨.hbm, 3148, rfl⟩
abbrev main_v2525 : Ref sig .tc := ⟨.hbm, 3149, rfl⟩
abbrev main_v2526 : Ref sig .tc := ⟨.hbm, 3150, rfl⟩
abbrev main_v2527 : Ref sig .tc := ⟨.hbm, 3151, rfl⟩
abbrev main_v2528 : Ref sig .tc := ⟨.hbm, 3152, rfl⟩
abbrev main_v2529 : Ref sig .tc := ⟨.hbm, 3153, rfl⟩
abbrev main_v2530 : Ref sig .tc := ⟨.hbm, 3154, rfl⟩
abbrev main_v2531 : Ref sig .tc := ⟨.hbm, 3155, rfl⟩
abbrev main_v2532 : Ref sig .tc := ⟨.hbm, 3156, rfl⟩
abbrev main_v2533 : Ref sig .tc := ⟨.hbm, 3157, rfl⟩
abbrev main_v2534 : Ref sig .tc := ⟨.hbm, 3158, rfl⟩
abbrev main_v2535 : Ref sig .tc := ⟨.hbm, 3159, rfl⟩
abbrev main_v2536 : Ref sig .tc := ⟨.hbm, 3160, rfl⟩
abbrev main_v2537 : Ref sig .tc := ⟨.hbm, 3161, rfl⟩
abbrev main_v2538 : Ref sig .tc := ⟨.hbm, 3162, rfl⟩
abbrev main_v2539 : Ref sig .tc := ⟨.hbm, 3163, rfl⟩
abbrev main_v2540 : Ref sig .tc := ⟨.hbm, 3164, rfl⟩
abbrev main_cst_454 : Ref sig .tc := ⟨.hbm, 3165, rfl⟩
abbrev main_v2541 : Ref sig .tc := ⟨.hbm, 3166, rfl⟩
abbrev main_v2542 : Ref sig .tc := ⟨.hbm, 3167, rfl⟩
abbrev main_v2543 : Ref sig .tc := ⟨.hbm, 3168, rfl⟩
abbrev main_v2544 : Ref sig .tc := ⟨.hbm, 3169, rfl⟩
abbrev main_v2545 : Ref sig .tc := ⟨.hbm, 3170, rfl⟩
abbrev main_v2546 : Ref sig .tc := ⟨.hbm, 3171, rfl⟩
abbrev main_cst_455 : Ref sig .tc := ⟨.hbm, 3172, rfl⟩
abbrev main_v2547 : Ref sig .tc := ⟨.hbm, 3173, rfl⟩
abbrev main_v2548 : Ref sig .tc := ⟨.hbm, 3174, rfl⟩
abbrev main_v2549 : Ref sig .tc := ⟨.hbm, 3175, rfl⟩
abbrev main_v2550 : Ref sig .tc := ⟨.hbm, 3176, rfl⟩
abbrev main_v2551 : Ref sig .tc := ⟨.hbm, 3177, rfl⟩
abbrev main_cst_456 : Ref sig .tc := ⟨.hbm, 3178, rfl⟩
abbrev main_v2552 : Ref sig .tc := ⟨.hbm, 3179, rfl⟩
abbrev main_v2553 : Ref sig .tc := ⟨.hbm, 3180, rfl⟩
abbrev main_cst_457 : Ref sig .tc := ⟨.hbm, 3181, rfl⟩
abbrev main_call82_v0 : Ref sig .tc := ⟨.hbm, 3182, rfl⟩
abbrev main_call82_v1 : Ref sig .tc := ⟨.hbm, 3183, rfl⟩
abbrev main_v2554 : Ref sig .tc := ⟨.hbm, 3184, rfl⟩
abbrev main_v2555 : Ref sig .tc := ⟨.hbm, 3185, rfl⟩
abbrev main_v2556 : Ref sig .tc := ⟨.hbm, 3186, rfl⟩
abbrev main_v2557 : Ref sig .tc := ⟨.hbm, 3187, rfl⟩
abbrev main_v2558 : Ref sig .tc := ⟨.hbm, 3188, rfl⟩
abbrev main_cst_458 : Ref sig .tc := ⟨.hbm, 3189, rfl⟩
abbrev main_v2559 : Ref sig .tc := ⟨.hbm, 3190, rfl⟩
abbrev main_v2560 : Ref sig .tc := ⟨.hbm, 3191, rfl⟩
abbrev main_v2561 : Ref sig .tc := ⟨.hbm, 3192, rfl⟩
abbrev main_cst_459 : Ref sig .tc := ⟨.hbm, 3193, rfl⟩
abbrev main_v2562 : Ref sig .tc := ⟨.hbm, 3194, rfl⟩
abbrev main_v2563 : Ref sig .tc := ⟨.hbm, 3195, rfl⟩
abbrev main_v2564 : Ref sig .tc := ⟨.hbm, 3196, rfl⟩
abbrev main_cst_460 : Ref sig .tc := ⟨.hbm, 3197, rfl⟩
abbrev main_call83_v0 : Ref sig .tc := ⟨.hbm, 3198, rfl⟩
abbrev main_call83_v1 : Ref sig .tc := ⟨.hbm, 3199, rfl⟩
abbrev main_v2565 : Ref sig .tc := ⟨.hbm, 3200, rfl⟩
abbrev main_v2566 : Ref sig .tc := ⟨.hbm, 3201, rfl⟩
abbrev main_cst_461 : Ref sig .tc := ⟨.hbm, 3202, rfl⟩
abbrev main_v2567 : Ref sig .tc := ⟨.hbm, 3203, rfl⟩
abbrev main_v2568 : Ref sig .tc := ⟨.hbm, 3204, rfl⟩
abbrev main_v2569 : Ref sig .tc := ⟨.hbm, 3205, rfl⟩
abbrev main_cst_462 : Ref sig .tc := ⟨.hbm, 3206, rfl⟩
abbrev main_v2570 : Ref sig .tc := ⟨.hbm, 3207, rfl⟩
abbrev main_v2571 : Ref sig .tc := ⟨.hbm, 3208, rfl⟩
abbrev main_v2572 : Ref sig .tc := ⟨.hbm, 3209, rfl⟩
abbrev main_cst_463 : Ref sig .tc := ⟨.hbm, 3210, rfl⟩
abbrev main_v2573 : Ref sig .tc := ⟨.hbm, 3211, rfl⟩
abbrev main_cst_464 : Ref sig .tc := ⟨.hbm, 3212, rfl⟩
abbrev main_v2574 : Ref sig .tc := ⟨.hbm, 3213, rfl⟩
abbrev main_v2575 : Ref sig .tc := ⟨.hbm, 3214, rfl⟩
abbrev main_v2576 : Ref sig .tc := ⟨.hbm, 3215, rfl⟩
abbrev main_v2577 : Ref sig .tc := ⟨.hbm, 3216, rfl⟩
abbrev main_v2578 : Ref sig .tc := ⟨.hbm, 3217, rfl⟩
abbrev main_v2579 : Ref sig .tc := ⟨.hbm, 3218, rfl⟩
abbrev main_v2580 : Ref sig .tc := ⟨.hbm, 3219, rfl⟩
abbrev main_v2581 : Ref sig .tc := ⟨.hbm, 3220, rfl⟩
abbrev main_v2582 : Ref sig .tc := ⟨.hbm, 3221, rfl⟩
abbrev main_v2583 : Ref sig .tc := ⟨.hbm, 3222, rfl⟩
abbrev main_v2584 : Ref sig .tc := ⟨.hbm, 3223, rfl⟩
abbrev main_v2585 : Ref sig .tc := ⟨.hbm, 3224, rfl⟩
abbrev main_v2586 : Ref sig .tc := ⟨.hbm, 3225, rfl⟩
abbrev main_v2587 : Ref sig .tc := ⟨.hbm, 3226, rfl⟩
abbrev main_v2588 : Ref sig .tc := ⟨.hbm, 3227, rfl⟩
abbrev main_v2589 : Ref sig .tc := ⟨.hbm, 3228, rfl⟩
abbrev main_v2590 : Ref sig .tc := ⟨.hbm, 3229, rfl⟩
abbrev main_v2591 : Ref sig .tc := ⟨.hbm, 3230, rfl⟩
abbrev main_v2592 : Ref sig .tc := ⟨.hbm, 3231, rfl⟩
abbrev main_v2593 : Ref sig .tc := ⟨.hbm, 3232, rfl⟩
abbrev main_v2594 : Ref sig .tc := ⟨.hbm, 3233, rfl⟩
abbrev main_v2595 : Ref sig .tc := ⟨.hbm, 3234, rfl⟩
abbrev main_v2596 : Ref sig .tc := ⟨.hbm, 3235, rfl⟩
abbrev main_v2597 : Ref sig .tc := ⟨.hbm, 3236, rfl⟩
abbrev main_v2598 : Ref sig .tc := ⟨.hbm, 3237, rfl⟩
abbrev main_v2599 : Ref sig .tc := ⟨.hbm, 3238, rfl⟩
abbrev main_v2600 : Ref sig .tc := ⟨.hbm, 3239, rfl⟩
abbrev main_v2601 : Ref sig .tc := ⟨.hbm, 3240, rfl⟩
abbrev main_cst_465 : Ref sig .tc := ⟨.hbm, 3241, rfl⟩
abbrev main_v2602 : Ref sig .tc := ⟨.hbm, 3242, rfl⟩
abbrev main_v2603 : Ref sig .tc := ⟨.hbm, 3243, rfl⟩
abbrev main_v2604 : Ref sig .tc := ⟨.hbm, 3244, rfl⟩
abbrev main_v2605 : Ref sig .tc := ⟨.hbm, 3245, rfl⟩
abbrev main_v2606 : Ref sig .tc := ⟨.hbm, 3246, rfl⟩
abbrev main_v2607 : Ref sig .tc := ⟨.hbm, 3247, rfl⟩
abbrev main_cst_466 : Ref sig .tc := ⟨.hbm, 3248, rfl⟩
abbrev main_v2608 : Ref sig .tc := ⟨.hbm, 3249, rfl⟩
abbrev main_v2609 : Ref sig .tc := ⟨.hbm, 3250, rfl⟩
abbrev main_v2610 : Ref sig .tc := ⟨.hbm, 3251, rfl⟩
abbrev main_v2611 : Ref sig .tc := ⟨.hbm, 3252, rfl⟩
abbrev main_v2612 : Ref sig .tc := ⟨.hbm, 3253, rfl⟩
abbrev main_cst_467 : Ref sig .tc := ⟨.hbm, 3254, rfl⟩
abbrev main_v2613 : Ref sig .tc := ⟨.hbm, 3255, rfl⟩
abbrev main_v2614 : Ref sig .tc := ⟨.hbm, 3256, rfl⟩
abbrev main_cst_468 : Ref sig .tc := ⟨.hbm, 3257, rfl⟩
abbrev main_call84_v0 : Ref sig .tc := ⟨.hbm, 3258, rfl⟩
abbrev main_call84_v1 : Ref sig .tc := ⟨.hbm, 3259, rfl⟩
abbrev main_v2615 : Ref sig .tc := ⟨.hbm, 3260, rfl⟩
abbrev main_v2616 : Ref sig .tc := ⟨.hbm, 3261, rfl⟩
abbrev main_v2617 : Ref sig .tc := ⟨.hbm, 3262, rfl⟩
abbrev main_v2618 : Ref sig .tc := ⟨.hbm, 3263, rfl⟩
abbrev main_v2619 : Ref sig .tc := ⟨.hbm, 3264, rfl⟩
abbrev main_cst_469 : Ref sig .tc := ⟨.hbm, 3265, rfl⟩
abbrev main_v2620 : Ref sig .tc := ⟨.hbm, 3266, rfl⟩
abbrev main_v2621 : Ref sig .tc := ⟨.hbm, 3267, rfl⟩
abbrev main_v2622 : Ref sig .tc := ⟨.hbm, 3268, rfl⟩
abbrev main_cst_470 : Ref sig .tc := ⟨.hbm, 3269, rfl⟩
abbrev main_v2623 : Ref sig .tc := ⟨.hbm, 3270, rfl⟩
abbrev main_v2624 : Ref sig .tc := ⟨.hbm, 3271, rfl⟩
abbrev main_v2625 : Ref sig .tc := ⟨.hbm, 3272, rfl⟩
abbrev main_cst_471 : Ref sig .tc := ⟨.hbm, 3273, rfl⟩
abbrev main_call85_v0 : Ref sig .tc := ⟨.hbm, 3274, rfl⟩
abbrev main_call85_v1 : Ref sig .tc := ⟨.hbm, 3275, rfl⟩
abbrev main_v2626 : Ref sig .tc := ⟨.hbm, 3276, rfl⟩
abbrev main_v2627 : Ref sig .tc := ⟨.hbm, 3277, rfl⟩
abbrev main_cst_472 : Ref sig .tc := ⟨.hbm, 3278, rfl⟩
abbrev main_v2628 : Ref sig .tc := ⟨.hbm, 3279, rfl⟩
abbrev main_v2629 : Ref sig .tc := ⟨.hbm, 3280, rfl⟩
abbrev main_v2630 : Ref sig .tc := ⟨.hbm, 3281, rfl⟩
abbrev main_cst_473 : Ref sig .tc := ⟨.hbm, 3282, rfl⟩
abbrev main_v2631 : Ref sig .tc := ⟨.hbm, 3283, rfl⟩
abbrev main_v2632 : Ref sig .tc := ⟨.hbm, 3284, rfl⟩
abbrev main_v2633 : Ref sig .tc := ⟨.hbm, 3285, rfl⟩
abbrev main_cst_474 : Ref sig .tc := ⟨.hbm, 3286, rfl⟩
abbrev main_v2634 : Ref sig .tc := ⟨.hbm, 3287, rfl⟩
abbrev main_cst_475 : Ref sig .tc := ⟨.hbm, 3288, rfl⟩
abbrev main_v2635 : Ref sig .tc := ⟨.hbm, 3289, rfl⟩
abbrev main_v2636 : Ref sig .tc := ⟨.hbm, 3290, rfl⟩
abbrev main_v2637 : Ref sig .tc := ⟨.hbm, 3291, rfl⟩
abbrev main_v2638 : Ref sig .tc := ⟨.hbm, 3292, rfl⟩
abbrev main_v2639 : Ref sig .tc := ⟨.hbm, 3293, rfl⟩
abbrev main_v2640 : Ref sig .tc := ⟨.hbm, 3294, rfl⟩
abbrev main_v2641 : Ref sig .tc := ⟨.hbm, 3295, rfl⟩
abbrev main_v2642 : Ref sig .tc := ⟨.hbm, 3296, rfl⟩
abbrev main_v2643 : Ref sig .tc := ⟨.hbm, 3297, rfl⟩
abbrev main_v2644 : Ref sig .tc := ⟨.hbm, 3298, rfl⟩
abbrev main_v2645 : Ref sig .tc := ⟨.hbm, 3299, rfl⟩
abbrev main_v2646 : Ref sig .tc := ⟨.hbm, 3300, rfl⟩
abbrev main_v2647 : Ref sig .tc := ⟨.hbm, 3301, rfl⟩
abbrev main_v2648 : Ref sig .tc := ⟨.hbm, 3302, rfl⟩
abbrev main_v2649 : Ref sig .tc := ⟨.hbm, 3303, rfl⟩
abbrev main_v2650 : Ref sig .tc := ⟨.hbm, 3304, rfl⟩
abbrev main_v2651 : Ref sig .tc := ⟨.hbm, 3305, rfl⟩
abbrev main_v2652 : Ref sig .tc := ⟨.hbm, 3306, rfl⟩
abbrev main_v2653 : Ref sig .tc := ⟨.hbm, 3307, rfl⟩
abbrev main_v2654 : Ref sig .tc := ⟨.hbm, 3308, rfl⟩
abbrev main_v2655 : Ref sig .tc := ⟨.hbm, 3309, rfl⟩
abbrev main_v2656 : Ref sig .tc := ⟨.hbm, 3310, rfl⟩
abbrev main_v2657 : Ref sig .tc := ⟨.hbm, 3311, rfl⟩
abbrev main_v2658 : Ref sig .tc := ⟨.hbm, 3312, rfl⟩
abbrev main_v2659 : Ref sig .tc := ⟨.hbm, 3313, rfl⟩
abbrev main_v2660 : Ref sig .tc := ⟨.hbm, 3314, rfl⟩
abbrev main_v2661 : Ref sig .tc := ⟨.hbm, 3315, rfl⟩
abbrev main_v2662 : Ref sig .tc := ⟨.hbm, 3316, rfl⟩
abbrev main_cst_476 : Ref sig .tc := ⟨.hbm, 3317, rfl⟩
abbrev main_v2663 : Ref sig .tc := ⟨.hbm, 3318, rfl⟩
abbrev main_v2664 : Ref sig .tc := ⟨.hbm, 3319, rfl⟩
abbrev main_v2665 : Ref sig .tc := ⟨.hbm, 3320, rfl⟩
abbrev main_v2666 : Ref sig .tc := ⟨.hbm, 3321, rfl⟩
abbrev main_v2667 : Ref sig .tc := ⟨.hbm, 3322, rfl⟩
abbrev main_v2668 : Ref sig .tc := ⟨.hbm, 3323, rfl⟩
abbrev main_cst_477 : Ref sig .tc := ⟨.hbm, 3324, rfl⟩
abbrev main_v2669 : Ref sig .tc := ⟨.hbm, 3325, rfl⟩
abbrev main_v2670 : Ref sig .tc := ⟨.hbm, 3326, rfl⟩
abbrev main_v2671 : Ref sig .tc := ⟨.hbm, 3327, rfl⟩
abbrev main_v2672 : Ref sig .tc := ⟨.hbm, 3328, rfl⟩
abbrev main_v2673 : Ref sig .tc := ⟨.hbm, 3329, rfl⟩
abbrev main_cst_478 : Ref sig .tc := ⟨.hbm, 3330, rfl⟩
abbrev main_v2674 : Ref sig .tc := ⟨.hbm, 3331, rfl⟩
abbrev main_v2675 : Ref sig .tc := ⟨.hbm, 3332, rfl⟩
abbrev main_cst_479 : Ref sig .tc := ⟨.hbm, 3333, rfl⟩
abbrev main_call86_v0 : Ref sig .tc := ⟨.hbm, 3334, rfl⟩
abbrev main_call86_v1 : Ref sig .tc := ⟨.hbm, 3335, rfl⟩
abbrev main_v2676 : Ref sig .tc := ⟨.hbm, 3336, rfl⟩
abbrev main_v2677 : Ref sig .tc := ⟨.hbm, 3337, rfl⟩
abbrev main_v2678 : Ref sig .tc := ⟨.hbm, 3338, rfl⟩
abbrev main_v2679 : Ref sig .tc := ⟨.hbm, 3339, rfl⟩
abbrev main_v2680 : Ref sig .tc := ⟨.hbm, 3340, rfl⟩
abbrev main_cst_480 : Ref sig .tc := ⟨.hbm, 3341, rfl⟩
abbrev main_v2681 : Ref sig .tc := ⟨.hbm, 3342, rfl⟩
abbrev main_v2682 : Ref sig .tc := ⟨.hbm, 3343, rfl⟩
abbrev main_v2683 : Ref sig .tc := ⟨.hbm, 3344, rfl⟩
abbrev main_cst_481 : Ref sig .tc := ⟨.hbm, 3345, rfl⟩
abbrev main_v2684 : Ref sig .tc := ⟨.hbm, 3346, rfl⟩
abbrev main_v2685 : Ref sig .tc := ⟨.hbm, 3347, rfl⟩
abbrev main_v2686 : Ref sig .tc := ⟨.hbm, 3348, rfl⟩
abbrev main_cst_482 : Ref sig .tc := ⟨.hbm, 3349, rfl⟩
abbrev main_call87_v0 : Ref sig .tc := ⟨.hbm, 3350, rfl⟩
abbrev main_call87_v1 : Ref sig .tc := ⟨.hbm, 3351, rfl⟩
abbrev main_v2687 : Ref sig .tc := ⟨.hbm, 3352, rfl⟩
abbrev main_v2688 : Ref sig .tc := ⟨.hbm, 3353, rfl⟩
abbrev main_cst_483 : Ref sig .tc := ⟨.hbm, 3354, rfl⟩
abbrev main_v2689 : Ref sig .tc := ⟨.hbm, 3355, rfl⟩
abbrev main_v2690 : Ref sig .tc := ⟨.hbm, 3356, rfl⟩
abbrev main_v2691 : Ref sig .tc := ⟨.hbm, 3357, rfl⟩
abbrev main_cst_484 : Ref sig .tc := ⟨.hbm, 3358, rfl⟩
abbrev main_v2692 : Ref sig .tc := ⟨.hbm, 3359, rfl⟩
abbrev main_v2693 : Ref sig .tc := ⟨.hbm, 3360, rfl⟩
abbrev main_v2694 : Ref sig .tc := ⟨.hbm, 3361, rfl⟩
abbrev main_cst_485 : Ref sig .tc := ⟨.hbm, 3362, rfl⟩
abbrev main_v2695 : Ref sig .tc := ⟨.hbm, 3363, rfl⟩
abbrev main_cst_486 : Ref sig .tc := ⟨.hbm, 3364, rfl⟩
abbrev main_v2696 : Ref sig .tc := ⟨.hbm, 3365, rfl⟩
abbrev main_v2697 : Ref sig .tc := ⟨.hbm, 3366, rfl⟩
abbrev main_v2698 : Ref sig .tc := ⟨.hbm, 3367, rfl⟩
abbrev main_v2699 : Ref sig .tc := ⟨.hbm, 3368, rfl⟩
abbrev main_v2700 : Ref sig .tc := ⟨.hbm, 3369, rfl⟩
abbrev main_v2701 : Ref sig .tc := ⟨.hbm, 3370, rfl⟩
abbrev main_v2702 : Ref sig .tc := ⟨.hbm, 3371, rfl⟩
abbrev main_v2703 : Ref sig .tc := ⟨.hbm, 3372, rfl⟩
abbrev main_v2704 : Ref sig .tc := ⟨.hbm, 3373, rfl⟩
abbrev main_v2705 : Ref sig .tc := ⟨.hbm, 3374, rfl⟩
abbrev main_v2706 : Ref sig .tc := ⟨.hbm, 3375, rfl⟩
abbrev main_v2707 : Ref sig .tc := ⟨.hbm, 3376, rfl⟩
abbrev main_v2708 : Ref sig .tc := ⟨.hbm, 3377, rfl⟩
abbrev main_v2709 : Ref sig .tc := ⟨.hbm, 3378, rfl⟩
abbrev main_v2710 : Ref sig .tc := ⟨.hbm, 3379, rfl⟩
abbrev main_v2711 : Ref sig .tc := ⟨.hbm, 3380, rfl⟩
abbrev main_v2712 : Ref sig .tc := ⟨.hbm, 3381, rfl⟩
abbrev main_v2713 : Ref sig .tc := ⟨.hbm, 3382, rfl⟩
abbrev main_v2714 : Ref sig .tc := ⟨.hbm, 3383, rfl⟩
abbrev main_v2715 : Ref sig .tc := ⟨.hbm, 3384, rfl⟩
abbrev main_v2716 : Ref sig .tc := ⟨.hbm, 3385, rfl⟩
abbrev main_v2717 : Ref sig .tc := ⟨.hbm, 3386, rfl⟩
abbrev main_v2718 : Ref sig .tc := ⟨.hbm, 3387, rfl⟩
abbrev main_v2719 : Ref sig .tc := ⟨.hbm, 3388, rfl⟩
abbrev main_v2720 : Ref sig .tc := ⟨.hbm, 3389, rfl⟩
abbrev main_v2721 : Ref sig .tc := ⟨.hbm, 3390, rfl⟩
abbrev main_v2722 : Ref sig .tc := ⟨.hbm, 3391, rfl⟩
abbrev main_v2723 : Ref sig .tc := ⟨.hbm, 3392, rfl⟩
abbrev main_cst_487 : Ref sig .tc := ⟨.hbm, 3393, rfl⟩
abbrev main_v2724 : Ref sig .tc := ⟨.hbm, 3394, rfl⟩
abbrev main_v2725 : Ref sig .tc := ⟨.hbm, 3395, rfl⟩
abbrev main_v2726 : Ref sig .tc := ⟨.hbm, 3396, rfl⟩
abbrev main_v2727 : Ref sig .tc := ⟨.hbm, 3397, rfl⟩
abbrev main_v2728 : Ref sig .tc := ⟨.hbm, 3398, rfl⟩
abbrev main_v2729 : Ref sig .tc := ⟨.hbm, 3399, rfl⟩
abbrev main_cst_488 : Ref sig .tc := ⟨.hbm, 3400, rfl⟩
abbrev main_v2730 : Ref sig .tc := ⟨.hbm, 3401, rfl⟩
abbrev main_v2731 : Ref sig .tc := ⟨.hbm, 3402, rfl⟩
abbrev main_v2732 : Ref sig .tc := ⟨.hbm, 3403, rfl⟩
abbrev main_v2733 : Ref sig .tc := ⟨.hbm, 3404, rfl⟩
abbrev main_v2734 : Ref sig .tc := ⟨.hbm, 3405, rfl⟩
abbrev main_cst_489 : Ref sig .tc := ⟨.hbm, 3406, rfl⟩
abbrev main_v2735 : Ref sig .tc := ⟨.hbm, 3407, rfl⟩
abbrev main_v2736 : Ref sig .tc := ⟨.hbm, 3408, rfl⟩
abbrev main_cst_490 : Ref sig .tc := ⟨.hbm, 3409, rfl⟩
abbrev main_call88_v0 : Ref sig .tc := ⟨.hbm, 3410, rfl⟩
abbrev main_call88_v1 : Ref sig .tc := ⟨.hbm, 3411, rfl⟩
abbrev main_v2737 : Ref sig .tc := ⟨.hbm, 3412, rfl⟩
abbrev main_v2738 : Ref sig .tc := ⟨.hbm, 3413, rfl⟩
abbrev main_v2739 : Ref sig .tc := ⟨.hbm, 3414, rfl⟩
abbrev main_v2740 : Ref sig .tc := ⟨.hbm, 3415, rfl⟩
abbrev main_v2741 : Ref sig .tc := ⟨.hbm, 3416, rfl⟩
abbrev main_cst_491 : Ref sig .tc := ⟨.hbm, 3417, rfl⟩
abbrev main_v2742 : Ref sig .tc := ⟨.hbm, 3418, rfl⟩
abbrev main_v2743 : Ref sig .tc := ⟨.hbm, 3419, rfl⟩
abbrev main_v2744 : Ref sig .tc := ⟨.hbm, 3420, rfl⟩
abbrev main_cst_492 : Ref sig .tc := ⟨.hbm, 3421, rfl⟩
abbrev main_v2745 : Ref sig .tc := ⟨.hbm, 3422, rfl⟩
abbrev main_v2746 : Ref sig .tc := ⟨.hbm, 3423, rfl⟩
abbrev main_v2747 : Ref sig .tc := ⟨.hbm, 3424, rfl⟩
abbrev main_cst_493 : Ref sig .tc := ⟨.hbm, 3425, rfl⟩
abbrev main_call89_v0 : Ref sig .tc := ⟨.hbm, 3426, rfl⟩
abbrev main_call89_v1 : Ref sig .tc := ⟨.hbm, 3427, rfl⟩
abbrev main_v2748 : Ref sig .tc := ⟨.hbm, 3428, rfl⟩
abbrev main_v2749 : Ref sig .tc := ⟨.hbm, 3429, rfl⟩
abbrev main_cst_494 : Ref sig .tc := ⟨.hbm, 3430, rfl⟩
abbrev main_v2750 : Ref sig .tc := ⟨.hbm, 3431, rfl⟩
abbrev main_v2751 : Ref sig .tc := ⟨.hbm, 3432, rfl⟩
abbrev main_v2752 : Ref sig .tc := ⟨.hbm, 3433, rfl⟩
abbrev main_cst_495 : Ref sig .tc := ⟨.hbm, 3434, rfl⟩
abbrev main_v2753 : Ref sig .tc := ⟨.hbm, 3435, rfl⟩
abbrev main_v2754 : Ref sig .tc := ⟨.hbm, 3436, rfl⟩
abbrev main_v2755 : Ref sig .tc := ⟨.hbm, 3437, rfl⟩
abbrev main_cst_496 : Ref sig .tc := ⟨.hbm, 3438, rfl⟩
abbrev main_v2756 : Ref sig .tc := ⟨.hbm, 3439, rfl⟩
abbrev main_cst_497 : Ref sig .tc := ⟨.hbm, 3440, rfl⟩
abbrev main_v2757 : Ref sig .tc := ⟨.hbm, 3441, rfl⟩
abbrev main_v2758 : Ref sig .tc := ⟨.hbm, 3442, rfl⟩
abbrev main_v2759 : Ref sig .tc := ⟨.hbm, 3443, rfl⟩
abbrev main_v2760 : Ref sig .tc := ⟨.hbm, 3444, rfl⟩
abbrev main_v2761 : Ref sig .tc := ⟨.hbm, 3445, rfl⟩
abbrev main_v2762 : Ref sig .tc := ⟨.hbm, 3446, rfl⟩
abbrev main_v2763 : Ref sig .tc := ⟨.hbm, 3447, rfl⟩
abbrev main_v2764 : Ref sig .tc := ⟨.hbm, 3448, rfl⟩
abbrev main_v2765 : Ref sig .tc := ⟨.hbm, 3449, rfl⟩
abbrev main_v2766 : Ref sig .tc := ⟨.hbm, 3450, rfl⟩
abbrev main_v2767 : Ref sig .tc := ⟨.hbm, 3451, rfl⟩
abbrev main_v2768 : Ref sig .tc := ⟨.hbm, 3452, rfl⟩
abbrev main_v2769 : Ref sig .tc := ⟨.hbm, 3453, rfl⟩
abbrev main_v2770 : Ref sig .tc := ⟨.hbm, 3454, rfl⟩
abbrev main_v2771 : Ref sig .tc := ⟨.hbm, 3455, rfl⟩
abbrev main_v2772 : Ref sig .tc := ⟨.hbm, 3456, rfl⟩
abbrev main_v2773 : Ref sig .tc := ⟨.hbm, 3457, rfl⟩
abbrev main_v2774 : Ref sig .tc := ⟨.hbm, 3458, rfl⟩
abbrev main_v2775 : Ref sig .tc := ⟨.hbm, 3459, rfl⟩
abbrev main_v2776 : Ref sig .tc := ⟨.hbm, 3460, rfl⟩
abbrev main_v2777 : Ref sig .tc := ⟨.hbm, 3461, rfl⟩
abbrev main_v2778 : Ref sig .tc := ⟨.hbm, 3462, rfl⟩
abbrev main_v2779 : Ref sig .tc := ⟨.hbm, 3463, rfl⟩
abbrev main_v2780 : Ref sig .tc := ⟨.hbm, 3464, rfl⟩
abbrev main_v2781 : Ref sig .tc := ⟨.hbm, 3465, rfl⟩
abbrev main_v2782 : Ref sig .tc := ⟨.hbm, 3466, rfl⟩
abbrev main_v2783 : Ref sig .tc := ⟨.hbm, 3467, rfl⟩
abbrev main_v2784 : Ref sig .tc := ⟨.hbm, 3468, rfl⟩
abbrev main_v2785 : Ref sig .tc := ⟨.hbm, 3469, rfl⟩
abbrev main_v2786 : Ref sig .tc := ⟨.hbm, 3470, rfl⟩
abbrev main_v2787 : Ref sig .tc := ⟨.hbm, 3471, rfl⟩
abbrev main_v2788 : Ref sig .tc := ⟨.hbm, 3472, rfl⟩
abbrev main_v2789 : Ref sig .tc := ⟨.hbm, 3473, rfl⟩
abbrev main_v2790 : Ref sig .tc := ⟨.hbm, 3474, rfl⟩
abbrev main_v2791 : Ref sig .tc := ⟨.hbm, 3475, rfl⟩
abbrev main_v2792 : Ref sig .tc := ⟨.hbm, 3476, rfl⟩
abbrev main_v2793 : Ref sig .tc := ⟨.hbm, 3477, rfl⟩
abbrev main_v2794_0 : Ref sig .tc := ⟨.hbm, 3478, rfl⟩
abbrev main_v2794_1 : Ref sig .tc := ⟨.hbm, 3479, rfl⟩
abbrev main_v2794_2 : Ref sig .tc := ⟨.hbm, 3480, rfl⟩
abbrev main_v2794_3 : Ref sig .tc := ⟨.hbm, 3481, rfl⟩
abbrev main_v2795 : Ref sig .tc := ⟨.hbm, 3482, rfl⟩
abbrev main_v2796 : Ref sig .tc := ⟨.hbm, 3483, rfl⟩
abbrev main_v2797 : Ref sig .tc := ⟨.hbm, 3484, rfl⟩
abbrev main_v2798 : Ref sig .tc := ⟨.hbm, 3485, rfl⟩
abbrev main_v2799 : Ref sig .tc := ⟨.hbm, 3486, rfl⟩
abbrev main_v2800 : Ref sig .tc := ⟨.hbm, 3487, rfl⟩
abbrev main_v2801 : Ref sig .tc := ⟨.hbm, 3488, rfl⟩
abbrev main_v2802 : Ref sig .tc := ⟨.hbm, 3489, rfl⟩
abbrev main_v2803 : Ref sig .tc := ⟨.hbm, 3490, rfl⟩
abbrev main_v2804 : Ref sig .tc := ⟨.hbm, 3491, rfl⟩
abbrev main_v2805 : Ref sig .tc := ⟨.hbm, 3492, rfl⟩
abbrev main_v2806 : Ref sig .tc := ⟨.hbm, 3493, rfl⟩
abbrev main_v2807 : Ref sig .tc := ⟨.hbm, 3494, rfl⟩
abbrev main_v2808 : Ref sig .tc := ⟨.hbm, 3495, rfl⟩
abbrev main_v2809 : Ref sig .tc := ⟨.hbm, 3496, rfl⟩
abbrev main_v2810 : Ref sig .tc := ⟨.hbm, 3497, rfl⟩
abbrev main_v2811 : Ref sig .tc := ⟨.hbm, 3498, rfl⟩
abbrev main_call90_v0 : Ref sig .tc := ⟨.hbm, 3499, rfl⟩
abbrev main_call90_cst : Ref sig .tc := ⟨.hbm, 3500, rfl⟩
abbrev main_call90_v1 : Ref sig .tc := ⟨.hbm, 3501, rfl⟩
abbrev main_v2812 : Ref sig .tc := ⟨.hbm, 3502, rfl⟩
abbrev main_call91_v0 : Ref sig .tc := ⟨.hbm, 3503, rfl⟩
abbrev main_call91_cst : Ref sig .tc := ⟨.hbm, 3504, rfl⟩
abbrev main_call91_v1 : Ref sig .tc := ⟨.hbm, 3505, rfl⟩
abbrev main_v2813 : Ref sig .tc := ⟨.hbm, 3506, rfl⟩
abbrev main_call92_v0 : Ref sig .tc := ⟨.hbm, 3507, rfl⟩
abbrev main_call92_cst : Ref sig .tc := ⟨.hbm, 3508, rfl⟩
abbrev main_call92_v1 : Ref sig .tc := ⟨.hbm, 3509, rfl⟩
abbrev main_v2814 : Ref sig .tc := ⟨.hbm, 3510, rfl⟩
abbrev main_v2815 : Ref sig .tc := ⟨.hbm, 3511, rfl⟩
abbrev main_v2816 : Ref sig .tc := ⟨.hbm, 3512, rfl⟩
abbrev main_v2817 : Ref sig .tc := ⟨.hbm, 3513, rfl⟩
abbrev main_v2818 : Ref sig .tc := ⟨.hbm, 3514, rfl⟩
abbrev main_v2819 : Ref sig .tc := ⟨.hbm, 3515, rfl⟩
abbrev main_v2820 : Ref sig .tc := ⟨.hbm, 3516, rfl⟩
abbrev main_v2821 : Ref sig .tc := ⟨.hbm, 3517, rfl⟩
abbrev main_v2822 : Ref sig .tc := ⟨.hbm, 3518, rfl⟩
abbrev main_v2823 : Ref sig .tc := ⟨.hbm, 3519, rfl⟩
abbrev main_v2824 : Ref sig .tc := ⟨.hbm, 3520, rfl⟩
abbrev main_v2825 : Ref sig .tc := ⟨.hbm, 3521, rfl⟩
abbrev main_v2826 : Ref sig .tc := ⟨.hbm, 3522, rfl⟩
abbrev main_v2827 : Ref sig .tc := ⟨.hbm, 3523, rfl⟩
abbrev main_v2828 : Ref sig .tc := ⟨.hbm, 3524, rfl⟩
abbrev main_v2829 : Ref sig .tc := ⟨.hbm, 3525, rfl⟩
abbrev main_v2830 : Ref sig .tc := ⟨.hbm, 3526, rfl⟩
abbrev main_v2831 : Ref sig .tc := ⟨.hbm, 3527, rfl⟩
abbrev main_v2832 : Ref sig .tc := ⟨.hbm, 3528, rfl⟩
abbrev main_v2833 : Ref sig .tc := ⟨.hbm, 3529, rfl⟩
abbrev main_v2834 : Ref sig .tc := ⟨.hbm, 3530, rfl⟩
abbrev main_v2835 : Ref sig .tc := ⟨.hbm, 3531, rfl⟩
abbrev main_v2836 : Ref sig .tc := ⟨.hbm, 3532, rfl⟩
abbrev main_v2837 : Ref sig .tc := ⟨.hbm, 3533, rfl⟩
abbrev main_v2838 : Ref sig .tc := ⟨.hbm, 3534, rfl⟩
abbrev main_v2839 : Ref sig .tc := ⟨.hbm, 3535, rfl⟩
abbrev main_v2840 : Ref sig .tc := ⟨.hbm, 3536, rfl⟩
abbrev main_v2841 : Ref sig .tc := ⟨.hbm, 3537, rfl⟩
abbrev main_v2842 : Ref sig .tc := ⟨.hbm, 3538, rfl⟩
abbrev main_v2843 : Ref sig .tc := ⟨.hbm, 3539, rfl⟩

abbrev nD : Nat := 1
abbrev τ : Topo := Topo.v7x

variable {F : FTy → Type} [FloatOps F]
-- ==== Second.lean ====
abbrev S8x2x12x8x1024 : Shape := ⟨5, ![8, 2, 12, 8, 1024]⟩
abbrev S12 : Shape := ⟨1, ![12]⟩
abbrev S12x12 : Shape := ⟨2, ![12, 12]⟩
abbrev S1x12 : Shape := ⟨2, ![1, 12]⟩
abbrev S12x1024 : Shape := ⟨2, ![12, 1024]⟩
abbrev S1x1x12x8x1024 : Shape := ⟨5, ![1, 1, 12, 8, 1024]⟩
abbrev S1x1 : Shape := ⟨2, ![1, 1]⟩
abbrev S1x1x1x8x1024 : Shape := ⟨5, ![1, 1, 1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S8x2x12x8x1024, .f32⟩
  | .hbm, ⟨1, _⟩ => ⟨S12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S1x12, .f32⟩
  | .hbm, ⟨6, _⟩ => ⟨S1x12, .f32⟩
  | .hbm, ⟨7, _⟩ => ⟨S1x12, .f32⟩
  | .hbm, ⟨8, _⟩ => ⟨S8x2x12x8x1024, .f32⟩
  | .hbm, ⟨9, _⟩ => ⟨S12x1024, .f32⟩
  | .hbm, ⟨10, _⟩ => ⟨S12x1024, .f32⟩
  | .local _ .vmem, ⟨0, _⟩ => ⟨S1x1x12x8x1024, .f32⟩
  | .local _ .vmem, ⟨1, _⟩ => ⟨S1x1x12x8x1024, .f32⟩
  | .local _ .vmem, ⟨2, _⟩ => ⟨S1x12, .f32⟩
  | .local _ .vmem, ⟨3, _⟩ => ⟨S1x12, .f32⟩
  | .local _ .vmem, ⟨4, _⟩ => ⟨S12x12, .f32⟩
  | .local _ .vmem, ⟨5, _⟩ => ⟨S1x12, .f32⟩
  | .local _ .vmem, ⟨6, _⟩ => ⟨S1x1x12x8x1024, .f32⟩
  | .local _ .vmem, ⟨7, _⟩ => ⟨S1x1x12x8x1024, .f32⟩
  | .local _ .vmem, ⟨8, _⟩ => ⟨S12x1024, .f32⟩
  | .local _ .vmem, ⟨9, _⟩ => ⟨S12x1024, .f32⟩
  | _, _ => ⟨S8x2x12x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x12x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x12x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S12x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S12x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== SecondReferenceIdeal.lean ====
abbrev S8x2x12x8x1024 : Shape := ⟨5, ![8, 2, 12, 8, 1024]⟩
abbrev S12 : Shape := ⟨1, ![12]⟩
abbrev S12x12 : Shape := ⟨2, ![12, 12]⟩
abbrev S8x12x8x2x1024 : Shape := ⟨5, ![8, 12, 8, 2, 1024]⟩
abbrev S8x12x8x2048 : Shape := ⟨4, ![8, 12, 8, 2048]⟩
abbrev S1x12x1x1 : Shape := ⟨4, ![1, 12, 1, 1]⟩
abbrev S_ : Shape := ⟨0, ![]⟩
abbrev S8x8x2048x12 : Shape := ⟨4, ![8, 8, 2048, 12]⟩

abbrev nBuf : Space → Nat
  | .hbm => 23
  | .vmem => 0
  | .smem => 0
  | _ => 0

abbrev bufTy : (tb : Table) → Fin (tcTables nBuf tb) → BufTy
  | .hbm, ⟨0, _⟩ => ⟨S8x2x12x8x1024, .f32⟩
  | .hbm, ⟨1, _⟩ => ⟨S12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S8x12x8x2x1024, .f32⟩
  | .hbm, ⟨6, _⟩ => ⟨S8x12x8x2048, .f32⟩
  | .hbm, ⟨7, _⟩ => ⟨S1x12x1x1, .f32⟩
  | .hbm, ⟨8, _⟩ => ⟨S8x12x8x2048, .f32⟩
  | .hbm, ⟨9, _⟩ => ⟨S8x12x8x2048, .f32⟩
  | .hbm, ⟨10, _⟩ => ⟨S1x12x1x1, .f32⟩
  | .hbm, ⟨11, _⟩ => ⟨S8x12x8x2048, .f32⟩
  | .hbm, ⟨12, _⟩ => ⟨S8x12x8x2048, .f32⟩
  | .hbm, ⟨13, _⟩ => ⟨S_, .f32⟩
  | .hbm, ⟨14, _⟩ => ⟨S8x12x8x2048, .f32⟩
  | .hbm, ⟨15, _⟩ => ⟨S8x12x8x2048, .f32⟩
  | .hbm, ⟨16, _⟩ => ⟨S8x8x2048x12, .f32⟩
  | .hbm, ⟨17, _⟩ => ⟨S8x12x8x2048, .f32⟩
  | .hbm, ⟨18, _⟩ => ⟨S1x12x1x1, .f32⟩
  | .hbm, ⟨19, _⟩ => ⟨S8x12x8x2048, .f32⟩
  | .hbm, ⟨20, _⟩ => ⟨S8x12x8x2048, .f32⟩
  | .hbm, ⟨21, _⟩ => ⟨S8x12x8x2x1024, .f32⟩
  | .hbm, ⟨22, _⟩ => ⟨S8x2x12x8x1024, .f32⟩
  | _, _ => ⟨S8x2x12x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Last.lean ====
abbrev S8x2x12x8x1024 : Shape := ⟨5, ![8, 2, 12, 8, 1024]⟩
abbrev S12 : Shape := ⟨1, ![12]⟩
abbrev S12x12 : Shape := ⟨2, ![12, 12]⟩
abbrev S1x12 : Shape := ⟨2, ![1, 12]⟩
abbrev S8x12x2x1x1024 : Shape := ⟨5, ![8, 12, 2, 1, 1024]⟩
abbrev S1x1x12x8x1024 : Shape := ⟨5, ![1, 1, 12, 8, 1024]⟩
abbrev S1x12x1x1x1024 : Shape := ⟨5, ![1, 12, 1, 1, 1024]⟩
abbrev S1x1 : Shape := ⟨2, ![1, 1]⟩
abbrev S1x1x1x8x1024 : Shape := ⟨5, ![1, 1, 1, 8, 1024]⟩
abbrev S8x1024 : Shape := ⟨2, ![8, 1024]⟩
abbrev S1024 : Shape := ⟨1, ![1024]⟩
abbrev S1x1x1x1x1024 : Shape := ⟨5, ![1, 1, 1, 1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x2x12x8x1024, .f32⟩
  | .hbm, ⟨1, _⟩ => ⟨S12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S1x12, .f32⟩
  | .hbm, ⟨6, _⟩ => ⟨S1x12, .f32⟩
  | .hbm, ⟨7, _⟩ => ⟨S1x12, .f32⟩
  | .hbm, ⟨8, _⟩ => ⟨S8x12x2x1x1024, .f32⟩
  | .local _ .vmem, ⟨0, _⟩ => ⟨S1x1x12x8x1024, .f32⟩
  | .local _ .vmem, ⟨1, _⟩ => ⟨S1x1x12x8x1024, .f32⟩
  | .local _ .vmem, ⟨2, _⟩ => ⟨S1x12, .f32⟩
  | .local _ .vmem, ⟨3, _⟩ => ⟨S1x12, .f32⟩
  | .local _ .vmem, ⟨4, _⟩ => ⟨S12x12, .f32⟩
  | .local _ .vmem, ⟨5, _⟩ => ⟨S1x12, .f32⟩
  | .local _ .vmem, ⟨6, _⟩ => ⟨S1x12x1x1x1024, .f32⟩
  | .local _ .vmem, ⟨7, _⟩ => ⟨S1x12x1x1x1024, .f32⟩
  | _, _ => ⟨S8x2x12x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x12x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x12x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LastReferenceIdeal.lean ====
abbrev S8x2x12x8x1024 : Shape := ⟨5, ![8, 2, 12, 8, 1024]⟩
abbrev S12 : Shape := ⟨1, ![12]⟩
abbrev S12x12 : Shape := ⟨2, ![12, 12]⟩
abbrev S8x12x8x2x1024 : Shape := ⟨5, ![8, 12, 8, 2, 1024]⟩
abbrev S8x12x8x2048 : Shape := ⟨4, ![8, 12, 8, 2048]⟩
abbrev S1x12x1x1 : Shape := ⟨4, ![1, 12, 1, 1]⟩
abbrev S_ : Shape := ⟨0, ![]⟩
abbrev S8x8x2048x12 : Shape := ⟨4, ![8, 8, 2048, 12]⟩
abbrev S8x12x2048 : Shape := ⟨3, ![8, 12, 2048]⟩
abbrev S8x12x2x1x1024 : Shape := ⟨5, ![8, 12, 2, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x2x12x8x1024, .f32⟩
  | .hbm, ⟨1, _⟩ => ⟨S12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S8x12x8x2x1024, .f32⟩
  | .hbm, ⟨6, _⟩ => ⟨S8x12x8x2048, .f32⟩
  | .hbm, ⟨7, _⟩ => ⟨S1x12x1x1, .f32⟩
  | .hbm, ⟨8, _⟩ => ⟨S8x12x8x2048, .f32⟩
  | .hbm, ⟨9, _⟩ => ⟨S8x12x8x2048, .f32⟩
  | .hbm, ⟨10, _⟩ => ⟨S1x12x1x1, .f32⟩
  | .hbm, ⟨11, _⟩ => ⟨S8x12x8x2048, .f32⟩
  | .hbm, ⟨12, _⟩ => ⟨S8x12x8x2048, .f32⟩
  | .hbm, ⟨13, _⟩ => ⟨S_, .f32⟩
  | .hbm, ⟨14, _⟩ => ⟨S8x12x8x2048, .f32⟩
  | .hbm, ⟨15, _⟩ => ⟨S8x12x8x2048, .f32⟩
  | .hbm, ⟨16, _⟩ => ⟨S8x8x2048x12, .f32⟩
  | .hbm, ⟨17, _⟩ => ⟨S8x12x8x2048, .f32⟩
  | .hbm, ⟨18, _⟩ => ⟨S1x12x1x1, .f32⟩
  | .hbm, ⟨19, _⟩ => ⟨S8x12x8x2048, .f32⟩
  | .hbm, ⟨20, _⟩ => ⟨S8x12x8x2048, .f32⟩
  | .hbm, ⟨21, _⟩ => ⟨S_, .f32⟩
  | .hbm, ⟨22, _⟩ => ⟨S8x12x2048, .f32⟩
  | .hbm, ⟨23, _⟩ => ⟨S8x12x2x1x1024, .f32⟩
  | _, _ => ⟨S8x2x12x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.K.Spec.lean ====
/- The first kernel function (`_k1`) written as a composition of a few named vector functions: distances, the eight
   nearest-neighbour rounds, the gather of the neighbours' coordinates, the covariances, one Jacobi rotation (iterated), the
   ordering of the three eigenpairs, the twelve features and the first 1×1 convolution. -/
module

public import proofs.«01_k».proof.Proof.Gen.KernelIdeal.Skeleton

@[expose] public section

noncomputable section

namespace Cert.KernelIdeal.K1

open Idealize.ShloMosaic Idealize.SL.Sem Cert.KernelIdeal

variable {F : FTy → Type} [FloatOps F]

/-- A vector of the 8 × 1024 (neighbour, point) pairs of one grid point. -/
abbrev V8 (F : FTy → Type) := FVec F S8x1024 .f32

/-- A splat constant of that shape. -/
def kst (b : BitVec 32) : V8 F := broadcast S8x1024 (Scalar.ofBits .f32 b)

/-! ### Distances and the eight rounds of nearest-neighbour selection -/

/-- The 1024 points of the block as a matrix. -/
def pts (x0 : Vec F S1x1024x3 .f32) : FVec F S1024x3 .f32 := shapeCast S1024x3 x0 (by decide)
/-- All 2048 points of the batch, transposed. -/
def all (x1 : Vec F S1x3x2048 .f32) : FVec F S3x2048 .f32 := shapeCast S3x2048 x1 (by decide)

/-- One coordinate of all the points. -/
def row (off : Fin 2 → ℕ) (h : S3x2048.Slices off S1x2048) (x1 : Vec F S1x3x2048 .f32) : FVec F S1x2048 .f32 :=
  extractStridedSlice S1x2048 off (all x1) h

/-- One coordinate of the block's points. -/
def col (off : Fin 2 → ℕ) (h : S1024x3.Slices off S1024x1) (x0 : Vec F S1x1024x3 .f32) : FVec F S1024 .f32 :=
  shapeCast S1024 (extractStridedSlice S1024x1 off (pts x0) h) (by decide)

def rowX (x1 : Vec F S1x3x2048 .f32) := row ![0, 0] (by decide) x1
def rowY (x1 : Vec F S1x3x2048 .f32) := row ![1, 0] (by decide) x1
def rowZ (x1 : Vec F S1x3x2048 .f32) := row ![2, 0] (by decide) x1

/-- Squared lengths of the block's points. -/
def sqB (x0 : Vec F S1x1024x3 .f32) : FVec F S1024 .f32 :=
  addf (addf (mulf (col ![0, 0] (by decide) x0) (col ![0, 0] (by decide) x0))
    (mulf (col ![0, 1] (by decide) x0) (col ![0, 1] (by decide) x0)))
    (mulf (col ![0, 2] (by decide) x0) (col ![0, 2] (by decide) x0))

/-- Squared lengths of all the points. -/
def sqA (x1 : Vec F S1x3x2048 .f32) : FVec F S1x2048 .f32 :=
  addf (addf (mulf (rowX x1) (rowX x1)) (mulf (rowY x1) (rowY x1))) (mulf (rowZ x1) (rowZ x1))

/-- A column value repeated along the 2048 columns. -/
def along (v : FVec F S1024 .f32) : FVec F S1024x2048 .f32 :=
  broadcastTo S1024x2048 (shapeCast S1024x1 v (by decide)) (by decide)

/-- The squared distances of the block's points to all the points. -/
def dist (x0 : Vec F S1x1024x3 .f32) (x1 : Vec F S1x3x2048 .f32) : FVec F S1024x2048 .f32 :=
  subf (addf (along (sqB x0)) (broadcastTo S1024x2048 (sqA x1) (by decide)))
    (mulf (broadcast S1024x2048 (Scalar.ofBits .f32 0x40000000#32))
      (matmul dot_S1024x3_S3x2048_S1024x2048_1_0_0_1_n_n none (pts x0) (all x1)
        (constant S1024x2048 .f32 0x00000000#32)))

/-- The column numbers, as floats. -/
def cols : FVec F S1024x2048 .f32 := sitofp .f32 (iota .tc S1024x2048 32 [1] (by decide))

/-- The least value of each row. -/
def rowMin (d : FVec F S1024x2048 .f32) : FVec F S1024 .f32 :=
  multiReduction .minimumf [1] S1024 d 0x7F800000#32 (by decide) (.inl rfl) rfl

/-- The first column at which a row's least value stands. -/
def argMin (d : FVec F S1024x2048 .f32) : FVec F S1024 .f32 :=
  rowMin (select (cmpf .oeq d (along (rowMin d))) cols (broadcast S1024x2048 (Scalar.ofBits .f32 0x45000000#32)))

/-- The distances with the column just selected overwritten by infinity. -/
def strike (d : FVec F S1024x2048 .f32) : FVec F S1024x2048 .f32 :=
  select (cmpf .oeq cols (along (argMin d))) (broadcast S1024x2048 (Scalar.ofBits .f32 0x7F800000#32)) d

/-- The distances after `n` rounds. -/
def struck : ℕ → FVec F S1024x2048 .f32 → FVec F S1024x2048 .f32
  | 0, d => d
  | n + 1, d => strike (struck n d)

/-- A round's selection as a row of a matrix. -/
def asRow (v : FVec F S1024 .f32) : FVec F S1x1024 .f32 := shapeCast S1x1024 v (by decide)

/-- The eight rounds' selections, one below the other. -/
def picks (d : FVec F S1024x2048 .f32) : V8 F :=
  concatenate S8x1024 0 [⟨S1x1024, asRow (argMin (struck 0 d))⟩, ⟨S1x1024, asRow (argMin (struck 1 d))⟩,
    ⟨S1x1024, asRow (argMin (struck 2 d))⟩, ⟨S1x1024, asRow (argMin (struck 3 d))⟩,
    ⟨S1x1024, asRow (argMin (struck 4 d))⟩, ⟨S1x1024, asRow (argMin (struck 5 d))⟩,
    ⟨S1x1024, asRow (argMin (struck 6 d))⟩, ⟨S1x1024, asRow (argMin (struck 7 d))⟩]
    (show Shape.Concatenates [S1x1024, S1x1024, S1x1024, S1x1024, S1x1024, S1x1024, S1x1024, S1x1024] S8x1024 0 by decide)

/-- The selected columns as integers. -/
def pickI (d : FVec F S1024x2048 .f32) : IVec S8x1024 32 := fptosi 32 (picks d)

/-! ### The gather -/

/-- The floor division by 128 as it is computed from the truncating one. -/
def chunkOf (v : IVec S8x1024 32) : IVec S8x1024 32 :=
  select (andi
    (cmpi .ne (subi (extui 32 (cmpi .sgt v (broadcast S8x1024 0#32)) (by decide))
      (extui 32 (cmpi .slt v (broadcast S8x1024 0#32)) (by decide)))
      (broadcast S8x1024 (Scalar.subi (Scalar.extui (Scalar.cmpi .sgt 128#32 0#32)) (Scalar.extui (Scalar.cmpi .slt 128#32 0#32)))))
    (cmpi .ne (remsi v (broadcast S8x1024 128#32)) (broadcast S8x1024 0#32)))
    (subi (divsi v (broadcast S8x1024 128#32)) (broadcast S8x1024 1#32))
    (divsi v (broadcast S8x1024 128#32))

/-- The position inside the chunk. -/
def laneOf (v : IVec S8x1024 32) : IVec S8x1024 32 := subi v (muli (chunkOf v) (broadcast S8x1024 128#32))

/-- One chunk of 128 points of a coordinate, repeated for the eight neighbours. -/
def src (off : Fin 2 → ℕ) (h : S1x2048.Slices off S1x128) (r : FVec F S1x2048 .f32) : FVec F S8x128 .f32 :=
  broadcastTo S8x128 (shapeCast S1x128 (extractStridedSlice S1x128 off r h) (by decide)) (by decide)

/-- The values of a chunk at 128 of the positions. -/
def pieceAt (off : Fin 2 → ℕ) (h : S8x1024.Slices off S8x128) (l : IVec S8x1024 32) (s : FVec F S8x128 .f32) :
    FVec F S8x128 .f32 :=
  dynamicGather 1 s (shapeCast S8x128 (shapeCast S8x128x1
    (select (cmpi .slt (extractStridedSlice S8x128 off l h) (broadcast S8x128 0#32))
      (addi (extractStridedSlice S8x128 off l h) (broadcast S8x128 128#32))
      (extractStridedSlice S8x128 off l h)) (by decide)) (by decide))

/-- The values of a chunk at all the positions. -/
def lookup (s : FVec F S8x128 .f32) (l : IVec S8x1024 32) : V8 F :=
  concatenate S8x1024 1 [⟨S8x128, pieceAt ![0, 0] (by decide) l s⟩, ⟨S8x128, pieceAt ![0, 128] (by decide) l s⟩,
    ⟨S8x128, pieceAt ![0, 256] (by decide) l s⟩, ⟨S8x128, pieceAt ![0, 384] (by decide) l s⟩,
    ⟨S8x128, pieceAt ![0, 512] (by decide) l s⟩, ⟨S8x128, pieceAt ![0, 640] (by decide) l s⟩,
    ⟨S8x128, pieceAt ![0, 768] (by decide) l s⟩, ⟨S8x128, pieceAt ![0, 896] (by decide) l s⟩]
    (show Shape.Concatenates [S8x128, S8x128, S8x128, S8x128, S8x128, S8x128, S8x128, S8x128] S8x1024 1 by decide)

/-- One chunk's contribution to the gather. -/
def merge (k : BitVec 32) (off : Fin 2 → ℕ) (h : S1x2048.Slices off S1x128) (r : FVec F S1x2048 .f32)
    (v : IVec S8x1024 32) (out : V8 F) : V8 F :=
  select (cmpi .eq (chunkOf v) (broadcast S8x1024 k)) (lookup (src off h r) (laneOf v)) out

/-- A coordinate at the selected points. -/
def gather (r : FVec F S1x2048 .f32) (v : IVec S8x1024 32) : V8 F :=
  merge 15#32 ![0, 1920] (by decide) r v <| merge 14#32 ![0, 1792] (by decide) r v <|
  merge 13#32 ![0, 1664] (by decide) r v <| merge 12#32 ![0, 1536] (by decide) r v <|
  merge 11#32 ![0, 1408] (by decide) r v <| merge 10#32 ![0, 1280] (by decide) r v <|
  merge 9#32 ![0, 1152] (by decide) r v <| merge 8#32 ![0, 1024] (by decide) r v <|
  merge 7#32 ![0, 896] (by decide) r v <| merge 6#32 ![0, 768] (by decide) r v <|
  merge 5#32 ![0, 640] (by decide) r v <| merge 4#32 ![0, 512] (by decide) r v <|
  merge 3#32 ![0, 384] (by decide) r v <| merge 2#32 ![0, 256] (by decide) r v <|
  merge 1#32 ![0, 128] (by decide) r v <| merge 0#32 ![0, 0] (by decide) r v (kst 0x00000000#32)

/-! ### Covariances -/

/-- The differences of a coordinate to one neighbour's. -/
def diff (off : Fin 2 → ℕ) (h : S8x1024.Slices off S1x1024) (g : V8 F) : V8 F :=
  extf .f32 (truncf .bf16 (subf (broadcastTo S8x1024 (extractStridedSlice S1x1024 off g h) (by decide)) g) (by decide)) (by decide)

/-- The sum over the eight neighbours of the products of two coordinates' differences. -/
def cov (u v : V8 F) : V8 F :=
  addf
    (addf (addf (mulf (diff ![0, 0] (by decide) u) (diff ![0, 0] (by decide) v))
        (mulf (diff ![1, 0] (by decide) u) (diff ![1, 0] (by decide) v)))
      (addf (mulf (diff ![2, 0] (by decide) u) (diff ![2, 0] (by decide) v))
        (mulf (diff ![3, 0] (by decide) u) (diff ![3, 0] (by decide) v))))
    (addf (addf (mulf (diff ![4, 0] (by decide) u) (diff ![4, 0] (by decide) v))
        (mulf (diff ![5, 0] (by decide) u) (diff ![5, 0] (by decide) v)))
      (addf (mulf (diff ![6, 0] (by decide) u) (diff ![6, 0] (by decide) v))
        (mulf (diff ![7, 0] (by decide) u) (diff ![7, 0] (by decide) v))))

/-! ### Jacobi rotations -/

/-- The six entries of the symmetric matrix and the nine of the accumulated rotation. -/
structure JV (F : FTy → Type) where
  a00 : V8 F
  a11 : V8 F
  a22 : V8 F
  a01 : V8 F
  a02 : V8 F
  a12 : V8 F
  v00 : V8 F
  v01 : V8 F
  v02 : V8 F
  v10 : V8 F
  v11 : V8 F
  v12 : V8 F
  v20 : V8 F
  v21 : V8 F
  v22 : V8 F

/-- The cotangent of twice the angle. -/
def tau (app aqq apq : V8 F) : V8 F := divf (subf aqq app) (mulf (kst 0x40000000#32) apq)

/-- The sign of a number. -/
def sgn (x : V8 F) : V8 F :=
  select (cmpf .ogt (absf x) (kst 0x00000000#32))
    (select (cmpf .olt x (constant S8x1024 .f32 0x00000000#32)) (constant S8x1024 .f32 0xBF800000#32)
      (constant S8x1024 .f32 0x3F800000#32)) x

/-- The tangent of the angle from the cotangent of twice the angle. -/
def tan0 (x : V8 F) : V8 F :=
  select (cmpf .oeq x (kst 0x00000000#32)) (kst 0x3F800000#32)
    (divf (sgn x) (addf (absf x) (sqrt (addf (kst 0x3F800000#32) (mulf x x)))))

/-- The tangent of the angle of the rotation, zero where the entry is small already. -/
def tan (app aqq apq : V8 F) : V8 F :=
  select (ori (cmpf .ole (absf apq) (mulf (kst 0x358637BD#32) (sqrt (absf (mulf app aqq)))))
      (cmpf .oeq apq (kst 0x00000000#32)))
    (kst 0x00000000#32) (tan0 (tau app aqq apq))

/-- The cosine. -/
def cs (app aqq apq : V8 F) : V8 F :=
  divf (kst 0x3F800000#32) (sqrt (addf (kst 0x3F800000#32) (mulf (tan app aqq apq) (tan app aqq apq))))

/-- The sine. -/
def sn (app aqq apq : V8 F) : V8 F := mulf (tan app aqq apq) (cs app aqq apq)

/-- `c x - s y`. -/
def rotL (c s x y : V8 F) : V8 F := subf (mulf c x) (mulf s y)
/-- `s x + c y`. -/
def rotR (c s x y : V8 F) : V8 F := addf (mulf s x) (mulf c y)

/-- The new entry `(p, p)`. -/
def newPP (c s app aqq apq : V8 F) : V8 F := rotL c s (rotL c s app apq) (rotL c s apq aqq)
/-- The new entry `(q, q)`. -/
def newQQ (c s app aqq apq : V8 F) : V8 F := rotR c s (rotR c s app apq) (rotR c s apq aqq)
/-- The new entry `(p, q)`. -/
def newPQ (c s app aqq apq : V8 F) : V8 F := rotL c s (rotR c s app apq) (rotR c s apq aqq)

/-- The rotation of the plane (0, 2). -/
def rot02 (m : JV F) : JV F :=
  let c := cs m.a00 m.a22 m.a02
  let s := sn m.a00 m.a22 m.a02
  { a00 := newPP c s m.a00 m.a22 m.a02, a22 := newQQ c s m.a00 m.a22 m.a02, a02 := newPQ c s m.a00 m.a22 m.a02
    a01 := rotL c s m.a01 m.a12, a12 := rotR c s m.a01 m.a12, a11 := m.a11
    v00 := rotL c s m.v00 m.v02, v02 := rotR c s m.v00 m.v02
    v10 := rotL c s m.v10 m.v12, v12 := rotR c s m.v10 m.v12
    v20 := rotL c s m.v20 m.v22, v22 := rotR c s m.v20 m.v22
    v01 := m.v01, v11 := m.v11, v21 := m.v21 }

/-- The rotation of the plane (1, 2). -/
def rot12 (m : JV F) : JV F :=
  let c := cs m.a11 m.a22 m.a12
  let s := sn m.a11 m.a22 m.a12
  { a11 := newPP c s m.a11 m.a22 m.a12, a22 := newQQ c s m.a11 m.a22 m.a12, a12 := newPQ c s m.a11 m.a22 m.a12
    a01 := rotL c s m.a01 m.a02, a02 := rotR c s m.a01 m.a02, a00 := m.a00
    v01 := rotL c s m.v01 m.v02, v02 := rotR c s m.v01 m.v02
    v11 := rotL c s m.v11 m.v12, v12 := rotR c s m.v11 m.v12
    v21 := rotL c s m.v21 m.v22, v22 := rotR c s m.v21 m.v22
    v00 := m.v00, v10 := m.v10, v20 := m.v20 }

/-- The rotation of the plane (0, 1). -/
def rot01 (m : JV F) : JV F :=
  let c := cs m.a00 m.a11 m.a01
  let s := sn m.a00 m.a11 m.a01
  { a00 := newPP c s m.a00 m.a11 m.a01, a11 := newQQ c s m.a00 m.a11 m.a01, a01 := newPQ c s m.a00 m.a11 m.a01
    a02 := rotL c s m.a02 m.a12, a12 := rotR c s m.a02 m.a12, a22 := m.a22
    v00 := rotL c s m.v00 m.v01, v01 := rotR c s m.v00 m.v01
    v10 := rotL c s m.v10 m.v11, v11 := rotR c s m.v10 m.v11
    v20 := rotL c s m.v20 m.v21, v21 := rotR c s m.v20 m.v21
    v02 := m.v02, v12 := m.v12, v22 := m.v22 }

/-- `n` sweeps of the three rotations. -/
def sweeps : ℕ → JV F → JV F
  | 0, m => m
  | n + 1, m => rot01 (rot12 (rot02 (sweeps n m)))

/-- The starting point: the covariances and the identity. -/
def start (gx gy gz : V8 F) : JV F :=
  { a00 := cov gx gx, a11 := cov gy gy, a22 := cov gz gz, a01 := cov gx gy, a02 := cov gx gz, a12 := cov gy gz
    v00 := kst 0x3F800000#32, v01 := kst 0x00000000#32, v02 := kst 0x00000000#32
    v10 := kst 0x00000000#32, v11 := kst 0x3F800000#32, v12 := kst 0x00000000#32
    v20 := kst 0x00000000#32, v21 := kst 0x00000000#32, v22 := kst 0x3F800000#32 }

/-! ### Ordering, features, convolution -/

/-- An eigenvalue with its eigenvector. -/
structure EP (F : FTy → Type) where
  l : V8 F
  x : V8 F
  y : V8 F
  z : V8 F

/-- The smaller of two eigenpairs. -/
def lower (p q : EP F) : EP F :=
  { l := select (cmpf .olt q.l p.l) q.l p.l, x := select (cmpf .olt q.l p.l) q.x p.x
    y := select (cmpf .olt q.l p.l) q.y p.y, z := select (cmpf .olt q.l p.l) q.z p.z }

/-- The larger of two eigenpairs. -/
def upper (p q : EP F) : EP F :=
  { l := select (cmpf .olt q.l p.l) p.l q.l, x := select (cmpf .olt q.l p.l) p.x q.x
    y := select (cmpf .olt q.l p.l) p.y q.y, z := select (cmpf .olt q.l p.l) p.z q.z }

def ep0 (m : JV F) : EP F := ⟨m.a00, m.v00, m.v10, m.v20⟩
def ep1 (m : JV F) : EP F := ⟨m.a11, m.v01, m.v11, m.v21⟩
def ep2 (m : JV F) : EP F := ⟨m.a22, m.v02, m.v12, m.v22⟩

/-- The largest, the middle and the smallest eigenpair. -/
def big (m : JV F) : EP F := upper (upper (ep0 m) (ep1 m)) (ep2 m)
def mid (m : JV F) : EP F := upper (lower (ep0 m) (ep1 m)) (lower (upper (ep0 m) (ep1 m)) (ep2 m))
def low (m : JV F) : EP F := lower (lower (ep0 m) (ep1 m)) (lower (upper (ep0 m) (ep1 m)) (ep2 m))

/-- The smallest eigenpair with its vector turned round. -/
def turn (p : EP F) : EP F :=
  ⟨p.l, subf (kst 0x00000000#32) p.x, subf (kst 0x00000000#32) p.y, subf (kst 0x00000000#32) p.z⟩

/-- The length of the vector. -/
def nrm (p : EP F) : V8 F := sqrt (addf (addf (mulf p.x p.x) (mulf p.y p.y)) (mulf p.z p.z))

/-- The pair divided by the vector's length. -/
def unitize (p : EP F) : EP F := ⟨divf p.l (nrm p), divf p.x (nrm p), divf p.y (nrm p), divf p.z (nrm p)⟩

/-- The twelve features of three normalised pairs. -/
def feats (p1 p2 p3 : EP F) : Fin 12 → V8 F :=
  ![divf (subf p1.l p2.l) p1.l, divf (subf p2.l p3.l) p1.l, divf p3.l p1.l, p1.x, p1.y, p1.z, p2.x, p2.y, p2.z,
    p3.x, p3.y, p3.z]

/-- The features of a diagonalised matrix. -/
def featsOf (m : JV F) : Fin 12 → V8 F := feats (unitize (big m)) (unitize (mid m)) (unitize (turn (low m)))

/-- One weight repeated. -/
def wt (off : Fin 2 → ℕ) (h : S12x12.Slices off S1x1) (w : Vec F S12x12 .f32) : V8 F :=
  broadcastTo S8x1024 (extractStridedSlice S1x1 off w h) (by decide)

/-- A row of weights applied to twelve channels. -/
def conv (w : Fin 12 → V8 F) (f : Fin 12 → V8 F) : V8 F :=
  addf (addf (addf (addf (addf (addf (addf (addf (addf (addf (addf (mulf (w 0) (f 0)) (mulf (w 1) (f 1)))
    (mulf (w 2) (f 2))) (mulf (w 3) (f 3))) (mulf (w 4) (f 4))) (mulf (w 5) (f 5))) (mulf (w 6) (f 6)))
    (mulf (w 7) (f 7))) (mulf (w 8) (f 8))) (mulf (w 9) (f 9))) (mulf (w 10) (f 10))) (mulf (w 11) (f 11))

/-- Row `o` of the weights. -/
def wrow (o : Fin 12) (w : Vec F S12x12 .f32) : Fin 12 → V8 F :=
  fun c => wt ![o, c] (⟨rfl, fun a => by revert o c a; decide⟩) w

/-- The neighbours' coordinates. -/
def nbr (r : FVec F S1x2048 .f32) (x0 : Vec F S1x1024x3 .f32) (x1 : Vec F S1x3x2048 .f32) : V8 F :=
  gather r (pickI (dist x0 x1))

/-- The diagonalised covariances of a block. -/
def eig (x0 : Vec F S1x1024x3 .f32) (x1 : Vec F S1x3x2048 .f32) : JV F :=
  sweeps 15 (start (nbr (rowX x1) x0 x1) (nbr (rowY x1) x0 x1) (nbr (rowZ x1) x0 x1))

/-- Channel `o` of the first convolution on a block. -/
def h1 (o : Fin 12) (x0 : Vec F S1x1024x3 .f32) (x1 : Vec F S1x3x2048 .f32) (w : Vec F S12x12 .f32) : V8 F :=
  conv (wrow o w) (featsOf (eig x0 x1))

end Cert.KernelIdeal.K1
-- ==== Proof.K.Pieces.lean ====
/-
  What the first call's stores leave in the block of convolved features, at a point of either case.
-/
module

public import proofs.«01_k».proof.Proof.K.Spec
public import proofs.«01_k».proof.Proof.Gen.KernelIdeal.Frame
public import Idealize.ShloMosaic.Lib.Tactic
public import Idealize.ShloMosaic.Lib.Pipeline.Value
public import Idealize.ShloMosaic.Lib.Pointwise.Tactic
public import Idealize.ShloMosaic.Lib.Pointwise.Reshape

@[expose] public section

set_option maxRecDepth 100000

noncomputable section

namespace Cert.KernelIdeal.K1

open Idealize.ShloMosaic Idealize.SL.Sem Cert.KernelIdeal Cert.KernelIdeal.Gen

variable {F : FTy → Type} [FloatOps F]

/-- The block of convolved features. -/
def h1Block (x0 : Vec F S1x1024x3 .f32) (x1 : Vec F S1x3x2048 .f32) (w : Vec F S12x12 .f32) : Vec F S1x1x12x8x1024 .f32 :=
  fun y => h1 (y 2) x0 x1 w (Idealize.ShloMosaic.ix2 (y 3) (y 4))

/-- One channel of the block as the store writes it. -/
def h1Piece (o : Fin 12) (x0 : Vec F S1x1024x3 .f32) (x1 : Vec F S1x3x2048 .f32) (w : Vec F S12x12 .f32) :
    View.Piece (Elt F) S1x1x12x8x1024 .f32 :=
  ⟨Rect.unit ![0, 0, o, 0, 0] S1x1x1x8x1024.size (by revert o; decide),
    shapeCast S1x1x1x8x1024 (h1 o x0 x1 w) shapeCasts_S8x1024_S1x1x1x8x1024⟩

/-- The channels in the order of the stores, last first. -/
def h1Pieces (x0 : Vec F S1x1024x3 .f32) (x1 : Vec F S1x3x2048 .f32) (w : Vec F S12x12 .f32) :
    List (View.Piece (Elt F) S1x1x12x8x1024 .f32) :=
  [h1Piece 11 x0 x1 w, h1Piece 10 x0 x1 w, h1Piece 9 x0 x1 w, h1Piece 8 x0 x1 w, h1Piece 7 x0 x1 w, h1Piece 6 x0 x1 w,
    h1Piece 5 x0 x1 w, h1Piece 4 x0 x1 w, h1Piece 3 x0 x1 w, h1Piece 2 x0 x1 w, h1Piece 1 x0 x1 w, h1Piece 0 x0 x1 w]

/-- Two readings of a channel agree where channel and indices do. -/
theorem h1_congr {x0 : Vec F S1x1024x3 .f32} {x1 : Vec F S1x3x2048 .f32} {w : Vec F S12x12 .f32} {o o' : Fin 12}
    {k k' : Fin 8} {r r' : Fin 1024} (ho : o = o') (hk : k = k') (hr : r = r') :
    h1 o x0 x1 w (Idealize.ShloMosaic.ix2 k r) = h1 o' x0 x1 w (Idealize.ShloMosaic.ix2 k' r') := by
  subst ho hk hr; rfl

/-- Every store writes the block's own values. -/
theorem h1Piece_apply (o : Fin 12) (x0 : Vec F S1x1024x3 .f32) (x1 : Vec F S1x3x2048 .f32) (w : Vec F S12x12 .f32)
    (x : (h1Piece o x0 x1 w).1.shape.Idx) : (h1Piece o x0 x1 w).2 x = h1Block x0 x1 w ((h1Piece o x0 x1 w).1.emb x) := by
  show shapeCast S1x1x1x8x1024 (h1 o x0 x1 w) shapeCasts_S8x1024_S1x1x1x8x1024 x = h1 _ x0 x1 w _
  have hx : x = (Idealize.ShloMosaic.ix5 0 0 0 (x 3) (x 4) : S1x1x1x8x1024.Idx) := funext fun a =>
    match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
    | ⟨4, _⟩ => rfl
  have e2 : ((h1Piece o x0 x1 w).1.emb x 2 : Fin 12) = o := Fin.ext (by
    rw [hx]; show o.val + 1 * 0 = o.val; omega)
  have e3 : ((h1Piece o x0 x1 w).1.emb x 3 : Fin 8) = x 3 := Fin.ext (by
    show 0 + 1 * (x 3).val = (x 3).val; omega)
  have e4 : ((h1Piece o x0 x1 w).1.emb x 4 : Fin 1024) = x 4 := Fin.ext (by
    show 0 + 1 * (x 4).val = (x 4).val; omega)
  refine Eq.trans ?_ (h1_congr e2.symm e3.symm e4.symm)
  rw [hx]
  simp only [pointwise]

/-- So do all twelve. -/
theorem h1Pieces_apply (x0 : Vec F S1x1024x3 .f32) (x1 : Vec F S1x3x2048 .f32) (w : Vec F S12x12 .f32) :
    ∀ p ∈ h1Pieces x0 x1 w, ∀ x, p.2 x = h1Block x0 x1 w (p.1.emb x) := by
  intro p hp
  simp only [h1Pieces, List.mem_cons, List.not_mem_nil, or_false] at hp
  rcases hp with rfl | rfl | rfl | rfl | rfl | rfl | rfl | rfl | rfl | rfl | rfl | rfl <;> exact h1Piece_apply _ x0 x1 w

section cases

variable (c : Dev nD) (i : grid0.Coords) (arg2 : Memref sig .tc .vmem S1x1024x3 .f32) (harg2 : arg2.IsWhole)
  (arg3 : Memref sig .tc .vmem S1x3x2048 .f32) (harg3 : arg3.IsWhole) (arg4 : Memref sig .tc .vmem S12x12 .f32)
  (harg4 : arg4.IsWhole) (arg5 : Memref sig .tc .vmem S1x1x12x8x1024 .f32) (harg5 : arg5.IsWhole)
  (arg6 : Memref sig .tc .vmem S12x1024 .f32) (harg6 : arg6.IsWhole) (arg7 : Memref sig .tc .vmem S12x1024 .f32)
  (harg7 : arg7.IsWhole) (x0 : Vec F S1x1024x3 .f32) (x1 : Vec F S1x3x2048 .f32) (x2 : Vec F S12x12 .f32)
  (xo4 xo5 : Vec F S12x1024 .f32)

/-- What the load of the whole first window reads. -/
abbrev y0 : Vec F S1x1024x3 .f32 := View.readAt (Elt F) arg2.view
  (Rect.unit ![0, 0, 0] S1x1024x3.size inb_S1x1024x3_S1x1024x3_0_0_0).toLoadRect (harg2.unread x0)
/-- What the load of the whole second window reads. -/
abbrev y1 : Vec F S1x3x2048 .f32 := View.readAt (Elt F) arg3.view
  (Rect.unit ![0, 0, 0] S1x3x2048.size inb_S1x3x2048_S1x3x2048_0_0_0).toLoadRect (harg3.unread x1)
/-- What the load of the whole third window reads. -/
abbrev y2 : Vec F S12x12 .f32 := View.readAt (Elt F) arg4.view
  (Rect.unit ![0, 0] S12x12.size inb_S12x12_S12x12_0_0).toLoadRect (harg4.unread x2)

/-- The load of the whole first window reads what the window holds. -/
theorem y0_eq : y0 arg2 harg2 x0 = x0 := by
  have hz : (![0, 0, 0] : Fin 3 → Nat) = fun _ => 0 := funext fun a => by fin_cases a <;> rfl
  simp only [y0, View.readAt_eq_ld, harg2.read_unread, View.ld_unit_zero (S := S1x1024x3) hz]

/-- The load of the whole second window reads what the window holds. -/
theorem y1_eq : y1 arg3 harg3 x1 = x1 := by
  have hz : (![0, 0, 0] : Fin 3 → Nat) = fun _ => 0 := funext fun a => by fin_cases a <;> rfl
  simp only [y1, View.readAt_eq_ld, harg3.read_unread, View.ld_unit_zero (S := S1x3x2048) hz]

/-- The load of the whole third window reads what the window holds. -/
theorem y2_eq : y2 arg4 harg4 x2 = x2 := by
  have hz : (![0, 0] : Fin 2 → Nat) = fun _ => 0 := funext fun a => by fin_cases a <;> rfl
  simp only [y2, View.readAt_eq_ld, harg4.read_unread, View.ld_unit_zero (S := S12x12) hz]

theorem pieces3_A (hc0 : cond0_0 i) :
    (kernelRun0_A c i arg2 harg2 arg3 harg3 arg4 harg4 arg5 harg5 arg6 harg6 arg7 harg7 hc0 x0 x1 x2).1
      = h1Pieces (y0 arg2 harg2 x0) (y1 arg3 harg3 x1) (y2 arg4 harg4 x2) := by sl_kernel_rfl

theorem pieces3_B (hc0 : ¬cond0_0 i) :
    (kernelRun0_B c i arg2 harg2 arg3 harg3 arg4 harg4 arg5 harg5 arg6 harg6 arg7 harg7 hc0 x0 x1 x2 xo4 xo5).1
      = h1Pieces (y0 arg2 harg2 x0) (y1 arg3 harg3 x1) (y2 arg4 harg4 x2) := by sl_kernel_rfl

/-- At a point that starts the accumulators the block ends at its values. -/
theorem out_A (hc0 : cond0_0 i) :
    out0_A_3 c i arg2 harg2 arg3 harg3 arg4 harg4 arg5 harg5 arg6 harg6 arg7 harg7 hc0 x0 x1 x2 = h1Block x0 x1 x2 := by
  funext y
  unfold out0_A_3
  have hcov := cover0_A_3 c i arg2 harg2 arg3 harg3 arg4 harg4 arg5 harg5 arg6 harg6 arg7 harg7 hc0 x0 x1 x2 y
  rw [pieces3_A, y0_eq, y1_eq, y2_eq] at hcov ⊢
  exact View.read_writes_apply_of_pieces VO0_3 _ (h1Block x0 x1 x2) _ (h1Pieces_apply x0 x1 x2) y hcov

/-- At a point that does not, too. -/
theorem out_B (hc0 : ¬cond0_0 i) :
    out0_B_3 c i arg2 harg2 arg3 harg3 arg4 harg4 arg5 harg5 arg6 harg6 arg7 harg7 hc0 x0 x1 x2 xo4 xo5
      = h1Block x0 x1 x2 := by
  funext y
  unfold out0_B_3
  have hcov := cover0_B_3 c i arg2 harg2 arg3 harg3 arg4 harg4 arg5 harg5 arg6 harg6 arg7 harg7 hc0 x0 x1 x2 xo4 xo5 y
  rw [pieces3_B, y0_eq, y1_eq, y2_eq] at hcov ⊢
  exact View.read_writes_apply_of_pieces VO0_3 _ (h1Block x0 x1 x2) _ (h1Pieces_apply x0 x1 x2) y hcov

end cases

end Cert.KernelIdeal.K1
-- ==== Proof.M.Scalar.lean ====
/-
  One Jacobi rotation of a symmetric 3 × 3 matrix over the extended reals, written entry by entry and as a product of matrices, and
  the proof that the two agree on real entries.
-/
module

public import Idealize.ShloMosaic.Lib.IdealHost
public import Idealize.ShloMosaic.Lib.Tactic

@[expose] public section

noncomputable section

namespace Cert.M

open Idealize.ShloMosaic

/-- Being a real number. -/
def Real' (x : EReal) : Prop := ∃ r : ℝ, x = (r : EReal)

theorem Real'.coe (r : ℝ) : Real' (r : EReal) := ⟨r, rfl⟩
theorem Real'.zero : Real' 0 := ⟨0, rfl⟩
theorem Real'.one : Real' 1 := ⟨1, rfl⟩
theorem Real'.add {x y : EReal} : Real' x → Real' y → Real' (x + y) := by
  rintro ⟨a, rfl⟩ ⟨b, rfl⟩; exact ⟨a + b, by norm_cast⟩
theorem Real'.sub {x y : EReal} : Real' x → Real' y → Real' (x - y) := by
  rintro ⟨a, rfl⟩ ⟨b, rfl⟩; exact ⟨a - b, by norm_cast⟩
theorem Real'.mul {x y : EReal} : Real' x → Real' y → Real' (x * y) := by
  rintro ⟨a, rfl⟩ ⟨b, rfl⟩; exact ⟨a * b, by norm_cast⟩
theorem Real'.neg {x : EReal} : Real' x → Real' (-x) := by
  rintro ⟨a, rfl⟩; exact ⟨-a, by norm_cast⟩
theorem Real'.div {x y : EReal} (hx : Real' x) (hy : Real' y) (h : y ≠ 0) : Real' (Ideal.div x y) := by
  obtain ⟨b, rfl⟩ := hy
  rw [Ideal.div_coe (by exact_mod_cast h)]
  exact hx.mul ⟨_, rfl⟩
theorem Real'.sum {ι : Type} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

/-! ### The angle -/

/-- The cotangent of twice the angle. -/
def tau (app aqq apq : EReal) : EReal := Ideal.div (aqq - app) (Ideal.ofBits .f32 0x40000000#32 * apq)

/-- The sign as it is computed by comparisons. -/
def sgn (x : EReal) : EReal :=
  Scalar.select (Ideal.cmp .ogt (max x (-x)) (Ideal.ofBits .f32 0x00000000#32))
    (Scalar.select (Ideal.cmp .olt x (Ideal.ofBits .f32 0x00000000#32)) (Ideal.ofBits .f32 0xBF800000#32)
      (Ideal.ofBits .f32 0x3F800000#32)) x

/-- The tangent from the cotangent of twice the angle, its sign computed by `sg`. -/
def tan0 (sg : EReal → EReal) (x : EReal) : EReal :=
  Scalar.select (Ideal.cmp .oeq x (Ideal.ofBits .f32 0x00000000#32)) (Ideal.ofBits .f32 0x3F800000#32)
    (Ideal.div (sg x) (max x (-x) + Ideal.sqrt (Ideal.ofBits .f32 0x3F800000#32 + x * x)))

/-- The tangent, zero where the entry is small already. -/
def tan (sg : EReal → EReal) (app aqq apq : EReal) : EReal :=
  Scalar.select (IntOp.ori (Ideal.cmp .ole (max apq (-apq)) (Ideal.ofBits .f32 0x358637BD#32
      * Ideal.sqrt (max (app * aqq) (-(app * aqq))))) (Ideal.cmp .oeq apq (Ideal.ofBits .f32 0x00000000#32)))
    (Ideal.ofBits .f32 0x00000000#32) (tan0 sg (tau app aqq apq))

/-- The cosine. -/
def cs (sg : EReal → EReal) (app aqq apq : EReal) : EReal :=
  Ideal.div (Ideal.ofBits .f32 0x3F800000#32)
    (Ideal.sqrt (Ideal.ofBits .f32 0x3F800000#32 + tan sg app aqq apq * tan sg app aqq apq))

/-- The sine. -/
def sn (sg : EReal → EReal) (app aqq apq : EReal) : EReal := tan sg app aqq apq * cs sg app aqq apq

theorem ofBits_zero' : Ideal.ofBits .f32 0x00000000#32 = 0 := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_neg_one : Ideal.ofBits .f32 0xBF800000#32 = -1 := by
  rw [show (-1 : EReal) = ((-1 : ℝ) : EReal) by rw [EReal.coe_neg, EReal.coe_one]]
  simp [Ideal.ofBits, Ideal.ieee, -EReal.coe_mul, -EReal.coe_neg]; norm_num

theorem cmp_oeq {x y : EReal} : Ideal.cmp .oeq x y = BitVec.ofBool (decide (x = y)) := rfl

theorem select_ofBool {α : Type} (p : Prop) [Decidable p] (a b : α) :
    Scalar.select (BitVec.ofBool (decide p)) a b = if p then a else b := by
  by_cases h : p <;> simp [h, Scalar.select]

/-- The computed sign is the sign. -/
theorem sgn_eq (x : EReal) : sgn x = Ideal.sign x := by
  unfold sgn
  simp only [Ideal.cmp, select_ofBool, ofBits_zero', ofBits_neg_one, Ideal.ofBits_one_f32]
  induction x using EReal.rec with
  | bot => rw [show Ideal.sign ⊥ = -1 from rfl]; simp
  | top => rw [show Ideal.sign ⊤ = 1 from rfl]; simp
  | coe r =>
    rw [show Ideal.sign (r : EReal) = ((SignType.sign r : ℝ) : EReal) from rfl]
    rcases lt_trichotomy r 0 with h | h | h
    · have h' : (r : EReal) < 0 := by exact_mod_cast h
      simp [h', sign_neg h]
    · subst h; simp
    · have h' : (0 : EReal) < r := by exact_mod_cast h
      simp [h', not_lt.mpr h'.le, sign_pos h]

theorem Real'.sign {x : EReal} (h : Real' x) : Real' (Ideal.sign x) := by
  obtain ⟨r, rfl⟩ := h; exact ⟨_, rfl⟩

theorem Real'.max_neg {x : EReal} (h : Real' x) : Real' (max x (-x)) := by
  obtain ⟨r, rfl⟩ := h; exact ⟨max r (-r), by norm_cast⟩

/-- `sqrt (1 + x²)` of a real number is a positive real number. -/
theorem sqrt_one_add (x : EReal) (h : Real' x) :
    ∃ s : ℝ, 0 < s ∧ Ideal.sqrt (Ideal.ofBits .f32 0x3F800000#32 + x * x) = (s : EReal) := by
  obtain ⟨r, rfl⟩ := h
  refine ⟨Real.sqrt (1 + r * r), Real.sqrt_pos.mpr (by nlinarith [mul_self_nonneg r]), ?_⟩
  rw [Ideal.ofBits_one_f32]
  have : (1 : EReal) + (r : EReal) * r = ((1 + r * r : ℝ) : EReal) := by norm_cast
  rw [this, Ideal.sqrt_coe, if_neg (by nlinarith [mul_self_nonneg r])]

theorem real_tan0 (x : EReal) (h : Real' x) : Real' (tan0 Ideal.sign x) := by
  unfold tan0
  rw [cmp_oeq, select_ofBool]
  split
  · rw [Ideal.ofBits_one_f32]; exact .one
  · obtain ⟨s, hs, e⟩ := sqrt_one_add x h
    rw [e]
    refine h.sign.div (h.max_neg.add ⟨s, rfl⟩) ?_
    obtain ⟨r, rfl⟩ := h
    have : max (r : EReal) (-r) = ((|r| : ℝ) : EReal) := by rw [abs]; norm_cast
    rw [this]
    have h2 : 0 < |r| + s := by positivity
    exact_mod_cast h2.ne'

theorem real_tan {app aqq apq : EReal} (hp : Real' app) (hq : Real' aqq) (hpq : Real' apq) :
    Real' (tan Ideal.sign app aqq apq) := by
  unfold tan
  by_cases h0 : apq = 0
  · have : IntOp.ori (Ideal.cmp .ole (max apq (-apq)) (Ideal.ofBits .f32 0x358637BD#32
      * Ideal.sqrt (max (app * aqq) (-(app * aqq))))) (Ideal.cmp .oeq apq (Ideal.ofBits .f32 0x00000000#32)) = 1#1 := by
      rw [cmp_oeq, ofBits_zero']
      simp only [h0, decide_true, BitVec.ofBool_true, IntOp.ori]
      generalize Ideal.cmp .ole _ _ = b
      revert b; decide
    rw [this]
    show Real' (if _ then _ else _)
    rw [if_pos (by decide), ofBits_zero']
    exact .zero
  · have : Real' (tan0 Ideal.sign (tau app aqq apq)) := by
      refine real_tan0 _ ((hq.sub hp).div ((ofBits_two ▸ .coe 2 : Real' _).mul hpq) ?_)
      obtain ⟨r, rfl⟩ := hpq
      have hr : r ≠ 0 := by exact_mod_cast h0
      rw [ofBits_two]
      have : (2 * r : ℝ) ≠ 0 := by positivity
      exact_mod_cast this
    unfold Scalar.select
    split
    · rw [ofBits_zero']; exact .zero
    · exact this

theorem real_cs {app aqq apq : EReal} (hp : Real' app) (hq : Real' aqq) (hpq : Real' apq) :
    Real' (cs Ideal.sign app aqq apq) := by
  unfold cs
  obtain ⟨s, hs, e⟩ := sqrt_one_add _ (real_tan hp hq hpq)
  rw [e, Ideal.ofBits_one_f32]
  exact Real'.one.div ⟨s, rfl⟩ (by exact_mod_cast hs.ne')

theorem real_sn {app aqq apq : EReal} (hp : Real' app) (hq : Real' aqq) (hpq : Real' apq) :
    Real' (sn Ideal.sign app aqq apq) := (real_tan hp hq hpq).mul (real_cs hp hq hpq)

theorem tan_sgn (app aqq apq : EReal) : tan sgn app aqq apq = tan Ideal.sign app aqq apq := by
  unfold tan tan0; rw [sgn_eq]
theorem cs_sgn (app aqq apq : EReal) : cs sgn app aqq apq = cs Ideal.sign app aqq apq := by
  unfold cs; rw [tan_sgn]
theorem sn_sgn (app aqq apq : EReal) : sn sgn app aqq apq = sn Ideal.sign app aqq apq := by
  unfold sn; rw [tan_sgn, cs_sgn]

/-! ### A rotation entry by entry -/

/-- The six entries of a symmetric matrix and the nine of the rotations so far. -/
structure SJ where
  (a00 a11 a22 a01 a02 a12 v00 v01 v02 v10 v11 v12 v20 v21 v22 : EReal)

/-- `c x - s y`. -/
def rotL (c s x y : EReal) : EReal := c * x - s * y
/-- `s x + c y`. -/
def rotR (c s x y : EReal) : EReal := s * x + c * y
def newPP (c s app aqq apq : EReal) : EReal := rotL c s (rotL c s app apq) (rotL c s apq aqq)
def newQQ (c s app aqq apq : EReal) : EReal := rotR c s (rotR c s app apq) (rotR c s apq aqq)
def newPQ (c s app aqq apq : EReal) : EReal := rotL c s (rotR c s app apq) (rotR c s apq aqq)

/-- The rotation of the plane (0, 2). -/
def by02 (c s : EReal) (m : SJ) : SJ :=
  { a00 := newPP c s m.a00 m.a22 m.a02, a22 := newQQ c s m.a00 m.a22 m.a02, a02 := newPQ c s m.a00 m.a22 m.a02
    a01 := rotL c s m.a01 m.a12, a12 := rotR c s m.a01 m.a12, a11 := m.a11
    v00 := rotL c s m.v00 m.v02, v02 := rotR c s m.v00 m.v02
    v10 := rotL c s m.v10 m.v12, v12 := rotR c s m.v10 m.v12
    v20 := rotL c s m.v20 m.v22, v22 := rotR c s m.v20 m.v22
    v01 := m.v01, v11 := m.v11, v21 := m.v21 }

/-- The rotation of the plane (1, 2). -/
def by12 (c s : EReal) (m : SJ) : SJ :=
  { a11 := newPP c s m.a11 m.a22 m.a12, a22 := newQQ c s m.a11 m.a22 m.a12, a12 := newPQ c s m.a11 m.a22 m.a12
    a01 := rotL c s m.a01 m.a02, a02 := rotR c s m.a01 m.a02, a00 := m.a00
    v01 := rotL c s m.v01 m.v02, v02 := rotR c s m.v01 m.v02
    v11 := rotL c s m.v11 m.v12, v12 := rotR c s m.v11 m.v12
    v21 := rotL c s m.v21 m.v22, v22 := rotR c s m.v21 m.v22
    v00 := m.v00, v10 := m.v10, v20 := m.v20 }

/-- The rotation of the plane (0, 1). -/
def by01 (c s : EReal) (m : SJ) : SJ :=
  { a00 := newPP c s m.a00 m.a11 m.a01, a11 := newQQ c s m.a00 m.a11 m.a01, a01 := newPQ c s m.a00 m.a11 m.a01
    a02 := rotL c s m.a02 m.a12, a12 := rotR c s m.a02 m.a12, a22 := m.a22
    v00 := rotL c s m.v00 m.v01, v01 := rotR c s m.v00 m.v01
    v10 := rotL c s m.v10 m.v11, v11 := rotR c s m.v10 m.v11
    v20 := rotL c s m.v20 m.v21, v21 := rotR c s m.v20 m.v21
    v02 := m.v02, v12 := m.v12, v22 := m.v22 }

def rot02 (sg : EReal → EReal) (m : SJ) : SJ := by02 (cs sg m.a00 m.a22 m.a02) (sn sg m.a00 m.a22 m.a02) m
def rot12 (sg : EReal → EReal) (m : SJ) : SJ := by12 (cs sg m.a11 m.a22 m.a12) (sn sg m.a11 m.a22 m.a12) m
def rot01 (sg : EReal → EReal) (m : SJ) : SJ := by01 (cs sg m.a00 m.a11 m.a01) (sn sg m.a00 m.a11 m.a01) m

/-- `n` sweeps. -/
def sweeps (sg : EReal → EReal) : ℕ → SJ → SJ
  | 0, m => m
  | n + 1, m => rot01 sg (rot12 sg (rot02 sg (sweeps sg n m)))

theorem rot_sgn (m : SJ) : rot02 sgn m = rot02 Ideal.sign m ∧ rot12 sgn m = rot12 Ideal.sign m ∧ rot01 sgn m = rot01 Ideal.sign m := by
  unfold rot02 rot12 rot01
  simp only [cs_sgn, sn_sgn, and_self]

theorem sweeps_sgn (n : ℕ) (m : SJ) : sweeps sgn n m = sweeps Ideal.sign n m := by
  induction n with
  | zero => rfl
  | succ n ih => simp only [sweeps, ih, (rot_sgn _).1, (rot_sgn _).2.1, (rot_sgn _).2.2]

/-! ### A rotation as matrix products -/

/-- The symmetric matrix of the six entries. -/
def SJ.mat (m : SJ) : Fin 3 → Fin 3 → EReal := ![![m.a00, m.a01, m.a02], ![m.a01, m.a11, m.a12], ![m.a02, m.a12, m.a22]]
/-- The product of the rotations. -/
def SJ.vec (m : SJ) : Fin 3 → Fin 3 → EReal := ![![m.v00, m.v01, m.v02], ![m.v10, m.v11, m.v12], ![m.v20, m.v21, m.v22]]

/-- All entries are real. -/
structure SJ.Fin' (m : SJ) : Prop where
  (a00 : Real' m.a00) (a11 : Real' m.a11) (a22 : Real' m.a22) (a01 : Real' m.a01) (a02 : Real' m.a02) (a12 : Real' m.a12)
  (v00 : Real' m.v00) (v01 : Real' m.v01) (v02 : Real' m.v02) (v10 : Real' m.v10) (v11 : Real' m.v11) (v12 : Real' m.v12)
  (v20 : Real' m.v20) (v21 : Real' m.v21) (v22 : Real' m.v22)

theorem Real'.rotL {c s x y : EReal} (hc : Real' c) (hs : Real' s) (hx : Real' x) (hy : Real' y) : Real' (rotL c s x y) :=
  (hc.mul hx).sub (hs.mul hy)
theorem Real'.rotR {c s x y : EReal} (hc : Real' c) (hs : Real' s) (hx : Real' x) (hy : Real' y) : Real' (rotR c s x y) :=
  (hs.mul hx).add (hc.mul hy)

theorem Fin'.by02 {c s : EReal} {m : SJ} (hc : Real' c) (hs : Real' s) (h : m.Fin') : (by02 c s m).Fin' := by
  obtain ⟨h1, h2, h3, h4, h5, h6, h7, h8, h9, h10, h11, h12, h13, h14, h15⟩ := h
  constructor <;> simp only [M.by02, newPP, newQQ, newPQ] <;>
    repeat first | assumption | apply Real'.rotL | apply Real'.rotR
theorem Fin'.by12 {c s : EReal} {m : SJ} (hc : Real' c) (hs : Real' s) (h : m.Fin') : (by12 c s m).Fin' := by
  obtain ⟨h1, h2, h3, h4, h5, h6, h7, h8, h9, h10, h11, h12, h13, h14, h15⟩ := h
  constructor <;> simp only [M.by12, newPP, newQQ, newPQ] <;>
    repeat first | assumption | apply Real'.rotL | apply Real'.rotR
theorem Fin'.by01 {c s : EReal} {m : SJ} (hc : Real' c) (hs : Real' s) (h : m.Fin') : (by01 c s m).Fin' := by
  obtain ⟨h1, h2, h3, h4, h5, h6, h7, h8, h9, h10, h11, h12, h13, h14, h15⟩ := h
  constructor <;> simp only [M.by01, newPP, newQQ, newPQ] <;>
    repeat first | assumption | apply Real'.rotL | apply Real'.rotR

/-- The matrix product. -/
def mm (A B : Fin 3 → Fin 3 → EReal) : Fin 3 → Fin 3 → EReal := fun i l => ∑ k : Fin 3, A i k * B k l
/-- The product of a transposed matrix with a matrix. -/
def mtm (A B : Fin 3 → Fin 3 → EReal) : Fin 3 → Fin 3 → EReal := fun i l => ∑ k : Fin 3, A k i * B k l

def g02 (c s : EReal) : Fin 3 → Fin 3 → EReal := ![![c, 0, s], ![0, 1, 0], ![-s, 0, c]]
def g12 (c s : EReal) : Fin 3 → Fin 3 → EReal := ![![1, 0, 0], ![0, c, s], ![0, -s, c]]
def g01 (c s : EReal) : Fin 3 → Fin 3 → EReal := ![![c, s, 0], ![-s, c, 0], ![0, 0, 1]]

/-- Rotating by matrix products agrees with rotating entry by entry. -/
theorem by02_mat {c s : EReal} {m : SJ} (hc : Real' c) (hs : Real' s) (h : m.Fin') :
    mtm (g02 c s) (mm m.mat (g02 c s)) = (by02 c s m).mat ∧ mm m.vec (g02 c s) = (by02 c s m).vec := by
  obtain ⟨c, rfl⟩ := hc
  obtain ⟨s, rfl⟩ := hs
  obtain ⟨a00, a11, a22, a01, a02, a12, v00, v01, v02, v10, v11, v12, v20, v21, v22⟩ := m
  obtain ⟨⟨a00, rfl⟩, ⟨a11, rfl⟩, ⟨a22, rfl⟩, ⟨a01, rfl⟩, ⟨a02, rfl⟩, ⟨a12, rfl⟩, ⟨v00, rfl⟩, ⟨v01, rfl⟩, ⟨v02, rfl⟩,
    ⟨v10, rfl⟩, ⟨v11, rfl⟩, ⟨v12, rfl⟩, ⟨v20, rfl⟩, ⟨v21, rfl⟩, ⟨v22, rfl⟩⟩ := h
  constructor <;> funext i l <;> fin_cases i <;> fin_cases l <;>
    simp [mtm, mm, g02, SJ.mat, SJ.vec, by02, newPP, newQQ, newPQ, rotL, rotR, Fin.sum_univ_three] <;> norm_cast <;> ring
theorem by12_mat {c s : EReal} {m : SJ} (hc : Real' c) (hs : Real' s) (h : m.Fin') :
    mtm (g12 c s) (mm m.mat (g12 c s)) = (by12 c s m).mat ∧ mm m.vec (g12 c s) = (by12 c s m).vec := by
  obtain ⟨c, rfl⟩ := hc
  obtain ⟨s, rfl⟩ := hs
  obtain ⟨a00, a11, a22, a01, a02, a12, v00, v01, v02, v10, v11, v12, v20, v21, v22⟩ := m
  obtain ⟨⟨a00, rfl⟩, ⟨a11, rfl⟩, ⟨a22, rfl⟩, ⟨a01, rfl⟩, ⟨a02, rfl⟩, ⟨a12, rfl⟩, ⟨v00, rfl⟩, ⟨v01, rfl⟩, ⟨v02, rfl⟩,
    ⟨v10, rfl⟩, ⟨v11, rfl⟩, ⟨v12, rfl⟩, ⟨v20, rfl⟩, ⟨v21, rfl⟩, ⟨v22, rfl⟩⟩ := h
  constructor <;> funext i l <;> fin_cases i <;> fin_cases l <;>
    simp [mtm, mm, g12, SJ.mat, SJ.vec, by12, newPP, newQQ, newPQ, rotL, rotR, Fin.sum_univ_three] <;> norm_cast <;> ring
theorem by01_mat {c s : EReal} {m : SJ} (hc : Real' c) (hs : Real' s) (h : m.Fin') :
    mtm (g01 c s) (mm m.mat (g01 c s)) = (by01 c s m).mat ∧ mm m.vec (g01 c s) = (by01 c s m).vec := by
  obtain ⟨c, rfl⟩ := hc
  obtain ⟨s, rfl⟩ := hs
  obtain ⟨a00, a11, a22, a01, a02, a12, v00, v01, v02, v10, v11, v12, v20, v21, v22⟩ := m
  obtain ⟨⟨a00, rfl⟩, ⟨a11, rfl⟩, ⟨a22, rfl⟩, ⟨a01, rfl⟩, ⟨a02, rfl⟩, ⟨a12, rfl⟩, ⟨v00, rfl⟩, ⟨v01, rfl⟩, ⟨v02, rfl⟩,
    ⟨v10, rfl⟩, ⟨v11, rfl⟩, ⟨v12, rfl⟩, ⟨v20, rfl⟩, ⟨v21, rfl⟩, ⟨v22, rfl⟩⟩ := h
  constructor <;> funext i l <;> fin_cases i <;> fin_cases l <;>
    simp [mtm, mm, g01, SJ.mat, SJ.vec, by01, newPP, newQQ, newPQ, rotL, rotR, Fin.sum_univ_three] <;> norm_cast <;> ring

theorem fin_rot {m : SJ} (h : m.Fin') : (rot02 Ideal.sign m).Fin' ∧ (rot12 Ideal.sign m).Fin' ∧ (rot01 Ideal.sign m).Fin' :=
  ⟨Fin'.by02 (real_cs h.a00 h.a22 h.a02) (real_sn h.a00 h.a22 h.a02) h,
    Fin'.by12 (real_cs h.a11 h.a22 h.a12) (real_sn h.a11 h.a22 h.a12) h,
    Fin'.by01 (real_cs h.a00 h.a11 h.a01) (real_sn h.a00 h.a11 h.a01) h⟩

end Cert.M
-- ==== Proof.M.Near.lean ====
/-
  Repeatedly taking the first column of least value and striking it out lists the columns in the order of a stable sort.
-/
module

public import proofs.«01_k».proof.Proof.M.Scalar
public import Idealize.ShloMosaic.Lib.SortPrefix
public import Idealize.ShloMosaic.Lib.SortFacts

@[expose] public section

noncomputable section

namespace Cert.M

open Idealize.ShloMosaic

/-! ### A stable sort compares positions where the keys are equal -/

/-- Keys first, then positions. -/
def byKey {n : ℕ} (d : Fin n → EReal) (k k' : Fin n) : Bool :=
  decide (d k < d k') || (decide (d k = d k') && decide (k < k'))

theorem byKey_total {n : ℕ} (d : Fin n → EReal) : StrictTotalBefore (byKey d) :=
  StrictTotalBefore.of_key_then_position (fun a b => decide (a < b)) d (fun a => by simp)
    (fun a b c h h' => by simp only [decide_eq_true_eq] at *; exact h.trans h')
    (fun a b => by simp only [decide_eq_true_eq]; exact lt_trichotomy a b)

/-- On a list of ascending positions the sort by key is the sort by key and position. -/
theorem stableSort_byKey {n : ℕ} (d : Fin n → EReal) (l : List (Fin n)) (hl : l.Pairwise (· < ·)) :
    stableSort (fun k k' => decide (d k < d k')) l = stableSort (byKey d) l := by
  induction l with
  | nil => rfl
  | cons a l ih =>
    rw [List.pairwise_cons] at hl
    unfold stableSort
    rw [ih hl.2]
    refine insertBefore_congr _ _ a _ fun b hb => ?_
    have hab := hl.1 b ((perm_stableSort (byKey d) l).mem_iff.mp hb)
    simp [byKey, hab.le]

/-- The columns in ascending order of value, equal values by position. -/
def near {n : ℕ} (d : Fin n → EReal) : Fin n → Fin n := sortedFrom fun k k' => decide (d k < d k')

theorem near_eq {n : ℕ} (d : Fin n → EReal) : near d = sortedFrom (byKey d) := by
  unfold near sortedFrom sortPositions
  funext k
  have h := stableSort_byKey d (List.finRange n) (List.pairwise_lt_finRange n)
  simp only [List.get_eq_getElem, h]; rfl

theorem near_order {n : ℕ} (d : Fin n → EReal) {i j : Fin n} (h : i < j) :
    d (near d i) ≤ d (near d j) ∧ (d (near d i) = d (near d j) → near d i ≤ near d j) := by
  have hB := byKey_total d
  have := sortedFrom_noInversion (byKey d) (byKey d) hB.asymm (fun _ _ h => h) hB.negTrans i j h
  rw [← near_eq] at this
  simp only [byKey, Bool.or_eq_false_iff, Bool.and_eq_false_iff, decide_eq_false_iff_not, not_lt] at this
  refine ⟨this.1, fun e => ?_⟩
  rcases this.2 with h' | h'
  · exact absurd e.symm h'
  · exact h'

theorem near_surjective {n : ℕ} (d : Fin n → EReal) : Function.Surjective (near d) := sortedFrom_surjective _
theorem near_injective {n : ℕ} (d : Fin n → EReal) : Function.Injective (near d) := sortedFrom_injective _

/-! ### The rounds -/

/-- The least value. -/
def lo {n : ℕ} (d : Fin n → EReal) : EReal := Finset.univ.fold min ⊤ d

/-- A column's number. -/
def num {n : ℕ} (j : Fin n) : EReal := ((j.val : ℝ) : EReal)

theorem num_inj {n : ℕ} {i j : Fin n} (h : num i = num j) : i = j := by
  unfold num at h
  exact Fin.ext (by exact_mod_cast h)

/-- The first column of least value. -/
def first {n : ℕ} (d : Fin n → EReal) : EReal := lo fun j => if d j = lo d then num j else ((n : ℝ) : EReal)

/-- That column struck out. -/
def strike {n : ℕ} (d : Fin n → EReal) : Fin n → EReal := fun j => if num j = first d then ⊤ else d j

/-- After `t` rounds. -/
def struck {n : ℕ} : ℕ → (Fin n → EReal) → Fin n → EReal
  | 0, d => d
  | t + 1, d => strike (struck t d)

theorem first_eq {n : ℕ} (e : Fin n → EReal) (p : Fin n) (h : ∀ j, e p ≤ e j) (h' : ∀ j, e j = e p → p ≤ j) :
    first e = num p := by
  have hlo : lo e = e p := le_antisymm ((Finset.fold_min_le _).mpr (Or.inr ⟨p, Finset.mem_univ _, le_rfl⟩))
    ((Finset.le_fold_min _).mpr ⟨le_top, fun j _ => h j⟩)
  unfold first
  rw [hlo]
  refine le_antisymm ((Finset.fold_min_le _).mpr (Or.inr ⟨p, Finset.mem_univ _, by rw [if_pos rfl]⟩))
    ((Finset.le_fold_min _).mpr ⟨le_top, fun j _ => ?_⟩)
  unfold num
  split
  · rename_i hj
    exact_mod_cast (h' j hj)
  · exact_mod_cast p.isLt.le

/-- The distances with the first `t` columns of the order struck out. -/
def cut {n : ℕ} (t : ℕ) (d : Fin n → EReal) : Fin n → EReal :=
  fun j => if ∃ s : Fin n, s.val < t ∧ near d s = j then ⊤ else d j

theorem cut_before {n : ℕ} (d : Fin n → EReal) {t : ℕ} {u : Fin n} (h : u.val < t) : cut t d (near d u) = ⊤ :=
  if_pos ⟨u, h, rfl⟩

theorem cut_after {n : ℕ} (d : Fin n → EReal) {t : ℕ} {u : Fin n} (h : t ≤ u.val) : cut t d (near d u) = d (near d u) := by
  refine if_neg ?_
  rintro ⟨s, hs, e⟩
  rw [near_injective d e] at hs
  omega

/-- The first column of least value left is the next of the order. -/
theorem first_cut {n : ℕ} (d : Fin n → EReal) (hd : ∀ j, Real' (d j)) (t : Fin n) :
    first (cut t.val d) = num (near d t) := by
  have htop : d (near d t) < ⊤ := by
    obtain ⟨r, hr⟩ := hd (near d t)
    rw [hr]; exact EReal.coe_lt_top r
  refine first_eq _ _ (fun j => ?_) fun j hje => ?_
  · rw [cut_after d le_rfl]
    obtain ⟨u, rfl⟩ := near_surjective d j
    rcases lt_or_ge u.val t.val with hu | hu
    · rw [cut_before d hu]; exact le_top
    · rw [cut_after d hu]
      rcases hu.lt_or_eq with hlt | heq
      · exact (near_order d hlt).1
      · rw [show u = t from Fin.ext heq.symm]
  · rw [cut_after d le_rfl] at hje
    obtain ⟨u, rfl⟩ := near_surjective d j
    rcases lt_or_ge u.val t.val with hu | hu
    · rw [cut_before d hu] at hje; rw [← hje] at htop; exact absurd htop (lt_irrefl _)
    · rw [cut_after d hu] at hje
      rcases hu.lt_or_eq with hlt | heq
      · exact (near_order d hlt).2 hje.symm
      · rw [show u = t from Fin.ext heq.symm]

/-- After `t` rounds the first `t` columns of the order are struck out. -/
theorem struck_eq {n : ℕ} (d : Fin n → EReal) (hd : ∀ j, Real' (d j)) (t : ℕ) (ht : t ≤ n) : struck t d = cut t d := by
  induction t with
  | zero => funext j; simp [struck, cut]
  | succ t ih =>
    rw [struck, ih (by omega)]
    unfold strike
    rw [first_cut d hd ⟨t, by omega⟩]
    funext j
    obtain ⟨u, rfl⟩ := near_surjective d j
    by_cases h : u.val = t
    · rw [if_pos (by rw [show u = ⟨t, by omega⟩ from Fin.ext h]), cut_before d (by omega)]
    · rw [if_neg fun e => h (by rw [near_injective d (num_inj e)])]
      rcases lt_or_ge u.val t with hu | hu
      · rw [cut_before d hu, cut_before d (by omega)]
      · rw [cut_after d hu, cut_after d (by omega)]

/-- The `t`-th round finds the `t`-th column of the order. -/
theorem first_struck {n : ℕ} (d : Fin n → EReal) (hd : ∀ j, Real' (d j)) (t : Fin n) :
    first (struck t.val d) = num (near d t) := by
  rw [struck_eq d hd _ t.isLt.le, first_cut d hd]

end Cert.M
-- ==== Proof.K.Near.lean ====
/-
  The kernel's selection of neighbours and its gather, at one point.
-/
module

public import proofs.«01_k».proof.Proof.K.Spec
public import proofs.«01_k».proof.Proof.M.Near
public import Idealize.ShloMosaic.Lib.Pointwise.Tactic
public import Idealize.ShloMosaic.Lib.Pointwise.Reshape
public import Idealize.ShloMosaic.Lib.Pointwise.Reduce
public import Idealize.ShloMosaic.Lib.DynamicIndex
public import Idealize.ShloMosaic.Lib.Pipeline.Value

@[expose] public section

noncomputable section

namespace Cert.KernelIdeal.K1

open Idealize.ShloMosaic Idealize.SL.Sem Cert.KernelIdeal

/-- One row of a matrix. -/
def line (d : FVec Ideal S1024x2048 .f32) (r : Fin 1024) : Fin 2048 → EReal := fun j => d (ix2 r j)

theorem ofBits_inf : Ideal.ofBits .f32 0x7F800000#32 = ⊤ := by
  simp [Ideal.ofBits, Ideal.ieee]

theorem ofBits_2048 : Ideal.ofBits .f32 0x45000000#32 = (((2048 : ℕ) : ℝ) : EReal) := by
  simp [Ideal.ofBits, Ideal.ieee, -EReal.coe_mul]; norm_num

theorem rowMin_at (d : FVec Ideal S1024x2048 .f32) (r : Fin 1024) : rowMin d (ix1 r) = M.lo (line d r) := by
  refine (multiReduction_minimumf_eq_fold d 0x7F800000#32 (by decide) (.inl rfl) rfl (ix1 r)).trans ?_
  simp only [pointwise]
  rw [ofBits_inf]
  rfl

theorem along_at (v : FVec Ideal S1024 .f32) (r : Fin 1024) (j : Fin 2048) : along v (ix2 r j) = v (ix1 r) := by
  unfold along
  simp only [pointwise]
  rfl

theorem cols_at (r : Fin 1024) (j : Fin 2048) : (cols : FVec Ideal S1024x2048 .f32) (ix2 r j) = M.num j := by
  show (((BitVec.ofNat 32 (0 * 2048 + j.val)).toInt : ℝ) : EReal) = ((j.val : ℝ) : EReal)
  rw [toInt_ofNat_of_lt (by omega)]
  norm_num

theorem argMin_at (d : FVec Ideal S1024x2048 .f32) (r : Fin 1024) : argMin d (ix1 r) = M.first (line d r) := by
  unfold argMin
  rw [rowMin_at]
  unfold M.first
  refine congrArg M.lo (funext fun j => ?_)
  show Scalar.select (Ideal.cmp .oeq (d (ix2 r j)) (along (rowMin d) (ix2 r j))) (cols (ix2 r j))
    (Ideal.ofBits .f32 0x45000000#32) = _
  rw [along_at, rowMin_at, cols_at, M.cmp_oeq, M.select_ofBool, ofBits_2048]
  by_cases h : d (ix2 r j) = M.lo (line d r)
  · rw [if_pos h, if_pos (show line d r j = _ from h)]
  · rw [if_neg h, if_neg (show ¬ line d r j = _ from h)]

theorem strike_with (d c w : FVec Ideal S1024x2048 .f32) (z : Ideal .f32) (r : Fin 1024) (j : Fin 2048) :
    select (cmpf .oeq c w) (broadcast S1024x2048 z) d (ix2 r j)
      = if c (ix2 r j) = w (ix2 r j) then z else d (ix2 r j) :=
  M.select_ofBool (c (ix2 r j) = w (ix2 r j)) z (d (ix2 r j))

theorem line_strike (d : FVec Ideal S1024x2048 .f32) (r : Fin 1024) : line (strike d) r = M.strike (line d r) := by
  funext j
  unfold line strike
  rw [strike_with, cols_at, along_at, argMin_at]
  exact ite_congr rfl (fun _ => ofBits_inf) (fun _ => rfl)

theorem line_struck (t : ℕ) (d : FVec Ideal S1024x2048 .f32) (r : Fin 1024) :
    line (struck t d) r = M.struck t (line d r) := by
  induction t with
  | zero => rfl
  | succ t ih => rw [struck, line_strike, ih, M.struck]

/-- A row of real distances: the eight selections are the first eight columns of its order. -/
theorem picks_at (d : FVec Ideal S1024x2048 .f32) (r : Fin 1024) (hd : ∀ j, M.Real' (line d r j)) (k : Fin 8) :
    picks d (ix2 k r) = M.num (M.near (line d r) (k.castLE (by decide))) := by
  have h : picks d (ix2 k r) = argMin (struck k.val d) (ix1 r) := by
    have h1 : picks d (ix2 k r) = asRow (argMin (struck k.val d)) (ix2 0 r) :=
      concatenate_ofFn_unit_apply (t := S8x1024) (N := 8) 0 (fun n => asRow (argMin (struck n.val d)))
        (show Shape.Concatenates [S1x1024, S1x1024, S1x1024, S1x1024, S1x1024, S1x1024, S1x1024, S1x1024] S8x1024 0 by decide)
        rfl rfl (ix2 k r) k rfl
        (ix2 0 r) fun b hb => by
          match b with
          | ⟨0, _⟩ => exact absurd rfl hb
          | ⟨1, _⟩ => rfl
    rw [h1]
    unfold asRow
    simp only [pointwise]
  rw [h, argMin_at, line_struck]
  exact M.first_struck (line d r) hd (k.castLE (by decide))

theorem fptosi_num {n : ℕ} (j : Fin n) (hn : n ≤ 2048) : Ideal.fptosi 32 (M.num j) = BitVec.ofNat 32 j.val := by
  have := j.isLt
  unfold Ideal.fptosi M.num
  rw [Ideal.toIntClamped_coe, if_pos (by positivity), Int.floor_natCast, min_eq_right (by norm_num; omega),
    max_eq_right (by norm_num)]
  rfl

theorem pickI_at (d : FVec Ideal S1024x2048 .f32) (r : Fin 1024) (hd : ∀ j, M.Real' (line d r j)) (k : Fin 8) :
    pickI d (ix2 k r) = BitVec.ofNat 32 (M.near (line d r) (k.castLE (by decide))).val := by
  show Ideal.fptosi 32 (picks d (ix2 k r)) = _
  rw [picks_at d r hd, fptosi_num _ le_rfl]

/-! ### The gather -/

theorem chunk_lane (n : Fin 2048) : ∀ v : IVec S8x1024 32, ∀ i, v i = BitVec.ofNat 32 n.val →
    chunkOf v i = BitVec.ofNat 32 (n.val / 128) ∧ laneOf v i = BitVec.ofNat 32 (n.val % 128) := by
  have key : ∀ n : Fin 2048, chunkOf (fun _ => BitVec.ofNat 32 n.val) (ix2 0 0) = BitVec.ofNat 32 (n.val / 128)
      ∧ laneOf (fun _ => BitVec.ofNat 32 n.val) (ix2 0 0) = BitVec.ofNat 32 (n.val % 128) := by decide +kernel
  intro v i h
  have e1 : chunkOf v i = chunkOf (fun _ => v i) (ix2 0 0) := rfl
  have e2 : laneOf v i = laneOf (fun _ => v i) (ix2 0 0) := rfl
  rw [e1, e2, h]
  exact key n

theorem src_at (c : Fin 16) (h) (x : FVec Ideal S1x2048 .f32) (k : Fin 8) (l : Fin 128) :
    src ![0, 128 * c.val] h x (ix2 k l) = x (ix2 0 ⟨128 * c.val + l.val, by omega⟩) := by
  unfold src
  simp only [pointwise]
  refine congrArg x ?_
  exact congrArg₂ ix2 (Fin.ext rfl) (Fin.ext rfl)

theorem wrap_lane : ∀ n : Fin 128, (Scalar.select (IntOp.cmpi .slt (BitVec.ofNat 32 n.val) 0#32)
    (IntOp.addi (BitVec.ofNat 32 n.val) 128#32) (BitVec.ofNat 32 n.val)).toNat % 128 = n.val := by decide +kernel

theorem pieceAt_at (q : Fin 8) (h) (l : IVec S8x1024 32) (s : FVec Ideal S8x128 .f32) (k : Fin 8) (c : Fin 128) (n : ℕ)
    (hn : n < 128) (hl : l (ix2 k ⟨128 * q.val + c.val, by omega⟩) = BitVec.ofNat 32 n) :
    pieceAt ![0, 128 * q.val] h l s (ix2 k c) = s (ix2 k ⟨n, hn⟩) := by
  have e : ∀ h1 h2, l (ix2 ⟨![0, 128 * q.val] 0 + k.val, h1⟩ ⟨![0, 128 * q.val] 1 + c.val, h2⟩) = BitVec.ofNat 32 n :=
    fun h1 h2 => by rw [← hl]; exact congrArg l (congrArg₂ ix2 (Fin.ext (Nat.zero_add _)) rfl)
  unfold pieceAt
  simp only [pointwise, e]
  exact congrArg s (congrArg₂ ix2 (Fin.ext rfl) (Fin.ext (wrap_lane ⟨n, hn⟩)))

theorem lookup_at (s : FVec Ideal S8x128 .f32) (l : IVec S8x1024 32) (k : Fin 8) (r : Fin 1024) (n : ℕ)
    (hn : n < 128) (hl : l (ix2 k r) = BitVec.ofNat 32 n) : lookup s l (ix2 k r) = s (ix2 k ⟨n, hn⟩) := by
  have hb : ∀ q : Fin 8, S8x1024.Slices ![0, 128 * q.val] S8x128 := by decide
  have h1 : lookup s l (ix2 k r) = pieceAt ![0, 128 * (r.val / 128)] (hb ⟨r.val / 128, by omega⟩) l s
      (ix2 k ⟨r.val % 128, by omega⟩) :=
    concatenate_ofFn_apply (t := S8x1024) (N := 8) 1 (fun q => pieceAt ![0, 128 * q.val] (hb q) l s)
      (show Shape.Concatenates [S8x128, S8x128, S8x128, S8x128, S8x128, S8x128, S8x128, S8x128] S8x1024 1 by decide)
      rfl 128 rfl (ix2 k r)
      ⟨r.val / 128, by omega⟩ rfl (ix2 k ⟨r.val % 128, by omega⟩) rfl fun b hb => by
        match b with
        | ⟨0, _⟩ => rfl
        | ⟨1, _⟩ => exact absurd rfl hb
  rw [h1]
  refine pieceAt_at ⟨r.val / 128, by omega⟩ _ l s k ⟨r.val % 128, by omega⟩ n hn ?_
  rw [← hl]
  exact congrArg l (congrArg (ix2 k) (Fin.ext (by show 128 * (r.val / 128) + r.val % 128 = r.val; omega)))

theorem merge_at (c : Fin 16) (h) (x : FVec Ideal S1x2048 .f32) (v : IVec S8x1024 32) (out : V8 Ideal) (k : Fin 8)
    (r : Fin 1024) (n : Fin 2048) (hv : v (ix2 k r) = BitVec.ofNat 32 n.val) :
    merge (BitVec.ofNat 32 c.val) ![0, 128 * c.val] h x v out (ix2 k r)
      = if n.val / 128 = c.val then x (ix2 0 n) else out (ix2 k r) := by
  obtain ⟨e1, e2⟩ := chunk_lane n v (ix2 k r) hv
  have hsel : ∀ c d : Fin 16, IntOp.cmpi .eq (BitVec.ofNat 32 d.val) (BitVec.ofNat 32 c.val)
      = BitVec.ofBool (decide (d.val = c.val)) := by decide +kernel
  show Scalar.select (IntOp.cmpi .eq (chunkOf v (ix2 k r)) (BitVec.ofNat 32 c.val))
    (lookup (src ![0, 128 * c.val] h x) (laneOf v) (ix2 k r)) (out (ix2 k r)) = _
  rw [e1, hsel c ⟨n.val / 128, by omega⟩, M.select_ofBool, lookup_at _ _ k r (n.val % 128) (by omega) e2, src_at]
  by_cases hc : n.val / 128 = c.val
  · rw [if_pos hc, if_pos hc]
    exact congrArg x (congrArg (ix2 0) (Fin.ext (by show 128 * c.val + n.val % 128 = n.val; omega)))
  · rw [if_neg hc, if_neg hc]

/-- The gather reads the column selected. -/
theorem gather_at (x : FVec Ideal S1x2048 .f32) (v : IVec S8x1024 32) (k : Fin 8) (r : Fin 1024) (n : Fin 2048)
    (hv : v (ix2 k r) = BitVec.ofNat 32 n.val) : gather x v (ix2 k r) = x (ix2 0 n) := by
  have m (c : Fin 16) (h) (out : V8 Ideal) := merge_at c h x v out k r n hv
  unfold gather
  have hn : n.val / 128 < 16 := by omega
  generalize n.val / 128 = c at m hn
  refine (m 15 _ _).trans ?_
  split; · rfl
  refine (m 14 _ _).trans ?_
  split; · rfl
  refine (m 13 _ _).trans ?_
  split; · rfl
  refine (m 12 _ _).trans ?_
  split; · rfl
  refine (m 11 _ _).trans ?_
  split; · rfl
  refine (m 10 _ _).trans ?_
  split; · rfl
  refine (m 9 _ _).trans ?_
  split; · rfl
  refine (m 8 _ _).trans ?_
  split; · rfl
  refine (m 7 _ _).trans ?_
  split; · rfl
  refine (m 6 _ _).trans ?_
  split; · rfl
  refine (m 5 _ _).trans ?_
  split; · rfl
  refine (m 4 _ _).trans ?_
  split; · rfl
  refine (m 3 _ _).trans ?_
  split; · rfl
  refine (m 2 _ _).trans ?_
  split; · rfl
  refine (m 1 _ _).trans ?_
  split; · rfl
  refine (m 0 _ _).trans ?_
  rw [if_pos]
  have e (i : Fin 16) : i.val = (i : ℕ) := rfl
  simp only [Fin.val_zero, Fin.val_one, Fin.val_two] at *
  omega

end Cert.KernelIdeal.K1
-- ==== Proof.M.Feat.lean ====
/-
  Ordering three eigenpairs by comparisons and by a stable sort, and the twelve features of three ordered pairs.
-/
module

public import proofs.«01_k».proof.Proof.M.Scalar
public import Idealize.ShloMosaic.Lib.SortFacts

@[expose] public section

noncomputable section

namespace Cert.M

open Idealize.ShloMosaic

/-- An eigenvalue with its eigenvector. -/
@[ext] structure EP where
  (l x y z : EReal)

/-- The smaller of two pairs. -/
def lower (p q : EP) : EP :=
  ⟨Scalar.select (Ideal.cmp .olt q.l p.l) q.l p.l, Scalar.select (Ideal.cmp .olt q.l p.l) q.x p.x,
    Scalar.select (Ideal.cmp .olt q.l p.l) q.y p.y, Scalar.select (Ideal.cmp .olt q.l p.l) q.z p.z⟩

/-- The larger of two pairs. -/
def upper (p q : EP) : EP :=
  ⟨Scalar.select (Ideal.cmp .olt q.l p.l) p.l q.l, Scalar.select (Ideal.cmp .olt q.l p.l) p.x q.x,
    Scalar.select (Ideal.cmp .olt q.l p.l) p.y q.y, Scalar.select (Ideal.cmp .olt q.l p.l) p.z q.z⟩

theorem lower_eq (p q : EP) : lower p q = if q.l < p.l then q else p := by
  unfold lower
  simp only [Ideal.cmp, select_ofBool]
  split <;> rfl
theorem upper_eq (p q : EP) : upper p q = if q.l < p.l then p else q := by
  unfold upper
  simp only [Ideal.cmp, select_ofBool]
  split <;> rfl

def ep0 (m : SJ) : EP := ⟨m.a00, m.v00, m.v10, m.v20⟩
def ep1 (m : SJ) : EP := ⟨m.a11, m.v01, m.v11, m.v21⟩
def ep2 (m : SJ) : EP := ⟨m.a22, m.v02, m.v12, m.v22⟩
def big (m : SJ) : EP := upper (upper (ep0 m) (ep1 m)) (ep2 m)
def mid (m : SJ) : EP := upper (lower (ep0 m) (ep1 m)) (lower (upper (ep0 m) (ep1 m)) (ep2 m))
def low (m : SJ) : EP := lower (lower (ep0 m) (ep1 m)) (lower (upper (ep0 m) (ep1 m)) (ep2 m))

/-- The three pairs by number. -/
def ep (m : SJ) : Fin 3 → EP := ![ep0 m, ep1 m, ep2 m]

/-- The three positions in the order three exchanges leave them. -/
def net (b : Fin 3 → Fin 3 → Bool) : Fin 3 → Fin 3 :=
  let lo : Fin 3 := if b 1 0 then 1 else 0
  let hi : Fin 3 := if b 1 0 then 0 else 1
  let lo2 : Fin 3 := if b 2 hi then 2 else hi
  let top : Fin 3 := if b 2 hi then hi else 2
  ![if b lo2 lo then lo2 else lo, if b lo2 lo then lo else lo2, top]

/-- On a strict weak order three exchanges sort stably. -/
theorem net_eq (b : Fin 3 → Fin 3 → Bool) (h1 : ∀ i j, b i j = true → b j i = false)
    (h2 : ∀ i j k, b i j = false → b j k = false → b i k = false) : sortedFrom b = net b := by
  revert b
  decide +kernel

/-- The stable sort's positions for three eigenvalues. -/
def perm (l : Fin 3 → EReal) : Fin 3 → Fin 3 := sortedFrom fun k k' => decide (l k < l k')

theorem perm_eq (l : Fin 3 → EReal) : perm l = net fun k k' => decide (l k < l k') :=
  net_eq _ (fun i j h => by simpa using (of_decide_eq_true h).le) fun i j k h h' => by
    simp only [decide_eq_false_iff_not, not_lt] at *
    exact h'.trans h

theorem sorted_eq (m : SJ) : low m = ep m (perm (fun i => (ep m i).l) 0) ∧ mid m = ep m (perm (fun i => (ep m i).l) 1)
    ∧ big m = ep m (perm (fun i => (ep m i).l) 2) := by
  rw [perm_eq]
  unfold low mid big net
  simp only [lower_eq, upper_eq, decide_eq_true_eq]
  have e0 : ep m 0 = ep0 m := rfl
  have e1 : ep m 1 = ep1 m := rfl
  have e2 : ep m 2 = ep2 m := rfl
  refine ⟨?_, ?_, ?_⟩ <;> simp only [Matrix.cons_val_zero, Matrix.cons_val_one, Matrix.cons_val, e0, e1, e2] <;>
    by_cases h1 : (ep1 m).l < (ep0 m).l <;> simp only [h1, if_true, if_false, e0, e1, e2] <;>
    [by_cases h2 : (ep2 m).l < (ep0 m).l; by_cases h2 : (ep2 m).l < (ep1 m).l;
     by_cases h2 : (ep2 m).l < (ep0 m).l; by_cases h2 : (ep2 m).l < (ep1 m).l;
     by_cases h2 : (ep2 m).l < (ep0 m).l; by_cases h2 : (ep2 m).l < (ep1 m).l] <;>
    simp only [h2, if_true, if_false, e0, e1, e2] <;> (try split) <;> (try rfl)

/-- The pair with its vector turned round. -/
def turn (p : EP) : EP := ⟨p.l, 0 - p.x, 0 - p.y, 0 - p.z⟩
def nrm (p : EP) : EReal := Ideal.sqrt ((p.x * p.x + p.y * p.y) + p.z * p.z)
def unitize (p : EP) : EP := ⟨Ideal.div p.l (nrm p), Ideal.div p.x (nrm p), Ideal.div p.y (nrm p), Ideal.div p.z (nrm p)⟩

/-- The twelve features of three pairs. -/
def feats (p1 p2 p3 : EP) : Fin 12 → EReal :=
  ![Ideal.div (p1.l - p2.l) p1.l, Ideal.div (p2.l - p3.l) p1.l, Ideal.div p3.l p1.l, p1.x, p1.y, p1.z, p2.x, p2.y, p2.z,
    p3.x, p3.y, p3.z]

/-- The features of a diagonalised matrix. -/
def featsOf (m : SJ) : Fin 12 → EReal := feats (unitize (big m)) (unitize (mid m)) (unitize (turn (low m)))

end Cert.M
-- ==== Proof.K.At.lean ====
/-
  The kernel's eigendecomposition, ordering and features at one point: the numbers of `Proof.M`.
-/
module

public import proofs.«01_k».proof.Proof.K.Spec
public import proofs.«01_k».proof.Proof.M.Feat

@[expose] public section

noncomputable section

namespace Cert.KernelIdeal.K1

open Idealize.ShloMosaic Idealize.SL.Sem Cert.KernelIdeal

/-- The entries at one place. -/
def JV.at (m : JV Ideal) (j : S8x1024.Idx) : M.SJ :=
  ⟨m.a00 j, m.a11 j, m.a22 j, m.a01 j, m.a02 j, m.a12 j, m.v00 j, m.v01 j, m.v02 j, m.v10 j, m.v11 j, m.v12 j, m.v20 j,
    m.v21 j, m.v22 j⟩

theorem at_rot02 (m : JV Ideal) (j : S8x1024.Idx) : (rot02 m).at j = M.rot02 M.sgn (m.at j) := rfl
theorem at_rot12 (m : JV Ideal) (j : S8x1024.Idx) : (rot12 m).at j = M.rot12 M.sgn (m.at j) := rfl
theorem at_rot01 (m : JV Ideal) (j : S8x1024.Idx) : (rot01 m).at j = M.rot01 M.sgn (m.at j) := rfl

/-- The sweeps at one place are the sweeps of the numbers there. -/
theorem at_sweeps (n : ℕ) (m : JV Ideal) (j : S8x1024.Idx) : (sweeps n m).at j = M.sweeps Ideal.sign n (m.at j) := by
  rw [← M.sweeps_sgn]
  induction n with
  | zero => rfl
  | succ n ih => rw [sweeps, at_rot01, at_rot12, at_rot02, ih, M.sweeps]

/-- A pair at one place. -/
def EP.at (p : EP Ideal) (j : S8x1024.Idx) : M.EP := ⟨p.l j, p.x j, p.y j, p.z j⟩

theorem at_big (m : JV Ideal) (j : S8x1024.Idx) : (big m).at j = M.big (m.at j) := rfl
theorem at_mid (m : JV Ideal) (j : S8x1024.Idx) : (mid m).at j = M.mid (m.at j) := rfl
theorem at_low (m : JV Ideal) (j : S8x1024.Idx) : (low m).at j = M.low (m.at j) := rfl
theorem at_turn (p : EP Ideal) (j : S8x1024.Idx) : (turn p).at j = M.turn (p.at j) := by
  unfold M.turn
  rw [← M.ofBits_zero']
  rfl
theorem at_unitize (p : EP Ideal) (j : S8x1024.Idx) : (unitize p).at j = M.unitize (p.at j) := rfl
theorem at_feats (p q r : EP Ideal) (j : S8x1024.Idx) (c : Fin 12) :
    feats p q r c j = M.feats (p.at j) (q.at j) (r.at j) c := by
  fin_cases c <;> rfl

/-- The features at one place. -/
theorem at_featsOf (m : JV Ideal) (j : S8x1024.Idx) (c : Fin 12) : featsOf m c j = M.featsOf (m.at j) c := by
  unfold featsOf M.featsOf
  rw [at_feats, at_unitize, at_unitize, at_unitize, at_turn, at_big, at_mid, at_low]

end Cert.KernelIdeal.K1
-- ==== Proof.M.Point.lean ====
/-
  The computation at one point and one neighbour, as numbers: distances, nearest neighbours, scatter matrix, its
  diagonalisation, features.
-/
module

public import proofs.«01_k».proof.Proof.M.Feat
public import proofs.«01_k».proof.Proof.M.Near

@[expose] public section

noncomputable section

namespace Cert.M

open Idealize.ShloMosaic

/-- The squared length of a point. -/
def sq (p : Fin 3 → EReal) : EReal := p 0 * p 0 + p 1 * p 1 + p 2 * p 2

/-- The squared distance of two points by their lengths and their product. -/
def gap (p q : Fin 3 → EReal) : EReal := sq p + sq q - 2 * ∑ x : Fin 3, p x * q x

/-- The `k`-th nearest of the points to point `n`. -/
def pick {N : ℕ} (P : Fin N → Fin 3 → EReal) (h8 : 8 ≤ N) (n : Fin N) (k : Fin 8) : Fin 3 → EReal :=
  P (near (fun j => gap (P n) (P j)) (k.castLE h8))

/-- The sum of products of the differences from entry `k`. -/
def scat (u v : Fin 8 → EReal) (k : Fin 8) : EReal := ∑ j : Fin 8, (u j - u k) * (v j - v k)

/-- The scatter matrix around neighbour `k`, and the identity. -/
def start (g : Fin 8 → Fin 3 → EReal) (k : Fin 8) : SJ :=
  ⟨scat (g · 0) (g · 0) k, scat (g · 1) (g · 1) k, scat (g · 2) (g · 2) k, scat (g · 0) (g · 1) k,
    scat (g · 0) (g · 2) k, scat (g · 1) (g · 2) k, 1, 0, 0, 0, 1, 0, 0, 0, 1⟩

/-- The features of point `n` and its neighbour `k`. -/
def feature {N : ℕ} (P : Fin N → Fin 3 → EReal) (h8 : 8 ≤ N) (n : Fin N) (k : Fin 8) : Fin 12 → EReal :=
  featsOf (sweeps Ideal.sign 15 (start (pick P h8 n) k))

theorem real_scat {u v : Fin 8 → EReal} (hu : ∀ j, Real' (u j)) (hv : ∀ j, Real' (v j)) (k : Fin 8) :
    Real' (scat u v k) :=
  Real'.sum _ _ fun j => ((hu j).sub (hu k)).mul ((hv j).sub (hv k))

/-- Real neighbours have a real scatter matrix. -/
theorem start_fin {g : Fin 8 → Fin 3 → EReal} (h : ∀ k x, Real' (g k x)) (k : Fin 8) : (start g k).Fin' := by
  have c (x y : Fin 3) : Real' (scat (g · x) (g · y) k) := real_scat (h · x) (h · y) k
  exact ⟨c 0 0, c 1 1, c 2 2, c 0 1, c 0 2, c 1 2, .one, .zero, .zero, .zero, .one, .zero, .zero, .zero, .one⟩

theorem real_gap {p q : Fin 3 → EReal} (hp : ∀ x, Real' (p x)) (hq : ∀ x, Real' (q x)) : Real' (gap p q) := by
  have two : Real' (2 : EReal) := ⟨2, rfl⟩
  have hs : ∀ {p : Fin 3 → EReal}, (∀ x, Real' (p x)) → Real' (sq p) := fun hp =>
    (((hp 0).mul (hp 0)).add ((hp 1).mul (hp 1))).add ((hp 2).mul (hp 2))
  exact ((hs hp).add (hs hq)).sub (two.mul (Real'.sum _ _ fun x => (hp x).mul (hq x)))

end Cert.M
-- ==== Proof.K.Block.lean ====
/-
  What the first call's body computes at one place of its block: the features of `Proof.M.Point` times the weights.
-/
module

public import proofs.«01_k».proof.Proof.K.Near
public import proofs.«01_k».proof.Proof.K.At
public import proofs.«01_k».proof.Proof.M.Point
public import Idealize.ShloMosaic.Lib.Pointwise.Contract

@[expose] public section

set_option maxRecDepth 20000

noncomputable section

namespace Cert.KernelIdeal.K1

open Idealize.ShloMosaic Idealize.SL.Sem Cert.KernelIdeal

theorem row_at (a : Fin 3) (h) (x1 : Vec Ideal S1x3x2048 .f32) (j : Fin 2048) :
    row ![a.val, 0] h x1 (ix2 0 j) = x1 (ix3 0 a j) := by
  unfold row all
  simp only [pointwise]
  exact congrArg x1 (congrArg₂ (ix3 0) (Fin.ext (by simp)) (Fin.ext (by simp)))

theorem col_at (a : Fin 3) (h) (x0 : Vec Ideal S1x1024x3 .f32) (r : Fin 1024) :
    col ![0, a.val] h x0 (ix1 r) = x0 (ix3 0 r a) := by
  unfold col pts
  simp only [pointwise]
  exact congrArg x0 (congrArg₂ (ix3 0) (Fin.ext (by simp)) (Fin.ext (by simp)))

/-- A row of distances. -/
theorem dist_at (x0 : Vec Ideal S1x1024x3 .f32) (x1 : Vec Ideal S1x3x2048 .f32) (r : Fin 1024) (j : Fin 2048) :
    line (dist x0 x1) r j = M.gap (fun a => x0 (ix3 0 r a)) (fun a => x1 (ix3 0 a j)) := by
  have hA : sqA x1 (ix2 0 j) = M.sq (fun a => x1 (ix3 0 a j)) :=
    congrArg₂ (· + ·) (congrArg₂ (· + ·) (congrArg₂ (· * ·) (row_at 0 _ x1 j) (row_at 0 _ x1 j))
      (congrArg₂ (· * ·) (row_at 1 _ x1 j) (row_at 1 _ x1 j))) (congrArg₂ (· * ·) (row_at 2 _ x1 j) (row_at 2 _ x1 j))
  have hB : sqB x0 (ix1 r) = M.sq (fun a => x0 (ix3 0 r a)) :=
    congrArg₂ (· + ·) (congrArg₂ (· + ·) (congrArg₂ (· * ·) (col_at 0 _ x0 r) (col_at 0 _ x0 r))
      (congrArg₂ (· * ·) (col_at 1 _ x0 r) (col_at 1 _ x0 r))) (congrArg₂ (· * ·) (col_at 2 _ x0 r) (col_at 2 _ x0 r))
  unfold line dist M.gap pts all
  rw [← hA, ← hB]
  generalize sqA x1 = u
  generalize sqB x0 = v
  simp only [pointwise, along_at]
  exact congrArg₂ (fun p q : EReal => p - q) rfl
    (congrArg₂ (fun p q : EReal => p * q) (show Ideal.ofBits .f32 0x40000000#32 = (2 : EReal) from M.ofBits_two) (zero_add _))

theorem diff_at (j : Fin 8) (h) (g : V8 Ideal) (k : Fin 8) (r : Fin 1024) :
    diff ![j.val, 0] h g (ix2 k r) = g (ix2 j r) - g (ix2 k r) := by
  unfold diff
  simp only [pointwise]
  exact congrArg (· - g (ix2 k r)) (congrArg g (congrArg₂ ix2 (Fin.ext (by simp)) (Fin.ext (by simp))))

theorem cov_at (u v : V8 Ideal) (k : Fin 8) (r : Fin 1024) :
    cov u v (ix2 k r) = M.scat (fun j => u (ix2 j r)) (fun j => v (ix2 j r)) k := by
  have d (j : Fin 8) (h) (g : V8 Ideal) := diff_at j h g k r
  unfold M.scat
  rw [Fin.sum_univ_eight]
  simp only [← d 0 (by decide), ← d 1 (by decide), ← d 2 (by decide), ← d 3 (by decide), ← d 4 (by decide),
    ← d 5 (by decide), ← d 6 (by decide), ← d 7 (by decide)]
  simp only [add_assoc]
  unfold cov
  simp only [pointwise, add_assoc]
  rfl

theorem start_at (gx gy gz : V8 Ideal) (k : Fin 8) (r : Fin 1024) :
    (start gx gy gz).at (ix2 k r) = M.start (fun j => ![gx (ix2 j r), gy (ix2 j r), gz (ix2 j r)]) k := by
  have h1 : (kst 0x3F800000#32 : V8 Ideal) (ix2 k r) = 1 := Ideal.ofBits_one_f32
  have h0 : (kst 0x00000000#32 : V8 Ideal) (ix2 k r) = 0 := M.ofBits_zero'
  unfold start JV.at M.start
  simp only [h1, h0, cov_at]
  rfl

theorem wrow_at (o c : Fin 12) (w : Vec Ideal S12x12 .f32) (k : Fin 8) (r : Fin 1024) :
    wrow o w c (ix2 k r) = w (ix2 o c) := by
  unfold wrow wt
  simp only [pointwise]
  refine congrArg w (funext fun a => Fin.ext ?_)
  match a with
  | ⟨0, _⟩ => rfl
  | ⟨1, _⟩ => rfl

theorem conv_at (w f : Fin 12 → V8 Ideal) (i : S8x1024.Idx) : conv w f i = ∑ c : Fin 12, w c i * f c i := by
  simp only [Fin.sum_univ_succ, Fin.sum_univ_zero, add_zero, ← add_assoc]
  rfl

/-- The block's channel `o` at neighbour `k` of the point that row `r` holds. -/
theorem h1_at (o : Fin 12) (x0 : Vec Ideal S1x1024x3 .f32) (x1 : Vec Ideal S1x3x2048 .f32) (w : Vec Ideal S12x12 .f32)
    (P : Fin 2048 → Fin 3 → EReal) (hP : ∀ j a, M.Real' (P j a)) (n : Fin 2048) (k : Fin 8) (r : Fin 1024)
    (hx0 : ∀ a, x0 (ix3 0 r a) = P n a) (hx1 : ∀ j a, x1 (ix3 0 a j) = P j a) :
    h1 o x0 x1 w (ix2 k r) = ∑ c : Fin 12, w (ix2 o c) * M.feature P (by decide) n k c := by
  have hd : line (dist x0 x1) r = fun j => M.gap (P n) (P j) := funext fun j => by
    rw [dist_at, show (fun a => x0 (ix3 0 r a)) = P n from funext hx0,
      show (fun a => x1 (ix3 0 a j)) = P j from funext (hx1 j)]
  have hr (j : Fin 2048) : M.Real' (line (dist x0 x1) r j) := by rw [hd]; exact M.real_gap (hP n) (hP j)
  have hg (a : Fin 3) (h) (k : Fin 8) : nbr (row ![a.val, 0] h x1) x0 x1 (ix2 k r) = M.pick P (by decide) n k a := by
    unfold nbr M.pick
    rw [gather_at _ _ k r _ (pickI_at (dist x0 x1) r hr k), row_at, hx1, hd]
  have hs : (start (nbr (rowX x1) x0 x1) (nbr (rowY x1) x0 x1) (nbr (rowZ x1) x0 x1)).at (ix2 k r)
      = M.start (M.pick P (by decide) n) k := by
    rw [start_at]
    refine congrArg (M.start · k) (funext fun j => funext fun a => ?_)
    fin_cases a
    · exact hg 0 _ j
    · exact hg 1 _ j
    · exact hg 2 _ j
  unfold h1
  rw [conv_at]
  refine Finset.sum_congr rfl fun c _ => ?_
  rw [wrow_at, at_featsOf, eig, at_sweeps, hs, M.feature]

end Cert.KernelIdeal.K1
-- ==== Proof.M.First.lean ====
/-
  What the first call computes, as a function of the clouds and of the weights.
-/
module

public import proofs.«01_k».proof.Proof.M.Point

@[expose] public section

noncomputable section

namespace Cert.M

/-- The convolved feature of output channel `o`, for the neighbour `k` of the point `n` of the cloud `P`. -/
def conv (P : Fin 2048 → Fin 3 → EReal) (w : Fin 12 → EReal) (n : Fin 2048) (k : Fin 8) : EReal :=
  ∑ c : Fin 12, w c * feature P (by decide) n k c

/-- The number of the point in place `r` of the block `i` of a cloud. -/
def place (i : Fin 2) (r : Fin 1024) : Fin 2048 := ⟨i.val * 1024 + r.val, by omega⟩

end Cert.M
-- ==== Proof.K.Value.lean ====
/-
  The array the first call leaves, read block by block.
-/
module

public import proofs.«01_k».proof.Proof.K.Pieces
public import proofs.«01_k».proof.Proof.K.Block
public import proofs.«01_k».proof.Proof.M.First
public import Idealize.ShloMosaic.Lib.Pipeline.ValueKit.Geometry
public import Idealize.ShloMosaic.Lib.StableHlo.Run

@[expose] public section

set_option maxRecDepth 100000

noncomputable section

namespace Cert.KernelIdeal.K1

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The blocks each window names at a point of the grid. -/
theorem blocks : ∀ t : Fin cfg0.N, win0_0.index t = ![t.val / 2, t.val % 2, 0] ∧ win0_1.index t = ![t.val / 2, 0, 0]
    ∧ win0_2.index t = ![0, 0] ∧ win0_3.index t = ![t.val / 2, t.val % 2, 0, 0, 0] :=
  (by decide +kernel : ∀ t : Fin grid0.N, _)

/-- The clouds the run starts from. -/
def cloud (b : Fin 8) : Fin 2048 → Fin 3 → EReal := fun j a =>
  (m ((c : Thread nD τ).loc main_arg0) : Vec Ideal S8x2048x3 .f32) (Idealize.ShloMosaic.ix3 b j a)

/-- The weights the run starts from. -/
def weight (o : Fin 12) : Fin 12 → EReal := fun k =>
  (m ((c : Thread nD τ).loc main_arg1) : Vec Ideal S12x12 .f32) (Idealize.ShloMosaic.ix2 o k)

/-- The cloud of a point of the grid. -/
def batchAt (t : Fin cfg0.N) : Fin 8 := ⟨t.val / 2, by have h : t.val < 16 := lt_of_lt_of_eq t.isLt N_0; omega⟩
/-- The block of the cloud at a point of the grid. -/
def halfAt (t : Fin cfg0.N) : Fin 2 := ⟨t.val % 2, by omega⟩

/-- The array the call leaves. -/
def result : Vec Ideal S8x2x12x8x1024 .f32 := fun y =>
  M.conv (cloud m c (y 0)) (weight m c (y 2)) (M.place (y 1) (y 4)) (y 3)

/-- The host's transposed points, where the call finds them. -/
theorem turned : (V m c main_v0 : Vec Ideal S8x3x2048 .f32)
    = transpose S8x3x2048 [0, 2, 1] (m ((c : Thread nD τ).loc main_arg0) : Vec Ideal S8x2048x3 .f32)
        transposes_S8x2048x3_S8x3x2048_0_2_1 := by
  simp only [V, hostOps0, StableHlo.after_cons, StableHlo.after_nil]
  rfl

/-- The first window's block holds the points of its half of the cloud. -/
theorem in0 (t : Fin cfg0.N) (r : Fin 1024) (a : Fin 3) :
    (iblk m c 0 t : Vec Ideal S1x1024x3 .f32) (Idealize.ShloMosaic.ix3 0 r a)
      = cloud m c (batchAt t) (M.place (halfAt t) r) a := by
  blk_simp [iblk]
  rw [V_main_arg0]
  have e := (blocks t).1
  refine congrArg (m ((c : Thread nD τ).loc main_arg0)) (funext fun x => Fin.ext ?_)
  match x with
  | ⟨0, _⟩ => show win0_0.index t 0 * 1 + 1 * 0 = t.val / 2; rw [e]; show t.val / 2 * 1 + 1 * 0 = _; omega
  | ⟨1, _⟩ => show win0_0.index t 1 * 1024 + 1 * r.val = t.val % 2 * 1024 + r.val; rw [e]; show t.val % 2 * 1024 + 1 * r.val = _; omega
  | ⟨2, _⟩ => show win0_0.index t 2 * 3 + 1 * a.val = a.val; rw [e]; show 0 * 3 + 1 * a.val = _; omega

/-- The second window's block holds the whole cloud, a coordinate to a row. -/
theorem in1 (t : Fin cfg0.N) (j : Fin 2048) (a : Fin 3) :
    (iblk m c 1 t : Vec Ideal S1x3x2048 .f32) (Idealize.ShloMosaic.ix3 0 a j) = cloud m c (batchAt t) j a := by
  have e := (blocks t).2.1
  have hx : (win0_1.blk t).view.emb (Idealize.ShloMosaic.ix3 0 a j) = Idealize.ShloMosaic.ix3 (batchAt t) a j := by
    refine funext fun x => Fin.ext ?_
    match x with
    | ⟨0, _⟩ => show win0_1.index t 0 * 1 + 1 * 0 = t.val / 2; rw [e]; show t.val / 2 * 1 + 1 * 0 = _; omega
    | ⟨1, _⟩ => show win0_1.index t 1 * 3 + 1 * a.val = a.val; rw [e]; show 0 * 3 + 1 * a.val = _; omega
    | ⟨2, _⟩ => show win0_1.index t 2 * 2048 + 1 * j.val = j.val; rw [e]; show 0 * 2048 + 1 * j.val = _; omega
  blk_simp [iblk]
  rw [hx]
  refine (congrFun (turned m c) _).trans ?_
  simp only [pointwise]
  rfl

/-- The third window's block holds the weights. -/
theorem in2 (t : Fin cfg0.N) : (iblk m c 2 t : Vec Ideal S12x12 .f32) = m ((c : Thread nD τ).loc main_arg1) := by
  funext y
  have e := (blocks t).2.2.1
  blk_simp [iblk]
  rw [V_main_arg1]
  refine congrArg (m ((c : Thread nD τ).loc main_arg1)) (funext fun x => Fin.ext ?_)
  match x with
  | ⟨0, _⟩ => show win0_2.index t 0 * 12 + 1 * (y 0).val = (y 0).val; rw [e]; show 0 * 12 + 1 * (y 0).val = _; omega
  | ⟨1, _⟩ => show win0_2.index t 1 * 12 + 1 * (y 1).val = (y 1).val; rw [e]; show 0 * 12 + 1 * (y 1).val = _; omega

/-- What a point of the grid leaves in the block of convolved features. -/
theorem left (t : Fin cfg0.N) : (outsAt0 m c t.val t.isLt).1 = h1Block (iblk m c 0 t) (iblk m c 1 t) (iblk m c 2 t) := by
  by_cases h0 : t.val % 16 = 0
  · refine (congrArg Prod.fst (outsAt0_A m c t h0)).trans ?_
    dsimp only
    rw [out_A]
  · refine (congrArg Prod.fst (outsAt0_B m c t h0)).trans ?_
    dsimp only
    rw [out_B]

/-- If every point is finite, the array ends at the convolved features. -/
theorem final (hP : ∀ b j a, M.Real' (cloud m c b j a)) : (dats m 0 c).arrAt 3 cfg0.N = result m c := by
  refine (dats m 0 c).arrAt_eq_of_covers 3 _ (by decide +kernel) fun t _ y => ?_
  blk_simp
  rw [after0_3, left]
  have e := (blocks t).2.2.2
  have e0 : ((win0_3.blk t).view.emb y 0 : Fin 8) = batchAt t := Fin.ext (by
    show win0_3.index t 0 * 1 + 1 * (y 0).val = t.val / 2
    have h : (y 0).val < 1 := (y 0).isLt
    rw [e]; show t.val / 2 * 1 + 1 * (y 0).val = _; omega)
  have e1 : ((win0_3.blk t).view.emb y 1 : Fin 2) = halfAt t := Fin.ext (by
    show win0_3.index t 1 * 1 + 1 * (y 1).val = t.val % 2
    have h : (y 1).val < 1 := (y 1).isLt
    rw [e]; show t.val % 2 * 1 + 1 * (y 1).val = _; omega)
  have e2 : ((win0_3.blk t).view.emb y 2 : Fin 12) = y 2 := Fin.ext (by
    show win0_3.index t 2 * 12 + 1 * (y 2).val = (y 2).val
    rw [e]; show 0 * 12 + 1 * (y 2).val = _; omega)
  have e3 : ((win0_3.blk t).view.emb y 3 : Fin 8) = y 3 := Fin.ext (by
    show win0_3.index t 3 * 8 + 1 * (y 3).val = (y 3).val
    rw [e]; show 0 * 8 + 1 * (y 3).val = _; omega)
  have e4 : ((win0_3.blk t).view.emb y 4 : Fin 1024) = y 4 := Fin.ext (by
    show win0_3.index t 4 * 1024 + 1 * (y 4).val = (y 4).val
    rw [e]; show 0 * 1024 + 1 * (y 4).val = _; omega)
  unfold result
  rw [e0, e1, e2, e3, e4]
  refine (h1_at _ _ _ _ (cloud m c (batchAt t)) (hP _) (M.place (halfAt t) (y 4)) _ _ (in0 m c t _) (in1 m c t)).trans ?_
  rw [in2]
  rfl

/-- The run: the array at the convolved features, the arguments unchanged. -/
theorem run (hP : ∀ c b j a, M.Real' (cloud m c b j a)) :
    θ_run defs (onTc (τ := τ) (main (F := Ideal))) ⟨m, fun _ => 0, ρ⟩ fun r => ∀ c : Dev nD,
      r.2.mem ((c : Thread nD τ).loc main_v1_0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final m c (hP c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

end Cert.KernelIdeal.K1
-- ==== Proof.F.Finite.lean ====
/-
  The precondition read: every coordinate of every point is a real number.
-/
module

public import proofs.«01_k».proof.Pre_finite
public import proofs.«01_k».proof.Proof.M.Scalar
public import Idealize.ShloMosaic.Lib.ReduceAll

@[expose] public section

namespace Cert.Pre_finite

open Idealize.ShloMosaic

/-- The side conditions of the predicate's operations. -/
instance facts : Facts where
  bcast_S_S8x2048x3 := by decide
  reducesTo_S8x2048x3_S_d0_1_2 := by decide
  h_S_ := by decide

/-- A number whose magnitude is below positive infinity is real. -/
theorem real_of_small (x : EReal) (h : max x (-x) < ⊤) : M.Real' x := by
  induction x with
  | bot => exact absurd h (by simp)
  | top => exact absurd h (by simp)
  | coe r => exact ⟨r, rfl⟩

/-- If the predicate holds of the points, each coordinate is real. -/
theorem real_of_fn [Facts] (x : FVec Ideal S8x2048x3 .f32) (w : FVec Ideal S12x12 .f32) (h : fn x w = fun _ => 1#1)
    (i : S8x2048x3.Idx) : M.Real' (x i) := by
  have : Subsingleton S_.Idx := ⟨fun a b => funext fun k => k.elim0⟩
  have e := Host.reduce_andi_all _ _ _ _ (fun k => k.elim0) (congrFun h _) i
  refine real_of_small _ ?_
  have e' : Ideal.cmp .olt (max (x i) (-(x i))) (Ideal.ofBits .f32 0x7F800000#32) = 1#1 := e
  rw [show Ideal.ofBits .f32 0x7F800000#32 = ⊤ by simp [Ideal.ofBits, Ideal.ieee]] at e'
  by_contra hn
  unfold Ideal.cmp at e'
  simp only [hn, decide_false] at e'
  exact absurd e' (by decide)

end Cert.Pre_finite
-- ==== Proof.R.Spec.lean ====
/-
  The reference's neighbour search, covariances and eigendecomposition as functions of arrays: one rotation is written
  once and the sweeps repeat it.
-/
module

public import proofs.«01_k».proof.Proof.Gen.ReferenceIdeal.Run
public import Idealize.ShloMosaic.Lib.Tactic

@[expose] public section

set_option maxRecDepth 100000

noncomputable section

namespace Cert.ReferenceIdeal.RS

open Idealize.ShloMosaic Idealize.ShloMosaic.TcCoe Idealize.SL.Sem Cert.ReferenceIdeal Cert.ReferenceIdeal.Gen
open Cert.ReferenceIdeal.Value

variable {F : FTy → Type} [FloatOps F]

/-- One number for each small matrix. -/
abbrev V1 (F : FTy → Type) := FVec F S131072 .f32
/-- One matrix each. -/
abbrev V3 (F : FTy → Type) := FVec F S131072x3x3 .f32

/-- A constant repeated. -/
def kst (b : BitVec 32) : V1 F := broadcastInDim S131072 ![] bcast_S_S131072 (constant S_ .f32 b)

/-- One entry of every matrix. -/
def entAt (off : Fin 3 → ℕ) (h : S131072x3x3.Slices off S131072x1x1) (A : V3 F) : V1 F :=
  shapeCast _ (extractStridedSlice S131072x1x1 off A h) shapeCasts_S131072x1x1_S131072

/-- Entry `(p, q)` of every matrix. -/
def ent (p q : Fin 3) (A : V3 F) : V1 F := entAt ![0, p, q] (⟨rfl, fun a => by revert p q a; decide⟩) A

/-- The cotangent of twice the angle. -/
def tau (app aqq apq : V1 F) : V1 F := Host.divf (subf aqq app) (mulf (kst 0x40000000#32) apq)

/-- The tangent of the angle from the cotangent of twice the angle. -/
def tan0 (x : V1 F) : V1 F :=
  select (cmpf .oeq x (kst 0x00000000#32)) (kst 0x3F800000#32)
    (Host.divf (Host.sign x) (addf (Host.absf x) (Host.sqrt (addf (kst 0x3F800000#32) (mulf x x)))))

/-- The tangent of the angle of the rotation, zero where the entry is small already. -/
def tan (app aqq apq : V1 F) : V1 F :=
  select (ori (cmpf .ole (Host.absf apq) (mulf (kst 0x358637BD#32) (Host.sqrt (Host.absf (mulf app aqq)))))
      (cmpf .oeq apq (kst 0x00000000#32)))
    (kst 0x00000000#32) (tan0 (tau app aqq apq))

/-- The cosine. -/
def cs (app aqq apq : V1 F) : V1 F :=
  Host.divf (kst 0x3F800000#32)
    (Host.sqrt (addf (kst 0x3F800000#32) (mulf (tan app aqq apq) (tan app aqq apq))))

/-- The sine. -/
def sn (app aqq apq : V1 F) : V1 F := mulf (tan app aqq apq) (cs app aqq apq)

/-- Three columns side by side. -/
def row3 (x y z : V1 F) : FVec F S131072x3 .f32 :=
  concatenate S131072x3 1 [⟨S131072x1, broadcastInDim S131072x1 ![0] bcast_S131072_S131072x1_0 x⟩,
    ⟨S131072x1, broadcastInDim S131072x1 ![0] bcast_S131072_S131072x1_0 y⟩,
    ⟨S131072x1, broadcastInDim S131072x1 ![0] bcast_S131072_S131072x1_0 z⟩]
    concatenates_S131072x1_S131072x1_S131072x1_S131072x3_d1

/-- Three rows one below the other. -/
def rows3 (x y z : FVec F S131072x3 .f32) : V3 F :=
  concatenate S131072x3x3 1 [⟨S131072x1x3, broadcastInDim S131072x1x3 ![0, 2] bcast_S131072x3_S131072x1x3_0_2 x⟩,
    ⟨S131072x1x3, broadcastInDim S131072x1x3 ![0, 2] bcast_S131072x3_S131072x1x3_0_2 y⟩,
    ⟨S131072x1x3, broadcastInDim S131072x1x3 ![0, 2] bcast_S131072x3_S131072x1x3_0_2 z⟩]
    concatenates_S131072x1x3_S131072x1x3_S131072x1x3_S131072x3x3_d1

/-- The rotation of the plane (0, 2). -/
def g02 (c s : V1 F) : V3 F :=
  rows3 (row3 c (kst 0x00000000#32) s) (row3 (kst 0x00000000#32) (kst 0x3F800000#32) (kst 0x00000000#32))
    (row3 (Host.negf s) (kst 0x00000000#32) c)
/-- The rotation of the plane (1, 2). -/
def g12 (c s : V1 F) : V3 F :=
  rows3 (row3 (kst 0x3F800000#32) (kst 0x00000000#32) (kst 0x00000000#32)) (row3 (kst 0x00000000#32) c s)
    (row3 (kst 0x00000000#32) (Host.negf s) c)
/-- The rotation of the plane (0, 1). -/
def g01 (c s : V1 F) : V3 F :=
  rows3 (row3 c s (kst 0x00000000#32)) (row3 (Host.negf s) c (kst 0x00000000#32))
    (row3 (kst 0x00000000#32) (kst 0x00000000#32) (kst 0x3F800000#32))

/-- The product of two matrices. -/
def mm (A B : V3 F) : V3 F := Host.dotGeneral dot_S131072x3x3_S131072x3x3_S131072x3x3_2_1_1_2_0_0 none A B
/-- The product of a transposed matrix with a matrix. -/
def mtm (A B : V3 F) : V3 F := Host.dotGeneral dot_S131072x3x3_S131072x3x3_S131072x3x3_1_1_2_2_0_0 none A B

/-- The rotation's matrix for the plane `(p, q)` out of the present matrix. -/
def rm02 (A : V3 F) : V3 F := g02 (cs (ent 0 0 A) (ent 2 2 A) (ent 0 2 A)) (sn (ent 0 0 A) (ent 2 2 A) (ent 0 2 A))
def rm12 (A : V3 F) : V3 F := g12 (cs (ent 1 1 A) (ent 2 2 A) (ent 1 2 A)) (sn (ent 1 1 A) (ent 2 2 A) (ent 1 2 A))
def rm01 (A : V3 F) : V3 F := g01 (cs (ent 0 0 A) (ent 1 1 A) (ent 0 1 A)) (sn (ent 0 0 A) (ent 1 1 A) (ent 0 1 A))

/-- The present matrix and the product of the rotations so far. -/
structure AV (F : FTy → Type) where
  a : V3 F
  v : V3 F

/-- One rotation by `G`. -/
def rot (G : V3 F) (m : AV F) : AV F := ⟨mtm G (mm m.a G), mm m.v G⟩

/-- The three rotations of a sweep. -/
def rot02 (m : AV F) : AV F := rot (rm02 m.a) m
def rot12 (m : AV F) : AV F := rot (rm12 m.a) m
def rot01 (m : AV F) : AV F := rot (rm01 m.a) m

/-- `n` sweeps. -/
def sweeps : ℕ → AV F → AV F
  | 0, m => m
  | n + 1, m => rot01 (rot12 (rot02 (sweeps n m)))

/-- The identity for every matrix. -/
def eye : V3 F :=
  broadcastInDim S131072x3x3 ![1, 2] bcast_S3x3_S131072x3x3_1_2 (uitofp .f32 (cmpi .eq
    (addi (iotaInDim S3x3 32 0) (broadcastInDim S3x3 ![] bcast_S_S3x3 (constantI S_ 32 0#32))) (iotaInDim S3x3 32 1)))

/-- The scatter matrices of rows of differences. -/
def covs (X : FVec F S131072x8x3 .f32) : V3 F :=
  Host.dotGeneral dot_S131072x8x3_S131072x8x3_S131072x3x3_1_1_2_2_0_0 none X X

/-- The differences of the neighbours from one neighbour after another. -/
def diffs (g : FVec F S8x2048x8x3 .f32) : FVec F S131072x8x3 .f32 :=
  shapeCast _ (subf
    (broadcastInDim S8x2048x8x8x3 ![0, 1, 2, 3, 4] bcast_S8x2048x1x8x3_S8x2048x8x8x3_0_1_2_3_4
      (broadcastInDim S8x2048x1x8x3 ![0, 1, 3, 4] bcast_S8x2048x8x3_S8x2048x1x8x3_0_1_3_4 g))
    (broadcastInDim S8x2048x8x8x3 ![0, 1, 2, 3, 4] bcast_S8x2048x8x1x3_S8x2048x8x8x3_0_1_2_3_4
      (broadcastInDim S8x2048x8x1x3 ![0, 1, 2, 4] bcast_S8x2048x8x3_S8x2048x8x1x3_0_1_2_4 g)))
    shapeCasts_S8x2048x8x8x3_S131072x8x3

/-- The diagonalisation of the scatter matrices of the neighbours `g`. -/
def eig (g : FVec F S8x2048x8x3 .f32) : AV F := sweeps 15 ⟨covs (diffs g), eye⟩

section read

variable (V0 : Valuation τ sig (Elt F))

/-- The program's diagonalised matrices are fifteen sweeps from the scatter matrices. -/
theorem read_a : (res_main_v2776 V0 : V3 F) = (eig (res_main_v18 V0)).a := by sl_kernel_rfl

/-- The program's eigenvectors are the product of the rotations. -/
theorem read_v : (res_main_v2777 V0 : V3 F) = (eig (res_main_v18 V0)).v := by sl_kernel_rfl

end read

end Cert.ReferenceIdeal.RS
-- ==== Proof.M.Dot.lean ====
/-
  A host contraction over one axis as a sum.
-/
module

public import Idealize.ShloMosaic.PureOps.Ideal.Laws
public import Idealize.ShloMosaic.Lib.ValueIdxCore
public import Idealize.ShloMosaic.Lib.Pipeline.Value

@[expose] public section

noncomputable section

namespace Cert.M

open Idealize.ShloMosaic

/-- A contraction over one axis of extent `n` is the sum over that axis; `f` and `g` name the entries multiplied. -/
theorem dot_one {sl sr so : Shape} {φ₁ φ₂ : FTy} (D : DotDims sl sr so) (n : ℕ) (hr : D.contr.rank = 1)
    (hs : D.contr.size ⟨0, by omega⟩ = n) (x : FVec Ideal sl φ₁) (y : FVec Ideal sr φ₂) (i : so.Idx)
    (f : Fin n → sl.Idx) (g : Fin n → sr.Idx)
    (hf : ∀ (k : Fin n) (q : D.contr.Idx), (q ⟨0, by omega⟩).val = k.val → D.lhsIdx i q = f k)
    (hg : ∀ (k : Fin n) (q : D.contr.Idx), (q ⟨0, by omega⟩).val = k.val → D.rhsIdx i q = g k) :
    Host.dotGeneral D none x y i = ∑ k : Fin n, x (f k) * y (g k) := by
  simp only [Host.dotGeneral]
  rw [Ideal.dotGeneral_apply, ← Equiv.sum_comp (ValueIdx.contrEquiv1 D n hr hs).symm]
  refine Finset.sum_congr rfl fun k _ => ?_
  rw [hf k _ (ValueIdx.contrEquiv1_symm_val D n hr hs k), hg k _ (ValueIdx.contrEquiv1_symm_val D n hr hs k)]

/-- Three pieces of extent one side by side: the coordinate on that axis names the piece. -/
theorem concat_three {t s : Shape} {α : Type} (a : Fin t.rank) (x y z : s.Idx → α)
    (h : Shape.Concatenates [s, s, s] t a) (j : t.Idx) (hr : s.rank = t.rank) (h1 : s.size (a.cast hr.symm) = 1)
    (k : Fin 3) (hk : (j a).val = k.val) (i : s.Idx)
    (hi : ∀ b : Fin s.rank, b.cast hr ≠ a → (i b).val = (j (b.cast hr)).val) :
    concatenate t a [⟨s, x⟩, ⟨s, y⟩, ⟨s, z⟩] h j = ![x, y, z] k i := by
  have h0 : (i (a.cast hr.symm)).val = 0 := by have := (i (a.cast hr.symm)).isLt; omega
  have key (n : ℕ) (hn : n < 3) (w : s.Idx → α) (hw : ([⟨s, x⟩, ⟨s, y⟩, ⟨s, z⟩] : List ((s : Shape) × (s.Idx → α)))[n] = ⟨s, w⟩)
      (hj : (j a).val = n) : concatenate t a [⟨s, x⟩, ⟨s, y⟩, ⟨s, z⟩] h j = w i := by
    refine concatenate_apply_piece a [⟨s, x⟩, ⟨s, y⟩, ⟨s, z⟩] h j n hn s w hw hr n ?_ i hi (by omega)
    obtain rfl | rfl | rfl : n = 0 ∨ n = 1 ∨ n = 2 := by omega
    all_goals simp [hr, h1]
  obtain ⟨k, hk'⟩ := k
  obtain rfl | rfl | rfl : k = 0 ∨ k = 1 ∨ k = 2 := by omega
  · exact key 0 (by omega) x rfl hk
  · exact key 1 (by omega) y rfl hk
  · exact key 2 (by omega) z rfl hk

end Cert.M
-- ==== Proof.R.At.lean ====
/-
  The reference's eigendecomposition at one point: the numbers of `Proof.M`.
-/
module

public import proofs.«01_k».proof.Proof.R.Spec
public import proofs.«01_k».proof.Proof.M.Feat
public import proofs.«01_k».proof.Proof.M.Dot
public import Idealize.ShloMosaic.Lib.Pointwise.Tactic
public import Idealize.ShloMosaic.Lib.Pointwise.Reshape

@[expose] public section

set_option maxRecDepth 20000

noncomputable section

namespace Cert.ReferenceIdeal.RS

open Idealize.ShloMosaic Idealize.ShloMosaic.TcCoe Idealize.SL.Sem Cert.ReferenceIdeal Cert.ReferenceIdeal.Gen

/-- One small matrix. -/
def mat (A : V3 Ideal) (p : Fin 131072) : Fin 3 → Fin 3 → EReal := fun i l => A (ix3 p i l)

theorem mat_mm (A B : V3 Ideal) (p : Fin 131072) : mat (mm A B) p = M.mm (mat A p) (mat B p) := by
  funext i l
  exact M.dot_one _ 3 rfl rfl A B (ix3 p i l) (fun k => ix3 p i k) (fun k => ix3 p k l)
    (fun k q hq => funext fun a => Fin.ext (by
      match a with
      | ⟨0, _⟩ => rfl
      | ⟨1, _⟩ => rfl
      | ⟨2, _⟩ => exact hq))
    (fun k q hq => funext fun a => Fin.ext (by
      match a with
      | ⟨0, _⟩ => rfl
      | ⟨1, _⟩ => exact hq
      | ⟨2, _⟩ => rfl))

theorem mat_mtm (A B : V3 Ideal) (p : Fin 131072) : mat (mtm A B) p = M.mtm (mat A p) (mat B p) := by
  funext i l
  exact M.dot_one _ 3 rfl rfl A B (ix3 p i l) (fun k => ix3 p k i) (fun k => ix3 p k l)
    (fun k q hq => funext fun a => Fin.ext (by
      match a with
      | ⟨0, _⟩ => rfl
      | ⟨1, _⟩ => exact hq
      | ⟨2, _⟩ => rfl))
    (fun k q hq => funext fun a => Fin.ext (by
      match a with
      | ⟨0, _⟩ => rfl
      | ⟨1, _⟩ => exact hq
      | ⟨2, _⟩ => rfl))

theorem ent_at (r s : Fin 3) (A : V3 Ideal) (p : Fin 131072) : ent r s A (ix1 p) = mat A p r s := by
  unfold ent entAt mat
  refine (shapeCast_apply _ _ (ix1 p) (ix3 p 0 0) ?_).trans (congrArg A (funext fun a => Fin.ext ?_))
  · rw [Shape.rowMajor_val_three, Shape.rowMajor_val_one]; simp
  · match a with
    | ⟨0, _⟩ => exact Nat.zero_add _
    | ⟨1, _⟩ => exact Nat.add_zero _
    | ⟨2, _⟩ => exact Nat.add_zero _

theorem row3_at (x y z : V1 Ideal) (p : Fin 131072) (l : Fin 3) :
    row3 x y z (ix2 p l) = ![x (ix1 p), y (ix1 p), z (ix1 p)] l := by
  unfold row3
  refine (M.concat_three (s := S131072x1) 1 _ _ _ _ (ix2 p l) rfl rfl l rfl (ix2 p 0) fun b hb => ?_).trans ?_
  · match b with
    | ⟨0, _⟩ => rfl
    | ⟨1, _⟩ => exact absurd rfl hb
  · have col (w : V1 Ideal) : broadcastInDim S131072x1 ![0] bcast_S131072_S131072x1_0 w (ix2 p 0) = w (ix1 p) := by
      simp only [pointwise]; rfl
    fin_cases l
    exacts [col x, col y, col z]

theorem rows3_at (x y z : FVec Ideal S131072x3 .f32) (p : Fin 131072) (i l : Fin 3) :
    rows3 x y z (ix3 p i l) = ![x (ix2 p l), y (ix2 p l), z (ix2 p l)] i := by
  unfold rows3
  refine (M.concat_three (s := S131072x1x3) 1 _ _ _ _ (ix3 p i l) rfl rfl i rfl (ix3 p 0 l) fun b hb => ?_).trans ?_
  · match b with
    | ⟨0, _⟩ => rfl
    | ⟨1, _⟩ => exact absurd rfl hb
    | ⟨2, _⟩ => rfl
  · have row (w : FVec Ideal S131072x3 .f32) :
        broadcastInDim S131072x1x3 ![0, 2] bcast_S131072x3_S131072x1x3_0_2 w (ix3 p 0 l) = w (ix2 p l) := by
      simp only [pointwise]; rfl
    fin_cases i
    exacts [row x, row y, row z]

theorem cs_at (x y z : V1 Ideal) (i : S131072.Idx) : cs x y z i = M.cs Ideal.sign (x i) (y i) (z i) := rfl
theorem sn_at (x y z : V1 Ideal) (i : S131072.Idx) : sn x y z i = M.sn Ideal.sign (x i) (y i) (z i) := rfl
theorem zero_at (i : S131072.Idx) : (kst 0x00000000#32 : V1 Ideal) i = 0 := M.ofBits_zero'
theorem one_at (i : S131072.Idx) : (kst 0x3F800000#32 : V1 Ideal) i = 1 := Ideal.ofBits_one_f32
theorem neg_at (x : V1 Ideal) (i : S131072.Idx) : Host.negf x i = -x i := rfl

theorem mat_g02 (c s : V1 Ideal) (p : Fin 131072) : mat (g02 c s) p = M.g02 (c (ix1 p)) (s (ix1 p)) := by
  funext i l
  unfold mat g02 M.g02
  rw [rows3_at]
  fin_cases i <;> simp only [row3_at, zero_at, one_at, neg_at] <;> rfl
theorem mat_g12 (c s : V1 Ideal) (p : Fin 131072) : mat (g12 c s) p = M.g12 (c (ix1 p)) (s (ix1 p)) := by
  funext i l
  unfold mat g12 M.g12
  rw [rows3_at]
  fin_cases i <;> simp only [row3_at, zero_at, one_at, neg_at] <;> rfl
theorem mat_g01 (c s : V1 Ideal) (p : Fin 131072) : mat (g01 c s) p = M.g01 (c (ix1 p)) (s (ix1 p)) := by
  funext i l
  unfold mat g01 M.g01
  rw [rows3_at]
  fin_cases i <;> simp only [row3_at, zero_at, one_at, neg_at] <;> rfl

/-- The matrices at one point are those of the numbers `s`. -/
def AV.Is (m : AV Ideal) (p : Fin 131072) (s : M.SJ) : Prop := mat m.a p = s.mat ∧ mat m.v p = s.vec

theorem is_rot02 {m : AV Ideal} {p : Fin 131072} {s : M.SJ} (h : m.Is p s) (hs : s.Fin') :
    (rot02 m).Is p (M.rot02 Ideal.sign s) := by
  obtain ⟨ha, hv⟩ := h
  have := M.by02_mat (M.real_cs hs.a00 hs.a22 hs.a02) (M.real_sn hs.a00 hs.a22 hs.a02) hs
  constructor
  · show mat (mtm _ (mm m.a _)) p = _
    rw [mat_mtm, mat_mm]; unfold rm02; rw [mat_g02, cs_at, sn_at, ent_at, ent_at, ent_at, ha]; exact this.1
  · show mat (mm m.v _) p = _
    rw [mat_mm]; unfold rm02; rw [mat_g02, cs_at, sn_at, ent_at, ent_at, ent_at, ha, hv]; exact this.2
theorem is_rot12 {m : AV Ideal} {p : Fin 131072} {s : M.SJ} (h : m.Is p s) (hs : s.Fin') :
    (rot12 m).Is p (M.rot12 Ideal.sign s) := by
  obtain ⟨ha, hv⟩ := h
  have := M.by12_mat (M.real_cs hs.a11 hs.a22 hs.a12) (M.real_sn hs.a11 hs.a22 hs.a12) hs
  constructor
  · show mat (mtm _ (mm m.a _)) p = _
    rw [mat_mtm, mat_mm]; unfold rm12; rw [mat_g12, cs_at, sn_at, ent_at, ent_at, ent_at, ha]; exact this.1
  · show mat (mm m.v _) p = _
    rw [mat_mm]; unfold rm12; rw [mat_g12, cs_at, sn_at, ent_at, ent_at, ent_at, ha, hv]; exact this.2
theorem is_rot01 {m : AV Ideal} {p : Fin 131072} {s : M.SJ} (h : m.Is p s) (hs : s.Fin') :
    (rot01 m).Is p (M.rot01 Ideal.sign s) := by
  obtain ⟨ha, hv⟩ := h
  have := M.by01_mat (M.real_cs hs.a00 hs.a11 hs.a01) (M.real_sn hs.a00 hs.a11 hs.a01) hs
  constructor
  · show mat (mtm _ (mm m.a _)) p = _
    rw [mat_mtm, mat_mm]; unfold rm01; rw [mat_g01, cs_at, sn_at, ent_at, ent_at, ent_at, ha]; exact this.1
  · show mat (mm m.v _) p = _
    rw [mat_mm]; unfold rm01; rw [mat_g01, cs_at, sn_at, ent_at, ent_at, ent_at, ha, hv]; exact this.2

/-- The sweeps by matrix products are at each point the sweeps of the numbers there, when these are real. -/
theorem is_sweeps (n : ℕ) {m : AV Ideal} {p : Fin 131072} {s : M.SJ} (h : m.Is p s) (hs : s.Fin') :
    (sweeps n m).Is p (M.sweeps Ideal.sign n s) ∧ (M.sweeps Ideal.sign n s).Fin' := by
  induction n with
  | zero => exact ⟨h, hs⟩
  | succ n ih =>
    obtain ⟨h0, f0⟩ := ih
    have h1 := is_rot02 h0 f0
    have f1 := (M.fin_rot f0).1
    have h2 := is_rot12 h1 f1
    have f2 := (M.fin_rot f1).2.1
    exact ⟨is_rot01 h2 f2, (M.fin_rot f2).2.2⟩

end Cert.ReferenceIdeal.RS
-- ==== Proof.R.Near.lean ====
/-
  The reference's nearest neighbours and their scatter matrices at one point: the numbers of `Proof.M.Point`.
-/
module

public import proofs.«01_k».proof.Proof.R.At
public import proofs.«01_k».proof.Proof.M.Point
public import Idealize.ShloMosaic.Lib.Pointwise.Reduce
public import Idealize.ShloMosaic.Lib.DynamicIndex
public import Idealize.ShloMosaic.Lib.IdealHost

@[expose] public section

set_option maxRecDepth 20000

noncomputable section

namespace Cert.ReferenceIdeal.RS

open Idealize.ShloMosaic Idealize.ShloMosaic.TcCoe Idealize.SL.Sem Cert.ReferenceIdeal Cert.ReferenceIdeal.Gen
open Cert.ReferenceIdeal.Value

section spec

variable {F : FTy → Type} [FloatOps F]

/-- The squared lengths of the points. -/
def lens (X : FVec F S8x2048x3 .f32) : FVec F S8x2048 .f32 :=
  Host.reduceAdd (mulf X X) (constant S_ .f32 0x00000000#32) reducesTo_S8x2048x3_S8x2048_d2 h_S_

/-- The squared distances from one another. -/
def dist (X : FVec F S8x2048x3 .f32) : FVec F S8x2048x2048 .f32 :=
  subf (addf
      (broadcastInDim S8x2048x2048 ![0, 1, 2] bcast_S8x2048x1_S8x2048x2048_0_1_2
        (broadcastInDim S8x2048x1 ![0, 1] bcast_S8x2048_S8x2048x1_0_1 (lens X)))
      (broadcastInDim S8x2048x2048 ![0, 1, 2] bcast_S8x1x2048_S8x2048x2048_0_1_2
        (broadcastInDim S8x1x2048 ![0, 2] bcast_S8x2048_S8x1x2048_0_2 (lens X))))
    (mulf (broadcastInDim S8x2048x2048 ![] bcast_S_S8x2048x2048 (constant S_ .f32 0x40000000#32))
      (Host.dotGeneral dot_S8x2048x3_S8x2048x3_S8x2048x2048_2_2_1_1_0_0 none X X))

/-- The numbers of the eight nearest points. -/
def best (d : FVec F S8x2048x2048 .f32) : IVec S8x2048x8 32 :=
  (Host.topK S8x2048x8 2 (FloatOps.cmpfTotal .gt) (Host.negf d) sliceFits_S8x2048x2048_S8x2048x8).2

/-- The points of the numbers `i`. -/
def group (X : FVec F S8x2048x3 .f32) (i : IVec S8x2048x8 32) : FVec F S8x2048x8x3 .f32 :=
  Host.gather gather_S8x2048x3_S8x2048x8x1_S8x2048x8x3_3_1_0_0_1_3_113 X
    (broadcastInDim S8x2048x8x1 ![0, 1, 2] bcast_S8x2048x8_S8x2048x8x1_0_1_2
      (select (cmpi .slt i (broadcastInDim S8x2048x8 ![] bcast_S_S8x2048x8 (constantI S_ 32 0#32)))
        (addi i (broadcastInDim S8x2048x8 ![] bcast_S_S8x2048x8 (constantI S_ 32 2048#32))) i))

/-- The program's neighbours. -/
theorem read_g (V0 : Valuation τ sig (Elt F)) :
    (res_main_v18 V0 : FVec F S8x2048x8x3 .f32)
      = group (V0 (Proc.devRef .tc main_arg0)) (best (dist (V0 (Proc.devRef .tc main_arg0)))) := by sl_kernel_rfl

end spec

/-- The points of batch `b`. -/
def batch (X : FVec Ideal S8x2048x3 .f32) (b : Fin 8) : Fin 2048 → Fin 3 → EReal := fun n a => X (ix3 b n a)

theorem lens_at (X : FVec Ideal S8x2048x3 .f32) (b : Fin 8) (n : Fin 2048) :
    lens X (ix2 b n) = M.sq (batch X b n) := by
  unfold lens
  simp only [pointwise, Fin.sum_univ_three]
  exact zero_add _

theorem dist_at (X : FVec Ideal S8x2048x3 .f32) (b : Fin 8) (n j : Fin 2048) :
    dist X (ix3 b n j) = M.gap (batch X b n) (batch X b j) := by
  have hdot : Host.dotGeneral dot_S8x2048x3_S8x2048x3_S8x2048x2048_2_2_1_1_0_0 none X X (ix3 b n j)
      = ∑ x : Fin 3, batch X b n x * batch X b j x :=
    M.dot_one _ 3 rfl rfl X X (ix3 b n j) (fun k => ix3 b n k) (fun k => ix3 b j k)
      (fun k q hq => funext fun a => Fin.ext (by
        match a with
        | ⟨0, _⟩ => rfl
        | ⟨1, _⟩ => rfl
        | ⟨2, _⟩ => exact hq))
      (fun k q hq => funext fun a => Fin.ext (by
        match a with
        | ⟨0, _⟩ => rfl
        | ⟨1, _⟩ => rfl
        | ⟨2, _⟩ => exact hq))
  unfold M.gap dist
  rw [← lens_at, ← lens_at, ← hdot]
  generalize lens X = l
  simp only [pointwise]
  exact congrArg₂ (fun p q : EReal => p - q) rfl (congrArg₂ (fun p q : EReal => p * q) M.ofBits_two rfl)

/-- A payload sorted along with its keys, at an index. -/
theorem sort2_at {s : Shape} {d : ℕ} {α β : Type} (hd : d < s.rank) (cmp : α × β → α × β → BitVec 1) (x : s.Idx → α)
    (y : s.Idx → β) (j : s.Idx) : (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem best_at (d : FVec Ideal S8x2048x2048 .f32) (b : Fin 8) (n : Fin 2048) (k : Fin 8) :
    best d (ix3 b n k) = BitVec.ofNat 32 (M.near (fun j => d (ix3 b n j)) (k.castLE (by decide))).val := by
  have hx (j : Fin 2048) : Shape.Idx.along (s := S8x2048x2048) (ix3 b n (k.castLE (by decide))) (2 : Fin 3) j = ix3 b n j :=
    funext fun a => by
      match a with
      | ⟨0, _⟩ => rfl
      | ⟨1, _⟩ => rfl
      | ⟨2, _⟩ => rfl
  have hlt (x y : EReal) : (FloatOps.cmpfTotal (F := Ideal) (φ := .f32) .gt (-x) (-y) == 1#1) = decide (x < y) := by
    show (BitVec.ofBool (decide (-x > -y)) == 1#1) = _
    have hg : (-x > -y) = (x < y) := propext EReal.neg_lt_neg_iff
    simp only [hg]
    by_cases h : x < y <;> simp [h]
  have hk (e : ∀ a : Fin 3, 0 + (ix3 b n k a).val < S8x2048x2048.size a) : (fun a : Fin 3 => (⟨0 + (ix3 b n k a).val, e a⟩ : Fin (S8x2048x2048.size a)))
      = ix3 b n (k.castLE (by decide) : Fin 2048) := funext fun a => Fin.ext (by
    match a with
    | ⟨0, _⟩ => exact Nat.zero_add _
    | ⟨1, _⟩ => exact Nat.zero_add _
    | ⟨2, _⟩ => exact Nat.zero_add _)
  have e (a : Fin 3) : 0 + (ix3 b n k a).val < S8x2048x2048.size a := by
    have := k.isLt
    match a with
    | ⟨0, _⟩ => show 0 + b.val < 8; omega
    | ⟨1, _⟩ => show 0 + n.val < 2048; omega
    | ⟨2, _⟩ => show 0 + k.val < 2048; omega
  unfold best Host.topK extractStridedSlice
  dsimp only
  refine Eq.trans (congrArg (Host.sort2 S8x2048x2048 2 (fun l r => FloatOps.cmpfTotal (F := Ideal) (φ := .f32) .gt l.1 r.1) (Host.negf d)
    (fun i => if hd : 2 < 3 then iotaInDim S8x2048x2048 32 ⟨2, hd⟩ i else 0#32)).2 (hk e)) ?_
  rw [sort2_at (by decide : 2 < S8x2048x2048.rank)]
  have hπ : (fun q q' : Fin 2048 => FloatOps.cmpfTotal (F := Ideal) (φ := .f32) .gt
        (Host.negf d (Shape.Idx.along (s := S8x2048x2048) (ix3 b n (k.castLE (by decide))) (2 : Fin 3) q))
        (Host.negf d (Shape.Idx.along (s := S8x2048x2048) (ix3 b n (k.castLE (by decide))) (2 : Fin 3) q')) == 1#1)
      = fun q q' => decide (d (ix3 b n q) < d (ix3 b n q')) := funext fun q => funext fun q' => by
    rw [hx q, hx q']
    exact hlt _ _
  have hio (h2 h2') (q : Fin 2048) : iotaInDim S8x2048x2048 32 ⟨2, h2⟩
      (Shape.Idx.along (s := S8x2048x2048) (ix3 b n (k.castLE (by decide))) ⟨2, h2'⟩ q) = BitVec.ofNat 32 q.val := by
    rw [show Shape.Idx.along (s := S8x2048x2048) (ix3 b n (k.castLE (by decide))) ⟨2, h2'⟩ q = ix3 b n q from hx q]
    rfl
  dsimp only
  rw [dif_pos (by decide : 2 < 3)]
  refine (hio _ _ _).trans ?_
  unfold M.near
  exact congrArg (fun f => BitVec.ofNat 32 (sortedFrom f (k.castLE (by decide : 8 ≤ 2048))).val) hπ

theorem group_at (X : FVec Ideal S8x2048x3 .f32) (i : IVec S8x2048x8 32) (b : Fin 8) (n : Fin 2048) (k : Fin 8)
    (a : Fin 3) (m : Fin 2048) (h : i (ix3 b n k) = BitVec.ofNat 32 m.val) :
    group X i (ix4 b n k a) = batch X b m a := by
  unfold group
  generalize hJ : broadcastInDim S8x2048x8x1 ![0, 1, 2] bcast_S8x2048x8_S8x2048x8x1_0_1_2
      (select (cmpi .slt i (broadcastInDim S8x2048x8 ![] bcast_S_S8x2048x8 (constantI S_ 32 0#32)))
        (addi i (broadcastInDim S8x2048x8 ![] bcast_S_S8x2048x8 (constantI S_ 32 2048#32))) i) = J
  have hi : (i (ix3 b n k)).toInt = m.val := by rw [h]; exact toInt_ofNat_of_lt (by omega)
  have hj : J (ix4 b n k 0) = i (ix3 b n k) := by
    rw [← hJ]
    refine Eq.trans (b := select (cmpi .slt i (constantI S8x2048x8 32 0#32))
        (addi i (constantI S8x2048x8 32 2048#32)) i (ix3 b n k)) ?_
      (select_slt_zero_of_nonneg i (addi i (constantI S8x2048x8 32 2048#32)) i (ix3 b n k) (by rw [hi]; omega))
    simp only [pointwise]
    rfl
  unfold Host.gather batch
  let D := gather_S8x2048x3_S8x2048x8x1_S8x2048x8x3_3_1_0_0_1_3_113
  have hs (q) : D.siIdx (ix4 b n k a) q = ix4 b n k 0 := by
    have hq : q = ⟨0, by decide⟩ := Fin.ext (by have := q.isLt; have e : D.startIndexMap.length = 1 := rfl; omega)
    rw [hq]
    refine funext fun y => Fin.ext ?_
    match y with
    | ⟨0, _⟩ => rfl
    | ⟨1, _⟩ => rfl
    | ⟨2, _⟩ => rfl
    | ⟨3, _⟩ => rfl
  refine congrArg X (funext fun x => Fin.ext ?_)
  show D.start (ix4 b n k a) J x + D.batchCoord (ix4 b n k a) x + D.offCoord (ix4 b n k a) x = _
  match x with
  | ⟨0, _⟩ =>
    show D.start (ix4 b n k a) J 0 + D.batchCoord (ix4 b n k a) 0 + D.offCoord (ix4 b n k a) 0 = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ D.operandBatchingDims from List.mem_singleton.mpr rfl), Nat.zero_add, Nat.add_zero]
    rfl
  | ⟨1, _⟩ =>
    show D.start (ix4 b n k a) J 1 + D.batchCoord (ix4 b n k a) 1 + D.offCoord (ix4 b n k a) 1 = m.val
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 3) ∈ D.startIndexMap from List.mem_singleton.mpr rfl), hs, hj, hi]
    show min m.val (2048 - 1) + 0 + 0 = m.val
    omega
  | ⟨2, _⟩ =>
    show D.start (ix4 b n k a) J 2 + D.batchCoord (ix4 b n k a) 2 + D.offCoord (ix4 b n k a) 2 = a.val
    rw [GatherDims.batchCoord_eq_zero _ _ _ (by decide)]
    unfold GatherDims.start GatherDims.offCoord
    rw [dif_neg (by decide), dif_pos (by decide)]
    show 0 + 0 + a.val = a.val
    omega

/-- The neighbours' differences from neighbour `k`. -/
theorem diffs_at (g : FVec Ideal S8x2048x8x3 .f32) (p : Fin 131072) (b : Fin 8) (n : Fin 2048) (k m : Fin 8) (a : Fin 3)
    (hp : p.val = (b.val * 2048 + n.val) * 8 + k.val) :
    diffs g (ix3 p m a) = g (ix4 b n m a) - g (ix4 b n k a) := by
  unfold diffs
  rw [shapeCast_apply _ _ _ (ix5 b n k m a) (by
    rw [Shape.rowMajor_val_three, Shape.rowMajor_val_five]
    show (((b.val * 2048 + n.val) * 8 + k.val) * 8 + m.val) * 3 + a.val = (p.val * 8 + m.val) * 3 + a.val
    rw [hp])]
  simp only [pointwise]
  rfl

theorem covs_at (Y : FVec Ideal S131072x8x3 .f32) (p : Fin 131072) (i l : Fin 3) :
    mat (covs Y) p i l = ∑ m : Fin 8, Y (ix3 p m i) * Y (ix3 p m l) :=
  M.dot_one _ 8 rfl rfl Y Y (ix3 p i l) (fun k => ix3 p k i) (fun k => ix3 p k l)
    (fun k q hq => funext fun a => Fin.ext (by
      match a with
      | ⟨0, _⟩ => rfl
      | ⟨1, _⟩ => exact hq
      | ⟨2, _⟩ => rfl))
    (fun k q hq => funext fun a => Fin.ext (by
      match a with
      | ⟨0, _⟩ => rfl
      | ⟨1, _⟩ => exact hq
      | ⟨2, _⟩ => rfl))

theorem eye_at (p : Fin 131072) (i l : Fin 3) : mat (eye (F := Ideal)) p i l = if i = l then 1 else 0 := by
  unfold mat eye
  simp only [pointwise]
  have one : (FloatOps.uitofp .f32 1#1 : Ideal .f32) = (1 : EReal) := by
    show (((1 : ℕ) : ℝ) : EReal) = 1
    simp
  have zero : (FloatOps.uitofp .f32 0#1 : Ideal .f32) = (0 : EReal) := by
    show (((0 : ℕ) : ℝ) : EReal) = 0
    simp
  fin_cases i <;> fin_cases l <;> first | exact one | exact zero

end Cert.ReferenceIdeal.RS
-- ==== Proof.R.Sort.lean ====
/-
  The reference's features of one small matrix: its three eigenpairs sorted, turned to unit length and set side by side.
-/
module

public import proofs.«01_k».proof.Proof.R.Near
public import proofs.«01_k».proof.Proof.M.Feat

@[expose] public section

set_option maxRecDepth 20000

noncomputable section

namespace Cert.ReferenceIdeal.RS

open Idealize.ShloMosaic Idealize.ShloMosaic.TcCoe Idealize.SL.Sem Cert.ReferenceIdeal Cert.ReferenceIdeal.Gen
open Cert.ReferenceIdeal.Value

section spec

variable {F : FTy → Type} [FloatOps F]

/-- Three numbers for each small matrix. -/
abbrev R3 (F : FTy → Type) := FVec F S131072x3 .f32

/-- The diagonals. -/
def diag (A : V3 F) : R3 F := row3 (ent 0 0 A) (ent 1 1 A) (ent 2 2 A)

/-- One row of each matrix. -/
def rowAt (off : Fin 3 → ℕ) (h : S131072x3x3.Slices off S131072x1x3) (A : V3 F) : R3 F :=
  shapeCast _ (extractStridedSlice S131072x1x3 off A h) shapeCasts_S131072x1x3_S131072x3

/-- The eigenvalues, and the rows of the eigenvectors, in ascending order of the eigenvalues. -/
def srt (e : AV F) : R3 F × R3 F × R3 F × R3 F :=
  Host.sort4 S131072x3 1 comparator_f32_f32_f32_f32_d1 (diag e.a)
    (rowAt ![0, 0, 0] slices_S131072x3x3_S131072x1x3_0_0_0 e.v) (rowAt ![0, 1, 0] slices_S131072x3x3_S131072x1x3_0_1_0 e.v)
    (rowAt ![0, 2, 0] slices_S131072x3x3_S131072x1x3_0_2_0 e.v)

/-- The eigenvectors in that order, each a column. -/
def vecs (e : AV F) : V3 F := rows3 (srt e).2.1 (srt e).2.2.1 (srt e).2.2.2

/-- One column of each matrix. -/
def colAt (off : Fin 3 → ℕ) (h : S131072x3x3.Slices off S131072x3x1) (A : V3 F) : R3 F :=
  shapeCast _ (extractStridedSlice S131072x3x1 off A h) shapeCasts_S131072x3x1_S131072x3

/-- One of the three numbers of each. -/
def oneAt (off : Fin 2 → ℕ) (h : S131072x3.Slices off S131072x1) (A : R3 F) : V1 F :=
  shapeCast _ (extractStridedSlice S131072x1 off A h) shapeCasts_S131072x1_S131072

/-- The lengths of vectors. -/
def len (v : R3 F) : V1 F :=
  Host.sqrt (Host.reduceAdd (mulf v v) (constant S_ .f32 0x00000000#32) reducesTo_S131072x3_S131072_d1 h_S_)

/-- The vector of the largest eigenvalue, of the middle one, and the opposite of that of the smallest. -/
def vec1 (e : AV F) : R3 F := colAt ![0, 0, 2] slices_S131072x3x3_S131072x3x1_0_0_2 (vecs e)
/-- The vector of the middle eigenvalue. -/
def vec2 (e : AV F) : R3 F := colAt ![0, 0, 1] slices_S131072x3x3_S131072x3x1_0_0_1 (vecs e)
/-- The opposite of the vector of the smallest eigenvalue. -/
def vec3 (e : AV F) : R3 F := Host.negf (colAt ![0, 0, 0] slices_S131072x3x3_S131072x3x1_0_0_0 (vecs e))

/-- The three eigenvalues by the lengths of their vectors. -/
def lam1 (e : AV F) : V1 F := Host.divf (oneAt ![0, 2] slices_S131072x3_S131072x1_0_2 (srt e).1) (len (vec1 e))
/-- The middle one. -/
def lam2 (e : AV F) : V1 F := Host.divf (oneAt ![0, 1] slices_S131072x3_S131072x1_0_1 (srt e).1) (len (vec2 e))
/-- The smallest one. -/
def lam3 (e : AV F) : V1 F := Host.divf (oneAt ![0, 0] slices_S131072x3_S131072x1_0_0 (srt e).1) (len (vec3 e))

/-- A number of each small matrix as a feature. -/
def single (x : V1 F) : FVec F S8x2048x8x1 .f32 := shapeCast _ x shapeCasts_S131072_S8x2048x8x1

/-- A vector of each small matrix, at unit length, as three features. -/
def triple (v : R3 F) : FVec F S8x2048x8x3 .f32 :=
  shapeCast _ (Host.divf v (broadcastInDim S131072x3 ![0, 1] bcast_S131072x1_S131072x3_0_1
    (broadcastInDim S131072x1 ![0] bcast_S131072_S131072x1_0 (len v)))) shapeCasts_S131072x3_S8x2048x8x3

/-- Three features and three times three, side by side. -/
def beside (x y z : FVec F S8x2048x8x1 .f32) (u v w : FVec F S8x2048x8x3 .f32) : FVec F S8x2048x8x12 .f32 :=
  concatenate S8x2048x8x12 3 [⟨S8x2048x8x1, x⟩, ⟨S8x2048x8x1, y⟩, ⟨S8x2048x8x1, z⟩, ⟨S8x2048x8x3, u⟩, ⟨S8x2048x8x3, v⟩,
    ⟨S8x2048x8x3, w⟩]
    concatenates_S8x2048x8x1_S8x2048x8x1_S8x2048x8x1_S8x2048x8x3_S8x2048x8x3_S8x2048x8x3_S8x2048x8x12_d3

/-- The features of the diagonalised matrices. -/
def featV (e : AV F) : FVec F S8x2048x8x12 .f32 :=
  beside (single (Host.divf (subf (lam1 e) (lam2 e)) (lam1 e))) (single (Host.divf (subf (lam2 e) (lam3 e)) (lam1 e)))
    (single (Host.divf (lam3 e) (lam1 e))) (triple (vec1 e)) (triple (vec2 e)) (triple (vec3 e))

/-- The features convolved and laid out as the kernel's call leaves them. -/
def outV (f : FVec F S8x2048x8x12 .f32) (w : FVec F S12x12 .f32) : FVec F S8x2x12x8x1024 .f32 :=
  transpose S8x2x12x8x1024 [0, 3, 1, 2, 4] (shapeCast _ (transpose S8x12x8x2048 [0, 3, 1, 2]
    (Host.dotGeneral dot_S8x12x8x2048_S12x12_S8x8x2048x12_1_1_023_0_n_n none
      (transpose S8x12x8x2048 [0, 3, 2, 1] f transposes_S8x2048x8x12_S8x12x8x2048_0_3_2_1) w)
    transposes_S8x8x2048x12_S8x12x8x2048_0_3_1_2) shapeCasts_S8x12x8x2048_S8x12x8x2x1024)
    transposes_S8x12x8x2x1024_S8x2x12x8x1024_0_3_1_2_4

end spec

section at'

variable {p : Fin 131072} {e : AV Ideal} {s : M.SJ}

/-- The pair by number is the diagonal entry with the column. -/
theorem ep_mat (s : M.SJ) (j : Fin 3) : M.ep s j = ⟨s.mat j j, s.vec 0 j, s.vec 1 j, s.vec 2 j⟩ := by
  fin_cases j <;> rfl

/-- The order of the pairs. -/
def order (s : M.SJ) : Fin 3 → Fin 3 := M.perm fun i => (M.ep s i).l

theorem diag_at (A : V3 Ideal) (i : Fin 3) : diag A (ix2 p i) = mat A p i i := by
  unfold diag
  rw [row3_at, ent_at, ent_at, ent_at]
  fin_cases i <;> rfl

theorem rowAt_at (off) (h) (A : V3 Ideal) (i l : Fin 3) (hoff : off = ![0, i.val, 0]) :
    rowAt off h A (ix2 p l) = mat A p i l := by
  subst hoff
  unfold rowAt mat
  refine (shapeCast_apply _ _ (ix2 p l) (ix3 p 0 l) ?_).trans (congrArg A (funext fun a => Fin.ext ?_))
  · rw [Shape.rowMajor_val_three, Shape.rowMajor_val_two]; simp
  · match a with
    | ⟨0, _⟩ => exact Nat.zero_add _
    | ⟨1, _⟩ => exact Nat.add_zero _
    | ⟨2, _⟩ => exact Nat.zero_add _

theorem colAt_at (off) (h) (A : V3 Ideal) (i l : Fin 3) (hoff : off = ![0, 0, l.val]) :
    colAt off h A (ix2 p i) = mat A p i l := by
  subst hoff
  unfold colAt mat
  refine (shapeCast_apply _ _ (ix2 p i) (ix3 p i 0) ?_).trans (congrArg A (funext fun a => Fin.ext ?_))
  · rw [Shape.rowMajor_val_three, Shape.rowMajor_val_two]; simp
  · match a with
    | ⟨0, _⟩ => exact Nat.zero_add _
    | ⟨1, _⟩ => exact Nat.zero_add _
    | ⟨2, _⟩ => exact Nat.add_zero _

theorem oneAt_at (off) (h) (A : R3 Ideal) (l : Fin 3) (hoff : off = ![0, l.val]) :
    oneAt off h A (ix1 p) = A (ix2 p l) := by
  subst hoff
  unfold oneAt
  refine (shapeCast_apply _ _ (ix1 p) (ix2 p 0) ?_).trans (congrArg A (funext fun a => Fin.ext ?_))
  · rw [Shape.rowMajor_val_two, Shape.rowMajor_val_one]; simp
  · match a with
    | ⟨0, _⟩ => exact Nat.zero_add _
    | ⟨1, _⟩ => exact Nat.add_zero _

/-- The comparison orders by the first number. -/
theorem before_at (l r : EReal × EReal × EReal × EReal) :
    (comparator_f32_f32_f32_f32_d1 (F := Ideal) l r == 1#1) = decide (l.1 < r.1) := by
  have hc (x c : EReal) : Scalar.select (FloatOps.cmpf (F := Ideal) (φ := .f32) .une x x) c (Scalar.select
      (FloatOps.cmpf (F := Ideal) (φ := .f32) .oeq x (FloatOps.ofBits (F := Ideal) .f32 0x00000000#32))
      (FloatOps.ofBits (F := Ideal) .f32 0x00000000#32) x) = x := by
    show Scalar.select (BitVec.ofBool (decide (x ≠ x))) c (Scalar.select
      (BitVec.ofBool (decide (x = Ideal.ofBits .f32 0x00000000#32))) (Ideal.ofBits .f32 0x00000000#32) x) = x
    rw [M.select_ofBool, M.select_ofBool, if_neg fun h => h rfl]
    split
    · next h => exact h.symm
    · rfl
  unfold comparator_f32_f32_f32_f32_d1
  dsimp only
  rw [hc, hc]
  show (BitVec.ofBool (decide (l.1 < r.1)) == 1#1) = _
  by_cases h : l.1 < r.1 <;> simp [h]

/-- Four arrays sorted together, at an index. -/
theorem sort4_at {s : Shape} {d : ℕ} {α β γ δ : Type} (hd : d < s.rank) (cmp : α × β × γ × δ → α × β × γ × δ → BitVec 1)
    (x : s.Idx → α) (y : s.Idx → β) (z : s.Idx → γ) (w : s.Idx → δ) (j : s.Idx) (π : Fin (s.size ⟨d, hd⟩))
    (hπ : sortedFrom (fun k k' => cmp (x (j.along ⟨d, hd⟩ k), y (j.along ⟨d, hd⟩ k), z (j.along ⟨d, hd⟩ k), w (j.along ⟨d, hd⟩ k))
      (x (j.along ⟨d, hd⟩ k'), y (j.along ⟨d, hd⟩ k'), z (j.along ⟨d, hd⟩ k'), w (j.along ⟨d, hd⟩ k')) == 1#1) (j ⟨d, hd⟩) = π) :
    (Host.sort4 s d cmp x y z w).1 j = x (j.along ⟨d, hd⟩ π) ∧ (Host.sort4 s d cmp x y z w).2.1 j = y (j.along ⟨d, hd⟩ π)
      ∧ (Host.sort4 s d cmp x y z w).2.2.1 j = z (j.along ⟨d, hd⟩ π)
      ∧ (Host.sort4 s d cmp x y z w).2.2.2 j = w (j.along ⟨d, hd⟩ π) := by
  subst hπ
  unfold Host.sort4
  rw [dif_pos hd]
  exact ⟨rfl, rfl, rfl, rfl⟩

/-- The sorted arrays hold the pairs in their order. -/
theorem srt_at (h : e.Is p s) (k : Fin 3) : (srt e).1 (ix2 p k) = (M.ep s (order s k)).l
    ∧ (srt e).2.1 (ix2 p k) = (M.ep s (order s k)).x ∧ (srt e).2.2.1 (ix2 p k) = (M.ep s (order s k)).y
    ∧ (srt e).2.2.2 (ix2 p k) = (M.ep s (order s k)).z := by
  have hx (j : Fin 3) : Shape.Idx.along (s := S131072x3) (ix2 p k) (1 : Fin 2) j = ix2 p j := funext fun a => by
    match a with
    | ⟨0, _⟩ => rfl
    | ⟨1, _⟩ => rfl
  have hd (j : Fin 3) : diag e.a (ix2 p j) = (M.ep s j).l := by rw [diag_at, h.1, ep_mat]
  have hv (i j : Fin 3) (off) (h') (hoff : off = ![0, i.val, 0]) : rowAt off h' e.v (ix2 p j) = s.vec i j := by
    rw [rowAt_at off h' e.v i j hoff, h.2]
  have h1 : 1 < S131072x3.rank := by decide
  have key := sort4_at (s := S131072x3) h1 comparator_f32_f32_f32_f32_d1 (diag e.a)
    (rowAt ![0, 0, 0] slices_S131072x3x3_S131072x1x3_0_0_0 e.v) (rowAt ![0, 1, 0] slices_S131072x3x3_S131072x1x3_0_1_0 e.v)
    (rowAt ![0, 2, 0] slices_S131072x3x3_S131072x1x3_0_2_0 e.v) (ix2 p k) (order s k) (by
      unfold order M.perm
      refine congrArg (fun f => sortedFrom f k) (funext fun q => funext fun q' => (before_at _ _).trans ?_)
      exact congrArg₂ (fun x y : EReal => decide (x < y)) ((congrArg (diag e.a) (hx q)).trans (hd q))
        ((congrArg (diag e.a) (hx q')).trans (hd q')))
  rw [show Shape.Idx.along (s := S131072x3) (ix2 p k) ⟨1, h1⟩ (order s k) = ix2 p (order s k) from hx _] at key
  have hp := ep_mat s (order s k)
  exact ⟨key.1.trans (hd _), (key.2.1.trans (hv 0 _ _ _ rfl)).trans (congrArg M.EP.x hp).symm,
    (key.2.2.1.trans (hv 1 _ _ _ rfl)).trans (congrArg M.EP.y hp).symm,
    (key.2.2.2.trans (hv 2 _ _ _ rfl)).trans (congrArg M.EP.z hp).symm⟩

theorem vecs_at (h : e.Is p s) (k : Fin 3) : mat (vecs e) p 0 k = (M.ep s (order s k)).x
    ∧ mat (vecs e) p 1 k = (M.ep s (order s k)).y ∧ mat (vecs e) p 2 k = (M.ep s (order s k)).z := by
  unfold mat vecs
  refine ⟨?_, ?_, ?_⟩ <;> rw [rows3_at]
  exacts [(srt_at h k).2.1, (srt_at h k).2.2.1, (srt_at h k).2.2.2]

/-- The sum of three numbers in a row. -/
theorem sum_row {n : ℕ} (x : FVec Ideal ⟨2, ![n, 3]⟩ .f32) (h : (⟨2, ![n, 3]⟩ : Shape).ReducesTo [1] ⟨1, ![n]⟩)
    (h' : 0 < S_.numel) (p : Fin n) : Host.reduceAdd x (constant S_ .f32 0x00000000#32) h h' (ix1 p)
      = x (ix2 p 0) + x (ix2 p 1) + x (ix2 p 2) := by
  simp only [pointwise, Fin.sum_univ_three]
  exact zero_add _

theorem div_at {s : Shape} (x y : FVec Ideal s .f32) (i : s.Idx) : Host.divf x y i = Ideal.div (x i) (y i) := rfl

theorem sqrt_at {s : Shape} (x : FVec Ideal s .f32) (i : s.Idx) : Host.sqrt x i = Ideal.sqrt (x i) := rfl

theorem len_at (v : R3 Ideal) : len v (ix1 p)
    = Ideal.sqrt (v (ix2 p 0) * v (ix2 p 0) + v (ix2 p 1) * v (ix2 p 1) + v (ix2 p 2) * v (ix2 p 2)) := by
  unfold len
  rw [sqrt_at]
  exact congrArg Ideal.sqrt (sum_row (mulf v v) reducesTo_S131072x3_S131072_d1 h_S_ p)

/-- A vector of the matrices' own. -/
def triv (v : R3 Ideal) (p : Fin 131072) (q : M.EP) : Prop := v (ix2 p 0) = q.x ∧ v (ix2 p 1) = q.y ∧ v (ix2 p 2) = q.z

theorem len_is {v : R3 Ideal} {q : M.EP} (h : triv v p q) : len v (ix1 p) = M.nrm q := by
  rw [len_at, h.1, h.2.1, h.2.2]
  rfl

theorem vec1_is (h : e.Is p s) : triv (vec1 e) p (M.big s) := by
  have hv := vecs_at h 2
  rw [show M.ep s (order s 2) = M.big s from (M.sorted_eq s).2.2.symm] at hv
  exact ⟨(colAt_at _ _ _ 0 2 rfl).trans hv.1, (colAt_at _ _ _ 1 2 rfl).trans hv.2.1, (colAt_at _ _ _ 2 2 rfl).trans hv.2.2⟩

theorem vec2_is (h : e.Is p s) : triv (vec2 e) p (M.mid s) := by
  have hv := vecs_at h 1
  rw [show M.ep s (order s 1) = M.mid s from (M.sorted_eq s).2.1.symm] at hv
  exact ⟨(colAt_at _ _ _ 0 1 rfl).trans hv.1, (colAt_at _ _ _ 1 1 rfl).trans hv.2.1, (colAt_at _ _ _ 2 1 rfl).trans hv.2.2⟩

theorem vec3_is (h : e.Is p s) : triv (vec3 e) p (M.turn (M.low s)) := by
  have hv := vecs_at h 0
  rw [show M.ep s (order s 0) = M.low s from (M.sorted_eq s).1.symm] at hv
  have neg (i : Fin 3) : vec3 e (ix2 p i) = 0 - mat (vecs e) p i 0 := by
    rw [← colAt_at ![0, 0, 0] slices_S131072x3x3_S131072x3x1_0_0_0 (vecs e) i 0 rfl, zero_sub]
    rfl
  unfold triv
  rw [neg, neg, neg, hv.1, hv.2.1, hv.2.2]
  exact ⟨rfl, rfl, rfl⟩

theorem lam1_is (h : e.Is p s) : lam1 e (ix1 p) = (M.unitize (M.big s)).l := by
  have hl := (srt_at h 2).1
  rw [show M.ep s (order s 2) = M.big s from (M.sorted_eq s).2.2.symm] at hl
  unfold lam1
  rw [div_at, oneAt_at ![0, 2] _ _ 2 rfl, hl, len_is (vec1_is h)]
  rfl

theorem lam2_is (h : e.Is p s) : lam2 e (ix1 p) = (M.unitize (M.mid s)).l := by
  have hl := (srt_at h 1).1
  rw [show M.ep s (order s 1) = M.mid s from (M.sorted_eq s).2.1.symm] at hl
  unfold lam2
  rw [div_at, oneAt_at ![0, 1] _ _ 1 rfl, hl, len_is (vec2_is h)]
  rfl

theorem lam3_is (h : e.Is p s) : lam3 e (ix1 p) = (M.unitize (M.turn (M.low s))).l := by
  have hl := (srt_at h 0).1
  rw [show M.ep s (order s 0) = M.low s from (M.sorted_eq s).1.symm] at hl
  unfold lam3
  rw [div_at, oneAt_at ![0, 0] _ _ 0 rfl, hl, len_is (vec3_is h)]
  rfl

end at'

end Cert.ReferenceIdeal.RS
-- ==== Proof.R.Feat.lean ====
/-
  The reference's array, element by element: the convolved features of `Proof.M.First`.
-/
module

public import proofs.«01_k».proof.Proof.R.Sort
public import proofs.«01_k».proof.Proof.M.First

@[expose] public section

set_option maxRecDepth 20000

noncomputable section

namespace Cert.ReferenceIdeal.RS

open Idealize.ShloMosaic Idealize.ShloMosaic.TcCoe Idealize.SL.Sem Cert.ReferenceIdeal Cert.ReferenceIdeal.Gen
open Cert.ReferenceIdeal.Value

/-- The number of the small matrix of neighbour `k` of point `n` of batch `b`. -/
def pos (b : Fin 8) (n : Fin 2048) (k : Fin 8) : Fin 131072 := ⟨(b.val * 2048 + n.val) * 8 + k.val, by omega⟩

theorem subf_at {s : Shape} (x y : FVec Ideal s .f32) (i : s.Idx) : subf x y i = (x i : EReal) - y i := rfl

theorem single_at (x : V1 Ideal) (b : Fin 8) (n : Fin 2048) (k : Fin 8) : single x (ix4 b n k 0) = x (ix1 (pos b n k)) := by
  unfold single
  refine shapeCast_apply _ _ _ (ix1 (pos b n k)) ?_
  rw [Shape.rowMajor_val_four, Shape.rowMajor_val_one]
  show (b.val * 2048 + n.val) * 8 + k.val = ((b.val * 2048 + n.val) * 8 + k.val) * 1 + 0
  omega

theorem triple_at (v : R3 Ideal) (b : Fin 8) (n : Fin 2048) (k : Fin 8) (l : Fin 3) :
    triple v (ix4 b n k l) = Ideal.div (v (ix2 (pos b n k) l)) (len v (ix1 (pos b n k))) := by
  unfold triple
  rw [shapeCast_apply _ _ _ (ix2 (pos b n k) l) (by
    rw [Shape.rowMajor_val_four, Shape.rowMajor_val_two]
    show ((b.val * 2048 + n.val) * 8 + k.val) * 3 + l.val = ((b.val * 2048 + n.val) * 8 + k.val) * 3 + l.val
    rfl)]
  have hb : broadcastInDim S131072x3 ![0, 1] bcast_S131072x1_S131072x3_0_1
      (broadcastInDim S131072x1 ![0] bcast_S131072_S131072x1_0 (len v)) (ix2 (pos b n k) l) = len v (ix1 (pos b n k)) := by
    generalize len v = w
    simp only [pointwise]
    rfl
  rw [div_at, hb]

/-- The features side by side, by number. -/
theorem beside_at (x y z : FVec Ideal S8x2048x8x1 .f32) (u v w : FVec Ideal S8x2048x8x3 .f32) (b : Fin 8) (n : Fin 2048)
    (k : Fin 8) (c : Fin 12) : beside x y z u v w (ix4 b n k c)
      = ![x (ix4 b n k 0), y (ix4 b n k 0), z (ix4 b n k 0), u (ix4 b n k 0), u (ix4 b n k 1), u (ix4 b n k 2),
          v (ix4 b n k 0), v (ix4 b n k 1), v (ix4 b n k 2), w (ix4 b n k 0), w (ix4 b n k 1), w (ix4 b n k 2)] c := by
  have one (q : ℕ) (hq : q < 6) (t : FVec Ideal S8x2048x8x1 .f32)
      (ht : ([⟨S8x2048x8x1, x⟩, ⟨S8x2048x8x1, y⟩, ⟨S8x2048x8x1, z⟩, ⟨S8x2048x8x3, u⟩, ⟨S8x2048x8x3, v⟩,
        ⟨S8x2048x8x3, w⟩] : List ((s : Shape) × (s.Idx → EReal)))[q] = ⟨S8x2048x8x1, t⟩) (pre : ℕ)
      (hpre : pre = ([1, 1, 1, 3, 3, 3].take q).sum) (hc : pre + 0 = c.val) :
      beside x y z u v w (ix4 b n k c) = t (ix4 b n k 0) :=
    concatenate_apply_piece (t := S8x2048x8x12) 3 [⟨S8x2048x8x1, x⟩, ⟨S8x2048x8x1, y⟩, ⟨S8x2048x8x1, z⟩, ⟨S8x2048x8x3, u⟩, ⟨S8x2048x8x3, v⟩,
      ⟨S8x2048x8x3, w⟩]
      concatenates_S8x2048x8x1_S8x2048x8x1_S8x2048x8x1_S8x2048x8x3_S8x2048x8x3_S8x2048x8x3_S8x2048x8x12_d3 (ix4 b n k c) q hq S8x2048x8x1 t ht rfl pre
      (by subst hpre; interval_cases q <;> rfl) (ix4 b n k 0) (fun a ha => by
        match a with
        | ⟨0, _⟩ => rfl
        | ⟨1, _⟩ => rfl
        | ⟨2, _⟩ => rfl
        | ⟨3, _⟩ => exact absurd rfl ha) hc
  have three (q : ℕ) (hq : q < 6) (t : FVec Ideal S8x2048x8x3 .f32)
      (ht : ([⟨S8x2048x8x1, x⟩, ⟨S8x2048x8x1, y⟩, ⟨S8x2048x8x1, z⟩, ⟨S8x2048x8x3, u⟩, ⟨S8x2048x8x3, v⟩,
        ⟨S8x2048x8x3, w⟩] : List ((s : Shape) × (s.Idx → EReal)))[q] = ⟨S8x2048x8x3, t⟩) (pre : ℕ)
      (hpre : pre = ([1, 1, 1, 3, 3, 3].take q).sum) (l : Fin 3) (hc : pre + l.val = c.val) :
      beside x y z u v w (ix4 b n k c) = t (ix4 b n k l) :=
    concatenate_apply_piece (t := S8x2048x8x12) 3 [⟨S8x2048x8x1, x⟩, ⟨S8x2048x8x1, y⟩, ⟨S8x2048x8x1, z⟩, ⟨S8x2048x8x3, u⟩, ⟨S8x2048x8x3, v⟩,
      ⟨S8x2048x8x3, w⟩]
      concatenates_S8x2048x8x1_S8x2048x8x1_S8x2048x8x1_S8x2048x8x3_S8x2048x8x3_S8x2048x8x3_S8x2048x8x12_d3 (ix4 b n k c) q hq S8x2048x8x3 t ht rfl pre
      (by subst hpre; interval_cases q <;> rfl) (ix4 b n k l) (fun a ha => by
        match a with
        | ⟨0, _⟩ => rfl
        | ⟨1, _⟩ => rfl
        | ⟨2, _⟩ => rfl
        | ⟨3, _⟩ => exact absurd rfl ha) hc
  obtain ⟨c, hc⟩ := c
  interval_cases c
  · exact one 0 (by omega) x rfl 0 rfl rfl
  · exact one 1 (by omega) y rfl 1 rfl rfl
  · exact one 2 (by omega) z rfl 2 rfl rfl
  · exact three 3 (by omega) u rfl 3 rfl 0 rfl
  · exact three 3 (by omega) u rfl 3 rfl 1 rfl
  · exact three 3 (by omega) u rfl 3 rfl 2 rfl
  · exact three 4 (by omega) v rfl 6 rfl 0 rfl
  · exact three 4 (by omega) v rfl 6 rfl 1 rfl
  · exact three 4 (by omega) v rfl 6 rfl 2 rfl
  · exact three 5 (by omega) w rfl 9 rfl 0 rfl
  · exact three 5 (by omega) w rfl 9 rfl 1 rfl
  · exact three 5 (by omega) w rfl 9 rfl 2 rfl

/-- The features of a diagonalised matrix. -/
theorem featV_at {e : AV Ideal} {s : M.SJ} (b : Fin 8) (n : Fin 2048) (k : Fin 8) (h : e.Is (pos b n k) s) (c : Fin 12) :
    featV e (ix4 b n k c) = M.featsOf s c := by
  have h1 := lam1_is h
  have h2 := lam2_is h
  have h3 := lam3_is h
  have t {v : R3 Ideal} {q : M.EP} (hv : triv v (pos b n k) q) : triple v (ix4 b n k 0) = (M.unitize q).x
      ∧ triple v (ix4 b n k 1) = (M.unitize q).y ∧ triple v (ix4 b n k 2) = (M.unitize q).z := by
    rw [triple_at, triple_at, triple_at, len_is hv, hv.1, hv.2.1, hv.2.2]
    exact ⟨rfl, rfl, rfl⟩
  obtain ⟨a0, a1, a2⟩ := t (vec1_is h)
  obtain ⟨b0, b1, b2⟩ := t (vec2_is h)
  obtain ⟨c0, c1, c2⟩ := t (vec3_is h)
  unfold featV
  rw [beside_at, a0, a1, a2, b0, b1, b2, c0, c1, c2, single_at, single_at, single_at]
  unfold M.featsOf M.feats
  rw [div_at, div_at, div_at, subf_at, subf_at, h1, h2, h3]

/-- The convolution, laid out by blocks of points. -/
theorem outV_at (f : FVec Ideal S8x2048x8x12 .f32) (w : FVec Ideal S12x12 .f32) (b : Fin 8) (i : Fin 2) (o : Fin 12)
    (k : Fin 8) (r : Fin 1024) : outV f w (ix5 b i o k r)
      = ∑ c : Fin 12, w (ix2 o c) * f (ix4 b (M.place i r) k c) := by
  unfold outV
  have hdot (g : FVec Ideal S8x12x8x2048 .f32) (n : Fin 2048) :
      Host.dotGeneral dot_S8x12x8x2048_S12x12_S8x8x2048x12_1_1_023_0_n_n none g w (ix4 b k n o)
        = ∑ c : Fin 12, g (ix4 b c k n) * w (ix2 o c) :=
    M.dot_one _ 12 rfl rfl g w (ix4 b k n o) (fun c => ix4 b c k n) (fun c => ix2 o c)
      (fun c q hq => funext fun a => Fin.ext (by
        match a with
        | ⟨0, _⟩ => rfl
        | ⟨1, _⟩ => exact hq
        | ⟨2, _⟩ => rfl
        | ⟨3, _⟩ => rfl))
      (fun c q hq => funext fun a => Fin.ext (by
        match a with
        | ⟨0, _⟩ => rfl
        | ⟨1, _⟩ => exact hq))
  have hcast (g : FVec Ideal S8x12x8x2048 .f32) : shapeCast S8x12x8x2x1024 g shapeCasts_S8x12x8x2048_S8x12x8x2x1024
      (ix5 b o k i r) = g (ix4 b o k (M.place i r)) := by
    refine shapeCast_apply _ _ _ _ ?_
    rw [Shape.rowMajor_val_four, Shape.rowMajor_val_five]
    show ((b.val * 12 + o.val) * 8 + k.val) * 2048 + (i.val * 1024 + r.val)
      = (((b.val * 12 + o.val) * 8 + k.val) * 2 + i.val) * 1024 + r.val
    omega
  have hlast (h : FVec Ideal S8x12x8x2x1024 .f32) : transpose S8x2x12x8x1024 [0, 3, 1, 2, 4] h
      transposes_S8x12x8x2x1024_S8x2x12x8x1024_0_3_1_2_4 (ix5 b i o k r) = h (ix5 b o k i r) := by
    simp only [pointwise]
  have hmid (h : FVec Ideal S8x8x2048x12 .f32) (n : Fin 2048) : transpose S8x12x8x2048 [0, 3, 1, 2] h
      transposes_S8x8x2048x12_S8x12x8x2048_0_3_1_2 (ix4 b o k n) = h (ix4 b k n o) := by
    simp only [pointwise]
  have hfirst (c : Fin 12) (n : Fin 2048) : transpose S8x12x8x2048 [0, 3, 2, 1] f
      transposes_S8x2048x8x12_S8x12x8x2048_0_3_2_1 (ix4 b c k n) = f (ix4 b n k c) := by
    simp only [pointwise]
  rw [hlast, hcast, hmid, hdot]
  exact Finset.sum_congr rfl fun c _ => by rw [hfirst, mul_comm]

/-- The reference's array at an index. -/
theorem value_at (X : FVec Ideal S8x2048x3 .f32) (w : FVec Ideal S12x12 .f32) (hP : ∀ b j a, M.Real' (batch X b j a))
    (b : Fin 8) (i : Fin 2) (o : Fin 12) (k : Fin 8) (r : Fin 1024) :
    outV (featV (eig (group X (best (dist X))))) w (ix5 b i o k r)
      = M.conv (batch X b) (fun c => w (ix2 o c)) (M.place i r) k := by
  rw [outV_at]
  unfold M.conv
  refine Finset.sum_congr rfl fun c _ => congrArg (w (ix2 o c) * ·) ?_
  unfold M.feature
  refine featV_at b _ k ?_ c
  have hg (m : Fin 8) (a : Fin 3) : group X (best (dist X)) (ix4 b (M.place i r) m a)
      = M.pick (batch X b) (by decide) (M.place i r) m a := by
    rw [group_at X _ b _ m a _ (best_at (dist X) b _ m)]
    unfold M.pick
    refine congrArg (fun d => batch X b (M.near d (m.castLE (by decide))) a) (funext fun j => dist_at X b _ j)
  have hd (m : Fin 8) (a : Fin 3) : diffs (group X (best (dist X))) (ix3 (pos b (M.place i r) k) m a)
      = M.pick (batch X b) (by decide) (M.place i r) m a - M.pick (batch X b) (by decide) (M.place i r) k a := by
    rw [diffs_at _ _ b (M.place i r) k m a rfl, hg, hg]
  unfold eig
  refine (is_sweeps 15 ⟨?_, ?_⟩ (M.start_fin (fun m a => hP b _ a) k)).1
  · funext x y
    rw [covs_at]
    simp only [hd]
    fin_cases x <;> fin_cases y <;> first | rfl | exact Finset.sum_congr rfl fun m _ => mul_comm _ _
  · funext x y
    rw [eye_at]
    fin_cases x <;> fin_cases y <;> rfl

end Cert.ReferenceIdeal.RS
-- ==== Proof.R.Value.lean ====
/-
  The array the reference's run leaves: the convolved features of `Proof.M.First`.
-/
module

public import proofs.«01_k».proof.Proof.Gen.ReferenceIdeal.Run
public import proofs.«01_k».proof.Proof.R.Feat
public import Idealize.ShloMosaic.Lib.StableHlo.Run
public import Idealize.ShloMosaic.Lib.Pipeline.Frame

@[expose] public section

set_option maxRecDepth 20000

noncomputable section

namespace Cert.ReferenceIdeal.RS

open Idealize.ShloMosaic Idealize.ShloMosaic.TcCoe Idealize.SL.Sem Cert.ReferenceIdeal Cert.ReferenceIdeal.Gen
open Cert.ReferenceIdeal.Value Idealize.ShloMosaic.StableHlo

/-- The run at any float values: the array at the laid-out convolution of the features of the diagonalised scatter matrices
    of each point's neighbours, the arguments unchanged. -/
theorem run_whole {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v2843)
        = outV (featV (eig (res_main_v18 (launchContents m c)))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (by sl_kernel_rfl), (h c).2⟩) (run m ρ)

/-- The run at the extended reals: if every point is finite, the array ends at the convolved features. -/
theorem run_points (m : (ℓ : Loc nD τ sig) → Buf (Elt Ideal) ℓ) (ρ : Dev nD → PrngReg)
    (hP : ∀ (c : Dev nD) b j a, M.Real' (batch (m ((c : Thread nD τ).loc main_arg0)) b j a)) :
    θ_run defs (onTc (τ := τ) (main (F := Ideal))) ⟨m, fun _ => 0, ρ⟩ fun r => ∀ c : Dev nD,
      r.2.mem ((c : Thread nD τ).loc main_v2843)
        = (fun y => M.conv (batch (m ((c : Thread nD τ).loc main_arg0)) (y 0))
            (fun k => (m ((c : Thread nD τ).loc main_arg1) : Vec Ideal S12x12 .f32) (ix2 (y 2) k)) (M.place (y 1) (y 4)) (y 3)
            : Vec Ideal S8x2x12x8x1024 .f32)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (run_whole m ρ)
  rw [read_g (launchContents m c)]
  funext y
  have hy : (y : S8x2x12x8x1024.Idx) = ix5 (y 0) (y 1) (y 2) (y 3) (y 4) := funext fun a => by
    match a with
    | ⟨0, _⟩ => rfl
    | ⟨1, _⟩ => rfl
    | ⟨2, _⟩ => rfl
    | ⟨3, _⟩ => rfl
    | ⟨4, _⟩ => rfl
  rw [hy]
  exact value_at (m ((c : Thread nD τ).loc main_arg0)) (m ((c : Thread nD τ).loc main_arg1)) (hP c) (y 0) (y 1) (y 2) (y 3) (y 4)

end Cert.ReferenceIdeal.RS
-- ==== Proof.L.Spec.lean ====
/-
  The bodies of the second and the last call as a composition of a few vector functions: scale, shift and rectifier of a
  channel, and a convolution of the twelve channels.
-/
module

public import proofs.«01_k».proof.Proof.K.Block

@[expose] public section

set_option maxRecDepth 20000

noncomputable section

namespace Cert.Layers

open Idealize.ShloMosaic Idealize.SL.Sem Cert.KernelIdeal.K1

/-- One value of each channel, as a row. -/
abbrev S1x12 : Shape := ⟨2, ![1, 12]⟩
/-- One channel of a block. -/
abbrev S1x1x1x8x1024 : Shape := ⟨5, ![1, 1, 1, 8, 1024]⟩
abbrev S1x1 : Shape := ⟨2, ![1, 1]⟩
abbrev S8x1024 : Shape := ⟨2, ![8, 1024]⟩
abbrev S12x12 : Shape := ⟨2, ![12, 12]⟩
abbrev S1024 : Shape := ⟨1, ![1024]⟩

section vectors

variable {F : FTy → Type} [FloatOps F]

/-- One entry of a row, at every place of a channel. -/
def place (off : Fin 2 → ℕ) (h : S1x12.Slices off S1x1) (a : Vec F S1x12 .f32) : V8 F :=
  broadcastTo S8x1024 (extractStridedSlice S1x1 off (shapeCast S1x12 a (by decide) : FVec F S1x12 .f32) h) (by decide)

/-- Entry `o` of a row, at every place of a channel. -/
def spread (o : Fin 12) (a : Vec F S1x12 .f32) : V8 F :=
  place ![0, o] (⟨rfl, fun x => by revert o x; decide⟩) a

/-- A channel scaled, shifted and rectified. -/
def act (o : Fin 12) (a c : Vec F S1x12 .f32) (h : Vec F S1x1x1x8x1024 .f32) : V8 F :=
  maximumf (addf (mulf (spread o a) (shapeCast S8x1024 h (by decide) : V8 F)) (spread o c)) (kst 0x00000000#32)

/-- Channel `o` of the convolution of the twelve. -/
def layer (o : Fin 12) (h : Fin 12 → Vec F S1x1x1x8x1024 .f32) (a c : Vec F S1x12 .f32) (w : Vec F S12x12 .f32)
    (b : Vec F S1x12 .f32) : V8 F :=
  addf (conv (wrow o w) (fun k => act k a c (h k))) (spread o b)

/-- A channel summed over the eight neighbours. -/
def total (v : V8 F) : FVec F S1024 .f32 :=
  multiReduction .add [0] S1024 v 0x00000000#32 (by decide) (.inl rfl) rfl

end vectors

theorem spread_at (o : Fin 12) (a : Vec Ideal S1x12 .f32) (k : Fin 8) (r : Fin 1024) :
    spread o a (ix2 k r) = a (ix2 0 o) := by
  unfold spread place
  simp only [pointwise]
  refine congrArg a (funext fun x => Fin.ext ?_)
  match x with
  | ⟨0, _⟩ => rfl
  | ⟨1, _⟩ => rfl

theorem act_at (o : Fin 12) (a c : Vec Ideal S1x12 .f32) (h : Vec Ideal S1x1x1x8x1024 .f32) (k : Fin 8) (r : Fin 1024) :
    act o a c h (ix2 k r) = max (a (ix2 0 o) * h (ix5 0 0 0 k r) + c (ix2 0 o)) 0 := by
  have hz : (kst 0x00000000#32 : V8 Ideal) (ix2 k r) = 0 := M.ofBits_zero'
  rw [← spread_at o a k r, ← spread_at o c k r, ← hz]
  unfold act
  generalize spread o a = u
  generalize spread o c = v
  simp only [pointwise]

/-- One result of a layer: the twelve channels scaled, shifted and rectified, times a row of weights, and the bias. -/
def value (h a c w : Fin 12 → EReal) (b : EReal) : EReal := (∑ k : Fin 12, w k * max (a k * h k + c k) 0) + b

theorem layer_at (o : Fin 12) (h : Fin 12 → Vec Ideal S1x1x1x8x1024 .f32) (a c : Vec Ideal S1x12 .f32)
    (w : Vec Ideal S12x12 .f32) (b : Vec Ideal S1x12 .f32) (k : Fin 8) (r : Fin 1024) :
    layer o h a c w b (ix2 k r) = value (fun i => h i (ix5 0 0 0 k r)) (fun i => a (ix2 0 i)) (fun i => c (ix2 0 i))
      (fun i => w (ix2 o i)) (b (ix2 0 o)) := by
  unfold layer value
  rw [← spread_at o b k r]
  refine congrArg₂ (fun p q : EReal => p + q) ?_ rfl
  rw [conv_at]
  refine Finset.sum_congr rfl fun i _ => ?_
  rw [wrow_at, act_at]

theorem total_at (v : V8 Ideal) (r : Fin 1024) : total v (ix1 r) = ∑ k : Fin 8, v (ix2 k r) := by
  unfold total
  refine (Ideal.multiReduction_add_single (a := 0) v _ _ _ _ _).trans
    (Finset.sum_congr rfl fun k _ => congrArg v (funext fun x => Fin.ext ?_))
  match x with
  | ⟨0, _⟩ => rfl
  | ⟨1, _⟩ => rfl

end Cert.Layers
-- ==== Proof.L.Second.lean ====
/-
  The array of convolved features the second call leaves, read block by block.
-/
module

public import proofs.«01_k».proof.Proof.L.Spec
public import proofs.«01_k».proof.Proof.Gen.SecondIdeal.Frame
public import Idealize.ShloMosaic.Lib.Tactic
public import Idealize.ShloMosaic.Lib.Pipeline.Value
public import Idealize.ShloMosaic.Lib.Pointwise.Tactic
public import Idealize.ShloMosaic.Lib.Pointwise.Reshape
public import Idealize.ShloMosaic.Lib.Pipeline.ValueKit.Geometry
public import Idealize.ShloMosaic.Lib.StableHlo.Run

@[expose] public section

set_option maxRecDepth 100000

noncomputable section

namespace Cert.SecondIdeal.K2

open Idealize.ShloMosaic Idealize.ShloMosaic.TcCoe Idealize.SL.Sem Cert.SecondIdeal Cert.SecondIdeal.Gen

section vectors

variable {F : FTy → Type} [FloatOps F]

/-- What the body reads of the features, a channel at a time. -/
def chan (x : Vec F S1x1x12x8x1024 .f32) (o : Fin 12) : Vec F S1x1x1x8x1024 .f32 :=
  View.ld x (Rect.unit (s := S1x1x12x8x1024) ![0, 0, o, 0, 0] S1x1x1x8x1024.size (by revert o; decide))

/-- The block of convolved features. -/
def block (h : Fin 12 → Vec F S1x1x1x8x1024 .f32) (a c : Vec F S1x12 .f32) (w : Vec F S12x12 .f32)
    (b : Vec F S1x12 .f32) : Vec F S1x1x12x8x1024 .f32 :=
  fun y => Layers.layer (y 2) h a c w b (Idealize.ShloMosaic.ix2 (y 3) (y 4))

section pieces

variable (h : Fin 12 → Vec F S1x1x1x8x1024 .f32) (a c : Vec F S1x12 .f32) (w : Vec F S12x12 .f32) (b : Vec F S1x12 .f32)

/-- One channel of the block as the store writes it. -/
def piece (o : Fin 12) : View.Piece (Elt F) S1x1x12x8x1024 .f32 :=
  ⟨Rect.unit (s := S1x1x12x8x1024) ![0, 0, o, 0, 0] S1x1x1x8x1024.size (by revert o; decide),
    shapeCast S1x1x1x8x1024 (Layers.layer o h a c w b) shapeCasts_S8x1024_S1x1x1x8x1024⟩

/-- The channels in the order of the stores, last first. -/
def pieces : List (View.Piece (Elt F) S1x1x12x8x1024 .f32) :=
  [piece h a c w b 11, piece h a c w b 10, piece h a c w b 9, piece h a c w b 8, piece h a c w b 7, piece h a c w b 6,
    piece h a c w b 5, piece h a c w b 4, piece h a c w b 3, piece h a c w b 2, piece h a c w b 1, piece h a c w b 0]

variable {h a c w b}

/-- Two readings agree where channel and indices do. -/
theorem layer_congr {o o' : Fin 12} {k k' : Fin 8} {r r' : Fin 1024} (ho : o = o') (hk : k = k') (hr : r = r') :
    Layers.layer o h a c w b (Idealize.ShloMosaic.ix2 k r) = Layers.layer o' h a c w b (Idealize.ShloMosaic.ix2 k' r') := by
  subst ho hk hr; rfl

/-- Every store writes the block's own values. -/
theorem piece_apply (o : Fin 12) (x : (piece h a c w b o).1.shape.Idx) :
    (piece h a c w b o).2 x = block h a c w b ((piece h a c w b o).1.emb x) := by
  show shapeCast S1x1x1x8x1024 (Layers.layer o h a c w b) shapeCasts_S8x1024_S1x1x1x8x1024 x = Layers.layer _ h a c w b _
  have hx : x = (Idealize.ShloMosaic.ix5 0 0 0 (x 3) (x 4) : S1x1x1x8x1024.Idx) := funext fun a =>
    match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
    | ⟨4, _⟩ => rfl
  have e2 : ((piece h a c w b o).1.emb x 2 : Fin 12) = o := Fin.ext (by
    rw [hx]; show o.val + 1 * 0 = o.val; omega)
  have e3 : ((piece h a c w b o).1.emb x 3 : Fin 8) = x 3 := Fin.ext (by
    show 0 + 1 * (x 3).val = (x 3).val; omega)
  have e4 : ((piece h a c w b o).1.emb x 4 : Fin 1024) = x 4 := Fin.ext (by
    show 0 + 1 * (x 4).val = (x 4).val; omega)
  refine Eq.trans ?_ (layer_congr e2.symm e3.symm e4.symm)
  rw [hx]
  simp only [pointwise]

/-- So do all twelve. -/
theorem pieces_apply : ∀ p ∈ pieces h a c w b, ∀ x, p.2 x = block h a c w b (p.1.emb x) := by
  intro p hp
  simp only [pieces, List.mem_cons, List.not_mem_nil, or_false] at hp
  rcases hp with rfl | rfl | rfl | rfl | rfl | rfl | rfl | rfl | rfl | rfl | rfl | rfl <;> exact piece_apply _

end pieces

section cases

variable (c : Dev nD) (i : grid0.Coords) (arg2 : Memref sig .tc .vmem S1x1x12x8x1024 .f32) (harg2 : arg2.IsWhole)
  (arg3 : Memref sig .tc .vmem S1x12 .f32) (harg3 : arg3.IsWhole) (arg4 : Memref sig .tc .vmem S1x12 .f32)
  (harg4 : arg4.IsWhole) (arg5 : Memref sig .tc .vmem S12x12 .f32) (harg5 : arg5.IsWhole)
  (arg6 : Memref sig .tc .vmem S1x12 .f32) (harg6 : arg6.IsWhole) (arg7 : Memref sig .tc .vmem S1x1x12x8x1024 .f32)
  (harg7 : arg7.IsWhole) (arg8 : Memref sig .tc .vmem S12x1024 .f32) (harg8 : arg8.IsWhole)
  (arg9 : Memref sig .tc .vmem S12x1024 .f32) (harg9 : arg9.IsWhole) (x0 : Vec F S1x1x12x8x1024 .f32)
  (x1 x2 : Vec F S1x12 .f32) (x3 : Vec F S12x12 .f32) (x4 : Vec F S1x12 .f32) (xo6 xo7 : Vec F S12x1024 .f32)

/-- What the loads of the features read, a channel at a time. -/
abbrev y0 (o : Fin 12) : Vec F S1x1x1x8x1024 .f32 := View.readAt (Elt F) arg2.view
  (Rect.unit (s := S1x1x12x8x1024) ![0, 0, o, 0, 0] S1x1x1x8x1024.size (by revert o; decide)).toLoadRect (harg2.unread x0)
/-- What the load of a whole row reads. -/
abbrev y1 : Vec F S1x12 .f32 := View.readAt (Elt F) arg3.view
  (Rect.unit (s := S1x12) ![0, 0] S1x12.size inb_S1x12_S1x12_0_0).toLoadRect (harg3.unread x1)
/-- What the load of the weights reads. -/
abbrev y3 : Vec F S12x12 .f32 := View.readAt (Elt F) arg5.view
  (Rect.unit (s := S12x12) ![0, 0] S12x12.size inb_S12x12_S12x12_0_0).toLoadRect (harg5.unread x3)

theorem y0_eq : y0 arg2 harg2 x0 = chan x0 := by
  funext o
  simp only [y0, chan, View.readAt_eq_ld, harg2.read_unread]

/-- The load of a whole row reads what the window holds. -/
theorem y1_eq : y1 arg3 harg3 x1 = x1 := by
  have hz : (![0, 0] : Fin 2 → Nat) = fun _ => 0 := funext fun a => by fin_cases a <;> rfl
  simp only [y1, View.readAt_eq_ld, harg3.read_unread, View.ld_unit_zero (S := S1x12) hz]

/-- The load of the weights reads what the window holds. -/
theorem y3_eq : y3 arg5 harg5 x3 = x3 := by
  have hz : (![0, 0] : Fin 2 → Nat) = fun _ => 0 := funext fun a => by fin_cases a <;> rfl
  simp only [y3, View.readAt_eq_ld, harg5.read_unread, View.ld_unit_zero (S := S12x12) hz]

theorem pieces_A (hc0 : cond0_0 i) :
    (kernelRun0_A c i arg2 harg2 arg3 harg3 arg4 harg4 arg5 harg5 arg6 harg6 arg7 harg7 arg8 harg8 arg9 harg9 hc0
      x0 x1 x2 x3 x4).1 = pieces (y0 arg2 harg2 x0) (y1 arg3 harg3 x1) (y1 arg4 harg4 x2) (y3 arg5 harg5 x3)
        (y1 arg6 harg6 x4) := by sl_kernel_rfl

theorem pieces_B (hc0 : ¬cond0_0 i) :
    (kernelRun0_B c i arg2 harg2 arg3 harg3 arg4 harg4 arg5 harg5 arg6 harg6 arg7 harg7 arg8 harg8 arg9 harg9 hc0
      x0 x1 x2 x3 x4 xo6 xo7).1 = pieces (y0 arg2 harg2 x0) (y1 arg3 harg3 x1) (y1 arg4 harg4 x2) (y3 arg5 harg5 x3)
        (y1 arg6 harg6 x4) := by sl_kernel_rfl

/-- At a point that starts the accumulators the block ends at its values. -/
theorem out_A (hc0 : cond0_0 i) :
    out0_A_5 c i arg2 harg2 arg3 harg3 arg4 harg4 arg5 harg5 arg6 harg6 arg7 harg7 arg8 harg8 arg9 harg9 hc0
      x0 x1 x2 x3 x4 = block (chan x0) x1 x2 x3 x4 := by
  funext y
  unfold out0_A_5
  have hcov := cover0_A_5 c i arg2 harg2 arg3 harg3 arg4 harg4 arg5 harg5 arg6 harg6 arg7 harg7 arg8 harg8 arg9 harg9 hc0
    x0 x1 x2 x3 x4 y
  rw [pieces_A, y0_eq, y1_eq, y1_eq, y3_eq, y1_eq] at hcov ⊢
  exact View.read_writes_apply_of_pieces VO0_5 _ (block (chan x0) x1 x2 x3 x4) _ pieces_apply y hcov

/-- At a point that does not, too. -/
theorem out_B (hc0 : ¬cond0_0 i) :
    out0_B_5 c i arg2 harg2 arg3 harg3 arg4 harg4 arg5 harg5 arg6 harg6 arg7 harg7 arg8 harg8 arg9 harg9 hc0
      x0 x1 x2 x3 x4 xo6 xo7 = block (chan x0) x1 x2 x3 x4 := by
  funext y
  unfold out0_B_5
  have hcov := cover0_B_5 c i arg2 harg2 arg3 harg3 arg4 harg4 arg5 harg5 arg6 harg6 arg7 harg7 arg8 harg8 arg9 harg9 hc0
    x0 x1 x2 x3 x4 xo6 xo7 y
  rw [pieces_B, y0_eq, y1_eq, y1_eq, y3_eq, y1_eq] at hcov ⊢
  exact View.read_writes_apply_of_pieces VO0_5 _ (block (chan x0) x1 x2 x3 x4) _ pieces_apply y hcov

end cases

end vectors

variable (m : (ℓ : Loc nD τ sig) → Buf (Elt Ideal) ℓ) (ρ : Dev nD → PrngReg) (c : Dev nD)

/-- The features the run starts from. -/
def feat : Vec Ideal S8x2x12x8x1024 .f32 := m ((c : Thread nD τ).loc main_arg0)
/-- The scales the run starts from. -/
def scale : Vec Ideal S12 .f32 := m ((c : Thread nD τ).loc main_arg1)
/-- The shifts. -/
def shift : Vec Ideal S12 .f32 := m ((c : Thread nD τ).loc main_arg2)
/-- The weights. -/
def weight : Vec Ideal S12x12 .f32 := m ((c : Thread nD τ).loc main_arg3)
/-- The biases. -/
def bias : Vec Ideal S12 .f32 := m ((c : Thread nD τ).loc main_arg4)

/-- The layer's result at a batch, block, channel, neighbour and place. -/
def entry (b : Fin 8) (i : Fin 2) (o : Fin 12) (k : Fin 8) (r : Fin 1024) : EReal :=
  Layers.value (fun j => feat m c (Idealize.ShloMosaic.ix5 b i j k r)) (fun j => scale m c (Idealize.ShloMosaic.ix1 j))
    (fun j => shift m c (Idealize.ShloMosaic.ix1 j)) (fun j => weight m c (Idealize.ShloMosaic.ix2 o j))
    (bias m c (Idealize.ShloMosaic.ix1 o))

/-- The array the call leaves. -/
def result : Vec Ideal S8x2x12x8x1024 .f32 := fun y => entry m c (y 0) (y 1) (y 2) (y 3) (y 4)

/-- The blocks each window names at a point of the grid. -/
theorem blocks : ∀ t : Fin cfg0.N, win0_0.index t = ![t.val / 2, t.val % 2, 0, 0, 0] ∧ win0_1.index t = ![0, 0]
    ∧ win0_2.index t = ![0, 0] ∧ win0_3.index t = ![0, 0] ∧ win0_4.index t = ![0, 0]
    ∧ win0_5.index t = ![t.val / 2, t.val % 2, 0, 0, 0] :=
  (by decide +kernel : ∀ t : Fin grid0.N, _)

/-- The batch of a point of the grid. -/
def batchAt (t : Fin cfg0.N) : Fin 8 := ⟨t.val / 2, by have h : t.val < 16 := lt_of_lt_of_eq t.isLt N_0; omega⟩
/-- The block of points at a point of the grid. -/
def halfAt (t : Fin cfg0.N) : Fin 2 := ⟨t.val % 2, by omega⟩

/-- A row the host made of one value of each channel, where the call finds it. -/
theorem rowed (a : Vec Ideal S12 .f32) (o : Fin 12) :
    broadcastInDim S1x12 ![1] bcast_S12_S1x12_1 a (Idealize.ShloMosaic.ix2 0 o) = a (Idealize.ShloMosaic.ix1 o) := by
  simp only [pointwise]
  rfl

theorem row1 : (V m c main_v0 : Vec Ideal S1x12 .f32) = broadcastInDim S1x12 ![1] bcast_S12_S1x12_1 (scale m c) := by
  simp only [V, hostOps0, StableHlo.after_cons, StableHlo.after_nil]
  rfl

theorem row2 : (V m c main_v1 : Vec Ideal S1x12 .f32) = broadcastInDim S1x12 ![1] bcast_S12_S1x12_1 (shift m c) := by
  simp only [V, hostOps0, StableHlo.after_cons, StableHlo.after_nil]
  rfl

theorem row4 : (V m c main_v2 : Vec Ideal S1x12 .f32) = broadcastInDim S1x12 ![1] bcast_S12_S1x12_1 (bias m c) := by
  simp only [V, hostOps0, StableHlo.after_cons, StableHlo.after_nil]
  rfl

/-- The first window's block holds the features of its block of points. -/
theorem in0 (t : Fin cfg0.N) (o : Fin 12) (k : Fin 8) (r : Fin 1024) :
    chan (iblk m c 0 t : Vec Ideal S1x1x12x8x1024 .f32) o (Idealize.ShloMosaic.ix5 0 0 0 k r)
      = feat m c (Idealize.ShloMosaic.ix5 (batchAt t) (halfAt t) o k r) := by
  have e := (blocks t).1
  unfold chan
  show (iblk m c 0 t : Vec Ideal S1x1x12x8x1024 .f32) _ = _
  blk_simp [iblk]
  rw [V_main_arg0]
  refine congrArg (m ((c : Thread nD τ).loc main_arg0)) (funext fun x => Fin.ext ?_)
  match x with
  | ⟨0, _⟩ => show win0_0.index t 0 * 1 + 1 * (0 + 1 * 0) = t.val / 2; rw [e]; show t.val / 2 * 1 + 1 * (0 + 1 * 0) = _; omega
  | ⟨1, _⟩ => show win0_0.index t 1 * 1 + 1 * (0 + 1 * 0) = t.val % 2; rw [e]; show t.val % 2 * 1 + 1 * (0 + 1 * 0) = _; omega
  | ⟨2, _⟩ => show win0_0.index t 2 * 12 + 1 * (o.val + 1 * 0) = o.val; rw [e]; show 0 * 12 + 1 * (o.val + 1 * 0) = _; omega
  | ⟨3, _⟩ => show win0_0.index t 3 * 8 + 1 * (0 + 1 * k.val) = k.val; rw [e]; show 0 * 8 + 1 * (0 + 1 * k.val) = _; omega
  | ⟨4, _⟩ => show win0_0.index t 4 * 1024 + 1 * (0 + 1 * r.val) = r.val; rw [e]; show 0 * 1024 + 1 * (0 + 1 * r.val) = _; omega

/-- The second window's block holds the scales. -/
theorem in1 (t : Fin cfg0.N) (o : Fin 12) :
    (iblk m c 1 t : Vec Ideal S1x12 .f32) (Idealize.ShloMosaic.ix2 0 o) = scale m c (Idealize.ShloMosaic.ix1 o) := by
  have e := (blocks t).2.1
  have hx : (win0_1.blk t).view.emb (Idealize.ShloMosaic.ix2 0 o) = Idealize.ShloMosaic.ix2 0 o := by
    refine funext fun x => Fin.ext ?_
    match x with
    | ⟨0, _⟩ => show win0_1.index t 0 * 1 + 1 * 0 = 0; rw [e]; rfl
    | ⟨1, _⟩ => show win0_1.index t 1 * 12 + 1 * o.val = o.val; rw [e]; show 0 * 12 + 1 * o.val = _; omega
  blk_simp [iblk]
  rw [hx]
  exact (congrFun (row1 m c) _).trans (rowed _ o)

/-- The third window's block holds the shifts. -/
theorem in2 (t : Fin cfg0.N) (o : Fin 12) :
    (iblk m c 2 t : Vec Ideal S1x12 .f32) (Idealize.ShloMosaic.ix2 0 o) = shift m c (Idealize.ShloMosaic.ix1 o) := by
  have e := (blocks t).2.2.1
  have hx : (win0_2.blk t).view.emb (Idealize.ShloMosaic.ix2 0 o) = Idealize.ShloMosaic.ix2 0 o := by
    refine funext fun x => Fin.ext ?_
    match x with
    | ⟨0, _⟩ => show win0_2.index t 0 * 1 + 1 * 0 = 0; rw [e]; rfl
    | ⟨1, _⟩ => show win0_2.index t 1 * 12 + 1 * o.val = o.val; rw [e]; show 0 * 12 + 1 * o.val = _; omega
  blk_simp [iblk]
  rw [hx]
  exact (congrFun (row2 m c) _).trans (rowed _ o)

/-- The fourth window's block holds the weights. -/
theorem in3 (t : Fin cfg0.N) : (iblk m c 3 t : Vec Ideal S12x12 .f32) = weight m c := by
  funext y
  have e := (blocks t).2.2.2.1
  blk_simp [iblk]
  rw [V_main_arg3]
  refine congrArg (m ((c : Thread nD τ).loc main_arg3)) (funext fun x => Fin.ext ?_)
  match x with
  | ⟨0, _⟩ => show win0_3.index t 0 * 12 + 1 * (y 0).val = (y 0).val; rw [e]; show 0 * 12 + 1 * (y 0).val = _; omega
  | ⟨1, _⟩ => show win0_3.index t 1 * 12 + 1 * (y 1).val = (y 1).val; rw [e]; show 0 * 12 + 1 * (y 1).val = _; omega

/-- The fifth window's block holds the biases. -/
theorem in4 (t : Fin cfg0.N) (o : Fin 12) :
    (iblk m c 4 t : Vec Ideal S1x12 .f32) (Idealize.ShloMosaic.ix2 0 o) = bias m c (Idealize.ShloMosaic.ix1 o) := by
  have e := (blocks t).2.2.2.2.1
  have hx : (win0_4.blk t).view.emb (Idealize.ShloMosaic.ix2 0 o) = Idealize.ShloMosaic.ix2 0 o := by
    refine funext fun x => Fin.ext ?_
    match x with
    | ⟨0, _⟩ => show win0_4.index t 0 * 1 + 1 * 0 = 0; rw [e]; rfl
    | ⟨1, _⟩ => show win0_4.index t 1 * 12 + 1 * o.val = o.val; rw [e]; show 0 * 12 + 1 * o.val = _; omega
  blk_simp [iblk]
  rw [hx]
  exact (congrFun (row4 m c) _).trans (rowed _ o)

/-- One entry of the layer on the windows' blocks. -/
theorem layer_blocks (t : Fin cfg0.N) (o : Fin 12) (k : Fin 8) (r : Fin 1024) :
    Layers.layer o (chan (iblk m c 0 t)) (iblk m c 1 t) (iblk m c 2 t) (iblk m c 3 t) (iblk m c 4 t)
      (Idealize.ShloMosaic.ix2 k r) = entry m c (batchAt t) (halfAt t) o k r := by
  refine (Layers.layer_at o _ _ _ _ _ k r).trans ?_
  unfold entry
  rw [in4, in3]
  have h0 := funext fun j => in0 m c t j k r
  have h1 := funext fun j => in1 m c t j
  have h2 := funext fun j => in2 m c t j
  rw [h0, h1, h2]

/-- What a point of the grid leaves in the block of convolved features. -/
theorem left (t : Fin cfg0.N) : (outsAt0 m c t.val t.isLt).1
    = block (chan (iblk m c 0 t)) (iblk m c 1 t) (iblk m c 2 t) (iblk m c 3 t) (iblk m c 4 t) := by
  by_cases h0 : t.val % 16 = 0
  · refine (congrArg Prod.fst (outsAt0_A m c t h0)).trans ?_
    dsimp only
    rw [out_A]
  · refine (congrArg Prod.fst (outsAt0_B m c t h0)).trans ?_
    dsimp only
    rw [out_B]

/-- The array ends at the convolved features. -/
theorem final : (dats m 0 c).arrAt 5 cfg0.N = result m c := by
  refine (dats m 0 c).arrAt_eq_of_covers 5 _ (by decide +kernel) fun t _ y => ?_
  blk_simp
  rw [after0_5, left]
  have e := (blocks t).2.2.2.2.2
  have e0 : ((win0_5.blk t).view.emb y 0 : Fin 8) = batchAt t := Fin.ext (by
    show win0_5.index t 0 * 1 + 1 * (y 0).val = t.val / 2
    have h : (y 0).val < 1 := (y 0).isLt
    rw [e]; show t.val / 2 * 1 + 1 * (y 0).val = _; omega)
  have e1 : ((win0_5.blk t).view.emb y 1 : Fin 2) = halfAt t := Fin.ext (by
    show win0_5.index t 1 * 1 + 1 * (y 1).val = t.val % 2
    have h : (y 1).val < 1 := (y 1).isLt
    rw [e]; show t.val % 2 * 1 + 1 * (y 1).val = _; omega)
  have e2 : ((win0_5.blk t).view.emb y 2 : Fin 12) = y 2 := Fin.ext (by
    show win0_5.index t 2 * 12 + 1 * (y 2).val = (y 2).val
    rw [e]; show 0 * 12 + 1 * (y 2).val = _; omega)
  have e3 : ((win0_5.blk t).view.emb y 3 : Fin 8) = y 3 := Fin.ext (by
    show win0_5.index t 3 * 8 + 1 * (y 3).val = (y 3).val
    rw [e]; show 0 * 8 + 1 * (y 3).val = _; omega)
  have e4 : ((win0_5.blk t).view.emb y 4 : Fin 1024) = y 4 := Fin.ext (by
    show win0_5.index t 4 * 1024 + 1 * (y 4).val = (y 4).val
    rw [e]; show 0 * 1024 + 1 * (y 4).val = _; omega)
  unfold result
  rw [e0, e1, e2, e3, e4]
  exact layer_blocks m c t _ _ _

/-- The run: the array at the layer's values, the arguments unchanged. -/
theorem run :
    θ_run defs (onTc (τ := τ) (main (F := Ideal))) ⟨m, fun _ => 0, ρ⟩ fun r => ∀ c : Dev nD,
      r.2.mem ((c : Thread nD τ).loc main_v3_0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.SecondIdeal.K2
-- ==== Proof.L.Last.lean ====
/-
  The array the last call leaves, read block by block.
-/
module

public import proofs.«01_k».proof.Proof.L.Spec
public import proofs.«01_k».proof.Proof.Gen.LastIdeal.Frame
public import Idealize.ShloMosaic.Lib.Tactic
public import Idealize.ShloMosaic.Lib.Pipeline.Value
public import Idealize.ShloMosaic.Lib.Pointwise.Tactic
public import Idealize.ShloMosaic.Lib.Pointwise.Reshape
public import Idealize.ShloMosaic.Lib.Pipeline.ValueKit.Geometry
public import Idealize.ShloMosaic.Lib.StableHlo.Run

@[expose] public section

set_option maxRecDepth 100000

noncomputable section

namespace Cert.LastIdeal.K3

open Idealize.ShloMosaic Idealize.ShloMosaic.TcCoe Idealize.SL.Sem Cert.LastIdeal Cert.LastIdeal.Gen

section vectors

variable {F : FTy → Type} [FloatOps F]

/-- What the body reads of the features, a channel at a time. -/
def chan (x : Vec F S1x1x12x8x1024 .f32) (o : Fin 12) : Vec F S1x1x1x8x1024 .f32 :=
  View.ld x (Rect.unit (s := S1x1x12x8x1024) ![0, 0, o, 0, 0] S1x1x1x8x1024.size (by revert o; decide))

/-- A channel's sums over the neighbours. -/
def sums (o : Fin 12) (h : Fin 12 → Vec F S1x1x1x8x1024 .f32) (a c : Vec F S1x12 .f32) (w : Vec F S12x12 .f32)
    (b : Vec F S1x12 .f32) : FVec F S1024 .f32 := Layers.total (Layers.layer o h a c w b)

/-- The block of sums. -/
def block (h : Fin 12 → Vec F S1x1x1x8x1024 .f32) (a c : Vec F S1x12 .f32) (w : Vec F S12x12 .f32)
    (b : Vec F S1x12 .f32) : Vec F S1x12x1x1x1024 .f32 := fun y => sums (y 1) h a c w b (Idealize.ShloMosaic.ix1 (y 4))

variable (h : Fin 12 → Vec F S1x1x1x8x1024 .f32) (a c : Vec F S1x12 .f32) (w : Vec F S12x12 .f32) (b : Vec F S1x12 .f32)

/-- One channel of the block as the store writes it. -/
def piece (o : Fin 12) : View.Piece (Elt F) S1x12x1x1x1024 .f32 :=
  ⟨Rect.unit (s := S1x12x1x1x1024) ![0, o, 0, 0, 0] S1x1x1x1x1024.size (by revert o; decide),
    shapeCast S1x1x1x1x1024 (sums o h a c w b) shapeCasts_S1024_S1x1x1x1x1024⟩

/-- The channels in the order of the stores, last first. -/
def pieces : List (View.Piece (Elt F) S1x12x1x1x1024 .f32) :=
  [piece h a c w b 11, piece h a c w b 10, piece h a c w b 9, piece h a c w b 8, piece h a c w b 7, piece h a c w b 6,
    piece h a c w b 5, piece h a c w b 4, piece h a c w b 3, piece h a c w b 2, piece h a c w b 1, piece h a c w b 0]

variable {h a c w b}

/-- Two readings agree where channel and index do. -/
theorem sums_congr {o o' : Fin 12} {r r' : Fin 1024} (ho : o = o') (hr : r = r') :
    sums o h a c w b (Idealize.ShloMosaic.ix1 r) = sums o' h a c w b (Idealize.ShloMosaic.ix1 r') := by
  subst ho hr; rfl

/-- Every store writes the block's own values. -/
theorem piece_apply (o : Fin 12) (x : (piece h a c w b o).1.shape.Idx) :
    (piece h a c w b o).2 x = block h a c w b ((piece h a c w b o).1.emb x) := by
  show shapeCast S1x1x1x1x1024 (sums o h a c w b) shapeCasts_S1024_S1x1x1x1x1024 x = sums _ h a c w b _
  have hx : x = (Idealize.ShloMosaic.ix5 0 0 0 0 (x 4) : S1x1x1x1x1024.Idx) := funext fun a =>
    match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => Subsingleton.elim (α := Fin 1) _ _
    | ⟨4, _⟩ => rfl
  have e1 : ((piece h a c w b o).1.emb x 1 : Fin 12) = o := Fin.ext (by
    rw [hx]; show o.val + 1 * 0 = o.val; omega)
  have e4 : ((piece h a c w b o).1.emb x 4 : Fin 1024) = x 4 := Fin.ext (by
    show 0 + 1 * (x 4).val = (x 4).val; omega)
  refine Eq.trans ?_ (sums_congr e1.symm e4.symm)
  rw [hx]
  simp only [pointwise]

/-- So do all twelve. -/
theorem pieces_apply : ∀ p ∈ pieces h a c w b, ∀ x, p.2 x = block h a c w b (p.1.emb x) := by
  intro p hp
  simp only [pieces, List.mem_cons, List.not_mem_nil, or_false] at hp
  rcases hp with rfl | rfl | rfl | rfl | rfl | rfl | rfl | rfl | rfl | rfl | rfl | rfl <;> exact piece_apply _

/-- The pieces cover the block. -/
theorem pieces_cover (y : S1x12x1x1x1024.Idx) : ∃ p ∈ pieces h a c w b, y ∈ p.1.set := cover0_5 _ _ _ _ _ _ _ _ _ _ _ _ y

/-- The stores are those pieces. -/
theorem stores (x0 : Vec F S1x1x12x8x1024 .f32) (x1 x2 : Vec F S1x12 .f32) (x3 : Vec F S12x12 .f32) (x4 : Vec F S1x12 .f32) :
    out0_5 x0 x1 x2 x3 x4
      = View.canon (pieces (chan x0) (View.ld x1 r0_0) (View.ld x2 r0_0) (View.ld x3 r0_1) (View.ld x4 r0_0)) := by
  sl_kernel_rfl

/-- So the body leaves the block. -/
theorem out_eq (x0 : Vec F S1x1x12x8x1024 .f32) (x1 x2 : Vec F S1x12 .f32) (x3 : Vec F S12x12 .f32) (x4 : Vec F S1x12 .f32) :
    out0_5 x0 x1 x2 x3 x4 = block (chan x0) x1 x2 x3 x4 := by
  have hz : (![0, 0] : Fin 2 → Nat) = fun _ => 0 := funext fun a => by fin_cases a <;> rfl
  rw [stores, View.ld_unit_zero (S := S1x12) hz, View.ld_unit_zero (S := S1x12) hz, View.ld_unit_zero (S := S12x12) hz,
    View.ld_unit_zero (S := S1x12) hz]
  funext y
  exact View.canon_apply_of_pieces _ _ pieces_apply y (pieces_cover y)

end vectors

variable (m : (ℓ : Loc nD τ sig) → Buf (Elt Ideal) ℓ) (ρ : Dev nD → PrngReg) (c : Dev nD)

/-- The features the run starts from. -/
def feat : Vec Ideal S8x2x12x8x1024 .f32 := m ((c : Thread nD τ).loc main_arg0)
/-- The scales the run starts from. -/
def scale : Vec Ideal S12 .f32 := m ((c : Thread nD τ).loc main_arg1)
/-- The shifts. -/
def shift : Vec Ideal S12 .f32 := m ((c : Thread nD τ).loc main_arg2)
/-- The weights. -/
def weight : Vec Ideal S12x12 .f32 := m ((c : Thread nD τ).loc main_arg3)
/-- The biases. -/
def bias : Vec Ideal S12 .f32 := m ((c : Thread nD τ).loc main_arg4)

/-- The layer's result at a batch, block, channel, neighbour and place. -/
def entry (b : Fin 8) (i : Fin 2) (o : Fin 12) (k : Fin 8) (r : Fin 1024) : EReal :=
  Layers.value (fun j => feat m c (Idealize.ShloMosaic.ix5 b i j k r)) (fun j => scale m c (Idealize.ShloMosaic.ix1 j))
    (fun j => shift m c (Idealize.ShloMosaic.ix1 j)) (fun j => weight m c (Idealize.ShloMosaic.ix2 o j))
    (bias m c (Idealize.ShloMosaic.ix1 o))

/-- The array the call leaves. -/
def result : Vec Ideal S8x12x2x1x1024 .f32 := fun y => ∑ k : Fin 8, entry m c (y 0) (y 2) (y 1) k (y 4)

/-- The blocks each window names at a point of the grid. -/
theorem blocks : ∀ t : Fin cfg0.N, win0_0.index t = ![t.val / 2, t.val % 2, 0, 0, 0] ∧ win0_1.index t = ![0, 0]
    ∧ win0_2.index t = ![0, 0] ∧ win0_3.index t = ![0, 0] ∧ win0_4.index t = ![0, 0]
    ∧ win0_5.index t = ![t.val / 2, 0, t.val % 2, 0, 0] :=
  (by decide +kernel : ∀ t : Fin grid0.N, _)

/-- The batch of a point of the grid. -/
def batchAt (t : Fin cfg0.N) : Fin 8 := ⟨t.val / 2, by have h : t.val < 16 := lt_of_lt_of_eq t.isLt N_0; omega⟩
/-- The block of points at a point of the grid. -/
def halfAt (t : Fin cfg0.N) : Fin 2 := ⟨t.val % 2, by omega⟩

/-- A row the host made of one value of each channel, where the call finds it. -/
theorem rowed (a : Vec Ideal S12 .f32) (o : Fin 12) :
    broadcastInDim S1x12 ![1] bcast_S12_S1x12_1 a (Idealize.ShloMosaic.ix2 0 o) = a (Idealize.ShloMosaic.ix1 o) := by
  simp only [pointwise]
  rfl

theorem row1 : (V m c main_v0 : Vec Ideal S1x12 .f32) = broadcastInDim S1x12 ![1] bcast_S12_S1x12_1 (scale m c) := by
  simp only [V, hostOps0, StableHlo.after_cons, StableHlo.after_nil]
  rfl

theorem row2 : (V m c main_v1 : Vec Ideal S1x12 .f32) = broadcastInDim S1x12 ![1] bcast_S12_S1x12_1 (shift m c) := by
  simp only [V, hostOps0, StableHlo.after_cons, StableHlo.after_nil]
  rfl

theorem row4 : (V m c main_v2 : Vec Ideal S1x12 .f32) = broadcastInDim S1x12 ![1] bcast_S12_S1x12_1 (bias m c) := by
  simp only [V, hostOps0, StableHlo.after_cons, StableHlo.after_nil]
  rfl

/-- The first window's block holds the features of its block of points. -/
theorem in0 (t : Fin cfg0.N) (o : Fin 12) (k : Fin 8) (r : Fin 1024) :
    chan (iblk m c 0 t : Vec Ideal S1x1x12x8x1024 .f32) o (Idealize.ShloMosaic.ix5 0 0 0 k r)
      = feat m c (Idealize.ShloMosaic.ix5 (batchAt t) (halfAt t) o k r) := by
  have e := (blocks t).1
  unfold chan
  show (iblk m c 0 t : Vec Ideal S1x1x12x8x1024 .f32) _ = _
  blk_simp [iblk]
  rw [V_main_arg0]
  refine congrArg (m ((c : Thread nD τ).loc main_arg0)) (funext fun x => Fin.ext ?_)
  match x with
  | ⟨0, _⟩ => show win0_0.index t 0 * 1 + 1 * (0 + 1 * 0) = t.val / 2; rw [e]; show t.val / 2 * 1 + 1 * (0 + 1 * 0) = _; omega
  | ⟨1, _⟩ => show win0_0.index t 1 * 1 + 1 * (0 + 1 * 0) = t.val % 2; rw [e]; show t.val % 2 * 1 + 1 * (0 + 1 * 0) = _; omega
  | ⟨2, _⟩ => show win0_0.index t 2 * 12 + 1 * (o.val + 1 * 0) = o.val; rw [e]; show 0 * 12 + 1 * (o.val + 1 * 0) = _; omega
  | ⟨3, _⟩ => show win0_0.index t 3 * 8 + 1 * (0 + 1 * k.val) = k.val; rw [e]; show 0 * 8 + 1 * (0 + 1 * k.val) = _; omega
  | ⟨4, _⟩ => show win0_0.index t 4 * 1024 + 1 * (0 + 1 * r.val) = r.val; rw [e]; show 0 * 1024 + 1 * (0 + 1 * r.val) = _; omega

/-- The second window's block holds the scales. -/
theorem in1 (t : Fin cfg0.N) (o : Fin 12) :
    (iblk m c 1 t : Vec Ideal S1x12 .f32) (Idealize.ShloMosaic.ix2 0 o) = scale m c (Idealize.ShloMosaic.ix1 o) := by
  have e := (blocks t).2.1
  have hx : (win0_1.blk t).view.emb (Idealize.ShloMosaic.ix2 0 o) = Idealize.ShloMosaic.ix2 0 o := by
    refine funext fun x => Fin.ext ?_
    match x with
    | ⟨0, _⟩ => show win0_1.index t 0 * 1 + 1 * 0 = 0; rw [e]; rfl
    | ⟨1, _⟩ => show win0_1.index t 1 * 12 + 1 * o.val = o.val; rw [e]; show 0 * 12 + 1 * o.val = _; omega
  blk_simp [iblk]
  rw [hx]
  exact (congrFun (row1 m c) _).trans (rowed _ o)

/-- The third window's block holds the shifts. -/
theorem in2 (t : Fin cfg0.N) (o : Fin 12) :
    (iblk m c 2 t : Vec Ideal S1x12 .f32) (Idealize.ShloMosaic.ix2 0 o) = shift m c (Idealize.ShloMosaic.ix1 o) := by
  have e := (blocks t).2.2.1
  have hx : (win0_2.blk t).view.emb (Idealize.ShloMosaic.ix2 0 o) = Idealize.ShloMosaic.ix2 0 o := by
    refine funext fun x => Fin.ext ?_
    match x with
    | ⟨0, _⟩ => show win0_2.index t 0 * 1 + 1 * 0 = 0; rw [e]; rfl
    | ⟨1, _⟩ => show win0_2.index t 1 * 12 + 1 * o.val = o.val; rw [e]; show 0 * 12 + 1 * o.val = _; omega
  blk_simp [iblk]
  rw [hx]
  exact (congrFun (row2 m c) _).trans (rowed _ o)

/-- The fourth window's block holds the weights. -/
theorem in3 (t : Fin cfg0.N) : (iblk m c 3 t : Vec Ideal S12x12 .f32) = weight m c := by
  funext y
  have e := (blocks t).2.2.2.1
  blk_simp [iblk]
  rw [V_main_arg3]
  refine congrArg (m ((c : Thread nD τ).loc main_arg3)) (funext fun x => Fin.ext ?_)
  match x with
  | ⟨0, _⟩ => show win0_3.index t 0 * 12 + 1 * (y 0).val = (y 0).val; rw [e]; show 0 * 12 + 1 * (y 0).val = _; omega
  | ⟨1, _⟩ => show win0_3.index t 1 * 12 + 1 * (y 1).val = (y 1).val; rw [e]; show 0 * 12 + 1 * (y 1).val = _; omega

/-- The fifth window's block holds the biases. -/
theorem in4 (t : Fin cfg0.N) (o : Fin 12) :
    (iblk m c 4 t : Vec Ideal S1x12 .f32) (Idealize.ShloMosaic.ix2 0 o) = bias m c (Idealize.ShloMosaic.ix1 o) := by
  have e := (blocks t).2.2.2.2.1
  have hx : (win0_4.blk t).view.emb (Idealize.ShloMosaic.ix2 0 o) = Idealize.ShloMosaic.ix2 0 o := by
    refine funext fun x => Fin.ext ?_
    match x with
    | ⟨0, _⟩ => show win0_4.index t 0 * 1 + 1 * 0 = 0; rw [e]; rfl
    | ⟨1, _⟩ => show win0_4.index t 1 * 12 + 1 * o.val = o.val; rw [e]; show 0 * 12 + 1 * o.val = _; omega
  blk_simp [iblk]
  rw [hx]
  exact (congrFun (row4 m c) _).trans (rowed _ o)

/-- One entry of the layer on the windows' blocks. -/
theorem layer_blocks (t : Fin cfg0.N) (o : Fin 12) (k : Fin 8) (r : Fin 1024) :
    Layers.layer o (chan (iblk m c 0 t)) (iblk m c 1 t) (iblk m c 2 t) (iblk m c 3 t) (iblk m c 4 t)
      (Idealize.ShloMosaic.ix2 k r) = entry m c (batchAt t) (halfAt t) o k r := by
  refine (Layers.layer_at o _ _ _ _ _ k r).trans ?_
  unfold entry
  rw [in4, in3]
  have h0 := funext fun j => in0 m c t j k r
  have h1 := funext fun j => in1 m c t j
  have h2 := funext fun j => in2 m c t j
  rw [h0, h1, h2]

/-- The array ends at the sums over the neighbours. -/
theorem final : (dats m 0 c).arrAt 5 cfg0.N = result m c := by
  refine (dats m 0 c).arrAt_eq_of_covers 5 _ (by decide +kernel) fun t _ y => ?_
  blk_simp
  rw [after0_5, out_eq]
  have e := (blocks t).2.2.2.2.2
  have e0 : ((win0_5.blk t).view.emb y 0 : Fin 8) = batchAt t := Fin.ext (by
    show win0_5.index t 0 * 1 + 1 * (y 0).val = t.val / 2
    have h : (y 0).val < 1 := (y 0).isLt
    rw [e]; show t.val / 2 * 1 + 1 * (y 0).val = _; omega)
  have e1 : ((win0_5.blk t).view.emb y 1 : Fin 12) = y 1 := Fin.ext (by
    show win0_5.index t 1 * 12 + 1 * (y 1).val = (y 1).val
    rw [e]; show 0 * 12 + 1 * (y 1).val = _; omega)
  have e2 : ((win0_5.blk t).view.emb y 2 : Fin 2) = halfAt t := Fin.ext (by
    show win0_5.index t 2 * 1 + 1 * (y 2).val = t.val % 2
    have h : (y 2).val < 1 := (y 2).isLt
    rw [e]; show t.val % 2 * 1 + 1 * (y 2).val = _; omega)
  have e4 : ((win0_5.blk t).view.emb y 4 : Fin 1024) = y 4 := Fin.ext (by
    show win0_5.index t 4 * 1024 + 1 * (y 4).val = (y 4).val
    rw [e]; show 0 * 1024 + 1 * (y 4).val = _; omega)
  unfold result
  rw [e0, e1, e2, e4]
  refine (Layers.total_at _ _).trans (Finset.sum_congr rfl fun k _ => layer_blocks m c t _ k _)

/-- The run: the array at the layer's values, the arguments unchanged. -/
theorem run :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.LastIdeal.K3
-- ==== Proof.L.Ref.lean ====
/-
  The references of the second and the last call: the same scale, shift, rectifier and convolution, on whole arrays.
-/
module

public import proofs.«01_k».proof.Proof.L.Spec
public import proofs.«01_k».proof.Proof.R.Feat

@[expose] public section

set_option maxRecDepth 20000

noncomputable section

namespace Cert.Layers

open Idealize.ShloMosaic Idealize.SL.Sem

/-- The features by blocks of points. -/
abbrev B5 : Shape := ⟨5, ![8, 2, 12, 8, 1024]⟩
/-- The features with the blocks beside each other. -/
abbrev B4 : Shape := ⟨4, ![8, 12, 8, 2048]⟩
abbrev Q5 : Shape := ⟨5, ![8, 12, 8, 2, 1024]⟩
abbrev Q4 : Shape := ⟨4, ![8, 8, 2048, 12]⟩
abbrev P3 : Shape := ⟨3, ![8, 12, 2048]⟩
abbrev P5 : Shape := ⟨5, ![8, 12, 2, 1, 1024]⟩
abbrev C1 : Shape := ⟨1, ![12]⟩
abbrev C4 : Shape := ⟨4, ![1, 12, 1, 1]⟩
abbrev C0 : Shape := ⟨0, ![]⟩

section vectors

variable {F : FTy → Type} [FloatOps F]

/-- One value of each channel, at every place. -/
def over (a : FVec F C1 .f32) : FVec F B4 .f32 :=
  broadcastInDim B4 ![0, 1, 2, 3] (by decide) (broadcastInDim C4 ![1] (by decide) a)

/-- The features scaled, shifted and rectified. -/
def actV (x : FVec F B5 .f32) (a c : FVec F C1 .f32) : FVec F B4 .f32 :=
  maximumf (addf (mulf (shapeCast B4 (transpose Q5 [0, 2, 3, 1, 4] x (by decide)) (by decide)) (over a)) (over c))
    (broadcastInDim B4 ![] (by decide) (constant C0 .f32 0x00000000#32))

/-- Their convolution. -/
def layerV (x : FVec F B5 .f32) (a c : FVec F C1 .f32) (w : FVec F S12x12 .f32) (b : FVec F C1 .f32) : FVec F B4 .f32 :=
  addf (transpose B4 [0, 3, 1, 2] (Host.dotGeneral
    Cert.ReferenceIdeal.dot_S8x12x8x2048_S12x12_S8x8x2048x12_1_1_023_0_n_n none (actV x a c) w) (by decide)) (over b)

/-- The second call's array: the convolution laid out by blocks of points. -/
def secondV (x : FVec F B5 .f32) (a c : FVec F C1 .f32) (w : FVec F S12x12 .f32) (b : FVec F C1 .f32) : FVec F B5 .f32 :=
  transpose B5 [0, 3, 1, 2, 4] (shapeCast Q5 (layerV x a c w b) (by decide)) (by decide)

/-- The last call's array: the convolution summed over the neighbours. -/
def lastV (x : FVec F B5 .f32) (a c : FVec F C1 .f32) (w : FVec F S12x12 .f32) (b : FVec F C1 .f32) : FVec F P5 .f32 :=
  shapeCast P5 (Host.reduceAdd (layerV x a c w b) (constant C0 .f32 0x00000000#32)
    (by decide : B4.ReducesTo [2] P3) (by decide) : FVec F P3 .f32) (by decide)

end vectors

theorem over_at (a : FVec Ideal C1 .f32) (b : Fin 8) (o : Fin 12) (k : Fin 8) (n : Fin 2048) :
    over a (ix4 b o k n) = a (ix1 o) := by
  unfold over
  simp only [pointwise]
  rfl

theorem actV_at (x : FVec Ideal B5 .f32) (a c : FVec Ideal C1 .f32) (b : Fin 8) (o : Fin 12) (k : Fin 8) (i : Fin 2)
    (r : Fin 1024) : actV x a c (ix4 b o k (M.place i r)) = max (a (ix1 o) * x (ix5 b i o k r) + c (ix1 o)) 0 := by
  have hx : shapeCast B4 (transpose Q5 [0, 2, 3, 1, 4] x (by decide)) (by decide) (ix4 b o k (M.place i r))
      = x (ix5 b i o k r) := by
    refine (shapeCast_apply _ _ _ (ix5 b o k i r) ?_).trans (by simp only [pointwise])
    rw [Shape.rowMajor_val_four, Shape.rowMajor_val_five]
    show (((b.val * 12 + o.val) * 8 + k.val) * 2 + i.val) * 1024 + r.val
      = ((b.val * 12 + o.val) * 8 + k.val) * 2048 + (i.val * 1024 + r.val)
    omega
  have hz : broadcastInDim B4 ![] (by decide) (constant C0 .f32 0x00000000#32 : FVec Ideal C0 .f32)
      (ix4 b o k (M.place i r)) = 0 := M.ofBits_zero'
  rw [← over_at a b o k (M.place i r), ← over_at c b o k (M.place i r), ← hx, ← hz, mul_comm]
  rfl

theorem layerV_at (x : FVec Ideal B5 .f32) (a c : FVec Ideal C1 .f32) (w : FVec Ideal S12x12 .f32) (d : FVec Ideal C1 .f32)
    (b : Fin 8) (o : Fin 12) (k : Fin 8) (i : Fin 2) (r : Fin 1024) : layerV x a c w d (ix4 b o k (M.place i r))
      = value (fun j => x (ix5 b i j k r)) (fun j => a (ix1 j)) (fun j => c (ix1 j)) (fun j => w (ix2 o j)) (d (ix1 o)) := by
  unfold value
  rw [← over_at d b o k (M.place i r)]
  refine congrArg₂ (fun p q : EReal => p + q) ?_ rfl
  have hm (h : FVec Ideal Q4 .f32) (n : Fin 2048) : transpose B4 [0, 3, 1, 2] h (by decide) (ix4 b o k n)
      = h (ix4 b k n o) := by
    simp only [pointwise]
  have hdot (g : FVec Ideal B4 .f32) (n : Fin 2048) :
      Host.dotGeneral Cert.ReferenceIdeal.dot_S8x12x8x2048_S12x12_S8x8x2048x12_1_1_023_0_n_n none g w (ix4 b k n o)
        = ∑ j : Fin 12, g (ix4 b j k n) * w (ix2 o j) :=
    M.dot_one _ 12 rfl rfl g w (ix4 b k n o) (fun j => ix4 b j k n) (fun j => ix2 o j)
      (fun j q hq => funext fun y => Fin.ext (by
        match y with
        | ⟨0, _⟩ => rfl
        | ⟨1, _⟩ => exact hq
        | ⟨2, _⟩ => rfl
        | ⟨3, _⟩ => rfl))
      (fun j q hq => funext fun y => Fin.ext (by
        match y with
        | ⟨0, _⟩ => rfl
        | ⟨1, _⟩ => exact hq))
  refine (hm _ _).trans ((hdot _ _).trans (Finset.sum_congr rfl fun j _ => ?_))
  rw [actV_at, mul_comm]

theorem secondV_at (x : FVec Ideal B5 .f32) (a c : FVec Ideal C1 .f32) (w : FVec Ideal S12x12 .f32) (d : FVec Ideal C1 .f32)
    (b : Fin 8) (i : Fin 2) (o : Fin 12) (k : Fin 8) (r : Fin 1024) : secondV x a c w d (ix5 b i o k r)
      = value (fun j => x (ix5 b i j k r)) (fun j => a (ix1 j)) (fun j => c (ix1 j)) (fun j => w (ix2 o j)) (d (ix1 o)) := by
  rw [← layerV_at]
  unfold secondV
  generalize layerV x a c w d = g
  have ht (h : FVec Ideal Q5 .f32) : transpose B5 [0, 3, 1, 2, 4] h (by decide) (ix5 b i o k r) = h (ix5 b o k i r) := by
    simp only [pointwise]
  refine (ht _).trans (shapeCast_apply _ _ _ _ ?_)
  rw [Shape.rowMajor_val_four, Shape.rowMajor_val_five]
  show ((b.val * 12 + o.val) * 8 + k.val) * 2048 + (i.val * 1024 + r.val)
    = (((b.val * 12 + o.val) * 8 + k.val) * 2 + i.val) * 1024 + r.val
  omega

theorem lastV_at (x : FVec Ideal B5 .f32) (a c : FVec Ideal C1 .f32) (w : FVec Ideal S12x12 .f32) (d : FVec Ideal C1 .f32)
    (b : Fin 8) (o : Fin 12) (i : Fin 2) (z : Fin 1) (r : Fin 1024) : lastV x a c w d (ix5 b o i z r)
      = ∑ k : Fin 8, value (fun j => x (ix5 b i j k r)) (fun j => a (ix1 j)) (fun j => c (ix1 j)) (fun j => w (ix2 o j))
          (d (ix1 o)) := by
  have hk (k : Fin 8) := layerV_at x a c w d b o k i r
  simp only [← hk]
  unfold lastV
  generalize layerV x a c w d = g
  refine (shapeCast_apply _ _ _ (ix3 b o (M.place i r)) ?_).trans ?_
  · rw [Shape.rowMajor_val_three, Shape.rowMajor_val_five]
    show (b.val * 12 + o.val) * 2048 + (i.val * 1024 + r.val)
      = (((b.val * 12 + o.val) * 2 + i.val) * 1 + z.val) * 1024 + r.val
    omega
  · simp only [pointwise]
    exact zero_add _

end Cert.Layers
-- ==== Proof.L.SecondRef.lean ====
/-
  The array the second call's reference leaves.
-/
module

public import proofs.«01_k».proof.Proof.L.Ref
public import proofs.«01_k».proof.Proof.Gen.SecondReferenceIdeal.Run

@[expose] public section

set_option maxRecDepth 20000

noncomputable section

namespace Cert.SecondReferenceIdeal.RS

open Idealize.ShloMosaic Idealize.ShloMosaic.TcCoe Idealize.SL.Sem Cert.SecondReferenceIdeal

/-- The run: the array at the layer of the arguments, the arguments unchanged. -/
theorem run_layer {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v15)
        = Layers.secondV (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by sl_kernel_rfl), (h c).2⟩) (Value.run m ρ)

end Cert.SecondReferenceIdeal.RS
-- ==== Proof.L.LastRef.lean ====
/-
  The array the last call's reference leaves.
-/
module

public import proofs.«01_k».proof.Proof.L.Ref
public import proofs.«01_k».proof.Proof.Gen.LastReferenceIdeal.Run

@[expose] public section

set_option maxRecDepth 20000

noncomputable section

namespace Cert.LastReferenceIdeal.RS

open Idealize.ShloMosaic Idealize.ShloMosaic.TcCoe Idealize.SL.Sem Cert.LastReferenceIdeal

/-- The run: the array at the layer of the arguments, the arguments unchanged. -/
theorem run_layer {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v15)
        = Layers.lastV (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by sl_kernel_rfl), (h c).2⟩) (Value.run m ρ)

end Cert.LastReferenceIdeal.RS
-- ==== Proof.lean ====
/-
  The certificate of the surface-feature kernel's first call: the frames of the three programs, the idealization's obligation, and the
  value of the idealized kernel against the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Second
public import proofs.«01_k».proof.Proof.Gen.Second.Skeleton
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondIdeal.Value
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.SecondReferenceIdeal
public import proofs.«01_k».proof.Proof.Gen.SecondReferenceIdeal.Run
public import proofs.«01_k».proof.Proof.Gen.LastReferenceIdeal
public import proofs.«01_k».proof.Proof.Gen.LastReferenceIdeal.Run
public import proofs.«01_k».proof.Proof.K.Value
public import proofs.«01_k».proof.Proof.F.Finite
public import proofs.«01_k».proof.Proof.R.Value
public import proofs.«01_k».proof.Proof.L.Second
public import proofs.«01_k».proof.Proof.L.Last
public import proofs.«01_k».proof.Proof.L.SecondRef
public import proofs.«01_k».proof.Proof.L.LastRef
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The idealized kernel runs to the end, leaves its arguments as they were and every counter at zero. -/
theorem frame_kernelIdeal : Cert.quiescent_KernelIdeal := fun m ρ _ => Cert.KernelIdeal.Gen.frame m ρ

/-- The reference runs to the end, leaves its arguments as they were and every counter at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized kernel and the reference, run on the same arguments with every point finite, leave the same array: at each
    batch, block, channel, neighbour and place, the convolved features of `Proof.M.First`. -/
theorem value : Cert.algebraic_KernelIdeal_ReferenceIdeal_pre_finite := fun m ρ m' ρ' hpre hargs => by
  have hP (c : Dev Cert.KernelIdeal.nD) (b : Fin 8) (j : Fin 2048) (a : Fin 3) : M.Real' (Cert.KernelIdeal.K1.cloud m c b j a) :=
    Cert.Pre_finite.real_of_fn _ _ (hpre c) _
  refine ⟨fun c => Cert.KernelIdeal.K1.result m c, Cert.KernelIdeal.K1.run m ρ hP, ?_⟩
  refine (θ_run Cert.ReferenceIdeal.defs _ _).mono (fun r h c => ⟨(h c).1.trans ?_, (h c).2⟩)
    (Cert.ReferenceIdeal.RS.run_points m' ρ' fun c b j a => ?_)
  · rw [(hargs c).1]
    exact hP c b j a
  · rw [(hargs c).1, (hargs c).2]
    rfl

/-- The idealized second call runs to the end, leaves its arguments as they were and every counter at zero. -/
theorem frame_second : Cert.quiescent_SecondIdeal := fun m ρ _ => Cert.SecondIdeal.Gen.frame m ρ

/-- The idealized last call runs to the end, leaves its arguments as they were and every counter at zero. -/
theorem frame_last : Cert.quiescent_LastIdeal := fun m ρ _ => Cert.LastIdeal.Gen.frame m ρ

/-- The second call's reference runs to the end, leaves its arguments as they were and every counter at zero. -/
theorem frame_secondReference : Cert.quiescent_SecondReferenceIdeal := fun m ρ _ =>
  (θ_run Cert.SecondReferenceIdeal.defs _ _).mono (fun r h => ⟨fun c => (h c).2,
      Idealize.ShloMosaic.sem_eq_zero_of_no_sems (by decide) r.2⟩)
    (Cert.SecondReferenceIdeal.Value.run (F := Ideal) m ρ)

/-- The last call's reference runs to the end, leaves its arguments as they were and every counter at zero. -/
theorem frame_lastReference : Cert.quiescent_LastReferenceIdeal := fun m ρ _ =>
  (θ_run Cert.LastReferenceIdeal.defs _ _).mono (fun r h => ⟨fun c => (h c).2,
      Idealize.ShloMosaic.sem_eq_zero_of_no_sems (by decide) r.2⟩)
    (Cert.LastReferenceIdeal.Value.run (F := Ideal) m ρ)

/-- The idealized second call and its reference, run on the same arguments, leave the same array. -/
theorem value_second : Cert.algebraic_SecondIdeal_SecondReferenceIdeal := fun m ρ m' ρ' _ hargs => by
  refine ⟨fun c => Cert.SecondIdeal.K2.result m c, Cert.SecondIdeal.K2.run m ρ, ?_⟩
  refine (θ_run Cert.SecondReferenceIdeal.defs _ _).mono (fun r h c => ⟨(h c).1.trans ?_, (h c).2⟩)
    (Cert.SecondReferenceIdeal.RS.run_layer m' ρ')
  rw [(hargs c).1, (hargs c).2.1, (hargs c).2.2.1, (hargs c).2.2.2.1, (hargs c).2.2.2.2]
  funext y
  have hy : y = Idealize.ShloMosaic.ix5 (y 0) (y 1) (y 2) (y 3) (y 4) := funext fun a => by
    match a with
    | ⟨0, _⟩ => rfl
    | ⟨1, _⟩ => rfl
    | ⟨2, _⟩ => rfl
    | ⟨3, _⟩ => rfl
    | ⟨4, _⟩ => rfl
  rw [hy]
  exact Cert.Layers.secondV_at _ _ _ _ _ (y 0) (y 1) (y 2) (y 3) (y 4)

/-- The idealized last call and its reference, run on the same arguments, leave the same array. -/
theorem value_last : Cert.algebraic_LastIdeal_LastReferenceIdeal := fun m ρ m' ρ' _ hargs => by
  refine ⟨fun c => Cert.LastIdeal.K3.result m c, Cert.LastIdeal.K3.run m ρ, ?_⟩
  refine (θ_run Cert.LastReferenceIdeal.defs _ _).mono (fun r h c => ⟨(h c).1.trans ?_, (h c).2⟩)
    (Cert.LastReferenceIdeal.RS.run_layer m' ρ')
  rw [(hargs c).1, (hargs c).2.1, (hargs c).2.2.1, (hargs c).2.2.2.1, (hargs c).2.2.2.2]
  funext y
  have hy : y = Idealize.ShloMosaic.ix5 (y 0) (y 1) (y 2) (y 3) (y 4) := funext fun a => by
    match a with
    | ⟨0, _⟩ => rfl
    | ⟨1, _⟩ => rfl
    | ⟨2, _⟩ => rfl
    | ⟨3, _⟩ => rfl
    | ⟨4, _⟩ => rfl
  rw [hy]
  exact Cert.Layers.lastV_at _ _ _ _ _ (y 0) (y 1) (y 2) (y 3) (y 4)

/-- Everything the certificate claims. -/
theorem claim : Cert.Claim :=
  ⟨inferInstance, inferInstance, inferInstance, inferInstance, inferInstance, inferInstance, inferInstance, inferInstance,
    inferInstance, inferInstance,
    fun m ρ _ => Cert.Kernel.Gen.frame m ρ,
    frame_kernelIdeal,
    fun m ρ _ => frame_kernelIdeal m ρ trivial,
    frame_reference,
    fun m ρ _ => frame_reference m ρ trivial,
    fun m ρ _ => Cert.Second.Gen.frame m ρ,
    frame_second,
    frame_secondReference,
    fun m ρ _ => Cert.Last.Gen.frame m ρ,
    frame_last,
    frame_lastReference,
    IdealRules.sign_bit.statement Cert.KernelIdeal.S8x1024 .f32,
    value,
    trivial,
    value_second,
    trivial,
    value_last⟩

end Cert.Proof

end
